-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite_sums [hPre_finite_sums : Cert.Pre_finite_sums.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite_sums.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite_sums [hPre_finite_sums : Cert.Pre_finite_sums.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite_sums.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite [hPre_finite : Cert.Pre_finite.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite.fn (F := Ideal) (m ((c.tc : Thread Cert.Kernel15Ideal.nD Cert.Kernel15Ideal.τ).loc Cert.Kernel15Ideal.main_arg0))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite [hPre_finite : Cert.Pre_finite.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite.fn (F := Ideal) (m ((c.tc : Thread Cert.Reference15Ideal.nD Cert.Reference15Ideal.τ).loc Cert.Reference15Ideal.main_arg0))) = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite [hPre_finite : Cert.Pre_finite.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite.fn (F := Ideal) (m ((c.tc : Thread Cert.Kernel16Ideal.nD Cert.Kernel16Ideal.τ).loc Cert.Kernel16Ideal.main_arg0))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite [hPre_finite : Cert.Pre_finite.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite.fn (F := Ideal) (m ((c.tc : Thread Cert.Reference16Ideal.nD Cert.Reference16Ideal.τ).loc Cert.Reference16Ideal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ r.2.sem = fun _ => 0)

def quiescent_Kernel11Ideal_pre_finite_sums [hKernel11Ideal : Cert.Kernel11Ideal.Facts] [hPre_finite_sums : Cert.Pre_finite_sums.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite_sums m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8))
      ∧ r.2.sem = fun _ => 0)

def quiescent_Reference11Ideal_pre_finite_sums [hReference11Ideal : Cert.Reference11Ideal.Facts] [hPre_finite_sums : Cert.Pre_finite_sums.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite_sums m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ r.2.sem = fun _ => 0)

def quiescent_Kernel15Ideal_pre_finite [hKernel15Ideal : Cert.Kernel15Ideal.Facts] [hPre_finite : Cert.Pre_finite.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0))
      ∧ r.2.sem = fun _ => 0)

def quiescent_Reference15Ideal_pre_finite [hReference15Ideal : Cert.Reference15Ideal.Facts] [hPre_finite : Cert.Pre_finite.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ r.2.sem = fun _ => 0)

def quiescent_Kernel16Ideal_pre_finite [hKernel16Ideal : Cert.Kernel16Ideal.Facts] [hPre_finite : Cert.Pre_finite.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0))
      ∧ r.2.sem = fun _ => 0)

def quiescent_Reference16Ideal_pre_finite [hReference16Ideal : Cert.Reference16Ideal.Facts] [hPre_finite : Cert.Pre_finite.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v28_0)) (v1 : (c : Dev Cert.Kernel3Ideal.nD) → Buf (Elt Ideal) ((c.tc : Thread Cert.Kernel3Ideal.nD Cert.Kernel3Ideal.τ).loc Cert.Kernel3Ideal.main_v28_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v28_0) = v0 c
          ∧ r.2.mem ((c.tc : Thread Cert.Kernel3Ideal.nD Cert.Kernel3Ideal.τ).loc Cert.Kernel3Ideal.main_v28_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v95) = v0 c
          ∧ r.2.mem ((c.tc : Thread Cert.Reference3Ideal.nD Cert.Reference3Ideal.τ).loc Cert.Reference3Ideal.main_v96) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v28)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v28) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v100) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v28)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v28) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v100) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v28_0)) (v1 : (c : Dev Cert.Kernel8Ideal.nD) → Buf (Elt Ideal) ((c.tc : Thread Cert.Kernel8Ideal.nD Cert.Kernel8Ideal.τ).loc Cert.Kernel8Ideal.main_v28_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v28_0) = v0 c
          ∧ r.2.mem ((c.tc : Thread Cert.Kernel8Ideal.nD Cert.Kernel8Ideal.τ).loc Cert.Kernel8Ideal.main_v28_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v95) = v0 c
          ∧ r.2.mem ((c.tc : Thread Cert.Reference8Ideal.nD Cert.Reference8Ideal.τ).loc Cert.Reference8Ideal.main_v96) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v28_0)) (v1 : (c : Dev Cert.Kernel9Ideal.nD) → Buf (Elt Ideal) ((c.tc : Thread Cert.Kernel9Ideal.nD Cert.Kernel9Ideal.τ).loc Cert.Kernel9Ideal.main_v28_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v28_0) = v0 c
          ∧ r.2.mem ((c.tc : Thread Cert.Kernel9Ideal.nD Cert.Kernel9Ideal.τ).loc Cert.Kernel9Ideal.main_v28_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v95) = v0 c
          ∧ r.2.mem ((c.tc : Thread Cert.Reference9Ideal.nD Cert.Reference9Ideal.τ).loc Cert.Reference9Ideal.main_v96) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v28_0)) (v1 : (c : Dev Cert.Kernel10Ideal.nD) → Buf (Elt Ideal) ((c.tc : Thread Cert.Kernel10Ideal.nD Cert.Kernel10Ideal.τ).loc Cert.Kernel10Ideal.main_v28_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v28_0) = v0 c
          ∧ r.2.mem ((c.tc : Thread Cert.Kernel10Ideal.nD Cert.Kernel10Ideal.τ).loc Cert.Kernel10Ideal.main_v28_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v22) = v0 c
          ∧ r.2.mem ((c.tc : Thread Cert.Reference10Ideal.nD Cert.Reference10Ideal.τ).loc Cert.Reference10Ideal.main_v53) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal_pre_finite_sums [hKernel11Ideal : Cert.Kernel11Ideal.Facts] [hReference11Ideal : Cert.Reference11Ideal.Facts] [hPre_finite_sums : Cert.Pre_finite_sums.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite_sums m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)) →
    ∃ (v0 : (c : Dev Cert.Kernel11Ideal.nD) → Buf (Elt Ideal) ((c.tc : Thread Cert.Kernel11Ideal.nD Cert.Kernel11Ideal.τ).loc Cert.Kernel11Ideal.main_v14)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v14) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v28) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v13) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v42)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v42) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v102) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v42)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v42) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v102) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  IdealRules.named_const.Statement Cert.Kernel15Ideal.κ "mask" .f32 0xF149F2CA#32 ⊥

def algebraic_Kernel15Ideal_Reference15Ideal_pre_finite [hKernel15Ideal : Cert.Kernel15Ideal.Facts] [hReference15Ideal : Cert.Reference15Ideal.Facts] [hPre_finite : Cert.Pre_finite.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v57) = v0 c
          ∧ r.2.mem ((c.tc : Thread Cert.Reference15Ideal.nD Cert.Reference15Ideal.τ).loc Cert.Reference15Ideal.main_v58) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0))

def preserves_Kernel16_Kernel16Ideal : Prop :=
  IdealRules.named_const.Statement Cert.Kernel16Ideal.κ "mask" .f32 0xF149F2CA#32 ⊥

def algebraic_Kernel16Ideal_Reference16Ideal_pre_finite [hKernel16Ideal : Cert.Kernel16Ideal.Facts] [hReference16Ideal : Cert.Reference16Ideal.Facts] [hPre_finite : Cert.Pre_finite.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)) →
    ∃ (v0 : (c : Dev Cert.Kernel16Ideal.nD) → Buf (Elt Ideal) ((c.tc : Thread Cert.Kernel16Ideal.nD Cert.Kernel16Ideal.τ).loc Cert.Kernel16Ideal.main_v2_0)) (v1 : (c : Dev Cert.Kernel16Ideal.nD) → Buf (Elt Ideal) ((c.tc : Thread Cert.Kernel16Ideal.nD Cert.Kernel16Ideal.τ).loc Cert.Kernel16Ideal.main_v2_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2_0) = v0 c
          ∧ r.2.mem ((c.tc : Thread Cert.Kernel16Ideal.nD Cert.Kernel16Ideal.τ).loc Cert.Kernel16Ideal.main_v2_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v58) = v0 c
          ∧ r.2.mem ((c.tc : Thread Cert.Reference16Ideal.nD Cert.Reference16Ideal.τ).loc Cert.Reference16Ideal.main_v59) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts) (hPre_finite_sums : Cert.Pre_finite_sums.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite_sums (hKernel11Ideal := hKernel11Ideal) (hPre_finite_sums := hPre_finite_sums)
    ∧ quiescent_Reference11Ideal (hReference11Ideal := hReference11Ideal)
    ∧ quiescent_Reference11Ideal_pre_finite_sums (hReference11Ideal := hReference11Ideal) (hPre_finite_sums := hPre_finite_sums)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite (hKernel15Ideal := hKernel15Ideal) (hPre_finite := hPre_finite)
    ∧ quiescent_Reference15Ideal (hReference15Ideal := hReference15Ideal)
    ∧ quiescent_Reference15Ideal_pre_finite (hReference15Ideal := hReference15Ideal) (hPre_finite := hPre_finite)
    ∧ quiescent_Kernel16 (hKernel16 := hKernel16)
    ∧ quiescent_Kernel16Ideal (hKernel16Ideal := hKernel16Ideal)
    ∧ quiescent_Kernel16Ideal_pre_finite (hKernel16Ideal := hKernel16Ideal) (hPre_finite := hPre_finite)
    ∧ quiescent_Reference16Ideal (hReference16Ideal := hReference16Ideal)
    ∧ quiescent_Reference16Ideal_pre_finite (hReference16Ideal := hReference16Ideal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite_sums (hKernel11Ideal := hKernel11Ideal) (hReference11Ideal := hReference11Ideal) (hPre_finite_sums := hPre_finite_sums)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite (hKernel15Ideal := hKernel15Ideal) (hReference15Ideal := hReference15Ideal) (hPre_finite := hPre_finite)
    ∧ preserves_Kernel16_Kernel16Ideal
    ∧ algebraic_Kernel16Ideal_Reference16Ideal_pre_finite (hKernel16Ideal := hKernel16Ideal) (hReference16Ideal := hReference16Ideal) (hPre_finite := hPre_finite)
-- ==== Pre_finite.lean ====
abbrev S4x4096x3072 : Shape := ⟨3, ![4, 4096, 3072]⟩
abbrev S_ : Shape := ⟨0, ![]⟩

class Facts : Prop where
  bcast_S_S4x4096x3072 : S_.BroadcastsInDim S4x4096x3072 (![] : Fin 0 → Fin S4x4096x3072.rank)

variable [Facts]

def fn {F : FTy → Type} [FloatOps F] (main_arg0 : FVec F S4x4096x3072 .f32) : IVec S4x4096x3072 1 :=
  let main_v0 : FVec F S4x4096x3072 .f32 := Host.absf main_arg0
  let main_cst : FVec F S_ .f32 := constant S_ .f32 0x7F800000#32
  let main_v1 : FVec F S4x4096x3072 .f32 := broadcastInDim S4x4096x3072 ![] bcast_S_S4x4096x3072 main_cst
  let main_v2 : IVec S4x4096x3072 1 := cmpf .olt main_v0 main_v1
  main_v2
-- ==== Pre_finite_sums.lean ====
abbrev S4x4096x16x64 : Shape := ⟨4, ![4, 4096, 16, 64]⟩
abbrev S4x4096x16 : Shape := ⟨3, ![4, 4096, 16]⟩
abbrev S1024x1024 : Shape := ⟨2, ![1024, 1024]⟩
abbrev S4x4096x1024 : Shape := ⟨3, ![4, 4096, 1024]⟩
abbrev S4x1x1024 : Shape := ⟨3, ![4, 1, 1024]⟩
abbrev S_ : Shape := ⟨0, ![]⟩

class Facts : Prop where
  bcast_S_S4x4096x16 : S_.BroadcastsInDim S4x4096x16 (![] : Fin 0 → Fin S4x4096x16.rank)

variable [Facts]

def fn {F : FTy → Type} [FloatOps F] (main_arg0 : FVec F S4x4096x16x64 .f32) (main_arg1 : FVec F S4x4096x16x64 .f32) (main_arg2 : FVec F S4x4096x16x64 .f32) (main_arg3 : FVec F S4x4096x16 .f32) (main_arg4 : FVec F S4x4096x16 .f32) (main_arg5 : FVec F S4x4096x16 .f32) (main_arg6 : FVec F S1024x1024 .f32) (main_arg7 : FVec F S4x4096x1024 .f32) (main_arg8 : FVec F S4x1x1024 .f32) : IVec S4x4096x16 1 :=
  let main_v0 : FVec F S4x4096x16 .f32 := Host.absf main_arg3
  let main_cst : FVec F S_ .f32 := constant S_ .f32 0x7F800000#32
  let main_v1 : FVec F S4x4096x16 .f32 := broadcastInDim S4x4096x16 ![] bcast_S_S4x4096x16 main_cst
  let main_v2 : IVec S4x4096x16 1 := cmpf .olt main_v0 main_v1
  let main_v3 : FVec F S4x4096x16 .f32 := Host.absf main_arg4
  let main_cst_0 : FVec F S_ .f32 := constant S_ .f32 0x7F800000#32
  let main_v4 : FVec F S4x4096x16 .f32 := broadcastInDim S4x4096x16 ![] bcast_S_S4x4096x16 main_cst_0
  let main_v5 : IVec S4x4096x16 1 := cmpf .olt main_v3 main_v4
  let main_v6 : IVec S4x4096x16 1 := andi main_v2 main_v5
  let main_v7 : FVec F S4x4096x16 .f32 := Host.absf main_arg5
  let main_cst_1 : FVec F S_ .f32 := constant S_ .f32 0x7F800000#32
  let main_v8 : FVec F S4x4096x16 .f32 := broadcastInDim S4x4096x16 ![] bcast_S_S4x4096x16 main_cst_1
  let main_v9 : IVec S4x4096x16 1 := cmpf .olt main_v7 main_v8
  let main_v10 : IVec S4x4096x16 1 := andi main_v6 main_v9
  main_v10
-- ==== Kernel.lean ====
abbrev S4x4096x3072 : Shape := ⟨3, ![4, 4096, 3072]⟩
abbrev S4x1024x12288 : Shape := ⟨3, ![4, 1024, 12288]⟩
abbrev S4x1024x4096 : Shape := ⟨3, ![4, 1024, 4096]⟩
abbrev S1x128x1024 : Shape := ⟨3, ![1, 128, 1024]⟩
abbrev S16x128x256 : Shape := ⟨3, ![16, 128, 256]⟩
abbrev S16x128x64 : Shape := ⟨3, ![16, 128, 64]⟩
abbrev S128x128 : Shape := ⟨2, ![128, 128]⟩
abbrev S1x128x64 : Shape := ⟨3, ![1, 128, 64]⟩
abbrev S128x64 : Shape := ⟨2, ![128, 64]⟩
abbrev S1x128x128 : Shape := ⟨3, ![1, 128, 128]⟩
abbrev S128 : Shape := ⟨1, ![128]⟩
abbrev S128x1 : Shape := ⟨2, ![128, 1]⟩

abbrev nBuf : Space → Nat
  | .hbm => 5
  | .vmem => 17
  | .smem => 0
  | _ => 0

abbrev bufTy : (tb : Table) → Fin (tcTables nBuf tb) → BufTy
  | .hbm, ⟨0, _⟩ => ⟨S4x4096x3072, .f32⟩
  | .hbm, ⟨1, _⟩ => ⟨S4x4096x3072, .bf16⟩
  | .hbm, ⟨2, _⟩ => ⟨S4x1024x12288, .bf16⟩
  | .hbm, ⟨3, _⟩ => ⟨S4x1024x4096, .f32⟩
  | .hbm, ⟨4, _⟩ => ⟨S4x1024x4096, .f32⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | .local _ .vmem, ⟨6, _⟩ => ⟨S1x128x1024, .bf16⟩
  | .local _ .vmem, ⟨7, _⟩ => ⟨S1x128x1024, .bf16⟩
  | .local _ .vmem, ⟨8, _⟩ => ⟨S1x128x1024, .bf16⟩
  | .local _ .vmem, ⟨9, _⟩ => ⟨S1x128x1024, .bf16⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S16x128x256, .f32⟩
  | .local _ .vmem, ⟨15, _⟩ => ⟨S16x128x256, .bf16⟩
  | .local _ .vmem, ⟨16, _⟩ => ⟨S16x128x64, .f32⟩
  | _, _ => ⟨S4x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let c0_i32 : BitVec 32 := 0#32
  let v1 : BitVec 32 := Scalar.addi v0 c0_i32
  let c0_i32_0 : BitVec 32 := 0#32
  ![arg0.toNat, arg2.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c3_i32 : BitVec 32 := 3#32
  let v2 : BitVec 32 := Scalar.muli arg1 c3_i32
  let c1_i32_0 : BitVec 32 := 1#32
  let v3 : BitVec 32 := Scalar.addi v2 c1_i32_0
  let c0_i32_1 : BitVec 32 := 0#32
  ![arg0.toNat, v1.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let c1_i32 : BitVec 32 := 1#32
  let v1 : BitVec 32 := Scalar.addi v0 c1_i32
  let c0_i32 : BitVec 32 := 0#32
  ![arg0.toNat, arg2.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c3_i32 : BitVec 32 := 3#32
  let v2 : BitVec 32 := Scalar.muli arg1 c3_i32
  let c2_i32 : BitVec 32 := 2#32
  let v3 : BitVec 32 := Scalar.addi v2 c2_i32
  let c0_i32_0 : BitVec 32 := 0#32
  ![arg0.toNat, v1.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let c2_i32 : BitVec 32 := 2#32
  let v1 : BitVec 32 := Scalar.addi v0 c2_i32
  let c0_i32 : BitVec 32 := 0#32
  ![arg0.toNat, arg2.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x4096x3072 : Shape := ⟨3, ![4, 4096, 3072]⟩
abbrev S4x4096x3x16x64 : Shape := ⟨5, ![4, 4096, 3, 16, 64]⟩
abbrev S_ : Shape := ⟨0, ![]⟩
abbrev S4x4608x3x16x64 : Shape := ⟨5, ![4, 4608, 3, 16, 64]⟩
abbrev S4608 : Shape := ⟨1, ![4608]⟩
abbrev S4x4096x1x16x64 : Shape := ⟨5, ![4, 4096, 1, 16, 64]⟩
abbrev S4x4096x16x64 : Shape := ⟨4, ![4, 4096, 16, 64]⟩
abbrev S4x4608x1x16x64 : Shape := ⟨5, ![4, 4608, 1, 16, 64]⟩
abbrev S4x4608x16x64 : Shape := ⟨4, ![4, 4608, 16, 64]⟩
abbrev S4x1024x4x16x64 : Shape := ⟨5, ![4, 1024, 4, 16, 64]⟩
abbrev S4x1152x4x16x64 : Shape := ⟨5, ![4, 1152, 4, 16, 64]⟩
abbrev S4x16x4x1024x1152 : Shape := ⟨5, ![4, 16, 4, 1024, 1152]⟩
abbrev S1024 : Shape := ⟨1, ![1024]⟩
abbrev S1024x1 : Shape := ⟨2, ![1024, 1]⟩
abbrev S1152 : Shape := ⟨1, ![1152]⟩
abbrev S1x1152 : Shape := ⟨2, ![1, 1152]⟩
abbrev S1024x1152 : Shape := ⟨2, ![1024, 1152]⟩
abbrev S1x1024x1152 : Shape := ⟨3, ![1, 1024, 1152]⟩
abbrev S1152x4 : Shape := ⟨2, ![1152, 4]⟩
abbrev S4x1152 : Shape := ⟨2, ![4, 1152]⟩
abbrev S4x1x1152 : Shape := ⟨3, ![4, 1, 1152]⟩
abbrev S4x1024x1152 : Shape := ⟨3, ![4, 1024, 1152]⟩
abbrev S1x1x4x1024x1152 : Shape := ⟨5, ![1, 1, 4, 1024, 1152]⟩
abbrev S4x16x4x1024 : Shape := ⟨4, ![4, 16, 4, 1024]⟩
abbrev S4x16x4x1024x1 : Shape := ⟨5, ![4, 16, 4, 1024, 1]⟩
abbrev S4x4x16x64x1024 : Shape := ⟨5, ![4, 4, 16, 64, 1024]⟩
abbrev S4x1024x4x16 : Shape := ⟨4, ![4, 1024, 4, 16]⟩
abbrev S4x4096x16 : Shape := ⟨3, ![4, 4096, 16]⟩
abbrev S4x4096x16x1 : Shape := ⟨4, ![4, 4096, 16, 1]⟩
abbrev S4x1024x4096 : Shape := ⟨3, ![4, 1024, 4096]⟩

abbrev nBuf : Space → Nat
  | .hbm => 72
  | .vmem => 0
  | .smem => 0
  | _ => 0

abbrev bufTy : (tb : Table) → Fin (tcTables nBuf tb) → BufTy
  | .hbm, ⟨0, _⟩ => ⟨S4x4096x3072, .f32⟩
  | .hbm, ⟨1, _⟩ => ⟨S4x4096x3x16x64, .f32⟩
  | .hbm, ⟨2, _⟩ => ⟨S_, .i32⟩
  | .hbm, ⟨3, _⟩ => ⟨S_, .f32⟩
  | .hbm, ⟨4, _⟩ => ⟨S4x4608x3x16x64, .f32⟩
  | .hbm, ⟨5, _⟩ => ⟨S4608, .i32⟩
  | .hbm, ⟨6, _⟩ => ⟨S_, .i32⟩
  | .hbm, ⟨7, _⟩ => ⟨S4608, .i32⟩
  | .hbm, ⟨8, _⟩ => ⟨S4608, .i1⟩
  | .hbm, ⟨9, _⟩ => ⟨S4x4096x1x16x64, .f32⟩
  | .hbm, ⟨10, _⟩ => ⟨S4x4096x16x64, .f32⟩
  | .hbm, ⟨11, _⟩ => ⟨S4x4608x1x16x64, .f32⟩
  | .hbm, ⟨12, _⟩ => ⟨S4x4608x16x64, .f32⟩
  | .hbm, ⟨13, _⟩ => ⟨S4x4608x1x16x64, .f32⟩
  | .hbm, ⟨14, _⟩ => ⟨S4x4608x16x64, .f32⟩
  | .hbm, ⟨15, _⟩ => ⟨S4x1024x4x16x64, .f32⟩
  | .hbm, ⟨16, _⟩ => ⟨S4x1152x4x16x64, .f32⟩
  | .hbm, ⟨17, _⟩ => ⟨S4x1152x4x16x64, .f32⟩
  | .hbm, ⟨18, _⟩ => ⟨S4x16x4x1024x1152, .f32⟩
  | .hbm, ⟨19, _⟩ => ⟨S_, .f32⟩
  | .hbm, ⟨20, _⟩ => ⟨S4x16x4x1024x1152, .f32⟩
  | .hbm, ⟨21, _⟩ => ⟨S4x16x4x1024x1152, .f32⟩
  | .hbm, ⟨22, _⟩ => ⟨S1024, .i32⟩
  | .hbm, ⟨23, _⟩ => ⟨S1024x1, .i32⟩
  | .hbm, ⟨24, _⟩ => ⟨S1152, .i32⟩
  | .hbm, ⟨25, _⟩ => ⟨S1x1152, .i32⟩
  | .hbm, ⟨26, _⟩ => ⟨S1024x1152, .i32⟩
  | .hbm, ⟨27, _⟩ => ⟨S1024x1152, .i32⟩
  | .hbm, ⟨28, _⟩ => ⟨S1024x1152, .i1⟩
  | .hbm, ⟨29, _⟩ => ⟨S_, .i32⟩
  | .hbm, ⟨30, _⟩ => ⟨S1024x1, .i32⟩
  | .hbm, ⟨31, _⟩ => ⟨S1024x1, .i32⟩
  | .hbm, ⟨32, _⟩ => ⟨S1024x1152, .i32⟩
  | .hbm, ⟨33, _⟩ => ⟨S1024x1152, .i32⟩
  | .hbm, ⟨34, _⟩ => ⟨S1024x1152, .i1⟩
  | .hbm, ⟨35, _⟩ => ⟨S1024x1152, .i1⟩
  | .hbm, ⟨36, _⟩ => ⟨S1x1024x1152, .i1⟩
  | .hbm, ⟨37, _⟩ => ⟨S1152x4, .i1⟩
  | .hbm, ⟨38, _⟩ => ⟨S4x1152, .i1⟩
  | .hbm, ⟨39, _⟩ => ⟨S4x1x1152, .i1⟩
  | .hbm, ⟨40, _⟩ => ⟨S4x1024x1152, .i1⟩
  | .hbm, ⟨41, _⟩ => ⟨S4x1024x1152, .i1⟩
  | .hbm, ⟨42, _⟩ => ⟨S4x1024x1152, .i1⟩
  | .hbm, ⟨43, _⟩ => ⟨S1x1x4x1024x1152, .i1⟩
  | .hbm, ⟨44, _⟩ => ⟨S_, .f32⟩
  | .hbm, ⟨45, _⟩ => ⟨S_, .f32⟩
  | .hbm, ⟨46, _⟩ => ⟨S4x16x4x1024x1152, .i1⟩
  | .hbm, ⟨47, _⟩ => ⟨S4x16x4x1024x1152, .f32⟩
  | .hbm, ⟨48, _⟩ => ⟨S4x16x4x1024x1152, .f32⟩
  | .hbm, ⟨49, _⟩ => ⟨S_, .f32⟩
  | .hbm, ⟨50, _⟩ => ⟨S4x16x4x1024, .f32⟩
  | .hbm, ⟨51, _⟩ => ⟨S4x16x4x1024x1, .f32⟩
  | .hbm, ⟨52, _⟩ => ⟨S4x16x4x1024x1152, .f32⟩
  | .hbm, ⟨53, _⟩ => ⟨S4x16x4x1024x1152, .f32⟩
  | .hbm, ⟨54, _⟩ => ⟨S4x16x4x1024x1152, .f32⟩
  | .hbm, ⟨55, _⟩ => ⟨S_, .f32⟩
  | .hbm, ⟨56, _⟩ => ⟨S4x16x4x1024, .f32⟩
  | .hbm, ⟨57, _⟩ => ⟨S4x16x4x1024, .f32⟩
  | .hbm, ⟨58, _⟩ => ⟨S4x16x4x1024, .f32⟩
  | .hbm, ⟨59, _⟩ => ⟨S4x16x4x1024x1, .f32⟩
  | .hbm, ⟨60, _⟩ => ⟨S4x16x4x1024x1152, .f32⟩
  | .hbm, ⟨61, _⟩ => ⟨S4x16x4x1024x1152, .f32⟩
  | .hbm, ⟨62, _⟩ => ⟨S4x16x4x1024x1152, .f32⟩
  | .hbm, ⟨63, _⟩ => ⟨S4x4x16x64x1024, .f32⟩
  | .hbm, ⟨64, _⟩ => ⟨S4x1024x4x16x64, .f32⟩
  | .hbm, ⟨65, _⟩ => ⟨S4x4096x16x64, .f32⟩
  | .hbm, ⟨66, _⟩ => ⟨S4x1024x4x16, .f32⟩
  | .hbm, ⟨67, _⟩ => ⟨S4x4096x16, .f32⟩
  | .hbm, ⟨68, _⟩ => ⟨S4x4096x16x1, .f32⟩
  | .hbm, ⟨69, _⟩ => ⟨S4x4096x16x64, .f32⟩
  | .hbm, ⟨70, _⟩ => ⟨S4x1024x4096, .f32⟩
  | .hbm, ⟨71, _⟩ => ⟨S4x1024x4096, .f32⟩
  | _, _ => ⟨S4x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v38 : Ref sig .tc := ⟨.hbm, 48, rfl⟩
abbrev main_cst_3 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_4 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x1x1024 : Shape := ⟨3, ![4, 1, 1024]⟩
abbrev S1024 : Shape := ⟨1, ![1024]⟩
abbrev S1024x5632 : Shape := ⟨2, ![1024, 5632]⟩
abbrev S2816x1024 : Shape := ⟨2, ![2816, 1024]⟩
abbrev S16384x1024 : Shape := ⟨2, ![16384, 1024]⟩
abbrev S1x1024 : Shape := ⟨2, ![1, 1024]⟩
abbrev S512x1024 : Shape := ⟨2, ![512, 1024]⟩
abbrev S1x1x1024 : Shape := ⟨3, ![1, 1, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 12
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S4x1x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S2816x1024, .bf16⟩
  | .hbm, ⟨8, _⟩ => ⟨S16384x1024, .f32⟩
  | .hbm, ⟨9, _⟩ => ⟨S1x1024, .f32⟩
  | .hbm, ⟨10, _⟩ => ⟨S1024x5632, .bf16⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1408, .bf16⟩
  | .local _ .vmem, ⟨13, _⟩ => ⟨S1408x1024, .bf16⟩
  | .local _ .vmem, ⟨14, _⟩ => ⟨S1408x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S4x4096x1024 : Shape := ⟨3, ![4, 4096, 1024]⟩
abbrev S4x1x1024 : Shape := ⟨3, ![4, 1, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩
abbrev S16384x1024 : Shape := ⟨2, ![16384, 1024]⟩

abbrev nBuf : Space → Nat
  | .hbm => 48
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S4x1x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S_, .f32⟩
  | .hbm, ⟨24, _⟩ => ⟨S4x1x1024, .f32⟩
  | .hbm, ⟨25, _⟩ => ⟨S4x1x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x5632, .f32⟩
  | .hbm, ⟨31, _⟩ => ⟨S4x4096x2816, .f32⟩
  | .hbm, ⟨32, _⟩ => ⟨S4x4096x2816, .f32⟩
  | .hbm, ⟨33, _⟩ => ⟨S4x4096x2816, .f32⟩
  | .hbm, ⟨34, _⟩ => ⟨S4x4096x2816, .f32⟩
  | .hbm, ⟨35, _⟩ => ⟨S_, .f32⟩
  | .hbm, ⟨36, _⟩ => ⟨S4x4096x2816, .f32⟩
  | .hbm, ⟨37, _⟩ => ⟨S4x4096x2816, .f32⟩
  | .hbm, ⟨38, _⟩ => ⟨S_, .f32⟩
  | .hbm, ⟨39, _⟩ => ⟨S4x4096x2816, .f32⟩
  | .hbm, ⟨40, _⟩ => ⟨S4x4096x2816, .f32⟩
  | .hbm, ⟨41, _⟩ => ⟨S4x4096x2816, .f32⟩
  | .hbm, ⟨42, _⟩ => ⟨S4x4096x2816, .f32⟩
  | .hbm, ⟨43, _⟩ => ⟨S4x4096x1024, .f32⟩
  | .hbm, ⟨44, _⟩ => ⟨S4x4096x1024, .f32⟩
  | .hbm, ⟨45, _⟩ => ⟨S4x4096x1024, .f32⟩
  | .hbm, ⟨46, _⟩ => ⟨S4x4096x1024, .f32⟩
  | .hbm, ⟨47, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x1x1024 : Shape := ⟨3, ![4, 1, 1024]⟩
abbrev S1024 : Shape := ⟨1, ![1024]⟩
abbrev S1024x9216 : Shape := ⟨2, ![1024, 9216]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1024x3072 : Shape := ⟨2, ![1024, 3072]⟩
abbrev S16384x1024 : Shape := ⟨2, ![16384, 1024]⟩
abbrev S1x1024 : Shape := ⟨2, ![1, 1024]⟩
abbrev S16384x3072 : Shape := ⟨2, ![16384, 3072]⟩
abbrev S1024x1024 : Shape := ⟨2, ![1024, 1024]⟩
abbrev S1x1x1024 : Shape := ⟨3, ![1, 1, 1024]⟩
abbrev S1024x512 : Shape := ⟨2, ![1024, 512]⟩
abbrev S1024x128 : Shape := ⟨2, ![1024, 128]⟩
abbrev S1024x1 : Shape := ⟨2, ![1024, 1]⟩

abbrev nBuf : Space → Nat
  | .hbm => 37
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x9216, .f32⟩
  | .hbm, ⟨5, _⟩ => ⟨S4096, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S4096, .f32⟩
  | .hbm, ⟨15, _⟩ => ⟨S4096x1, .f32⟩
  | .hbm, ⟨16, _⟩ => ⟨S1x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x64, .f32⟩
  | .hbm, ⟨23, _⟩ => ⟨S1x4096x1x64, .f32⟩
  | .hbm, ⟨24, _⟩ => ⟨S1x4096x2x64, .f32⟩
  | .hbm, ⟨25, _⟩ => ⟨S4096x128, .f32⟩
  | .hbm, ⟨26, _⟩ => ⟨S4096x32, .f32⟩
  | .hbm, ⟨27, _⟩ => ⟨S4096x64, .f32⟩
  | .hbm, ⟨28, _⟩ => ⟨S1x4096x1x64, .f32⟩
  | .hbm, ⟨29, _⟩ => ⟨S1x4096x2x64, .f32⟩
  | .hbm, ⟨30, _⟩ => ⟨S4096x128, .f32⟩
  | .hbm, ⟨31, _⟩ => ⟨S1024x9216, .bf16⟩
  | .hbm, ⟨32, _⟩ => ⟨S1024x3072, .bf16⟩
  | .hbm, ⟨33, _⟩ => ⟨S16384x1024, .f32⟩
  | .hbm, ⟨34, _⟩ => ⟨S1x1024, .f32⟩
  | .hbm, ⟨35, _⟩ => ⟨S16384x3072, .f32⟩
  | .hbm, ⟨36, _⟩ => ⟨S16384x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x512, .bf16⟩
  | .local _ .vmem, ⟨8, _⟩ => ⟨S1024x512, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x512, .f32⟩
  | .local _ .vmem, ⟨14, _⟩ => ⟨S1024x512, .f32⟩
  | .local _ .vmem, ⟨15, _⟩ => ⟨S1024x512, .bf16⟩
  | .local _ .vmem, ⟨16, _⟩ => ⟨S1024x512, .bf16⟩
  | .local _ .vmem, ⟨17, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28_0 : Ref sig .tc := ⟨.hbm, 35, rfl⟩
abbrev main_v28_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S4x4096x1024 : Shape := ⟨3, ![4, 4096, 1024]⟩
abbrev S4x1x1024 : Shape := ⟨3, ![4, 1, 1024]⟩
abbrev S1024 : Shape := ⟨1, ![1024]⟩
abbrev S1024x9216 : Shape := ⟨2, ![1024, 9216]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4096 : Shape := ⟨1, ![4096]⟩
abbrev S4x4096x9216 : Shape := ⟨3, ![4, 4096, 9216]⟩
abbrev S4x4096x3x3x16x64 : Shape := ⟨6, ![4, 4096, 3, 3, 16, 64]⟩
abbrev S4x4096x3x1x16x64 : Shape := ⟨6, ![4, 4096, 3, 1, 16, 64]⟩
abbrev S4x4096x3x16x64 : Shape := ⟨5, ![4, 4096, 3, 16, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x1x32 : Shape := ⟨5, ![1, 4096, 1, 1, 32]⟩
abbrev S4x4096x3x16x32 : Shape := ⟨5, ![4, 4096, 3, 16, 32]⟩
abbrev S4x4096x3x2x16x64 : Shape := ⟨6, ![4, 4096, 3, 2, 16, 64]⟩
abbrev S4x4096x1x16x64 : Shape := ⟨5, ![4, 4096, 1, 16, 64]⟩
abbrev S4x4096x16x64 : Shape := ⟨4, ![4, 4096, 16, 64]⟩
abbrev S4x4096x1x2x16x64 : Shape := ⟨6, ![4, 4096, 1, 2, 16, 64]⟩
abbrev S4x4096x2x16x64 : Shape := ⟨5, ![4, 4096, 2, 16, 64]⟩
abbrev S16384x3072 : Shape := ⟨2, ![16384, 3072]⟩

abbrev nBuf : Space → Nat
  | .hbm => 110
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x9216, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S_, .f32⟩
  | .hbm, ⟨22, _⟩ => ⟨S4x1x1024, .f32⟩
  | .hbm, ⟨23, _⟩ => ⟨S4x1x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4096, .i32⟩
  | .hbm, ⟨29, _⟩ => ⟨S4x4096x9216, .f32⟩
  | .hbm, ⟨30, _⟩ => ⟨S4x4096x3x3x16x64, .f32⟩
  | .hbm, ⟨31, _⟩ => ⟨S4x4096x3x1x16x64, .f32⟩
  | .hbm, ⟨32, _⟩ => ⟨S4x4096x3x16x64, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S4096, .f32⟩
  | .hbm, ⟨42, _⟩ => ⟨S4096x1, .f32⟩
  | .hbm, ⟨43, _⟩ => ⟨S1x32, .f32⟩
  | .hbm, ⟨44, _⟩ => ⟨S4096x32, .f32⟩
  | .hbm, ⟨45, _⟩ => ⟨S4096x32, .f32⟩
  | .hbm, ⟨46, _⟩ => ⟨S4096x32, .f32⟩
  | .hbm, ⟨47, _⟩ => ⟨S4096x32, .f32⟩
  | .hbm, ⟨48, _⟩ => ⟨S1x4096x1x1x32, .f32⟩
  | .hbm, ⟨49, _⟩ => ⟨S4096x32, .f32⟩
  | .hbm, ⟨50, _⟩ => ⟨S1x4096x1x1x32, .f32⟩
  | .hbm, ⟨51, _⟩ => ⟨S4x4096x3x16x32, .f32⟩
  | .hbm, ⟨52, _⟩ => ⟨S4x4096x3x16x32, .f32⟩
  | .hbm, ⟨53, _⟩ => ⟨S4x4096x3x16x32, .f32⟩
  | .hbm, ⟨54, _⟩ => ⟨S4x4096x3x16x32, .f32⟩
  | .hbm, ⟨55, _⟩ => ⟨S4x4096x3x16x32, .f32⟩
  | .hbm, ⟨56, _⟩ => ⟨S4x4096x3x16x32, .f32⟩
  | .hbm, ⟨57, _⟩ => ⟨S4x4096x3x16x32, .f32⟩
  | .hbm, ⟨58, _⟩ => ⟨S4x4096x3x16x32, .f32⟩
  | .hbm, ⟨59, _⟩ => ⟨S4x4096x3x16x32, .f32⟩
  | .hbm, ⟨60, _⟩ => ⟨S4x4096x3x16x32, .f32⟩
  | .hbm, ⟨61, _⟩ => ⟨S4x4096x3x16x32, .f32⟩
  | .hbm, ⟨62, _⟩ => ⟨S4x4096x3x16x32, .f32⟩
  | .hbm, ⟨63, _⟩ => ⟨S4x4096x3x16x64, .f32⟩
  | .hbm, ⟨64, _⟩ => ⟨S4x4096x3x1x16x64, .f32⟩
  | .hbm, ⟨65, _⟩ => ⟨S4x4096x3x16x64, .f32⟩
  | .hbm, ⟨66, _⟩ => ⟨S32, .f32⟩
  | .hbm, ⟨67, _⟩ => ⟨S32, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S_, .f32⟩
  | .hbm, ⟨72, _⟩ => ⟨S32, .f32⟩
  | .hbm, ⟨73, _⟩ => ⟨S32, .f32⟩
  | .hbm, ⟨74, _⟩ => ⟨S4096, .f32⟩
  | .hbm, ⟨75, _⟩ => ⟨S4096x1, .f32⟩
  | .hbm, ⟨76, _⟩ => ⟨S1x32, .f32⟩
  | .hbm, ⟨77, _⟩ => ⟨S4096x32, .f32⟩
  | .hbm, ⟨78, _⟩ => ⟨S4096x32, .f32⟩
  | .hbm, ⟨79, _⟩ => ⟨S4096x32, .f32⟩
  | .hbm, ⟨80, _⟩ => ⟨S4096x32, .f32⟩
  | .hbm, ⟨81, _⟩ => ⟨S1x4096x1x1x32, .f32⟩
  | .hbm, ⟨82, _⟩ => ⟨S4096x32, .f32⟩
  | .hbm, ⟨83, _⟩ => ⟨S1x4096x1x1x32, .f32⟩
  | .hbm, ⟨84, _⟩ => ⟨S4x4096x3x16x32, .f32⟩
  | .hbm, ⟨85, _⟩ => ⟨S4x4096x3x16x32, .f32⟩
  | .hbm, ⟨86, _⟩ => ⟨S4x4096x3x16x32, .f32⟩
  | .hbm, ⟨87, _⟩ => ⟨S4x4096x3x16x32, .f32⟩
  | .hbm, ⟨88, _⟩ => ⟨S4x4096x3x16x32, .f32⟩
  | .hbm, ⟨89, _⟩ => ⟨S4x4096x3x16x32, .f32⟩
  | .hbm, ⟨90, _⟩ => ⟨S4x4096x3x16x32, .f32⟩
  | .hbm, ⟨91, _⟩ => ⟨S4x4096x3x16x32, .f32⟩
  | .hbm, ⟨92, _⟩ => ⟨S4x4096x3x16x32, .f32⟩
  | .hbm, ⟨93, _⟩ => ⟨S4x4096x3x16x32, .f32⟩
  | .hbm, ⟨94, _⟩ => ⟨S4x4096x3x16x32, .f32⟩
  | .hbm, ⟨95, _⟩ => ⟨S4x4096x3x16x32, .f32⟩
  | .hbm, ⟨96, _⟩ => ⟨S4x4096x3x16x64, .f32⟩
  | .hbm, ⟨97, _⟩ => ⟨S4x4096x3x1x16x64, .f32⟩
  | .hbm, ⟨98, _⟩ => ⟨S4x4096x3x16x64, .f32⟩
  | .hbm, ⟨99, _⟩ => ⟨S4x4096x3x1x16x64, .f32⟩
  | .hbm, ⟨100, _⟩ => ⟨S4x4096x3x1x16x64, .f32⟩
  | .hbm, ⟨101, _⟩ => ⟨S4x4096x3x2x16x64, .f32⟩
  | .hbm, ⟨102, _⟩ => ⟨S4x4096x1x16x64, .f32⟩
  | .hbm, ⟨103, _⟩ => ⟨S4x4096x16x64, .f32⟩
  | .hbm, ⟨104, _⟩ => ⟨S4x4096x1x16x64, .f32⟩
  | .hbm, ⟨105, _⟩ => ⟨S4x4096x1x2x16x64, .f32⟩
  | .hbm, ⟨106, _⟩ => ⟨S4x4096x2x16x64, .f32⟩
  | .hbm, ⟨107, _⟩ => ⟨S4x4096x3x16x64, .f32⟩
  | .hbm, ⟨108, _⟩ => ⟨S16384x3072, .f32⟩
  | .hbm, ⟨109, _⟩ => ⟨S16384x3072, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_5 : Ref sig .tc := ⟨.hbm, 68, rfl⟩
abbrev main_v57 : Ref sig .tc := ⟨.hbm, 69, rfl⟩
abbrev main_v58 : Ref sig .tc := ⟨.hbm, 70, rfl⟩
abbrev main_cst_6 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩

abbrev nD : Nat := 1
abbrev τ : Topo := Topo.v7x

variable {F : FTy → Type} [FloatOps F]
-- ==== Kernel4.lean ====
abbrev S4x4096x1024 : Shape := ⟨3, ![4, 4096, 1024]⟩
abbrev S4x1x1024 : Shape := ⟨3, ![4, 1, 1024]⟩
abbrev S1024 : Shape := ⟨1, ![1024]⟩
abbrev S1024x1536 : Shape := ⟨2, ![1024, 1536]⟩
abbrev S1024x1024 : Shape := ⟨2, ![1024, 1024]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S16384x1024 : Shape := ⟨2, ![16384, 1024]⟩
abbrev S1x1024 : Shape := ⟨2, ![1, 1024]⟩
abbrev S1x1x1024 : Shape := ⟨3, ![1, 1, 1024]⟩
abbrev S1024x256 : Shape := ⟨2, ![1024, 256]⟩
abbrev S1024x128 : Shape := ⟨2, ![1024, 128]⟩
abbrev S1024x1 : Shape := ⟨2, ![1024, 1]⟩

abbrev nBuf : Space → Nat
  | .hbm => 36
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x1536, .f32⟩
  | .hbm, ⟨5, _⟩ => ⟨S1024x1536, .bf16⟩
  | .hbm, ⟨6, _⟩ => ⟨S1024x1024, .bf16⟩
  | .hbm, ⟨7, _⟩ => ⟨S4096, .i32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S4096, .f32⟩
  | .hbm, ⟨17, _⟩ => ⟨S4096x1, .f32⟩
  | .hbm, ⟨18, _⟩ => ⟨S1x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x64, .f32⟩
  | .hbm, ⟨25, _⟩ => ⟨S1x4096x1x64, .f32⟩
  | .hbm, ⟨26, _⟩ => ⟨S1x4096x2x64, .f32⟩
  | .hbm, ⟨27, _⟩ => ⟨S4096x128, .f32⟩
  | .hbm, ⟨28, _⟩ => ⟨S4096x32, .f32⟩
  | .hbm, ⟨29, _⟩ => ⟨S4096x64, .f32⟩
  | .hbm, ⟨30, _⟩ => ⟨S1x4096x1x64, .f32⟩
  | .hbm, ⟨31, _⟩ => ⟨S1x4096x2x64, .f32⟩
  | .hbm, ⟨32, _⟩ => ⟨S4096x128, .f32⟩
  | .hbm, ⟨33, _⟩ => ⟨S16384x1024, .f32⟩
  | .hbm, ⟨34, _⟩ => ⟨S1x1024, .f32⟩
  | .hbm, ⟨35, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x256, .bf16⟩
  | .local _ .vmem, ⟨8, _⟩ => ⟨S1024x256, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x256, .f32⟩
  | .local _ .vmem, ⟨14, _⟩ => ⟨S1024x256, .f32⟩
  | .local _ .vmem, ⟨15, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S4x4096x1024 : Shape := ⟨3, ![4, 4096, 1024]⟩
abbrev S4x1x1024 : Shape := ⟨3, ![4, 1, 1024]⟩
abbrev S1024 : Shape := ⟨1, ![1024]⟩
abbrev S1024x1536 : Shape := ⟨2, ![1024, 1536]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4096 : Shape := ⟨1, ![4096]⟩
abbrev S4x4096x1536 : Shape := ⟨3, ![4, 4096, 1536]⟩
abbrev S4x4096x6x4x64 : Shape := ⟨5, ![4, 4096, 6, 4, 64]⟩
abbrev S4x4096x1x4x64 : Shape := ⟨5, ![4, 4096, 1, 4, 64]⟩
abbrev S4x4096x4x64 : Shape := ⟨4, ![4, 4096, 4, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x4x32 : Shape := ⟨4, ![4, 4096, 4, 32]⟩
abbrev S4x4096x4x4x64 : Shape := ⟨5, ![4, 4096, 4, 4, 64]⟩
abbrev S4x4096x2x4x64 : Shape := ⟨5, ![4, 4096, 2, 4, 64]⟩
abbrev S16384x1024 : Shape := ⟨2, ![16384, 1024]⟩

abbrev nBuf : Space → Nat
  | .hbm => 114
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x1536, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S_, .f32⟩
  | .hbm, ⟨22, _⟩ => ⟨S4x1x1024, .f32⟩
  | .hbm, ⟨23, _⟩ => ⟨S4x1x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4096, .i32⟩
  | .hbm, ⟨29, _⟩ => ⟨S4x4096x1536, .f32⟩
  | .hbm, ⟨30, _⟩ => ⟨S4x4096x6x4x64, .f32⟩
  | .hbm, ⟨31, _⟩ => ⟨S4x4096x1x4x64, .f32⟩
  | .hbm, ⟨32, _⟩ => ⟨S4x4096x4x64, .f32⟩
  | .hbm, ⟨33, _⟩ => ⟨S4x4096x1x4x64, .f32⟩
  | .hbm, ⟨34, _⟩ => ⟨S4x4096x4x64, .f32⟩
  | .hbm, ⟨35, _⟩ => ⟨S4x4096x1x4x64, .f32⟩
  | .hbm, ⟨36, _⟩ => ⟨S4x4096x4x64, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S4096, .f32⟩
  | .hbm, ⟨46, _⟩ => ⟨S4096x1, .f32⟩
  | .hbm, ⟨47, _⟩ => ⟨S1x32, .f32⟩
  | .hbm, ⟨48, _⟩ => ⟨S4096x32, .f32⟩
  | .hbm, ⟨49, _⟩ => ⟨S4096x32, .f32⟩
  | .hbm, ⟨50, _⟩ => ⟨S4096x32, .f32⟩
  | .hbm, ⟨51, _⟩ => ⟨S4096x32, .f32⟩
  | .hbm, ⟨52, _⟩ => ⟨S1x4096x1x32, .f32⟩
  | .hbm, ⟨53, _⟩ => ⟨S4096x32, .f32⟩
  | .hbm, ⟨54, _⟩ => ⟨S1x4096x1x32, .f32⟩
  | .hbm, ⟨55, _⟩ => ⟨S4x4096x4x32, .f32⟩
  | .hbm, ⟨56, _⟩ => ⟨S4x4096x4x32, .f32⟩
  | .hbm, ⟨57, _⟩ => ⟨S4x4096x4x32, .f32⟩
  | .hbm, ⟨58, _⟩ => ⟨S4x4096x4x32, .f32⟩
  | .hbm, ⟨59, _⟩ => ⟨S4x4096x4x32, .f32⟩
  | .hbm, ⟨60, _⟩ => ⟨S4x4096x4x32, .f32⟩
  | .hbm, ⟨61, _⟩ => ⟨S4x4096x4x32, .f32⟩
  | .hbm, ⟨62, _⟩ => ⟨S4x4096x4x32, .f32⟩
  | .hbm, ⟨63, _⟩ => ⟨S4x4096x4x32, .f32⟩
  | .hbm, ⟨64, _⟩ => ⟨S4x4096x4x32, .f32⟩
  | .hbm, ⟨65, _⟩ => ⟨S4x4096x4x32, .f32⟩
  | .hbm, ⟨66, _⟩ => ⟨S4x4096x4x32, .f32⟩
  | .hbm, ⟨67, _⟩ => ⟨S4x4096x4x64, .f32⟩
  | .hbm, ⟨68, _⟩ => ⟨S4x4096x1x4x64, .f32⟩
  | .hbm, ⟨69, _⟩ => ⟨S4x4096x4x64, .f32⟩
  | .hbm, ⟨70, _⟩ => ⟨S4x4096x1x4x64, .f32⟩
  | .hbm, ⟨71, _⟩ => ⟨S4x4096x1x4x64, .f32⟩
  | .hbm, ⟨72, _⟩ => ⟨S4x4096x1x4x64, .f32⟩
  | .hbm, ⟨73, _⟩ => ⟨S4x4096x1x4x64, .f32⟩
  | .hbm, ⟨74, _⟩ => ⟨S4x4096x4x4x64, .f32⟩
  | .hbm, ⟨75, _⟩ => ⟨S4x4096x1x4x64, .f32⟩
  | .hbm, ⟨76, _⟩ => ⟨S4x4096x4x64, .f32⟩
  | .hbm, ⟨77, _⟩ => ⟨S32, .f32⟩
  | .hbm, ⟨78, _⟩ => ⟨S32, .f32⟩
  | .hbm, ⟨79, _⟩ => ⟨S_, .f32⟩
  | .hbm, ⟨80, _⟩ => ⟨S32, .f32⟩
  | .hbm, ⟨81, _⟩ => ⟨S32, .f32⟩
  | .hbm, ⟨82, _⟩ => ⟨S_, .f32⟩
  | .hbm, ⟨83, _⟩ => ⟨S32, .f32⟩
  | .hbm, ⟨84, _⟩ => ⟨S32, .f32⟩
  | .hbm, ⟨85, _⟩ => ⟨S4096, .f32⟩
  | .hbm, ⟨86, _⟩ => ⟨S4096x1, .f32⟩
  | .hbm, ⟨87, _⟩ => ⟨S1x32, .f32⟩
  | .hbm, ⟨88, _⟩ => ⟨S4096x32, .f32⟩
  | .hbm, ⟨89, _⟩ => ⟨S4096x32, .f32⟩
  | .hbm, ⟨90, _⟩ => ⟨S4096x32, .f32⟩
  | .hbm, ⟨91, _⟩ => ⟨S4096x32, .f32⟩
  | .hbm, ⟨92, _⟩ => ⟨S1x4096x1x32, .f32⟩
  | .hbm, ⟨93, _⟩ => ⟨S4096x32, .f32⟩
  | .hbm, ⟨94, _⟩ => ⟨S1x4096x1x32, .f32⟩
  | .hbm, ⟨95, _⟩ => ⟨S4x4096x4x32, .f32⟩
  | .hbm, ⟨96, _⟩ => ⟨S4x4096x4x32, .f32⟩
  | .hbm, ⟨97, _⟩ => ⟨S4x4096x4x32, .f32⟩
  | .hbm, ⟨98, _⟩ => ⟨S4x4096x4x32, .f32⟩
  | .hbm, ⟨99, _⟩ => ⟨S4x4096x4x32, .f32⟩
  | .hbm, ⟨100, _⟩ => ⟨S4x4096x4x32, .f32⟩
  | .hbm, ⟨101, _⟩ => ⟨S4x4096x4x32, .f32⟩
  | .hbm, ⟨102, _⟩ => ⟨S4x4096x4x32, .f32⟩
  | .hbm, ⟨103, _⟩ => ⟨S4x4096x4x32, .f32⟩
  | .hbm, ⟨104, _⟩ => ⟨S4x4096x4x32, .f32⟩
  | .hbm, ⟨105, _⟩ => ⟨S4x4096x4x32, .f32⟩
  | .hbm, ⟨106, _⟩ => ⟨S4x4096x4x32, .f32⟩
  | .hbm, ⟨107, _⟩ => ⟨S4x4096x4x64, .f32⟩
  | .hbm, ⟨108, _⟩ => ⟨S4x4096x1x4x64, .f32⟩
  | .hbm, ⟨109, _⟩ => ⟨S4x4096x4x64, .f32⟩
  | .hbm, ⟨110, _⟩ => ⟨S4x4096x1x4x64, .f32⟩
  | .hbm, ⟨111, _⟩ => ⟨S4x4096x1x4x64, .f32⟩
  | .hbm, ⟨112, _⟩ => ⟨S4x4096x2x4x64, .f32⟩
  | .hbm, ⟨113, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_cst_5 : Ref sig .tc := ⟨.hbm, 79, rfl⟩
abbrev main_v68 : Ref sig .tc := ⟨.hbm, 80, rfl⟩
abbrev main_v69 : Ref sig .tc := ⟨.hbm, 81, rfl⟩
abbrev main_cst_6 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩

abbrev nD : Nat := 1
abbrev τ : Topo := Topo.v7x

variable {F : FTy → Type} [FloatOps F]
-- ==== Kernel5.lean ====
abbrev S4x4096x1024 : Shape := ⟨3, ![4, 4096, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S4x4096x1024 : Shape := ⟨3, ![4, 4096, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x4096x1024, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S_, .f32⟩
  | .hbm, ⟨7, _⟩ => ⟨S4x4096x1, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S4x4096x1, .f32⟩
  | .hbm, ⟨13, _⟩ => ⟨S4x4096x1024, .f32⟩
  | .hbm, ⟨14, _⟩ => ⟨S4x4096x1024, .f32⟩
  | .hbm, ⟨15, _⟩ => ⟨S1x1x1024, .f32⟩
  | .hbm, ⟨16, _⟩ => ⟨S4x4096x1024, .f32⟩
  | .hbm, ⟨17, _⟩ => ⟨S4x4096x1024, .f32⟩
  | .hbm, ⟨18, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel6.lean ====
abbrev S16384x1024 : Shape := ⟨2, ![16384, 1024]⟩
abbrev S1024x1024 : Shape := ⟨2, ![1024, 1024]⟩
abbrev S4x4096x1024 : Shape := ⟨3, ![4, 4096, 1024]⟩
abbrev S4x1x1024 : Shape := ⟨3, ![4, 1, 1024]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 7
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S4x4096x1024, .f32⟩
  | .hbm, ⟨3, _⟩ => ⟨S4x1x1024, .f32⟩
  | .hbm, ⟨4, _⟩ => ⟨S1024x1024, .bf16⟩
  | .hbm, ⟨5, _⟩ => ⟨S16384x1024, .f32⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S16384x1024 : Shape := ⟨2, ![16384, 1024]⟩
abbrev S1024x1024 : Shape := ⟨2, ![1024, 1024]⟩
abbrev S4x4096x1024 : Shape := ⟨3, ![4, 4096, 1024]⟩
abbrev S4x1x1024 : Shape := ⟨3, ![4, 1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S4x4096x1024, .f32⟩
  | .hbm, ⟨3, _⟩ => ⟨S4x1x1024, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | .hbm, ⟨7, _⟩ => ⟨S4x4096x1024, .f32⟩
  | .hbm, ⟨8, _⟩ => ⟨S4x4096x1024, .f32⟩
  | .hbm, ⟨9, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel7.lean ====
abbrev S4x4096x1024 : Shape := ⟨3, ![4, 4096, 1024]⟩
abbrev S4x1x1024 : Shape := ⟨3, ![4, 1, 1024]⟩
abbrev S1024 : Shape := ⟨1, ![1024]⟩
abbrev S1024x1536 : Shape := ⟨2, ![1024, 1536]⟩
abbrev S1024x512 : Shape := ⟨2, ![1024, 512]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S16384x1024 : Shape := ⟨2, ![16384, 1024]⟩
abbrev S1x1024 : Shape := ⟨2, ![1, 1024]⟩
abbrev S16384x512 : Shape := ⟨2, ![16384, 512]⟩
abbrev S1024x1024 : Shape := ⟨2, ![1024, 1024]⟩
abbrev S1x1x1024 : Shape := ⟨3, ![1, 1, 1024]⟩
abbrev S1024x256 : Shape := ⟨2, ![1024, 256]⟩
abbrev S1024x128 : Shape := ⟨2, ![1024, 128]⟩
abbrev S1024x1 : Shape := ⟨2, ![1024, 1]⟩

abbrev nBuf : Space → Nat
  | .hbm => 36
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x1536, .f32⟩
  | .hbm, ⟨5, _⟩ => ⟨S1024x1536, .bf16⟩
  | .hbm, ⟨6, _⟩ => ⟨S1024x512, .bf16⟩
  | .hbm, ⟨7, _⟩ => ⟨S4096, .i32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S4096, .f32⟩
  | .hbm, ⟨17, _⟩ => ⟨S4096x1, .f32⟩
  | .hbm, ⟨18, _⟩ => ⟨S1x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x64, .f32⟩
  | .hbm, ⟨25, _⟩ => ⟨S1x4096x1x64, .f32⟩
  | .hbm, ⟨26, _⟩ => ⟨S1x4096x2x64, .f32⟩
  | .hbm, ⟨27, _⟩ => ⟨S4096x128, .f32⟩
  | .hbm, ⟨28, _⟩ => ⟨S4096x32, .f32⟩
  | .hbm, ⟨29, _⟩ => ⟨S4096x64, .f32⟩
  | .hbm, ⟨30, _⟩ => ⟨S1x4096x1x64, .f32⟩
  | .hbm, ⟨31, _⟩ => ⟨S1x4096x2x64, .f32⟩
  | .hbm, ⟨32, _⟩ => ⟨S4096x128, .f32⟩
  | .hbm, ⟨33, _⟩ => ⟨S16384x1024, .f32⟩
  | .hbm, ⟨34, _⟩ => ⟨S1x1024, .f32⟩
  | .hbm, ⟨35, _⟩ => ⟨S16384x512, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x256, .bf16⟩
  | .local _ .vmem, ⟨8, _⟩ => ⟨S1024x256, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x256, .f32⟩
  | .local _ .vmem, ⟨14, _⟩ => ⟨S1024x256, .f32⟩
  | .local _ .vmem, ⟨15, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference7Ideal.lean ====
abbrev S4x4096x1024 : Shape := ⟨3, ![4, 4096, 1024]⟩
abbrev S4x1x1024 : Shape := ⟨3, ![4, 1, 1024]⟩
abbrev S1024 : Shape := ⟨1, ![1024]⟩
abbrev S1024x1536 : Shape := ⟨2, ![1024, 1536]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4096 : Shape := ⟨1, ![4096]⟩
abbrev S4x4096x1536 : Shape := ⟨3, ![4, 4096, 1536]⟩
abbrev S4x4096x6x4x64 : Shape := ⟨5, ![4, 4096, 6, 4, 64]⟩
abbrev S4x4096x1x4x64 : Shape := ⟨5, ![4, 4096, 1, 4, 64]⟩
abbrev S4x4096x4x64 : Shape := ⟨4, ![4, 4096, 4, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x4x32 : Shape := ⟨4, ![4, 4096, 4, 32]⟩
abbrev S4x4096x4x4x64 : Shape := ⟨5, ![4, 4096, 4, 4, 64]⟩
abbrev S4x4096x2x4x64 : Shape := ⟨5, ![4, 4096, 2, 4, 64]⟩
abbrev S16384x512 : Shape := ⟨2, ![16384, 512]⟩

abbrev nBuf : Space → Nat
  | .hbm => 114
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x1536, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S_, .f32⟩
  | .hbm, ⟨22, _⟩ => ⟨S4x1x1024, .f32⟩
  | .hbm, ⟨23, _⟩ => ⟨S4x1x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4096, .i32⟩
  | .hbm, ⟨29, _⟩ => ⟨S4x4096x1536, .f32⟩
  | .hbm, ⟨30, _⟩ => ⟨S4x4096x6x4x64, .f32⟩
  | .hbm, ⟨31, _⟩ => ⟨S4x4096x1x4x64, .f32⟩
  | .hbm, ⟨32, _⟩ => ⟨S4x4096x4x64, .f32⟩
  | .hbm, ⟨33, _⟩ => ⟨S4x4096x1x4x64, .f32⟩
  | .hbm, ⟨34, _⟩ => ⟨S4x4096x4x64, .f32⟩
  | .hbm, ⟨35, _⟩ => ⟨S4x4096x1x4x64, .f32⟩
  | .hbm, ⟨36, _⟩ => ⟨S4x4096x4x64, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S4096, .f32⟩
  | .hbm, ⟨46, _⟩ => ⟨S4096x1, .f32⟩
  | .hbm, ⟨47, _⟩ => ⟨S1x32, .f32⟩
  | .hbm, ⟨48, _⟩ => ⟨S4096x32, .f32⟩
  | .hbm, ⟨49, _⟩ => ⟨S4096x32, .f32⟩
  | .hbm, ⟨50, _⟩ => ⟨S4096x32, .f32⟩
  | .hbm, ⟨51, _⟩ => ⟨S4096x32, .f32⟩
  | .hbm, ⟨52, _⟩ => ⟨S1x4096x1x32, .f32⟩
  | .hbm, ⟨53, _⟩ => ⟨S4096x32, .f32⟩
  | .hbm, ⟨54, _⟩ => ⟨S1x4096x1x32, .f32⟩
  | .hbm, ⟨55, _⟩ => ⟨S4x4096x4x32, .f32⟩
  | .hbm, ⟨56, _⟩ => ⟨S4x4096x4x32, .f32⟩
  | .hbm, ⟨57, _⟩ => ⟨S4x4096x4x32, .f32⟩
  | .hbm, ⟨58, _⟩ => ⟨S4x4096x4x32, .f32⟩
  | .hbm, ⟨59, _⟩ => ⟨S4x4096x4x32, .f32⟩
  | .hbm, ⟨60, _⟩ => ⟨S4x4096x4x32, .f32⟩
  | .hbm, ⟨61, _⟩ => ⟨S4x4096x4x32, .f32⟩
  | .hbm, ⟨62, _⟩ => ⟨S4x4096x4x32, .f32⟩
  | .hbm, ⟨63, _⟩ => ⟨S4x4096x4x32, .f32⟩
  | .hbm, ⟨64, _⟩ => ⟨S4x4096x4x32, .f32⟩
  | .hbm, ⟨65, _⟩ => ⟨S4x4096x4x32, .f32⟩
  | .hbm, ⟨66, _⟩ => ⟨S4x4096x4x32, .f32⟩
  | .hbm, ⟨67, _⟩ => ⟨S4x4096x4x64, .f32⟩
  | .hbm, ⟨68, _⟩ => ⟨S4x4096x1x4x64, .f32⟩
  | .hbm, ⟨69, _⟩ => ⟨S4x4096x4x64, .f32⟩
  | .hbm, ⟨70, _⟩ => ⟨S4x4096x1x4x64, .f32⟩
  | .hbm, ⟨71, _⟩ => ⟨S4x4096x1x4x64, .f32⟩
  | .hbm, ⟨72, _⟩ => ⟨S4x4096x1x4x64, .f32⟩
  | .hbm, ⟨73, _⟩ => ⟨S4x4096x1x4x64, .f32⟩
  | .hbm, ⟨74, _⟩ => ⟨S4x4096x4x4x64, .f32⟩
  | .hbm, ⟨75, _⟩ => ⟨S4x4096x1x4x64, .f32⟩
  | .hbm, ⟨76, _⟩ => ⟨S4x4096x4x64, .f32⟩
  | .hbm, ⟨77, _⟩ => ⟨S32, .f32⟩
  | .hbm, ⟨78, _⟩ => ⟨S32, .f32⟩
  | .hbm, ⟨79, _⟩ => ⟨S_, .f32⟩
  | .hbm, ⟨80, _⟩ => ⟨S32, .f32⟩
  | .hbm, ⟨81, _⟩ => ⟨S32, .f32⟩
  | .hbm, ⟨82, _⟩ => ⟨S_, .f32⟩
  | .hbm, ⟨83, _⟩ => ⟨S32, .f32⟩
  | .hbm, ⟨84, _⟩ => ⟨S32, .f32⟩
  | .hbm, ⟨85, _⟩ => ⟨S4096, .f32⟩
  | .hbm, ⟨86, _⟩ => ⟨S4096x1, .f32⟩
  | .hbm, ⟨87, _⟩ => ⟨S1x32, .f32⟩
  | .hbm, ⟨88, _⟩ => ⟨S4096x32, .f32⟩
  | .hbm, ⟨89, _⟩ => ⟨S4096x32, .f32⟩
  | .hbm, ⟨90, _⟩ => ⟨S4096x32, .f32⟩
  | .hbm, ⟨91, _⟩ => ⟨S4096x32, .f32⟩
  | .hbm, ⟨92, _⟩ => ⟨S1x4096x1x32, .f32⟩
  | .hbm, ⟨93, _⟩ => ⟨S4096x32, .f32⟩
  | .hbm, ⟨94, _⟩ => ⟨S1x4096x1x32, .f32⟩
  | .hbm, ⟨95, _⟩ => ⟨S4x4096x4x32, .f32⟩
  | .hbm, ⟨96, _⟩ => ⟨S4x4096x4x32, .f32⟩
  | .hbm, ⟨97, _⟩ => ⟨S4x4096x4x32, .f32⟩
  | .hbm, ⟨98, _⟩ => ⟨S4x4096x4x32, .f32⟩
  | .hbm, ⟨99, _⟩ => ⟨S4x4096x4x32, .f32⟩
  | .hbm, ⟨100, _⟩ => ⟨S4x4096x4x32, .f32⟩
  | .hbm, ⟨101, _⟩ => ⟨S4x4096x4x32, .f32⟩
  | .hbm, ⟨102, _⟩ => ⟨S4x4096x4x32, .f32⟩
  | .hbm, ⟨103, _⟩ => ⟨S4x4096x4x32, .f32⟩
  | .hbm, ⟨104, _⟩ => ⟨S4x4096x4x32, .f32⟩
  | .hbm, ⟨105, _⟩ => ⟨S4x4096x4x32, .f32⟩
  | .hbm, ⟨106, _⟩ => ⟨S4x4096x4x32, .f32⟩
  | .hbm, ⟨107, _⟩ => ⟨S4x4096x4x64, .f32⟩
  | .hbm, ⟨108, _⟩ => ⟨S4x4096x1x4x64, .f32⟩
  | .hbm, ⟨109, _⟩ => ⟨S4x4096x4x64, .f32⟩
  | .hbm, ⟨110, _⟩ => ⟨S4x4096x1x4x64, .f32⟩
  | .hbm, ⟨111, _⟩ => ⟨S4x4096x1x4x64, .f32⟩
  | .hbm, ⟨112, _⟩ => ⟨S4x4096x2x4x64, .f32⟩
  | .hbm, ⟨113, _⟩ => ⟨S16384x512, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_cst_5 : Ref sig .tc := ⟨.hbm, 79, rfl⟩
abbrev main_v68 : Ref sig .tc := ⟨.hbm, 80, rfl⟩
abbrev main_v69 : Ref sig .tc := ⟨.hbm, 81, rfl⟩
abbrev main_cst_6 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩

abbrev nD : Nat := 1
abbrev τ : Topo := Topo.v7x

variable {F : FTy → Type} [FloatOps F]
-- ==== Kernel8.lean ====
abbrev S4x4096x1024 : Shape := ⟨3, ![4, 4096, 1024]⟩
abbrev S4x1x1024 : Shape := ⟨3, ![4, 1, 1024]⟩
abbrev S1024 : Shape := ⟨1, ![1024]⟩
abbrev S1024x9216 : Shape := ⟨2, ![1024, 9216]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1024x3072 : Shape := ⟨2, ![1024, 3072]⟩
abbrev S16384x1024 : Shape := ⟨2, ![16384, 1024]⟩
abbrev S1x1024 : Shape := ⟨2, ![1, 1024]⟩
abbrev S16384x3072 : Shape := ⟨2, ![16384, 3072]⟩
abbrev S1024x1024 : Shape := ⟨2, ![1024, 1024]⟩
abbrev S1x1x1024 : Shape := ⟨3, ![1, 1, 1024]⟩
abbrev S1024x512 : Shape := ⟨2, ![1024, 512]⟩
abbrev S1024x128 : Shape := ⟨2, ![1024, 128]⟩
abbrev S1024x1 : Shape := ⟨2, ![1024, 1]⟩

abbrev nBuf : Space → Nat
  | .hbm => 37
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x9216, .f32⟩
  | .hbm, ⟨5, _⟩ => ⟨S4096, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S4096, .f32⟩
  | .hbm, ⟨15, _⟩ => ⟨S4096x1, .f32⟩
  | .hbm, ⟨16, _⟩ => ⟨S1x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x64, .f32⟩
  | .hbm, ⟨23, _⟩ => ⟨S1x4096x1x64, .f32⟩
  | .hbm, ⟨24, _⟩ => ⟨S1x4096x2x64, .f32⟩
  | .hbm, ⟨25, _⟩ => ⟨S4096x128, .f32⟩
  | .hbm, ⟨26, _⟩ => ⟨S4096x32, .f32⟩
  | .hbm, ⟨27, _⟩ => ⟨S4096x64, .f32⟩
  | .hbm, ⟨28, _⟩ => ⟨S1x4096x1x64, .f32⟩
  | .hbm, ⟨29, _⟩ => ⟨S1x4096x2x64, .f32⟩
  | .hbm, ⟨30, _⟩ => ⟨S4096x128, .f32⟩
  | .hbm, ⟨31, _⟩ => ⟨S1024x9216, .bf16⟩
  | .hbm, ⟨32, _⟩ => ⟨S1024x3072, .bf16⟩
  | .hbm, ⟨33, _⟩ => ⟨S16384x1024, .f32⟩
  | .hbm, ⟨34, _⟩ => ⟨S1x1024, .f32⟩
  | .hbm, ⟨35, _⟩ => ⟨S16384x3072, .f32⟩
  | .hbm, ⟨36, _⟩ => ⟨S16384x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x512, .bf16⟩
  | .local _ .vmem, ⟨8, _⟩ => ⟨S1024x512, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x512, .f32⟩
  | .local _ .vmem, ⟨14, _⟩ => ⟨S1024x512, .f32⟩
  | .local _ .vmem, ⟨15, _⟩ => ⟨S1024x512, .bf16⟩
  | .local _ .vmem, ⟨16, _⟩ => ⟨S1024x512, .bf16⟩
  | .local _ .vmem, ⟨17, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28_0 : Ref sig .tc := ⟨.hbm, 35, rfl⟩
abbrev main_v28_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference8Ideal.lean ====
abbrev S4x4096x1024 : Shape := ⟨3, ![4, 4096, 1024]⟩
abbrev S4x1x1024 : Shape := ⟨3, ![4, 1, 1024]⟩
abbrev S1024 : Shape := ⟨1, ![1024]⟩
abbrev S1024x9216 : Shape := ⟨2, ![1024, 9216]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4096 : Shape := ⟨1, ![4096]⟩
abbrev S4x4096x9216 : Shape := ⟨3, ![4, 4096, 9216]⟩
abbrev S4x4096x3x3x16x64 : Shape := ⟨6, ![4, 4096, 3, 3, 16, 64]⟩
abbrev S4x4096x3x1x16x64 : Shape := ⟨6, ![4, 4096, 3, 1, 16, 64]⟩
abbrev S4x4096x3x16x64 : Shape := ⟨5, ![4, 4096, 3, 16, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x1x32 : Shape := ⟨5, ![1, 4096, 1, 1, 32]⟩
abbrev S4x4096x3x16x32 : Shape := ⟨5, ![4, 4096, 3, 16, 32]⟩
abbrev S4x4096x3x2x16x64 : Shape := ⟨6, ![4, 4096, 3, 2, 16, 64]⟩
abbrev S4x4096x1x16x64 : Shape := ⟨5, ![4, 4096, 1, 16, 64]⟩
abbrev S4x4096x16x64 : Shape := ⟨4, ![4, 4096, 16, 64]⟩
abbrev S4x4096x1x2x16x64 : Shape := ⟨6, ![4, 4096, 1, 2, 16, 64]⟩
abbrev S4x4096x2x16x64 : Shape := ⟨5, ![4, 4096, 2, 16, 64]⟩
abbrev S16384x3072 : Shape := ⟨2, ![16384, 3072]⟩

abbrev nBuf : Space → Nat
  | .hbm => 110
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x9216, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S_, .f32⟩
  | .hbm, ⟨22, _⟩ => ⟨S4x1x1024, .f32⟩
  | .hbm, ⟨23, _⟩ => ⟨S4x1x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4096, .i32⟩
  | .hbm, ⟨29, _⟩ => ⟨S4x4096x9216, .f32⟩
  | .hbm, ⟨30, _⟩ => ⟨S4x4096x3x3x16x64, .f32⟩
  | .hbm, ⟨31, _⟩ => ⟨S4x4096x3x1x16x64, .f32⟩
  | .hbm, ⟨32, _⟩ => ⟨S4x4096x3x16x64, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S4096, .f32⟩
  | .hbm, ⟨42, _⟩ => ⟨S4096x1, .f32⟩
  | .hbm, ⟨43, _⟩ => ⟨S1x32, .f32⟩
  | .hbm, ⟨44, _⟩ => ⟨S4096x32, .f32⟩
  | .hbm, ⟨45, _⟩ => ⟨S4096x32, .f32⟩
  | .hbm, ⟨46, _⟩ => ⟨S4096x32, .f32⟩
  | .hbm, ⟨47, _⟩ => ⟨S4096x32, .f32⟩
  | .hbm, ⟨48, _⟩ => ⟨S1x4096x1x1x32, .f32⟩
  | .hbm, ⟨49, _⟩ => ⟨S4096x32, .f32⟩
  | .hbm, ⟨50, _⟩ => ⟨S1x4096x1x1x32, .f32⟩
  | .hbm, ⟨51, _⟩ => ⟨S4x4096x3x16x32, .f32⟩
  | .hbm, ⟨52, _⟩ => ⟨S4x4096x3x16x32, .f32⟩
  | .hbm, ⟨53, _⟩ => ⟨S4x4096x3x16x32, .f32⟩
  | .hbm, ⟨54, _⟩ => ⟨S4x4096x3x16x32, .f32⟩
  | .hbm, ⟨55, _⟩ => ⟨S4x4096x3x16x32, .f32⟩
  | .hbm, ⟨56, _⟩ => ⟨S4x4096x3x16x32, .f32⟩
  | .hbm, ⟨57, _⟩ => ⟨S4x4096x3x16x32, .f32⟩
  | .hbm, ⟨58, _⟩ => ⟨S4x4096x3x16x32, .f32⟩
  | .hbm, ⟨59, _⟩ => ⟨S4x4096x3x16x32, .f32⟩
  | .hbm, ⟨60, _⟩ => ⟨S4x4096x3x16x32, .f32⟩
  | .hbm, ⟨61, _⟩ => ⟨S4x4096x3x16x32, .f32⟩
  | .hbm, ⟨62, _⟩ => ⟨S4x4096x3x16x32, .f32⟩
  | .hbm, ⟨63, _⟩ => ⟨S4x4096x3x16x64, .f32⟩
  | .hbm, ⟨64, _⟩ => ⟨S4x4096x3x1x16x64, .f32⟩
  | .hbm, ⟨65, _⟩ => ⟨S4x4096x3x16x64, .f32⟩
  | .hbm, ⟨66, _⟩ => ⟨S32, .f32⟩
  | .hbm, ⟨67, _⟩ => ⟨S32, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S_, .f32⟩
  | .hbm, ⟨72, _⟩ => ⟨S32, .f32⟩
  | .hbm, ⟨73, _⟩ => ⟨S32, .f32⟩
  | .hbm, ⟨74, _⟩ => ⟨S4096, .f32⟩
  | .hbm, ⟨75, _⟩ => ⟨S4096x1, .f32⟩
  | .hbm, ⟨76, _⟩ => ⟨S1x32, .f32⟩
  | .hbm, ⟨77, _⟩ => ⟨S4096x32, .f32⟩
  | .hbm, ⟨78, _⟩ => ⟨S4096x32, .f32⟩
  | .hbm, ⟨79, _⟩ => ⟨S4096x32, .f32⟩
  | .hbm, ⟨80, _⟩ => ⟨S4096x32, .f32⟩
  | .hbm, ⟨81, _⟩ => ⟨S1x4096x1x1x32, .f32⟩
  | .hbm, ⟨82, _⟩ => ⟨S4096x32, .f32⟩
  | .hbm, ⟨83, _⟩ => ⟨S1x4096x1x1x32, .f32⟩
  | .hbm, ⟨84, _⟩ => ⟨S4x4096x3x16x32, .f32⟩
  | .hbm, ⟨85, _⟩ => ⟨S4x4096x3x16x32, .f32⟩
  | .hbm, ⟨86, _⟩ => ⟨S4x4096x3x16x32, .f32⟩
  | .hbm, ⟨87, _⟩ => ⟨S4x4096x3x16x32, .f32⟩
  | .hbm, ⟨88, _⟩ => ⟨S4x4096x3x16x32, .f32⟩
  | .hbm, ⟨89, _⟩ => ⟨S4x4096x3x16x32, .f32⟩
  | .hbm, ⟨90, _⟩ => ⟨S4x4096x3x16x32, .f32⟩
  | .hbm, ⟨91, _⟩ => ⟨S4x4096x3x16x32, .f32⟩
  | .hbm, ⟨92, _⟩ => ⟨S4x4096x3x16x32, .f32⟩
  | .hbm, ⟨93, _⟩ => ⟨S4x4096x3x16x32, .f32⟩
  | .hbm, ⟨94, _⟩ => ⟨S4x4096x3x16x32, .f32⟩
  | .hbm, ⟨95, _⟩ => ⟨S4x4096x3x16x32, .f32⟩
  | .hbm, ⟨96, _⟩ => ⟨S4x4096x3x16x64, .f32⟩
  | .hbm, ⟨97, _⟩ => ⟨S4x4096x3x1x16x64, .f32⟩
  | .hbm, ⟨98, _⟩ => ⟨S4x4096x3x16x64, .f32⟩
  | .hbm, ⟨99, _⟩ => ⟨S4x4096x3x1x16x64, .f32⟩
  | .hbm, ⟨100, _⟩ => ⟨S4x4096x3x1x16x64, .f32⟩
  | .hbm, ⟨101, _⟩ => ⟨S4x4096x3x2x16x64, .f32⟩
  | .hbm, ⟨102, _⟩ => ⟨S4x4096x1x16x64, .f32⟩
  | .hbm, ⟨103, _⟩ => ⟨S4x4096x16x64, .f32⟩
  | .hbm, ⟨104, _⟩ => ⟨S4x4096x1x16x64, .f32⟩
  | .hbm, ⟨105, _⟩ => ⟨S4x4096x1x2x16x64, .f32⟩
  | .hbm, ⟨106, _⟩ => ⟨S4x4096x2x16x64, .f32⟩
  | .hbm, ⟨107, _⟩ => ⟨S4x4096x3x16x64, .f32⟩
  | .hbm, ⟨108, _⟩ => ⟨S16384x3072, .f32⟩
  | .hbm, ⟨109, _⟩ => ⟨S16384x3072, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_5 : Ref sig .tc := ⟨.hbm, 68, rfl⟩
abbrev main_v57 : Ref sig .tc := ⟨.hbm, 69, rfl⟩
abbrev main_v58 : Ref sig .tc := ⟨.hbm, 70, rfl⟩
abbrev main_cst_6 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩

abbrev nD : Nat := 1
abbrev τ : Topo := Topo.v7x

variable {F : FTy → Type} [FloatOps F]
-- ==== Kernel9.lean ====
abbrev S4x4096x1024 : Shape := ⟨3, ![4, 4096, 1024]⟩
abbrev S4x1x1024 : Shape := ⟨3, ![4, 1, 1024]⟩
abbrev S1024 : Shape := ⟨1, ![1024]⟩
abbrev S1024x9216 : Shape := ⟨2, ![1024, 9216]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1024x3072 : Shape := ⟨2, ![1024, 3072]⟩
abbrev S16384x1024 : Shape := ⟨2, ![16384, 1024]⟩
abbrev S1x1024 : Shape := ⟨2, ![1, 1024]⟩
abbrev S16384x3072 : Shape := ⟨2, ![16384, 3072]⟩
abbrev S1024x1024 : Shape := ⟨2, ![1024, 1024]⟩
abbrev S1x1x1024 : Shape := ⟨3, ![1, 1, 1024]⟩
abbrev S1024x512 : Shape := ⟨2, ![1024, 512]⟩
abbrev S1024x128 : Shape := ⟨2, ![1024, 128]⟩
abbrev S1024x1 : Shape := ⟨2, ![1024, 1]⟩

abbrev nBuf : Space → Nat
  | .hbm => 37
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x9216, .f32⟩
  | .hbm, ⟨5, _⟩ => ⟨S4096, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S4096, .f32⟩
  | .hbm, ⟨15, _⟩ => ⟨S4096x1, .f32⟩
  | .hbm, ⟨16, _⟩ => ⟨S1x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x64, .f32⟩
  | .hbm, ⟨23, _⟩ => ⟨S1x4096x1x64, .f32⟩
  | .hbm, ⟨24, _⟩ => ⟨S1x4096x2x64, .f32⟩
  | .hbm, ⟨25, _⟩ => ⟨S4096x128, .f32⟩
  | .hbm, ⟨26, _⟩ => ⟨S4096x32, .f32⟩
  | .hbm, ⟨27, _⟩ => ⟨S4096x64, .f32⟩
  | .hbm, ⟨28, _⟩ => ⟨S1x4096x1x64, .f32⟩
  | .hbm, ⟨29, _⟩ => ⟨S1x4096x2x64, .f32⟩
  | .hbm, ⟨30, _⟩ => ⟨S4096x128, .f32⟩
  | .hbm, ⟨31, _⟩ => ⟨S1024x9216, .bf16⟩
  | .hbm, ⟨32, _⟩ => ⟨S1024x3072, .bf16⟩
  | .hbm, ⟨33, _⟩ => ⟨S16384x1024, .f32⟩
  | .hbm, ⟨34, _⟩ => ⟨S1x1024, .f32⟩
  | .hbm, ⟨35, _⟩ => ⟨S16384x3072, .f32⟩
  | .hbm, ⟨36, _⟩ => ⟨S16384x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x512, .bf16⟩
  | .local _ .vmem, ⟨8, _⟩ => ⟨S1024x512, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x512, .f32⟩
  | .local _ .vmem, ⟨14, _⟩ => ⟨S1024x512, .f32⟩
  | .local _ .vmem, ⟨15, _⟩ => ⟨S1024x512, .bf16⟩
  | .local _ .vmem, ⟨16, _⟩ => ⟨S1024x512, .bf16⟩
  | .local _ .vmem, ⟨17, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28_0 : Ref sig .tc := ⟨.hbm, 35, rfl⟩
abbrev main_v28_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference9Ideal.lean ====
abbrev S4x4096x1024 : Shape := ⟨3, ![4, 4096, 1024]⟩
abbrev S4x1x1024 : Shape := ⟨3, ![4, 1, 1024]⟩
abbrev S1024 : Shape := ⟨1, ![1024]⟩
abbrev S1024x9216 : Shape := ⟨2, ![1024, 9216]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4096 : Shape := ⟨1, ![4096]⟩
abbrev S4x4096x9216 : Shape := ⟨3, ![4, 4096, 9216]⟩
abbrev S4x4096x3x3x16x64 : Shape := ⟨6, ![4, 4096, 3, 3, 16, 64]⟩
abbrev S4x4096x3x1x16x64 : Shape := ⟨6, ![4, 4096, 3, 1, 16, 64]⟩
abbrev S4x4096x3x16x64 : Shape := ⟨5, ![4, 4096, 3, 16, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x1x32 : Shape := ⟨5, ![1, 4096, 1, 1, 32]⟩
abbrev S4x4096x3x16x32 : Shape := ⟨5, ![4, 4096, 3, 16, 32]⟩
abbrev S4x4096x3x2x16x64 : Shape := ⟨6, ![4, 4096, 3, 2, 16, 64]⟩
abbrev S4x4096x1x16x64 : Shape := ⟨5, ![4, 4096, 1, 16, 64]⟩
abbrev S4x4096x16x64 : Shape := ⟨4, ![4, 4096, 16, 64]⟩
abbrev S4x4096x1x2x16x64 : Shape := ⟨6, ![4, 4096, 1, 2, 16, 64]⟩
abbrev S4x4096x2x16x64 : Shape := ⟨5, ![4, 4096, 2, 16, 64]⟩
abbrev S16384x3072 : Shape := ⟨2, ![16384, 3072]⟩

abbrev nBuf : Space → Nat
  | .hbm => 110
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x9216, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S_, .f32⟩
  | .hbm, ⟨22, _⟩ => ⟨S4x1x1024, .f32⟩
  | .hbm, ⟨23, _⟩ => ⟨S4x1x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4096, .i32⟩
  | .hbm, ⟨29, _⟩ => ⟨S4x4096x9216, .f32⟩
  | .hbm, ⟨30, _⟩ => ⟨S4x4096x3x3x16x64, .f32⟩
  | .hbm, ⟨31, _⟩ => ⟨S4x4096x3x1x16x64, .f32⟩
  | .hbm, ⟨32, _⟩ => ⟨S4x4096x3x16x64, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S4096, .f32⟩
  | .hbm, ⟨42, _⟩ => ⟨S4096x1, .f32⟩
  | .hbm, ⟨43, _⟩ => ⟨S1x32, .f32⟩
  | .hbm, ⟨44, _⟩ => ⟨S4096x32, .f32⟩
  | .hbm, ⟨45, _⟩ => ⟨S4096x32, .f32⟩
  | .hbm, ⟨46, _⟩ => ⟨S4096x32, .f32⟩
  | .hbm, ⟨47, _⟩ => ⟨S4096x32, .f32⟩
  | .hbm, ⟨48, _⟩ => ⟨S1x4096x1x1x32, .f32⟩
  | .hbm, ⟨49, _⟩ => ⟨S4096x32, .f32⟩
  | .hbm, ⟨50, _⟩ => ⟨S1x4096x1x1x32, .f32⟩
  | .hbm, ⟨51, _⟩ => ⟨S4x4096x3x16x32, .f32⟩
  | .hbm, ⟨52, _⟩ => ⟨S4x4096x3x16x32, .f32⟩
  | .hbm, ⟨53, _⟩ => ⟨S4x4096x3x16x32, .f32⟩
  | .hbm, ⟨54, _⟩ => ⟨S4x4096x3x16x32, .f32⟩
  | .hbm, ⟨55, _⟩ => ⟨S4x4096x3x16x32, .f32⟩
  | .hbm, ⟨56, _⟩ => ⟨S4x4096x3x16x32, .f32⟩
  | .hbm, ⟨57, _⟩ => ⟨S4x4096x3x16x32, .f32⟩
  | .hbm, ⟨58, _⟩ => ⟨S4x4096x3x16x32, .f32⟩
  | .hbm, ⟨59, _⟩ => ⟨S4x4096x3x16x32, .f32⟩
  | .hbm, ⟨60, _⟩ => ⟨S4x4096x3x16x32, .f32⟩
  | .hbm, ⟨61, _⟩ => ⟨S4x4096x3x16x32, .f32⟩
  | .hbm, ⟨62, _⟩ => ⟨S4x4096x3x16x32, .f32⟩
  | .hbm, ⟨63, _⟩ => ⟨S4x4096x3x16x64, .f32⟩
  | .hbm, ⟨64, _⟩ => ⟨S4x4096x3x1x16x64, .f32⟩
  | .hbm, ⟨65, _⟩ => ⟨S4x4096x3x16x64, .f32⟩
  | .hbm, ⟨66, _⟩ => ⟨S32, .f32⟩
  | .hbm, ⟨67, _⟩ => ⟨S32, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S_, .f32⟩
  | .hbm, ⟨72, _⟩ => ⟨S32, .f32⟩
  | .hbm, ⟨73, _⟩ => ⟨S32, .f32⟩
  | .hbm, ⟨74, _⟩ => ⟨S4096, .f32⟩
  | .hbm, ⟨75, _⟩ => ⟨S4096x1, .f32⟩
  | .hbm, ⟨76, _⟩ => ⟨S1x32, .f32⟩
  | .hbm, ⟨77, _⟩ => ⟨S4096x32, .f32⟩
  | .hbm, ⟨78, _⟩ => ⟨S4096x32, .f32⟩
  | .hbm, ⟨79, _⟩ => ⟨S4096x32, .f32⟩
  | .hbm, ⟨80, _⟩ => ⟨S4096x32, .f32⟩
  | .hbm, ⟨81, _⟩ => ⟨S1x4096x1x1x32, .f32⟩
  | .hbm, ⟨82, _⟩ => ⟨S4096x32, .f32⟩
  | .hbm, ⟨83, _⟩ => ⟨S1x4096x1x1x32, .f32⟩
  | .hbm, ⟨84, _⟩ => ⟨S4x4096x3x16x32, .f32⟩
  | .hbm, ⟨85, _⟩ => ⟨S4x4096x3x16x32, .f32⟩
  | .hbm, ⟨86, _⟩ => ⟨S4x4096x3x16x32, .f32⟩
  | .hbm, ⟨87, _⟩ => ⟨S4x4096x3x16x32, .f32⟩
  | .hbm, ⟨88, _⟩ => ⟨S4x4096x3x16x32, .f32⟩
  | .hbm, ⟨89, _⟩ => ⟨S4x4096x3x16x32, .f32⟩
  | .hbm, ⟨90, _⟩ => ⟨S4x4096x3x16x32, .f32⟩
  | .hbm, ⟨91, _⟩ => ⟨S4x4096x3x16x32, .f32⟩
  | .hbm, ⟨92, _⟩ => ⟨S4x4096x3x16x32, .f32⟩
  | .hbm, ⟨93, _⟩ => ⟨S4x4096x3x16x32, .f32⟩
  | .hbm, ⟨94, _⟩ => ⟨S4x4096x3x16x32, .f32⟩
  | .hbm, ⟨95, _⟩ => ⟨S4x4096x3x16x32, .f32⟩
  | .hbm, ⟨96, _⟩ => ⟨S4x4096x3x16x64, .f32⟩
  | .hbm, ⟨97, _⟩ => ⟨S4x4096x3x1x16x64, .f32⟩
  | .hbm, ⟨98, _⟩ => ⟨S4x4096x3x16x64, .f32⟩
  | .hbm, ⟨99, _⟩ => ⟨S4x4096x3x1x16x64, .f32⟩
  | .hbm, ⟨100, _⟩ => ⟨S4x4096x3x1x16x64, .f32⟩
  | .hbm, ⟨101, _⟩ => ⟨S4x4096x3x2x16x64, .f32⟩
  | .hbm, ⟨102, _⟩ => ⟨S4x4096x1x16x64, .f32⟩
  | .hbm, ⟨103, _⟩ => ⟨S4x4096x16x64, .f32⟩
  | .hbm, ⟨104, _⟩ => ⟨S4x4096x1x16x64, .f32⟩
  | .hbm, ⟨105, _⟩ => ⟨S4x4096x1x2x16x64, .f32⟩
  | .hbm, ⟨106, _⟩ => ⟨S4x4096x2x16x64, .f32⟩
  | .hbm, ⟨107, _⟩ => ⟨S4x4096x3x16x64, .f32⟩
  | .hbm, ⟨108, _⟩ => ⟨S16384x3072, .f32⟩
  | .hbm, ⟨109, _⟩ => ⟨S16384x3072, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_5 : Ref sig .tc := ⟨.hbm, 68, rfl⟩
abbrev main_v57 : Ref sig .tc := ⟨.hbm, 69, rfl⟩
abbrev main_v58 : Ref sig .tc := ⟨.hbm, 70, rfl⟩
abbrev main_cst_6 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩

abbrev nD : Nat := 1
abbrev τ : Topo := Topo.v7x

variable {F : FTy → Type} [FloatOps F]
-- ==== Kernel10.lean ====
abbrev S4x4096x1024 : Shape := ⟨3, ![4, 4096, 1024]⟩
abbrev S4x1x1024 : Shape := ⟨3, ![4, 1, 1024]⟩
abbrev S1024 : Shape := ⟨1, ![1024]⟩
abbrev S1024x1072 : Shape := ⟨2, ![1024, 1072]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S16384x1024 : Shape := ⟨2, ![16384, 1024]⟩
abbrev S1x1024 : Shape := ⟨2, ![1, 1024]⟩
abbrev S1024x1024 : Shape := ⟨2, ![1024, 1024]⟩
abbrev S1x1x1024 : Shape := ⟨3, ![1, 1, 1024]⟩
abbrev S1024x512 : Shape := ⟨2, ![1024, 512]⟩
abbrev S1024x128 : Shape := ⟨2, ![1024, 128]⟩
abbrev S1024x1 : Shape := ⟨2, ![1024, 1]⟩

abbrev nBuf : Space → Nat
  | .hbm => 37
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x1072, .f32⟩
  | .hbm, ⟨5, _⟩ => ⟨S4096, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S4096, .f32⟩
  | .hbm, ⟨15, _⟩ => ⟨S4096x1, .f32⟩
  | .hbm, ⟨16, _⟩ => ⟨S1x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x64, .f32⟩
  | .hbm, ⟨23, _⟩ => ⟨S1x4096x1x64, .f32⟩
  | .hbm, ⟨24, _⟩ => ⟨S1x4096x2x64, .f32⟩
  | .hbm, ⟨25, _⟩ => ⟨S4096x128, .f32⟩
  | .hbm, ⟨26, _⟩ => ⟨S4096x32, .f32⟩
  | .hbm, ⟨27, _⟩ => ⟨S4096x64, .f32⟩
  | .hbm, ⟨28, _⟩ => ⟨S1x4096x1x64, .f32⟩
  | .hbm, ⟨29, _⟩ => ⟨S1x4096x2x64, .f32⟩
  | .hbm, ⟨30, _⟩ => ⟨S4096x128, .f32⟩
  | .hbm, ⟨31, _⟩ => ⟨S16384x1024, .f32⟩
  | .hbm, ⟨32, _⟩ => ⟨S1x1024, .f32⟩
  | .hbm, ⟨33, _⟩ => ⟨S1024x1024, .f32⟩
  | .hbm, ⟨34, _⟩ => ⟨S1024x1024, .bf16⟩
  | .hbm, ⟨35, _⟩ => ⟨S16384x1024, .f32⟩
  | .hbm, ⟨36, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x512, .bf16⟩
  | .local _ .vmem, ⟨8, _⟩ => ⟨S1024x512, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28_0 : Ref sig .tc := ⟨.hbm, 35, rfl⟩
abbrev main_v28_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference10Ideal.lean ====
abbrev S4x4096x1024 : Shape := ⟨3, ![4, 4096, 1024]⟩
abbrev S4x1x1024 : Shape := ⟨3, ![4, 1, 1024]⟩
abbrev S1024 : Shape := ⟨1, ![1024]⟩
abbrev S1024x1072 : Shape := ⟨2, ![1024, 1072]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x1072 : Shape := ⟨3, ![4, 4096, 1072]⟩
abbrev S4x4096x16x64 : Shape := ⟨4, ![4, 4096, 16, 64]⟩
abbrev S16384x1024 : Shape := ⟨2, ![16384, 1024]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x16x32 : Shape := ⟨4, ![4, 4096, 16, 32]⟩

abbrev nBuf : Space → Nat
  | .hbm => 65
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x1072, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S_, .f32⟩
  | .hbm, ⟨22, _⟩ => ⟨S4x1x1024, .f32⟩
  | .hbm, ⟨23, _⟩ => ⟨S4x1x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4096x1072, .f32⟩
  | .hbm, ⟨29, _⟩ => ⟨S4x4096x1024, .f32⟩
  | .hbm, ⟨30, _⟩ => ⟨S4x4096x16x64, .f32⟩
  | .hbm, ⟨31, _⟩ => ⟨S16384x1024, .f32⟩
  | .hbm, ⟨32, _⟩ => ⟨S4096, .i32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S4096, .f32⟩
  | .hbm, ⟨42, _⟩ => ⟨S4096x1, .f32⟩
  | .hbm, ⟨43, _⟩ => ⟨S1x32, .f32⟩
  | .hbm, ⟨44, _⟩ => ⟨S4096x32, .f32⟩
  | .hbm, ⟨45, _⟩ => ⟨S4096x32, .f32⟩
  | .hbm, ⟨46, _⟩ => ⟨S4096x32, .f32⟩
  | .hbm, ⟨47, _⟩ => ⟨S4096x32, .f32⟩
  | .hbm, ⟨48, _⟩ => ⟨S1x4096x1x32, .f32⟩
  | .hbm, ⟨49, _⟩ => ⟨S4096x32, .f32⟩
  | .hbm, ⟨50, _⟩ => ⟨S1x4096x1x32, .f32⟩
  | .hbm, ⟨51, _⟩ => ⟨S4x4096x16x32, .f32⟩
  | .hbm, ⟨52, _⟩ => ⟨S4x4096x16x32, .f32⟩
  | .hbm, ⟨53, _⟩ => ⟨S4x4096x16x32, .f32⟩
  | .hbm, ⟨54, _⟩ => ⟨S4x4096x16x32, .f32⟩
  | .hbm, ⟨55, _⟩ => ⟨S4x4096x16x32, .f32⟩
  | .hbm, ⟨56, _⟩ => ⟨S4x4096x16x32, .f32⟩
  | .hbm, ⟨57, _⟩ => ⟨S4x4096x16x32, .f32⟩
  | .hbm, ⟨58, _⟩ => ⟨S4x4096x16x32, .f32⟩
  | .hbm, ⟨59, _⟩ => ⟨S4x4096x16x32, .f32⟩
  | .hbm, ⟨60, _⟩ => ⟨S4x4096x16x32, .f32⟩
  | .hbm, ⟨61, _⟩ => ⟨S4x4096x16x32, .f32⟩
  | .hbm, ⟨62, _⟩ => ⟨S4x4096x16x32, .f32⟩
  | .hbm, ⟨63, _⟩ => ⟨S4x4096x16x64, .f32⟩
  | .hbm, ⟨64, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩

abbrev nD : Nat := 1
abbrev τ : Topo := Topo.v7x

variable {F : FTy → Type} [FloatOps F]
-- ==== Kernel11.lean ====
abbrev S4x4096x16x64 : Shape := ⟨4, ![4, 4096, 16, 64]⟩
abbrev S4x4096x16 : Shape := ⟨3, ![4, 4096, 16]⟩
abbrev S1024x1024 : Shape := ⟨2, ![1024, 1024]⟩
abbrev S4x4096x1024 : Shape := ⟨3, ![4, 4096, 1024]⟩
abbrev S4x1x1024 : Shape := ⟨3, ![4, 1, 1024]⟩
abbrev S16384x1024 : Shape := ⟨2, ![16384, 1024]⟩
abbrev S4x4096x16x1 : Shape := ⟨4, ![4, 4096, 16, 1]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 24
  | .vmem => 19
  | .smem => 0
  | _ => 0

abbrev bufTy : (tb : Table) → Fin (tcTables nBuf tb) → BufTy
  | .hbm, ⟨0, _⟩ => ⟨S4x4096x16x64, .f32⟩
  | .hbm, ⟨1, _⟩ => ⟨S4x4096x16x64, .f32⟩
  | .hbm, ⟨2, _⟩ => ⟨S4x4096x16x64, .f32⟩
  | .hbm, ⟨3, _⟩ => ⟨S4x4096x16, .f32⟩
  | .hbm, ⟨4, _⟩ => ⟨S4x4096x16, .f32⟩
  | .hbm, ⟨5, _⟩ => ⟨S4x4096x16, .f32⟩
  | .hbm, ⟨6, _⟩ => ⟨S1024x1024, .f32⟩
  | .hbm, ⟨7, _⟩ => ⟨S4x4096x1024, .f32⟩
  | .hbm, ⟨8, _⟩ => ⟨S4x1x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S4x4096x16x1, .f32⟩
  | .hbm, ⟨13, _⟩ => ⟨S4x4096x16x64, .f32⟩
  | .hbm, ⟨14, _⟩ => ⟨S16384x1024, .f32⟩
  | .hbm, ⟨15, _⟩ => ⟨S4x4096x16x1, .f32⟩
  | .hbm, ⟨16, _⟩ => ⟨S4x4096x16x64, .f32⟩
  | .hbm, ⟨17, _⟩ => ⟨S16384x1024, .f32⟩
  | .hbm, ⟨18, _⟩ => ⟨S4x4096x16x1, .f32⟩
  | .hbm, ⟨19, _⟩ => ⟨S4x4096x16x64, .f32⟩
  | .hbm, ⟨20, _⟩ => ⟨S16384x1024, .f32⟩
  | .hbm, ⟨21, _⟩ => ⟨S1024x1024, .bf16⟩
  | .hbm, ⟨22, _⟩ => ⟨S16384x1024, .f32⟩
  | .hbm, ⟨23, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1024x1024, .bf16⟩
  | .local _ .vmem, ⟨13, _⟩ => ⟨S256x1024, .f32⟩
  | .local _ .vmem, ⟨14, _⟩ => ⟨S256x1024, .f32⟩
  | .local _ .vmem, ⟨15, _⟩ => ⟨S1x1x1024, .f32⟩
  | .local _ .vmem, ⟨16, _⟩ => ⟨S1x1x1024, .f32⟩
  | .local _ .vmem, ⟨17, _⟩ => ⟨S256x1024, .f32⟩
  | .local _ .vmem, ⟨18, _⟩ => ⟨S256x1024, .f32⟩
  | _, _ => ⟨S4x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference11Ideal.lean ====
abbrev S4x4096x16x64 : Shape := ⟨4, ![4, 4096, 16, 64]⟩
abbrev S4x4096x16 : Shape := ⟨3, ![4, 4096, 16]⟩
abbrev S1024x1024 : Shape := ⟨2, ![1024, 1024]⟩
abbrev S4x4096x1024 : Shape := ⟨3, ![4, 4096, 1024]⟩
abbrev S4x1x1024 : Shape := ⟨3, ![4, 1, 1024]⟩
abbrev S1x4x4096x16 : Shape := ⟨4, ![1, 4, 4096, 16]⟩
abbrev S3x4x4096x16 : Shape := ⟨4, ![3, 4, 4096, 16]⟩
abbrev S_ : Shape := ⟨0, ![]⟩
abbrev S3x4x4096x16x1 : Shape := ⟨5, ![3, 4, 4096, 16, 1]⟩
abbrev S1x4x4096x16x64 : Shape := ⟨5, ![1, 4, 4096, 16, 64]⟩
abbrev S3x4x4096x16x64 : Shape := ⟨5, ![3, 4, 4096, 16, 64]⟩
abbrev S16384x1024 : Shape := ⟨2, ![16384, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x16x64, .f32⟩
  | .hbm, ⟨1, _⟩ => ⟨S4x4096x16x64, .f32⟩
  | .hbm, ⟨2, _⟩ => ⟨S4x4096x16x64, .f32⟩
  | .hbm, ⟨3, _⟩ => ⟨S4x4096x16, .f32⟩
  | .hbm, ⟨4, _⟩ => ⟨S4x4096x16, .f32⟩
  | .hbm, ⟨5, _⟩ => ⟨S4x4096x16, .f32⟩
  | .hbm, ⟨6, _⟩ => ⟨S1024x1024, .f32⟩
  | .hbm, ⟨7, _⟩ => ⟨S4x4096x1024, .f32⟩
  | .hbm, ⟨8, _⟩ => ⟨S4x1x1024, .f32⟩
  | .hbm, ⟨9, _⟩ => ⟨S1x4x4096x16, .f32⟩
  | .hbm, ⟨10, _⟩ => ⟨S1x4x4096x16, .f32⟩
  | .hbm, ⟨11, _⟩ => ⟨S1x4x4096x16, .f32⟩
  | .hbm, ⟨12, _⟩ => ⟨S3x4x4096x16, .f32⟩
  | .hbm, ⟨13, _⟩ => ⟨S_, .f32⟩
  | .hbm, ⟨14, _⟩ => ⟨S4x4096x16, .f32⟩
  | .hbm, ⟨15, _⟩ => ⟨S_, .f32⟩
  | .hbm, ⟨16, _⟩ => ⟨S4x4096x16, .f32⟩
  | .hbm, ⟨17, _⟩ => ⟨S4x4096x16, .f32⟩
  | .hbm, ⟨18, _⟩ => ⟨S1x4x4096x16, .f32⟩
  | .hbm, ⟨19, _⟩ => ⟨S3x4x4096x16, .f32⟩
  | .hbm, ⟨20, _⟩ => ⟨S3x4x4096x16, .f32⟩
  | .hbm, ⟨21, _⟩ => ⟨S3x4x4096x16, .f32⟩
  | .hbm, ⟨22, _⟩ => ⟨S_, .f32⟩
  | .hbm, ⟨23, _⟩ => ⟨S4x4096x16, .f32⟩
  | .hbm, ⟨24, _⟩ => ⟨S1x4x4096x16, .f32⟩
  | .hbm, ⟨25, _⟩ => ⟨S3x4x4096x16, .f32⟩
  | .hbm, ⟨26, _⟩ => ⟨S3x4x4096x16, .f32⟩
  | .hbm, ⟨27, _⟩ => ⟨S3x4x4096x16x1, .f32⟩
  | .hbm, ⟨28, _⟩ => ⟨S1x4x4096x16x64, .f32⟩
  | .hbm, ⟨29, _⟩ => ⟨S1x4x4096x16x64, .f32⟩
  | .hbm, ⟨30, _⟩ => ⟨S1x4x4096x16x64, .f32⟩
  | .hbm, ⟨31, _⟩ => ⟨S3x4x4096x16x64, .f32⟩
  | .hbm, ⟨32, _⟩ => ⟨S3x4x4096x16x64, .f32⟩
  | .hbm, ⟨33, _⟩ => ⟨S3x4x4096x16x64, .f32⟩
  | .hbm, ⟨34, _⟩ => ⟨S_, .f32⟩
  | .hbm, ⟨35, _⟩ => ⟨S4x4096x16x64, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S16384x1024, .f32⟩
  | _, _ => ⟨S4x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Kernel12.lean ====
abbrev S128x8x1024 : Shape := ⟨3, ![128, 8, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x1024, .f32⟩
  | .hbm, ⟨3, _⟩ => ⟨S1x1024, .f32⟩
  | .hbm, ⟨4, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S128x8x1024 : Shape := ⟨3, ![128, 8, 1024]⟩
abbrev S1024 : Shape := ⟨1, ![1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S1024x1024 : Shape := ⟨2, ![1024, 1024]⟩

abbrev nBuf : Space → Nat
  | .hbm => 19
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S128x8x1024, .f32⟩
  | .hbm, ⟨3, _⟩ => ⟨S_, .f32⟩
  | .hbm, ⟨4, _⟩ => ⟨S128x8, .f32⟩
  | .hbm, ⟨5, _⟩ => ⟨S128x8x1, .f32⟩
  | .hbm, ⟨6, _⟩ => ⟨S_, .f32⟩
  | .hbm, ⟨7, _⟩ => ⟨S128x8x1, .f32⟩
  | .hbm, ⟨8, _⟩ => ⟨S128x8x1, .f32⟩
  | .hbm, ⟨9, _⟩ => ⟨S_, .f32⟩
  | .hbm, ⟨10, _⟩ => ⟨S128x8x1, .f32⟩
  | .hbm, ⟨11, _⟩ => ⟨S128x8x1, .f32⟩
  | .hbm, ⟨12, _⟩ => ⟨S128x8x1, .f32⟩
  | .hbm, ⟨13, _⟩ => ⟨S128x8x1024, .f32⟩
  | .hbm, ⟨14, _⟩ => ⟨S128x8x1024, .f32⟩
  | .hbm, ⟨15, _⟩ => ⟨S1x1x1024, .f32⟩
  | .hbm, ⟨16, _⟩ => ⟨S128x8x1024, .f32⟩
  | .hbm, ⟨17, _⟩ => ⟨S128x8x1024, .f32⟩
  | .hbm, ⟨18, _⟩ => ⟨S1024x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel13.lean ====
abbrev S128x8x1024 : Shape := ⟨3, ![128, 8, 1024]⟩
abbrev S128x1x1024 : Shape := ⟨3, ![128, 1, 1024]⟩
abbrev S1024 : Shape := ⟨1, ![1024]⟩
abbrev S1024x1536 : Shape := ⟨2, ![1024, 1536]⟩
abbrev S1024x1024 : Shape := ⟨2, ![1024, 1024]⟩
abbrev S8 : Shape := ⟨1, ![8]⟩
abbrev S_ : Shape := ⟨0, ![]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S8x64 : Shape := ⟨2, ![8, 64]⟩
abbrev S1x8x1x64 : Shape := ⟨4, ![1, 8, 1, 64]⟩
abbrev S1x8x2x64 : Shape := ⟨4, ![1, 8, 2, 64]⟩
abbrev S8x128 : Shape := ⟨2, ![8, 128]⟩
abbrev S1x8x1x128 : Shape := ⟨4, ![1, 8, 1, 128]⟩
abbrev S128x8x1x128 : Shape := ⟨4, ![128, 8, 1, 128]⟩
abbrev S1024x128 : Shape := ⟨2, ![1024, 128]⟩
abbrev S128x1024 : Shape := ⟨2, ![128, 1024]⟩
abbrev S1x1024 : Shape := ⟨2, ![1, 1024]⟩
abbrev S512x1024 : Shape := ⟨2, ![512, 1024]⟩
abbrev S1024x256 : Shape := ⟨2, ![1024, 256]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 51
  | .vmem => 16
  | .smem => 0
  | _ => 0

abbrev bufTy : (tb : Table) → Fin (tcTables nBuf tb) → BufTy
  | .hbm, ⟨0, _⟩ => ⟨S128x8x1024, .f32⟩
  | .hbm, ⟨1, _⟩ => ⟨S128x1x1024, .f32⟩
  | .hbm, ⟨2, _⟩ => ⟨S128x1x1024, .f32⟩
  | .hbm, ⟨3, _⟩ => ⟨S1024, .f32⟩
  | .hbm, ⟨4, _⟩ => ⟨S1024x1536, .f32⟩
  | .hbm, ⟨5, _⟩ => ⟨S1024x1536, .bf16⟩
  | .hbm, ⟨6, _⟩ => ⟨S1024x1024, .bf16⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S8, .f32⟩
  | .hbm, ⟨20, _⟩ => ⟨S8x1, .f32⟩
  | .hbm, ⟨21, _⟩ => ⟨S1x32, .f32⟩
  | .hbm, ⟨22, _⟩ => ⟨S8x32, .f32⟩
  | .hbm, ⟨23, _⟩ => ⟨S8x32, .f32⟩
  | .hbm, ⟨24, _⟩ => ⟨S8x32, .f32⟩
  | .hbm, ⟨25, _⟩ => ⟨S8x32, .f32⟩
  | .hbm, ⟨26, _⟩ => ⟨S8x32, .f32⟩
  | .hbm, ⟨27, _⟩ => ⟨S8x64, .f32⟩
  | .hbm, ⟨28, _⟩ => ⟨S1x8x1x64, .f32⟩
  | .hbm, ⟨29, _⟩ => ⟨S1x8x2x64, .f32⟩
  | .hbm, ⟨30, _⟩ => ⟨S8x128, .f32⟩
  | .hbm, ⟨31, _⟩ => ⟨S8x32, .f32⟩
  | .hbm, ⟨32, _⟩ => ⟨S8x64, .f32⟩
  | .hbm, ⟨33, _⟩ => ⟨S1x8x1x64, .f32⟩
  | .hbm, ⟨34, _⟩ => ⟨S1x8x2x64, .f32⟩
  | .hbm, ⟨35, _⟩ => ⟨S8x128, .f32⟩
  | .hbm, ⟨36, _⟩ => ⟨S1x8x1x128, .f32⟩
  | .hbm, ⟨37, _⟩ => ⟨S128x8x1x128, .f32⟩
  | .hbm, ⟨38, _⟩ => ⟨S1024x128, .f32⟩
  | .hbm, ⟨39, _⟩ => ⟨S1x8x1x128, .f32⟩
  | .hbm, ⟨40, _⟩ => ⟨S128x8x1x128, .f32⟩
  | .hbm, ⟨41, _⟩ => ⟨S1024x128, .f32⟩
  | .hbm, ⟨42, _⟩ => ⟨S128x1024, .f32⟩
  | .hbm, ⟨43, _⟩ => ⟨S128x8x1024, .f32⟩
  | .hbm, ⟨44, _⟩ => ⟨S1024x1024, .f32⟩
  | .hbm, ⟨45, _⟩ => ⟨S128x1024, .f32⟩
  | .hbm, ⟨46, _⟩ => ⟨S128x8x1024, .f32⟩
  | .hbm, ⟨47, _⟩ => ⟨S1024x1024, .f32⟩
  | .hbm, ⟨48, _⟩ => ⟨S1024x1024, .f32⟩
  | .hbm, ⟨49, _⟩ => ⟨S1x1024, .f32⟩
  | .hbm, ⟨50, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x256, .bf16⟩
  | .local _ .vmem, ⟨8, _⟩ => ⟨S1024x256, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x256, .f32⟩
  | .local _ .vmem, ⟨14, _⟩ => ⟨S512x256, .f32⟩
  | .local _ .vmem, ⟨15, _⟩ => ⟨S512x1024, .bf16⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference13Ideal.lean ====
abbrev S128x8x1024 : Shape := ⟨3, ![128, 8, 1024]⟩
abbrev S128x1x1024 : Shape := ⟨3, ![128, 1, 1024]⟩
abbrev S1024 : Shape := ⟨1, ![1024]⟩
abbrev S1024x1536 : Shape := ⟨2, ![1024, 1536]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S8 : Shape := ⟨1, ![8]⟩
abbrev S128x8x1536 : Shape := ⟨3, ![128, 8, 1536]⟩
abbrev S128x8x6x4x64 : Shape := ⟨5, ![128, 8, 6, 4, 64]⟩
abbrev S128x8x1x4x64 : Shape := ⟨5, ![128, 8, 1, 4, 64]⟩
abbrev S128x8x4x64 : Shape := ⟨4, ![128, 8, 4, 64]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S1x8x1x32 : Shape := ⟨4, ![1, 8, 1, 32]⟩
abbrev S128x8x4x32 : Shape := ⟨4, ![128, 8, 4, 32]⟩
abbrev S128x8x4x4x64 : Shape := ⟨5, ![128, 8, 4, 4, 64]⟩
abbrev S128x8x2x4x64 : Shape := ⟨5, ![128, 8, 2, 4, 64]⟩
abbrev S1024x1024 : Shape := ⟨2, ![1024, 1024]⟩

abbrev nBuf : Space → Nat
  | .hbm => 117
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x1x1024, .f32⟩
  | .hbm, ⟨2, _⟩ => ⟨S128x1x1024, .f32⟩
  | .hbm, ⟨3, _⟩ => ⟨S1024, .f32⟩
  | .hbm, ⟨4, _⟩ => ⟨S1024x1536, .f32⟩
  | .hbm, ⟨5, _⟩ => ⟨S128x8x1024, .f32⟩
  | .hbm, ⟨6, _⟩ => ⟨S_, .f32⟩
  | .hbm, ⟨7, _⟩ => ⟨S128x8, .f32⟩
  | .hbm, ⟨8, _⟩ => ⟨S128x8x1, .f32⟩
  | .hbm, ⟨9, _⟩ => ⟨S_, .f32⟩
  | .hbm, ⟨10, _⟩ => ⟨S128x8x1, .f32⟩
  | .hbm, ⟨11, _⟩ => ⟨S128x8x1, .f32⟩
  | .hbm, ⟨12, _⟩ => ⟨S_, .f32⟩
  | .hbm, ⟨13, _⟩ => ⟨S128x8x1, .f32⟩
  | .hbm, ⟨14, _⟩ => ⟨S128x8x1, .f32⟩
  | .hbm, ⟨15, _⟩ => ⟨S128x8x1, .f32⟩
  | .hbm, ⟨16, _⟩ => ⟨S128x8x1024, .f32⟩
  | .hbm, ⟨17, _⟩ => ⟨S128x8x1024, .f32⟩
  | .hbm, ⟨18, _⟩ => ⟨S1x1x1024, .f32⟩
  | .hbm, ⟨19, _⟩ => ⟨S128x8x1024, .f32⟩
  | .hbm, ⟨20, _⟩ => ⟨S128x8x1024, .f32⟩
  | .hbm, ⟨21, _⟩ => ⟨S_, .f32⟩
  | .hbm, ⟨22, _⟩ => ⟨S128x1x1024, .f32⟩
  | .hbm, ⟨23, _⟩ => ⟨S128x1x1024, .f32⟩
  | .hbm, ⟨24, _⟩ => ⟨S128x8x1024, .f32⟩
  | .hbm, ⟨25, _⟩ => ⟨S128x8x1024, .f32⟩
  | .hbm, ⟨26, _⟩ => ⟨S128x8x1024, .f32⟩
  | .hbm, ⟨27, _⟩ => ⟨S128x8x1024, .f32⟩
  | .hbm, ⟨28, _⟩ => ⟨S8, .i32⟩
  | .hbm, ⟨29, _⟩ => ⟨S_, .i32⟩
  | .hbm, ⟨30, _⟩ => ⟨S8, .i32⟩
  | .hbm, ⟨31, _⟩ => ⟨S8, .i32⟩
  | .hbm, ⟨32, _⟩ => ⟨S128x8x1536, .f32⟩
  | .hbm, ⟨33, _⟩ => ⟨S128x8x6x4x64, .f32⟩
  | .hbm, ⟨34, _⟩ => ⟨S128x8x1x4x64, .f32⟩
  | .hbm, ⟨35, _⟩ => ⟨S128x8x4x64, .f32⟩
  | .hbm, ⟨36, _⟩ => ⟨S128x8x1x4x64, .f32⟩
  | .hbm, ⟨37, _⟩ => ⟨S128x8x4x64, .f32⟩
  | .hbm, ⟨38, _⟩ => ⟨S128x8x1x4x64, .f32⟩
  | .hbm, ⟨39, _⟩ => ⟨S128x8x4x64, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S8, .f32⟩
  | .hbm, ⟨49, _⟩ => ⟨S8x1, .f32⟩
  | .hbm, ⟨50, _⟩ => ⟨S1x32, .f32⟩
  | .hbm, ⟨51, _⟩ => ⟨S8x32, .f32⟩
  | .hbm, ⟨52, _⟩ => ⟨S8x32, .f32⟩
  | .hbm, ⟨53, _⟩ => ⟨S8x32, .f32⟩
  | .hbm, ⟨54, _⟩ => ⟨S8x32, .f32⟩
  | .hbm, ⟨55, _⟩ => ⟨S1x8x1x32, .f32⟩
  | .hbm, ⟨56, _⟩ => ⟨S8x32, .f32⟩
  | .hbm, ⟨57, _⟩ => ⟨S1x8x1x32, .f32⟩
  | .hbm, ⟨58, _⟩ => ⟨S128x8x4x32, .f32⟩
  | .hbm, ⟨59, _⟩ => ⟨S128x8x4x32, .f32⟩
  | .hbm, ⟨60, _⟩ => ⟨S128x8x4x32, .f32⟩
  | .hbm, ⟨61, _⟩ => ⟨S128x8x4x32, .f32⟩
  | .hbm, ⟨62, _⟩ => ⟨S128x8x4x32, .f32⟩
  | .hbm, ⟨63, _⟩ => ⟨S128x8x4x32, .f32⟩
  | .hbm, ⟨64, _⟩ => ⟨S128x8x4x32, .f32⟩
  | .hbm, ⟨65, _⟩ => ⟨S128x8x4x32, .f32⟩
  | .hbm, ⟨66, _⟩ => ⟨S128x8x4x32, .f32⟩
  | .hbm, ⟨67, _⟩ => ⟨S128x8x4x32, .f32⟩
  | .hbm, ⟨68, _⟩ => ⟨S128x8x4x32, .f32⟩
  | .hbm, ⟨69, _⟩ => ⟨S128x8x4x32, .f32⟩
  | .hbm, ⟨70, _⟩ => ⟨S128x8x4x64, .f32⟩
  | .hbm, ⟨71, _⟩ => ⟨S128x8x1x4x64, .f32⟩
  | .hbm, ⟨72, _⟩ => ⟨S128x8x4x64, .f32⟩
  | .hbm, ⟨73, _⟩ => ⟨S128x8x1x4x64, .f32⟩
  | .hbm, ⟨74, _⟩ => ⟨S128x8x1x4x64, .f32⟩
  | .hbm, ⟨75, _⟩ => ⟨S128x8x1x4x64, .f32⟩
  | .hbm, ⟨76, _⟩ => ⟨S128x8x1x4x64, .f32⟩
  | .hbm, ⟨77, _⟩ => ⟨S128x8x4x4x64, .f32⟩
  | .hbm, ⟨78, _⟩ => ⟨S128x8x1x4x64, .f32⟩
  | .hbm, ⟨79, _⟩ => ⟨S128x8x4x64, .f32⟩
  | .hbm, ⟨80, _⟩ => ⟨S32, .f32⟩
  | .hbm, ⟨81, _⟩ => ⟨S32, .f32⟩
  | .hbm, ⟨82, _⟩ => ⟨S_, .f32⟩
  | .hbm, ⟨83, _⟩ => ⟨S32, .f32⟩
  | .hbm, ⟨84, _⟩ => ⟨S32, .f32⟩
  | .hbm, ⟨85, _⟩ => ⟨S_, .f32⟩
  | .hbm, ⟨86, _⟩ => ⟨S32, .f32⟩
  | .hbm, ⟨87, _⟩ => ⟨S32, .f32⟩
  | .hbm, ⟨88, _⟩ => ⟨S8, .f32⟩
  | .hbm, ⟨89, _⟩ => ⟨S8x1, .f32⟩
  | .hbm, ⟨90, _⟩ => ⟨S1x32, .f32⟩
  | .hbm, ⟨91, _⟩ => ⟨S8x32, .f32⟩
  | .hbm, ⟨92, _⟩ => ⟨S8x32, .f32⟩
  | .hbm, ⟨93, _⟩ => ⟨S8x32, .f32⟩
  | .hbm, ⟨94, _⟩ => ⟨S8x32, .f32⟩
  | .hbm, ⟨95, _⟩ => ⟨S1x8x1x32, .f32⟩
  | .hbm, ⟨96, _⟩ => ⟨S8x32, .f32⟩
  | .hbm, ⟨97, _⟩ => ⟨S1x8x1x32, .f32⟩
  | .hbm, ⟨98, _⟩ => ⟨S128x8x4x32, .f32⟩
  | .hbm, ⟨99, _⟩ => ⟨S128x8x4x32, .f32⟩
  | .hbm, ⟨100, _⟩ => ⟨S128x8x4x32, .f32⟩
  | .hbm, ⟨101, _⟩ => ⟨S128x8x4x32, .f32⟩
  | .hbm, ⟨102, _⟩ => ⟨S128x8x4x32, .f32⟩
  | .hbm, ⟨103, _⟩ => ⟨S128x8x4x32, .f32⟩
  | .hbm, ⟨104, _⟩ => ⟨S128x8x4x32, .f32⟩
  | .hbm, ⟨105, _⟩ => ⟨S128x8x4x32, .f32⟩
  | .hbm, ⟨106, _⟩ => ⟨S128x8x4x32, .f32⟩
  | .hbm, ⟨107, _⟩ => ⟨S128x8x4x32, .f32⟩
  | .hbm, ⟨108, _⟩ => ⟨S128x8x4x32, .f32⟩
  | .hbm, ⟨109, _⟩ => ⟨S128x8x4x32, .f32⟩
  | .hbm, ⟨110, _⟩ => ⟨S128x8x4x64, .f32⟩
  | .hbm, ⟨111, _⟩ => ⟨S128x8x1x4x64, .f32⟩
  | .hbm, ⟨112, _⟩ => ⟨S128x8x4x64, .f32⟩
  | .hbm, ⟨113, _⟩ => ⟨S128x8x1x4x64, .f32⟩
  | .hbm, ⟨114, _⟩ => ⟨S128x8x1x4x64, .f32⟩
  | .hbm, ⟨115, _⟩ => ⟨S128x8x2x4x64, .f32⟩
  | .hbm, ⟨116, _⟩ => ⟨S1024x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_cst_5 : Ref sig .tc := ⟨.hbm, 82, rfl⟩
abbrev main_v70 : Ref sig .tc := ⟨.hbm, 83, rfl⟩
abbrev main_v71 : Ref sig .tc := ⟨.hbm, 84, rfl⟩
abbrev main_cst_6 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩

abbrev nD : Nat := 1
abbrev τ : Topo := Topo.v7x

variable {F : FTy → Type} [FloatOps F]
-- ==== Kernel14.lean ====
abbrev S128x8x1024 : Shape := ⟨3, ![128, 8, 1024]⟩
abbrev S128x1x1024 : Shape := ⟨3, ![128, 1, 1024]⟩
abbrev S1024 : Shape := ⟨1, ![1024]⟩
abbrev S1024x1536 : Shape := ⟨2, ![1024, 1536]⟩
abbrev S1024x512 : Shape := ⟨2, ![1024, 512]⟩
abbrev S8 : Shape := ⟨1, ![8]⟩
abbrev S_ : Shape := ⟨0, ![]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S8x64 : Shape := ⟨2, ![8, 64]⟩
abbrev S1x8x1x64 : Shape := ⟨4, ![1, 8, 1, 64]⟩
abbrev S1x8x2x64 : Shape := ⟨4, ![1, 8, 2, 64]⟩
abbrev S8x128 : Shape := ⟨2, ![8, 128]⟩
abbrev S1x8x1x128 : Shape := ⟨4, ![1, 8, 1, 128]⟩
abbrev S128x8x1x128 : Shape := ⟨4, ![128, 8, 1, 128]⟩
abbrev S1024x128 : Shape := ⟨2, ![1024, 128]⟩
abbrev S128x1024 : Shape := ⟨2, ![128, 1024]⟩
abbrev S1024x1024 : Shape := ⟨2, ![1024, 1024]⟩
abbrev S1x1024 : Shape := ⟨2, ![1, 1024]⟩
abbrev S512x1024 : Shape := ⟨2, ![512, 1024]⟩
abbrev S1024x256 : Shape := ⟨2, ![1024, 256]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 51
  | .vmem => 16
  | .smem => 0
  | _ => 0

abbrev bufTy : (tb : Table) → Fin (tcTables nBuf tb) → BufTy
  | .hbm, ⟨0, _⟩ => ⟨S128x8x1024, .f32⟩
  | .hbm, ⟨1, _⟩ => ⟨S128x1x1024, .f32⟩
  | .hbm, ⟨2, _⟩ => ⟨S128x1x1024, .f32⟩
  | .hbm, ⟨3, _⟩ => ⟨S1024, .f32⟩
  | .hbm, ⟨4, _⟩ => ⟨S1024x1536, .f32⟩
  | .hbm, ⟨5, _⟩ => ⟨S1024x1536, .bf16⟩
  | .hbm, ⟨6, _⟩ => ⟨S1024x512, .bf16⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S8, .f32⟩
  | .hbm, ⟨20, _⟩ => ⟨S8x1, .f32⟩
  | .hbm, ⟨21, _⟩ => ⟨S1x32, .f32⟩
  | .hbm, ⟨22, _⟩ => ⟨S8x32, .f32⟩
  | .hbm, ⟨23, _⟩ => ⟨S8x32, .f32⟩
  | .hbm, ⟨24, _⟩ => ⟨S8x32, .f32⟩
  | .hbm, ⟨25, _⟩ => ⟨S8x32, .f32⟩
  | .hbm, ⟨26, _⟩ => ⟨S8x32, .f32⟩
  | .hbm, ⟨27, _⟩ => ⟨S8x64, .f32⟩
  | .hbm, ⟨28, _⟩ => ⟨S1x8x1x64, .f32⟩
  | .hbm, ⟨29, _⟩ => ⟨S1x8x2x64, .f32⟩
  | .hbm, ⟨30, _⟩ => ⟨S8x128, .f32⟩
  | .hbm, ⟨31, _⟩ => ⟨S8x32, .f32⟩
  | .hbm, ⟨32, _⟩ => ⟨S8x64, .f32⟩
  | .hbm, ⟨33, _⟩ => ⟨S1x8x1x64, .f32⟩
  | .hbm, ⟨34, _⟩ => ⟨S1x8x2x64, .f32⟩
  | .hbm, ⟨35, _⟩ => ⟨S8x128, .f32⟩
  | .hbm, ⟨36, _⟩ => ⟨S1x8x1x128, .f32⟩
  | .hbm, ⟨37, _⟩ => ⟨S128x8x1x128, .f32⟩
  | .hbm, ⟨38, _⟩ => ⟨S1024x128, .f32⟩
  | .hbm, ⟨39, _⟩ => ⟨S1x8x1x128, .f32⟩
  | .hbm, ⟨40, _⟩ => ⟨S128x8x1x128, .f32⟩
  | .hbm, ⟨41, _⟩ => ⟨S1024x128, .f32⟩
  | .hbm, ⟨42, _⟩ => ⟨S128x1024, .f32⟩
  | .hbm, ⟨43, _⟩ => ⟨S128x8x1024, .f32⟩
  | .hbm, ⟨44, _⟩ => ⟨S1024x1024, .f32⟩
  | .hbm, ⟨45, _⟩ => ⟨S128x1024, .f32⟩
  | .hbm, ⟨46, _⟩ => ⟨S128x8x1024, .f32⟩
  | .hbm, ⟨47, _⟩ => ⟨S1024x1024, .f32⟩
  | .hbm, ⟨48, _⟩ => ⟨S1024x1024, .f32⟩
  | .hbm, ⟨49, _⟩ => ⟨S1x1024, .f32⟩
  | .hbm, ⟨50, _⟩ => ⟨S1024x512, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x256, .bf16⟩
  | .local _ .vmem, ⟨8, _⟩ => ⟨S1024x256, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x256, .f32⟩
  | .local _ .vmem, ⟨14, _⟩ => ⟨S512x256, .f32⟩
  | .local _ .vmem, ⟨15, _⟩ => ⟨S512x1024, .bf16⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference14Ideal.lean ====
abbrev S128x8x1024 : Shape := ⟨3, ![128, 8, 1024]⟩
abbrev S128x1x1024 : Shape := ⟨3, ![128, 1, 1024]⟩
abbrev S1024 : Shape := ⟨1, ![1024]⟩
abbrev S1024x1536 : Shape := ⟨2, ![1024, 1536]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S8 : Shape := ⟨1, ![8]⟩
abbrev S128x8x1536 : Shape := ⟨3, ![128, 8, 1536]⟩
abbrev S128x8x6x4x64 : Shape := ⟨5, ![128, 8, 6, 4, 64]⟩
abbrev S128x8x1x4x64 : Shape := ⟨5, ![128, 8, 1, 4, 64]⟩
abbrev S128x8x4x64 : Shape := ⟨4, ![128, 8, 4, 64]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S1x8x1x32 : Shape := ⟨4, ![1, 8, 1, 32]⟩
abbrev S128x8x4x32 : Shape := ⟨4, ![128, 8, 4, 32]⟩
abbrev S128x8x4x4x64 : Shape := ⟨5, ![128, 8, 4, 4, 64]⟩
abbrev S128x8x2x4x64 : Shape := ⟨5, ![128, 8, 2, 4, 64]⟩
abbrev S1024x512 : Shape := ⟨2, ![1024, 512]⟩

abbrev nBuf : Space → Nat
  | .hbm => 117
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x1x1024, .f32⟩
  | .hbm, ⟨2, _⟩ => ⟨S128x1x1024, .f32⟩
  | .hbm, ⟨3, _⟩ => ⟨S1024, .f32⟩
  | .hbm, ⟨4, _⟩ => ⟨S1024x1536, .f32⟩
  | .hbm, ⟨5, _⟩ => ⟨S128x8x1024, .f32⟩
  | .hbm, ⟨6, _⟩ => ⟨S_, .f32⟩
  | .hbm, ⟨7, _⟩ => ⟨S128x8, .f32⟩
  | .hbm, ⟨8, _⟩ => ⟨S128x8x1, .f32⟩
  | .hbm, ⟨9, _⟩ => ⟨S_, .f32⟩
  | .hbm, ⟨10, _⟩ => ⟨S128x8x1, .f32⟩
  | .hbm, ⟨11, _⟩ => ⟨S128x8x1, .f32⟩
  | .hbm, ⟨12, _⟩ => ⟨S_, .f32⟩
  | .hbm, ⟨13, _⟩ => ⟨S128x8x1, .f32⟩
  | .hbm, ⟨14, _⟩ => ⟨S128x8x1, .f32⟩
  | .hbm, ⟨15, _⟩ => ⟨S128x8x1, .f32⟩
  | .hbm, ⟨16, _⟩ => ⟨S128x8x1024, .f32⟩
  | .hbm, ⟨17, _⟩ => ⟨S128x8x1024, .f32⟩
  | .hbm, ⟨18, _⟩ => ⟨S1x1x1024, .f32⟩
  | .hbm, ⟨19, _⟩ => ⟨S128x8x1024, .f32⟩
  | .hbm, ⟨20, _⟩ => ⟨S128x8x1024, .f32⟩
  | .hbm, ⟨21, _⟩ => ⟨S_, .f32⟩
  | .hbm, ⟨22, _⟩ => ⟨S128x1x1024, .f32⟩
  | .hbm, ⟨23, _⟩ => ⟨S128x1x1024, .f32⟩
  | .hbm, ⟨24, _⟩ => ⟨S128x8x1024, .f32⟩
  | .hbm, ⟨25, _⟩ => ⟨S128x8x1024, .f32⟩
  | .hbm, ⟨26, _⟩ => ⟨S128x8x1024, .f32⟩
  | .hbm, ⟨27, _⟩ => ⟨S128x8x1024, .f32⟩
  | .hbm, ⟨28, _⟩ => ⟨S8, .i32⟩
  | .hbm, ⟨29, _⟩ => ⟨S_, .i32⟩
  | .hbm, ⟨30, _⟩ => ⟨S8, .i32⟩
  | .hbm, ⟨31, _⟩ => ⟨S8, .i32⟩
  | .hbm, ⟨32, _⟩ => ⟨S128x8x1536, .f32⟩
  | .hbm, ⟨33, _⟩ => ⟨S128x8x6x4x64, .f32⟩
  | .hbm, ⟨34, _⟩ => ⟨S128x8x1x4x64, .f32⟩
  | .hbm, ⟨35, _⟩ => ⟨S128x8x4x64, .f32⟩
  | .hbm, ⟨36, _⟩ => ⟨S128x8x1x4x64, .f32⟩
  | .hbm, ⟨37, _⟩ => ⟨S128x8x4x64, .f32⟩
  | .hbm, ⟨38, _⟩ => ⟨S128x8x1x4x64, .f32⟩
  | .hbm, ⟨39, _⟩ => ⟨S128x8x4x64, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S8, .f32⟩
  | .hbm, ⟨49, _⟩ => ⟨S8x1, .f32⟩
  | .hbm, ⟨50, _⟩ => ⟨S1x32, .f32⟩
  | .hbm, ⟨51, _⟩ => ⟨S8x32, .f32⟩
  | .hbm, ⟨52, _⟩ => ⟨S8x32, .f32⟩
  | .hbm, ⟨53, _⟩ => ⟨S8x32, .f32⟩
  | .hbm, ⟨54, _⟩ => ⟨S8x32, .f32⟩
  | .hbm, ⟨55, _⟩ => ⟨S1x8x1x32, .f32⟩
  | .hbm, ⟨56, _⟩ => ⟨S8x32, .f32⟩
  | .hbm, ⟨57, _⟩ => ⟨S1x8x1x32, .f32⟩
  | .hbm, ⟨58, _⟩ => ⟨S128x8x4x32, .f32⟩
  | .hbm, ⟨59, _⟩ => ⟨S128x8x4x32, .f32⟩
  | .hbm, ⟨60, _⟩ => ⟨S128x8x4x32, .f32⟩
  | .hbm, ⟨61, _⟩ => ⟨S128x8x4x32, .f32⟩
  | .hbm, ⟨62, _⟩ => ⟨S128x8x4x32, .f32⟩
  | .hbm, ⟨63, _⟩ => ⟨S128x8x4x32, .f32⟩
  | .hbm, ⟨64, _⟩ => ⟨S128x8x4x32, .f32⟩
  | .hbm, ⟨65, _⟩ => ⟨S128x8x4x32, .f32⟩
  | .hbm, ⟨66, _⟩ => ⟨S128x8x4x32, .f32⟩
  | .hbm, ⟨67, _⟩ => ⟨S128x8x4x32, .f32⟩
  | .hbm, ⟨68, _⟩ => ⟨S128x8x4x32, .f32⟩
  | .hbm, ⟨69, _⟩ => ⟨S128x8x4x32, .f32⟩
  | .hbm, ⟨70, _⟩ => ⟨S128x8x4x64, .f32⟩
  | .hbm, ⟨71, _⟩ => ⟨S128x8x1x4x64, .f32⟩
  | .hbm, ⟨72, _⟩ => ⟨S128x8x4x64, .f32⟩
  | .hbm, ⟨73, _⟩ => ⟨S128x8x1x4x64, .f32⟩
  | .hbm, ⟨74, _⟩ => ⟨S128x8x1x4x64, .f32⟩
  | .hbm, ⟨75, _⟩ => ⟨S128x8x1x4x64, .f32⟩
  | .hbm, ⟨76, _⟩ => ⟨S128x8x1x4x64, .f32⟩
  | .hbm, ⟨77, _⟩ => ⟨S128x8x4x4x64, .f32⟩
  | .hbm, ⟨78, _⟩ => ⟨S128x8x1x4x64, .f32⟩
  | .hbm, ⟨79, _⟩ => ⟨S128x8x4x64, .f32⟩
  | .hbm, ⟨80, _⟩ => ⟨S32, .f32⟩
  | .hbm, ⟨81, _⟩ => ⟨S32, .f32⟩
  | .hbm, ⟨82, _⟩ => ⟨S_, .f32⟩
  | .hbm, ⟨83, _⟩ => ⟨S32, .f32⟩
  | .hbm, ⟨84, _⟩ => ⟨S32, .f32⟩
  | .hbm, ⟨85, _⟩ => ⟨S_, .f32⟩
  | .hbm, ⟨86, _⟩ => ⟨S32, .f32⟩
  | .hbm, ⟨87, _⟩ => ⟨S32, .f32⟩
  | .hbm, ⟨88, _⟩ => ⟨S8, .f32⟩
  | .hbm, ⟨89, _⟩ => ⟨S8x1, .f32⟩
  | .hbm, ⟨90, _⟩ => ⟨S1x32, .f32⟩
  | .hbm, ⟨91, _⟩ => ⟨S8x32, .f32⟩
  | .hbm, ⟨92, _⟩ => ⟨S8x32, .f32⟩
  | .hbm, ⟨93, _⟩ => ⟨S8x32, .f32⟩
  | .hbm, ⟨94, _⟩ => ⟨S8x32, .f32⟩
  | .hbm, ⟨95, _⟩ => ⟨S1x8x1x32, .f32⟩
  | .hbm, ⟨96, _⟩ => ⟨S8x32, .f32⟩
  | .hbm, ⟨97, _⟩ => ⟨S1x8x1x32, .f32⟩
  | .hbm, ⟨98, _⟩ => ⟨S128x8x4x32, .f32⟩
  | .hbm, ⟨99, _⟩ => ⟨S128x8x4x32, .f32⟩
  | .hbm, ⟨100, _⟩ => ⟨S128x8x4x32, .f32⟩
  | .hbm, ⟨101, _⟩ => ⟨S128x8x4x32, .f32⟩
  | .hbm, ⟨102, _⟩ => ⟨S128x8x4x32, .f32⟩
  | .hbm, ⟨103, _⟩ => ⟨S128x8x4x32, .f32⟩
  | .hbm, ⟨104, _⟩ => ⟨S128x8x4x32, .f32⟩
  | .hbm, ⟨105, _⟩ => ⟨S128x8x4x32, .f32⟩
  | .hbm, ⟨106, _⟩ => ⟨S128x8x4x32, .f32⟩
  | .hbm, ⟨107, _⟩ => ⟨S128x8x4x32, .f32⟩
  | .hbm, ⟨108, _⟩ => ⟨S128x8x4x32, .f32⟩
  | .hbm, ⟨109, _⟩ => ⟨S128x8x4x32, .f32⟩
  | .hbm, ⟨110, _⟩ => ⟨S128x8x4x64, .f32⟩
  | .hbm, ⟨111, _⟩ => ⟨S128x8x1x4x64, .f32⟩
  | .hbm, ⟨112, _⟩ => ⟨S128x8x4x64, .f32⟩
  | .hbm, ⟨113, _⟩ => ⟨S128x8x1x4x64, .f32⟩
  | .hbm, ⟨114, _⟩ => ⟨S128x8x1x4x64, .f32⟩
  | .hbm, ⟨115, _⟩ => ⟨S128x8x2x4x64, .f32⟩
  | .hbm, ⟨116, _⟩ => ⟨S1024x512, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_cst_5 : Ref sig .tc := ⟨.hbm, 82, rfl⟩
abbrev main_v70 : Ref sig .tc := ⟨.hbm, 83, rfl⟩
abbrev main_v71 : Ref sig .tc := ⟨.hbm, 84, rfl⟩
abbrev main_cst_6 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩

abbrev nD : Nat := 1
abbrev τ : Topo := Topo.v7x

variable {F : FTy → Type} [FloatOps F]
-- ==== Kernel15.lean ====
abbrev S4x4096x3072 : Shape := ⟨3, ![4, 4096, 3072]⟩
abbrev S4x4096x1024 : Shape := ⟨3, ![4, 4096, 1024]⟩
abbrev S1x128x1024 : Shape := ⟨3, ![1, 128, 1024]⟩
abbrev S16x128x256 : Shape := ⟨3, ![16, 128, 256]⟩
abbrev S16x128x64 : Shape := ⟨3, ![16, 128, 64]⟩
abbrev S128x128 : Shape := ⟨2, ![128, 128]⟩
abbrev S1x128x64 : Shape := ⟨3, ![1, 128, 64]⟩
abbrev S128x64 : Shape := ⟨2, ![128, 64]⟩
abbrev S1x128x128 : Shape := ⟨3, ![1, 128, 128]⟩
abbrev S128 : Shape := ⟨1, ![128]⟩
abbrev S128x1 : Shape := ⟨2, ![128, 1]⟩

abbrev nBuf : Space → Nat
  | .hbm => 4
  | .vmem => 17
  | .smem => 0
  | _ => 0

abbrev bufTy : (tb : Table) → Fin (tcTables nBuf tb) → BufTy
  | .hbm, ⟨0, _⟩ => ⟨S4x4096x3072, .f32⟩
  | .hbm, ⟨1, _⟩ => ⟨S4x4096x3072, .bf16⟩
  | .hbm, ⟨2, _⟩ => ⟨S4x4096x1024, .f32⟩
  | .hbm, ⟨3, _⟩ => ⟨S4x4096x1024, .f32⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | .local _ .vmem, ⟨6, _⟩ => ⟨S1x128x1024, .bf16⟩
  | .local _ .vmem, ⟨7, _⟩ => ⟨S1x128x1024, .bf16⟩
  | .local _ .vmem, ⟨8, _⟩ => ⟨S1x128x1024, .bf16⟩
  | .local _ .vmem, ⟨9, _⟩ => ⟨S1x128x1024, .bf16⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S16x128x256, .f32⟩
  | .local _ .vmem, ⟨15, _⟩ => ⟨S16x128x256, .bf16⟩
  | .local _ .vmem, ⟨16, _⟩ => ⟨S16x128x64, .f32⟩
  | _, _ => ⟨S4x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 1, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let c0_i32 : BitVec 32 := 0#32
  let v1 : BitVec 32 := Scalar.addi v0 c0_i32
  let c0_i32_0 : BitVec 32 := 0#32
  ![arg0.toNat, arg2.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c3_i32 : BitVec 32 := 3#32
  let v2 : BitVec 32 := Scalar.muli arg1 c3_i32
  let c1_i32_0 : BitVec 32 := 1#32
  let v3 : BitVec 32 := Scalar.addi v2 c1_i32_0
  let c0_i32_1 : BitVec 32 := 0#32
  ![arg0.toNat, v1.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let c1_i32 : BitVec 32 := 1#32
  let v1 : BitVec 32 := Scalar.addi v0 c1_i32
  let c0_i32 : BitVec 32 := 0#32
  ![arg0.toNat, arg2.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c3_i32 : BitVec 32 := 3#32
  let v2 : BitVec 32 := Scalar.muli arg1 c3_i32
  let c2_i32 : BitVec 32 := 2#32
  let v3 : BitVec 32 := Scalar.addi v2 c2_i32
  let c0_i32_0 : BitVec 32 := 0#32
  ![arg0.toNat, v1.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let c2_i32 : BitVec 32 := 2#32
  let v1 : BitVec 32 := Scalar.addi v0 c2_i32
  let c0_i32 : BitVec 32 := 0#32
  ![arg0.toNat, arg2.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Kernel15Ideal.lean ====
variable {F : FTy → Type} [FloatOps F] [Named F]
def κ : String → Option EReal := fun
  | "mask" => some ⊥
  | _ => none
-- ==== Reference15Ideal.lean ====
abbrev S4x4096x3072 : Shape := ⟨3, ![4, 4096, 3072]⟩
abbrev S4x4096x3x16x64 : Shape := ⟨5, ![4, 4096, 3, 16, 64]⟩
abbrev S_ : Shape := ⟨0, ![]⟩
abbrev S4x4224x3x16x64 : Shape := ⟨5, ![4, 4224, 3, 16, 64]⟩
abbrev S4224 : Shape := ⟨1, ![4224]⟩
abbrev S4x4096x1x16x64 : Shape := ⟨5, ![4, 4096, 1, 16, 64]⟩
abbrev S4x4096x16x64 : Shape := ⟨4, ![4, 4096, 16, 64]⟩
abbrev S4x4224x1x16x64 : Shape := ⟨5, ![4, 4224, 1, 16, 64]⟩
abbrev S4x4224x16x64 : Shape := ⟨4, ![4, 4224, 16, 64]⟩
abbrev S4x16x1x4096x4224 : Shape := ⟨5, ![4, 16, 1, 4096, 4224]⟩
abbrev S4096 : Shape := ⟨1, ![4096]⟩
abbrev S4096x1 : Shape := ⟨2, ![4096, 1]⟩
abbrev S1x4224 : Shape := ⟨2, ![1, 4224]⟩
abbrev S4096x4224 : Shape := ⟨2, ![4096, 4224]⟩
abbrev S1x4096x4224 : Shape := ⟨3, ![1, 4096, 4224]⟩
abbrev S4224x1 : Shape := ⟨2, ![4224, 1]⟩
abbrev S1x1x4224 : Shape := ⟨3, ![1, 1, 4224]⟩
abbrev S1x1x1x4096x4224 : Shape := ⟨5, ![1, 1, 1, 4096, 4224]⟩
abbrev S4x16x1x4096 : Shape := ⟨4, ![4, 16, 1, 4096]⟩
abbrev S4x16x1x4096x1 : Shape := ⟨5, ![4, 16, 1, 4096, 1]⟩
abbrev S4x1x16x64x4096 : Shape := ⟨5, ![4, 1, 16, 64, 4096]⟩
abbrev S4x4096x1x16 : Shape := ⟨4, ![4, 4096, 1, 16]⟩
abbrev S4x4096x16 : Shape := ⟨3, ![4, 4096, 16]⟩
abbrev S4x4096x16x1 : Shape := ⟨4, ![4, 4096, 16, 1]⟩
abbrev S4x4096x1024 : Shape := ⟨3, ![4, 4096, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4x4096x3072, .f32⟩
  | .hbm, ⟨1, _⟩ => ⟨S4x4096x3x16x64, .f32⟩
  | .hbm, ⟨2, _⟩ => ⟨S_, .i32⟩
  | .hbm, ⟨3, _⟩ => ⟨S_, .f32⟩
  | .hbm, ⟨4, _⟩ => ⟨S4x4224x3x16x64, .f32⟩
  | .hbm, ⟨5, _⟩ => ⟨S4224, .i32⟩
  | .hbm, ⟨6, _⟩ => ⟨S_, .i32⟩
  | .hbm, ⟨7, _⟩ => ⟨S4224, .i32⟩
  | .hbm, ⟨8, _⟩ => ⟨S4224, .i1⟩
  | .hbm, ⟨9, _⟩ => ⟨S4x4096x1x16x64, .f32⟩
  | .hbm, ⟨10, _⟩ => ⟨S4x4096x16x64, .f32⟩
  | .hbm, ⟨11, _⟩ => ⟨S4x4224x1x16x64, .f32⟩
  | .hbm, ⟨12, _⟩ => ⟨S4x4224x16x64, .f32⟩
  | .hbm, ⟨13, _⟩ => ⟨S4x4224x1x16x64, .f32⟩
  | .hbm, ⟨14, _⟩ => ⟨S4x4224x16x64, .f32⟩
  | .hbm, ⟨15, _⟩ => ⟨S4x4096x1x16x64, .f32⟩
  | .hbm, ⟨16, _⟩ => ⟨S4x4224x1x16x64, .f32⟩
  | .hbm, ⟨17, _⟩ => ⟨S4x4224x1x16x64, .f32⟩
  | .hbm, ⟨18, _⟩ => ⟨S4x16x1x4096x4224, .f32⟩
  | .hbm, ⟨19, _⟩ => ⟨S_, .f32⟩
  | .hbm, ⟨20, _⟩ => ⟨S4x16x1x4096x4224, .f32⟩
  | .hbm, ⟨21, _⟩ => ⟨S4x16x1x4096x4224, .f32⟩
  | .hbm, ⟨22, _⟩ => ⟨S4096, .i32⟩
  | .hbm, ⟨23, _⟩ => ⟨S4096x1, .i32⟩
  | .hbm, ⟨24, _⟩ => ⟨S4224, .i32⟩
  | .hbm, ⟨25, _⟩ => ⟨S1x4224, .i32⟩
  | .hbm, ⟨26, _⟩ => ⟨S4096x4224, .i32⟩
  | .hbm, ⟨27, _⟩ => ⟨S4096x4224, .i32⟩
  | .hbm, ⟨28, _⟩ => ⟨S4096x4224, .i1⟩
  | .hbm, ⟨29, _⟩ => ⟨S_, .i32⟩
  | .hbm, ⟨30, _⟩ => ⟨S4096x1, .i32⟩
  | .hbm, ⟨31, _⟩ => ⟨S4096x1, .i32⟩
  | .hbm, ⟨32, _⟩ => ⟨S4096x4224, .i32⟩
  | .hbm, ⟨33, _⟩ => ⟨S4096x4224, .i32⟩
  | .hbm, ⟨34, _⟩ => ⟨S4096x4224, .i1⟩
  | .hbm, ⟨35, _⟩ => ⟨S4096x4224, .i1⟩
  | .hbm, ⟨36, _⟩ => ⟨S1x4096x4224, .i1⟩
  | .hbm, ⟨37, _⟩ => ⟨S4224x1, .i1⟩
  | .hbm, ⟨38, _⟩ => ⟨S1x4224, .i1⟩
  | .hbm, ⟨39, _⟩ => ⟨S1x1x4224, .i1⟩
  | .hbm, ⟨40, _⟩ => ⟨S1x4096x4224, .i1⟩
  | .hbm, ⟨41, _⟩ => ⟨S1x4096x4224, .i1⟩
  | .hbm, ⟨42, _⟩ => ⟨S1x1x1x4096x4224, .i1⟩
  | .hbm, ⟨43, _⟩ => ⟨S_, .f32⟩
  | .hbm, ⟨44, _⟩ => ⟨S_, .f32⟩
  | .hbm, ⟨45, _⟩ => ⟨S4x16x1x4096x4224, .i1⟩
  | .hbm, ⟨46, _⟩ => ⟨S4x16x1x4096x4224, .f32⟩
  | .hbm, ⟨47, _⟩ => ⟨S4x16x1x4096x4224, .f32⟩
  | .hbm, ⟨48, _⟩ => ⟨S_, .f32⟩
  | .hbm, ⟨49, _⟩ => ⟨S4x16x1x4096, .f32⟩
  | .hbm, ⟨50, _⟩ => ⟨S4x16x1x4096x1, .f32⟩
  | .hbm, ⟨51, _⟩ => ⟨S4x16x1x4096x4224, .f32⟩
  | .hbm, ⟨52, _⟩ => ⟨S4x16x1x4096x4224, .f32⟩
  | .hbm, ⟨53, _⟩ => ⟨S4x16x1x4096x4224, .f32⟩
  | .hbm, ⟨54, _⟩ => ⟨S_, .f32⟩
  | .hbm, ⟨55, _⟩ => ⟨S4x16x1x4096, .f32⟩
  | .hbm, ⟨56, _⟩ => ⟨S4x16x1x4096, .f32⟩
  | .hbm, ⟨57, _⟩ => ⟨S4x16x1x4096, .f32⟩
  | .hbm, ⟨58, _⟩ => ⟨S4x16x1x4096x1, .f32⟩
  | .hbm, ⟨59, _⟩ => ⟨S4x16x1x4096x4224, .f32⟩
  | .hbm, ⟨60, _⟩ => ⟨S4x16x1x4096x4224, .f32⟩
  | .hbm, ⟨61, _⟩ => ⟨S4x16x1x4096x4224, .f32⟩
  | .hbm, ⟨62, _⟩ => ⟨S4x1x16x64x4096, .f32⟩
  | .hbm, ⟨63, _⟩ => ⟨S4x4096x1x16x64, .f32⟩
  | .hbm, ⟨64, _⟩ => ⟨S4x4096x16x64, .f32⟩
  | .hbm, ⟨65, _⟩ => ⟨S4x4096x1x16, .f32⟩
  | .hbm, ⟨66, _⟩ => ⟨S4x4096x16, .f32⟩
  | .hbm, ⟨67, _⟩ => ⟨S4x4096x16x1, .f32⟩
  | .hbm, ⟨68, _⟩ => ⟨S4x4096x16x64, .f32⟩
  | .hbm, ⟨69, _⟩ => ⟨S4x4096x1024, .f32⟩
  | .hbm, ⟨70, _⟩ => ⟨S4x4096x1024, .f32⟩
  | _, _ => ⟨S4x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩

abbrev nD : Nat := 1
abbrev τ : Topo := Topo.v7x

variable {F : FTy → Type} [FloatOps F]
-- ==== Kernel16.lean ====
abbrev S4x4096x3072 : Shape := ⟨3, ![4, 4096, 3072]⟩
abbrev S4x256x49152 : Shape := ⟨3, ![4, 256, 49152]⟩
abbrev S4x256x16384 : Shape := ⟨3, ![4, 256, 16384]⟩
abbrev S1x128x1024 : Shape := ⟨3, ![1, 128, 1024]⟩
abbrev S16x128x256 : Shape := ⟨3, ![16, 128, 256]⟩
abbrev S16x128x64 : Shape := ⟨3, ![16, 128, 64]⟩
abbrev S128x128 : Shape := ⟨2, ![128, 128]⟩
abbrev S1x128x64 : Shape := ⟨3, ![1, 128, 64]⟩
abbrev S128x64 : Shape := ⟨2, ![128, 64]⟩
abbrev S1x128x128 : Shape := ⟨3, ![1, 128, 128]⟩
abbrev S128 : Shape := ⟨1, ![128]⟩
abbrev S128x1 : Shape := ⟨2, ![128, 1]⟩

abbrev nBuf : Space → Nat
  | .hbm => 5
  | .vmem => 17
  | .smem => 0
  | _ => 0

abbrev bufTy : (tb : Table) → Fin (tcTables nBuf tb) → BufTy
  | .hbm, ⟨0, _⟩ => ⟨S4x4096x3072, .f32⟩
  | .hbm, ⟨1, _⟩ => ⟨S4x4096x3072, .bf16⟩
  | .hbm, ⟨2, _⟩ => ⟨S4x256x49152, .bf16⟩
  | .hbm, ⟨3, _⟩ => ⟨S4x256x16384, .f32⟩
  | .hbm, ⟨4, _⟩ => ⟨S4x256x16384, .f32⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | .local _ .vmem, ⟨6, _⟩ => ⟨S1x128x1024, .bf16⟩
  | .local _ .vmem, ⟨7, _⟩ => ⟨S1x128x1024, .bf16⟩
  | .local _ .vmem, ⟨8, _⟩ => ⟨S1x128x1024, .bf16⟩
  | .local _ .vmem, ⟨9, _⟩ => ⟨S1x128x1024, .bf16⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S16x128x256, .f32⟩
  | .local _ .vmem, ⟨15, _⟩ => ⟨S16x128x256, .bf16⟩
  | .local _ .vmem, ⟨16, _⟩ => ⟨S16x128x64, .f32⟩
  | _, _ => ⟨S4x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 16, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let c0_i32 : BitVec 32 := 0#32
  let v1 : BitVec 32 := Scalar.addi v0 c0_i32
  let c0_i32_0 : BitVec 32 := 0#32
  ![arg0.toNat, arg2.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c3_i32 : BitVec 32 := 3#32
  let v2 : BitVec 32 := Scalar.muli arg1 c3_i32
  let c1_i32_0 : BitVec 32 := 1#32
  let v3 : BitVec 32 := Scalar.addi v2 c1_i32_0
  let c0_i32_1 : BitVec 32 := 0#32
  ![arg0.toNat, v1.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let c1_i32 : BitVec 32 := 1#32
  let v1 : BitVec 32 := Scalar.addi v0 c1_i32
  let c0_i32 : BitVec 32 := 0#32
  ![arg0.toNat, arg2.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c3_i32 : BitVec 32 := 3#32
  let v2 : BitVec 32 := Scalar.muli arg1 c3_i32
  let c2_i32 : BitVec 32 := 2#32
  let v3 : BitVec 32 := Scalar.addi v2 c2_i32
  let c0_i32_0 : BitVec 32 := 0#32
  ![arg0.toNat, v1.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let c2_i32 : BitVec 32 := 2#32
  let v1 : BitVec 32 := Scalar.addi v0 c2_i32
  let c0_i32 : BitVec 32 := 0#32
  ![arg0.toNat, arg2.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Kernel16Ideal.lean ====
variable {F : FTy → Type} [FloatOps F] [Named F]
def κ : String → Option EReal := fun
  | "mask" => some ⊥
  | _ => none
-- ==== Reference16Ideal.lean ====
abbrev S4x4096x3072 : Shape := ⟨3, ![4, 4096, 3072]⟩
abbrev S4x4096x3x16x64 : Shape := ⟨5, ![4, 4096, 3, 16, 64]⟩
abbrev S_ : Shape := ⟨0, ![]⟩
abbrev S4x6144x3x16x64 : Shape := ⟨5, ![4, 6144, 3, 16, 64]⟩
abbrev S6144 : Shape := ⟨1, ![6144]⟩
abbrev S4x4096x1x16x64 : Shape := ⟨5, ![4, 4096, 1, 16, 64]⟩
abbrev S4x4096x16x64 : Shape := ⟨4, ![4, 4096, 16, 64]⟩
abbrev S4x6144x1x16x64 : Shape := ⟨5, ![4, 6144, 1, 16, 64]⟩
abbrev S4x6144x16x64 : Shape := ⟨4, ![4, 6144, 16, 64]⟩
abbrev S4x256x16x16x64 : Shape := ⟨5, ![4, 256, 16, 16, 64]⟩
abbrev S4x384x16x16x64 : Shape := ⟨5, ![4, 384, 16, 16, 64]⟩
abbrev S4x16x16x256x384 : Shape := ⟨5, ![4, 16, 16, 256, 384]⟩
abbrev S256 : Shape := ⟨1, ![256]⟩
abbrev S256x1 : Shape := ⟨2, ![256, 1]⟩
abbrev S384 : Shape := ⟨1, ![384]⟩
abbrev S1x384 : Shape := ⟨2, ![1, 384]⟩
abbrev S256x384 : Shape := ⟨2, ![256, 384]⟩
abbrev S1x256x384 : Shape := ⟨3, ![1, 256, 384]⟩
abbrev S384x16 : Shape := ⟨2, ![384, 16]⟩
abbrev S16x384 : Shape := ⟨2, ![16, 384]⟩
abbrev S16x1x384 : Shape := ⟨3, ![16, 1, 384]⟩
abbrev S16x256x384 : Shape := ⟨3, ![16, 256, 384]⟩
abbrev S1x1x16x256x384 : Shape := ⟨5, ![1, 1, 16, 256, 384]⟩
abbrev S4x16x16x256 : Shape := ⟨4, ![4, 16, 16, 256]⟩
abbrev S4x16x16x256x1 : Shape := ⟨5, ![4, 16, 16, 256, 1]⟩
abbrev S4x16x16x64x256 : Shape := ⟨5, ![4, 16, 16, 64, 256]⟩
abbrev S4x256x16x16 : Shape := ⟨4, ![4, 256, 16, 16]⟩
abbrev S4x4096x16 : Shape := ⟨3, ![4, 4096, 16]⟩
abbrev S4x4096x16x1 : Shape := ⟨4, ![4, 4096, 16, 1]⟩
abbrev S4x256x16384 : Shape := ⟨3, ![4, 256, 16384]⟩

abbrev nBuf : Space → Nat
  | .hbm => 72
  | .vmem => 0
  | .smem => 0
  | _ => 0

abbrev bufTy : (tb : Table) → Fin (tcTables nBuf tb) → BufTy
  | .hbm, ⟨0, _⟩ => ⟨S4x4096x3072, .f32⟩
  | .hbm, ⟨1, _⟩ => ⟨S4x4096x3x16x64, .f32⟩
  | .hbm, ⟨2, _⟩ => ⟨S_, .i32⟩
  | .hbm, ⟨3, _⟩ => ⟨S_, .f32⟩
  | .hbm, ⟨4, _⟩ => ⟨S4x6144x3x16x64, .f32⟩
  | .hbm, ⟨5, _⟩ => ⟨S6144, .i32⟩
  | .hbm, ⟨6, _⟩ => ⟨S_, .i32⟩
  | .hbm, ⟨7, _⟩ => ⟨S6144, .i32⟩
  | .hbm, ⟨8, _⟩ => ⟨S6144, .i1⟩
  | .hbm, ⟨9, _⟩ => ⟨S4x4096x1x16x64, .f32⟩
  | .hbm, ⟨10, _⟩ => ⟨S4x4096x16x64, .f32⟩
  | .hbm, ⟨11, _⟩ => ⟨S4x6144x1x16x64, .f32⟩
  | .hbm, ⟨12, _⟩ => ⟨S4x6144x16x64, .f32⟩
  | .hbm, ⟨13, _⟩ => ⟨S4x6144x1x16x64, .f32⟩
  | .hbm, ⟨14, _⟩ => ⟨S4x6144x16x64, .f32⟩
  | .hbm, ⟨15, _⟩ => ⟨S4x256x16x16x64, .f32⟩
  | .hbm, ⟨16, _⟩ => ⟨S4x384x16x16x64, .f32⟩
  | .hbm, ⟨17, _⟩ => ⟨S4x384x16x16x64, .f32⟩
  | .hbm, ⟨18, _⟩ => ⟨S4x16x16x256x384, .f32⟩
  | .hbm, ⟨19, _⟩ => ⟨S_, .f32⟩
  | .hbm, ⟨20, _⟩ => ⟨S4x16x16x256x384, .f32⟩
  | .hbm, ⟨21, _⟩ => ⟨S4x16x16x256x384, .f32⟩
  | .hbm, ⟨22, _⟩ => ⟨S256, .i32⟩
  | .hbm, ⟨23, _⟩ => ⟨S256x1, .i32⟩
  | .hbm, ⟨24, _⟩ => ⟨S384, .i32⟩
  | .hbm, ⟨25, _⟩ => ⟨S1x384, .i32⟩
  | .hbm, ⟨26, _⟩ => ⟨S256x384, .i32⟩
  | .hbm, ⟨27, _⟩ => ⟨S256x384, .i32⟩
  | .hbm, ⟨28, _⟩ => ⟨S256x384, .i1⟩
  | .hbm, ⟨29, _⟩ => ⟨S_, .i32⟩
  | .hbm, ⟨30, _⟩ => ⟨S256x1, .i32⟩
  | .hbm, ⟨31, _⟩ => ⟨S256x1, .i32⟩
  | .hbm, ⟨32, _⟩ => ⟨S256x384, .i32⟩
  | .hbm, ⟨33, _⟩ => ⟨S256x384, .i32⟩
  | .hbm, ⟨34, _⟩ => ⟨S256x384, .i1⟩
  | .hbm, ⟨35, _⟩ => ⟨S256x384, .i1⟩
  | .hbm, ⟨36, _⟩ => ⟨S1x256x384, .i1⟩
  | .hbm, ⟨37, _⟩ => ⟨S384x16, .i1⟩
  | .hbm, ⟨38, _⟩ => ⟨S16x384, .i1⟩
  | .hbm, ⟨39, _⟩ => ⟨S16x1x384, .i1⟩
  | .hbm, ⟨40, _⟩ => ⟨S16x256x384, .i1⟩
  | .hbm, ⟨41, _⟩ => ⟨S16x256x384, .i1⟩
  | .hbm, ⟨42, _⟩ => ⟨S16x256x384, .i1⟩
  | .hbm, ⟨43, _⟩ => ⟨S1x1x16x256x384, .i1⟩
  | .hbm, ⟨44, _⟩ => ⟨S_, .f32⟩
  | .hbm, ⟨45, _⟩ => ⟨S_, .f32⟩
  | .hbm, ⟨46, _⟩ => ⟨S4x16x16x256x384, .i1⟩
  | .hbm, ⟨47, _⟩ => ⟨S4x16x16x256x384, .f32⟩
  | .hbm, ⟨48, _⟩ => ⟨S4x16x16x256x384, .f32⟩
  | .hbm, ⟨49, _⟩ => ⟨S_, .f32⟩
  | .hbm, ⟨50, _⟩ => ⟨S4x16x16x256, .f32⟩
  | .hbm, ⟨51, _⟩ => ⟨S4x16x16x256x1, .f32⟩
  | .hbm, ⟨52, _⟩ => ⟨S4x16x16x256x384, .f32⟩
  | .hbm, ⟨53, _⟩ => ⟨S4x16x16x256x384, .f32⟩
  | .hbm, ⟨54, _⟩ => ⟨S4x16x16x256x384, .f32⟩
  | .hbm, ⟨55, _⟩ => ⟨S_, .f32⟩
  | .hbm, ⟨56, _⟩ => ⟨S4x16x16x256, .f32⟩
  | .hbm, ⟨57, _⟩ => ⟨S4x16x16x256, .f32⟩
  | .hbm, ⟨58, _⟩ => ⟨S4x16x16x256, .f32⟩
  | .hbm, ⟨59, _⟩ => ⟨S4x16x16x256x1, .f32⟩
  | .hbm, ⟨60, _⟩ => ⟨S4x16x16x256x384, .f32⟩
  | .hbm, ⟨61, _⟩ => ⟨S4x16x16x256x384, .f32⟩
  | .hbm, ⟨62, _⟩ => ⟨S4x16x16x256x384, .f32⟩
  | .hbm, ⟨63, _⟩ => ⟨S4x16x16x64x256, .f32⟩
  | .hbm, ⟨64, _⟩ => ⟨S4x256x16x16x64, .f32⟩
  | .hbm, ⟨65, _⟩ => ⟨S4x4096x16x64, .f32⟩
  | .hbm, ⟨66, _⟩ => ⟨S4x256x16x16, .f32⟩
  | .hbm, ⟨67, _⟩ => ⟨S4x4096x16, .f32⟩
  | .hbm, ⟨68, _⟩ => ⟨S4x4096x16x1, .f32⟩
  | .hbm, ⟨69, _⟩ => ⟨S4x4096x16x64, .f32⟩
  | .hbm, ⟨70, _⟩ => ⟨S4x256x16384, .f32⟩
  | .hbm, ⟨71, _⟩ => ⟨S4x256x16384, .f32⟩
  | _, _ => ⟨S4x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v38 : Ref sig .tc := ⟨.hbm, 48, rfl⟩
abbrev main_cst_3 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_4 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩

abbrev nD : Nat := 1
abbrev τ : Topo := Topo.v7x

variable {F : FTy → Type} [FloatOps F]
-- ==== Proof.SoftMath.lean ====
/- Masked softmax over the extended reals: with scores that are real where a mask is on and `⊥` where it is off, the
   shifted exponentials, their sums and the logarithm are the real ones, whatever the (real) shift. -/
module

public import Idealize.ShloMosaic.PureOps.Ideal
public import Idealize.ShloMosaic.PureOps.Ideal.Laws

@[expose] public section

noncomputable section

namespace Cert.SoftMath

open Idealize.ShloMosaic

variable {ι : Type*} [Fintype ι]

/-- A real where the mask is on, `⊥` where it is off. -/
def sc (w : Prop) [Decidable w] (x : ℝ) : EReal := if w then (x : EReal) else ⊥

theorem ite_sc (w : Prop) [Decidable w] (x : ℝ) : (if w then (x : EReal) else ⊥) = sc w x := rfl

/-- The weight of a score before normalisation. -/
def ew (w : Prop) [Decidable w] (x : ℝ) : ℝ := if w then Real.exp x else 0

theorem ew_nonneg (w : Prop) [Decidable w] (x : ℝ) : 0 ≤ ew w x := by
  unfold ew; split
  · exact (Real.exp_pos _).le
  · exact le_rfl

theorem sc_ne_top (w : Prop) [Decidable w] (x : ℝ) : sc w x ≠ ⊤ := by
  unfold sc; split
  · exact EReal.coe_ne_top _
  · exact bot_ne_top

theorem sc_of {w : Prop} [Decidable w] (h : w) (x : ℝ) : sc w x = (x : EReal) := if_pos h

/-- A maximum of finitely many values, none `⊤` and one not `⊥`, is a real. -/
theorem fold_max_real (f : ι → EReal) (ht : ∀ i, f i ≠ ⊤) (hb : ∃ i, f i ≠ ⊥) :
    ∃ r : ℝ, Finset.fold max (⊥ : EReal) f Finset.univ = (r : EReal) := by
  have h1 : Finset.fold max (⊥ : EReal) f Finset.univ ≠ ⊤ := by
    have : Finset.fold max (⊥ : EReal) f Finset.univ < ⊤ := by
      rw [Finset.fold_max_lt]
      exact ⟨bot_lt_top, fun i _ => lt_top_iff_ne_top.mpr (ht i)⟩
    exact this.ne
  have h2 : Finset.fold max (⊥ : EReal) f Finset.univ ≠ ⊥ := by
    obtain ⟨i, hi⟩ := hb
    have : f i ≤ Finset.fold max (⊥ : EReal) f Finset.univ := by
      rw [Finset.le_fold_max]
      exact Or.inr ⟨i, Finset.mem_univ _, le_rfl⟩
    intro h
    rw [h] at this
    exact hi (le_bot_iff.mp this)
  exact ⟨_, (EReal.coe_toReal h1 h2).symm⟩

/-- The shifted exponential of a masked score. -/
theorem exp_sc_sub (w : Prop) [Decidable w] (x μ : ℝ) :
    Ideal.exp (sc w x - (μ : EReal)) = ((ew w x * Real.exp (-μ) : ℝ) : EReal) := by
  unfold sc ew
  split
  · rw [← EReal.coe_sub, Ideal.exp_coe, ← Real.exp_add, sub_eq_add_neg]
  · rw [EReal.bot_sub, Ideal.exp_bot, zero_mul, EReal.coe_zero]

theorem coe_sum (f : ι → ℝ) : ∑ i, ((f i : ℝ) : EReal) = ((∑ i, f i : ℝ) : EReal) := by
  classical
  refine Finset.induction_on (motive := fun s => ∑ i ∈ s, ((f i : ℝ) : EReal) = ((∑ i ∈ s, f i : ℝ) : EReal)) Finset.univ (by simp) ?_
  intro i s hi h
  rw [Finset.sum_insert hi, Finset.sum_insert hi, h, EReal.coe_add]

/-- The logarithm of a shifted sum of exponentials and the shift back. -/
theorem log_shift (S μ : ℝ) (hS : 0 < S) : Ideal.log ((S * Real.exp (-μ) : ℝ) : EReal) = ((Real.log S - μ : ℝ) : EReal) := by
  have hp : 0 < S * Real.exp (-μ) := mul_pos hS (Real.exp_pos _)
  rw [Ideal.log_coe, if_neg (not_le.mpr hp), Real.log_mul hS.ne' (Real.exp_pos _).ne', Real.log_exp, ← sub_eq_add_neg]

/-- A quotient of two sums shifted alike. -/
theorem div_shift (A S μ : ℝ) (hS : 0 < S) :
    Ideal.div ((A * Real.exp (-μ) : ℝ) : EReal) ((S * Real.exp (-μ) : ℝ) : EReal) = ((A / S : ℝ) : EReal) := by
  have hp : S * Real.exp (-μ) ≠ 0 := (mul_pos hS (Real.exp_pos _)).ne'
  rw [Ideal.div_coe hp, ← EReal.coe_mul]
  congr 1
  field_simp

/-- The weight divided by a sum of weights, as an exponential shifted by the sum's logarithm. -/
theorem exp_sc_sub_log (w : Prop) [Decidable w] (x S : ℝ) (hS : 0 < S) :
    Ideal.exp (sc w x - ((Real.log S : ℝ) : EReal)) = ((ew w x / S : ℝ) : EReal) := by
  rw [exp_sc_sub, Real.exp_neg, Real.exp_log hS, ← div_eq_mul_inv]

end Cert.SoftMath

end
-- ==== Proof.Head.lean ====
/- One attention head of one block of 128 queries: the vectors the kernel computes for it, written once
   (every one of the 16 heads of the body is an instance), and their values index by index. -/
module

public import proofs.«01_k».proof.Proof.Gen.KernelIdeal.Skeleton
public import Idealize.ShloMosaic.Lib.Pointwise
public import Idealize.ShloMosaic.Lib.WordCmp
public import proofs.«01_k».proof.Proof.SoftMath

@[expose] public section

set_option maxRecDepth 16384

noncomputable section

namespace Cert.KernelIdeal.Head

open Idealize.ShloMosaic Idealize.ShloMosaic.Tactic Idealize.ShloMosaic.WordCmp Cert.KernelIdeal Cert.KernelIdeal.Gen

variable {F : FTy → Type} [FloatOps F] [Named F]

/-- The keys of the block before that a query may see: columns at or after its row, if there is a block before. -/
def maskP (b : BitVec 32) : IVec S128x128 1 :=
  andi (cmpi .sge (iota .tc S128x128 32 [1] iota_S128x128_d1_w32) (iota .tc S128x128 32 [0] iota_S128x128_d0_w32))
    (broadcast S128x128 (Scalar.cmpi .sgt b 0#32))

/-- The keys of the query's own block that it may see: columns up to its row. -/
def maskC : IVec S128x128 1 :=
  cmpi .sle (iota .tc S128x128 32 [1] iota_S128x128_d1_w32) (iota .tc S128x128 32 [0] iota_S128x128_d0_w32)

/-- The scaled scores of a block of queries against a block of keys. -/
def score (q k : Vec F S1x128x64 .bf16) : FVec F S128x128 .f32 :=
  matmul dot_S128x64_S128x64_S128x128_1_1_0_0_n_n none
    (mulf (shapeCast S128x64 q shapeCasts_S1x128x64_S128x64) (broadcast S128x64 (Scalar.ofBits .bf16 0x3E00#16)))
    (shapeCast S128x64 k shapeCasts_S1x128x64_S128x64) (constant S128x128 .f32 0x00000000#32)

/-- The scores with the mask's constant where the mask is off. -/
def masked (w : IVec S128x128 1) (q k : Vec F S1x128x64 .bf16) : FVec F S128x128 .f32 :=
  select w (shapeCast S128x128 (shapeCast S1x128x128 (score q k) shapeCasts_S128x128_S1x128x128) shapeCasts_S1x128x128_S128x128)
    (broadcast S128x128 (Named.named κ "mask" (0xF149F2CA#32 : BitVec (FTy.bits .f32))))

/-- The row maxima over both blocks of keys. -/
def rowMax (b : BitVec 32) (q kp kc : Vec F S1x128x64 .bf16) : FVec F S128x1 .f32 :=
  shapeCast S128x1 (multiReduction .maximumf [1] S128 (maximumf (masked (maskP b) q kp) (masked maskC q kc)) 0xFF800000#32
    reduces_S128x128_S128 (.inl rfl) rfl) shapeCasts_S128_S128x1

/-- The weights of one block of keys. -/
def wgt (b : BitVec 32) (q kp kc : Vec F S1x128x64 .bf16) (w : IVec S128x128 1) (k : Vec F S1x128x64 .bf16) : FVec F S128x128 .f32 :=
  exp (subf (masked w q k) (broadcastTo S128x128 (rowMax b q kp kc) broadcasts_S128x1_S128x128))

/-- The row sums of the weights over both blocks. -/
def rowSum (b : BitVec 32) (q kp kc : Vec F S1x128x64 .bf16) : FVec F S128x1 .f32 :=
  shapeCast S128x1 (multiReduction .add [1] S128 (addf (wgt b q kp kc (maskP b) kp) (wgt b q kp kc maskC kc)) 0x00000000#32
    reduces_S128x128_S128 (.inl rfl) rfl) shapeCasts_S128_S128x1

/-- The log of the sum of exponentials, on every lane. -/
def headL (b : BitVec 32) (q kp kc : Vec F S1x128x64 .bf16) : FVec F S1x128x64 .f32 :=
  shapeCast S1x128x64 (broadcastTo S128x64 (shapeCast S128x1 (addf (rowMax b q kp kc) (log (rowSum b q kp kc))) shapeCasts_S128x1_S128x1)
    broadcasts_S128x1_S128x64) shapeCasts_S128x64_S1x128x64

/-- Weights times values, of one block. -/
def pv (p : FVec F S128x128 .f32) (v : Vec F S1x128x64 .bf16) : FVec F S128x64 .f32 :=
  matmul dot_S128x128_S128x64_S128x64_1_0_0_1_n_n none
    (shapeCast S128x128 (shapeCast S1x128x128 (truncf .bf16 p bitsLt_bf16_f32) shapeCasts_S128x128_S1x128x128) shapeCasts_S1x128x128_S128x128)
    (shapeCast S128x64 v shapeCasts_S1x128x64_S128x64) (constant S128x64 .f32 0x00000000#32)

/-- The head's attention output. -/
def headO (b : BitVec 32) (q kp kc vp vc : Vec F S1x128x64 .bf16) : FVec F S1x128x64 .f32 :=
  shapeCast S1x128x64
    (divf (addf (pv (wgt b q kp kc (maskP b) kp) vp) (pv (wgt b q kp kc maskC kc) vc))
      (shapeCast S128x64 (shapeCast S1x128x64 (broadcastTo S128x64 (shapeCast S128x1 (rowSum b q kp kc) shapeCasts_S128x1_S128x1)
        broadcasts_S128x1_S128x64) shapeCasts_S128x64_S1x128x64) shapeCasts_S1x128x64_S128x64)) shapeCasts_S128x64_S1x128x64

/-! ## Values -/

open Cert.SoftMath

/-- Whether the key at column `c` of the block before is seen from row `r`. -/
abbrev seesP (b : BitVec 32) (r c : Fin 128) : Prop := 0 < b.toInt ∧ r.val ≤ c.val
/-- Whether the key at column `c` of the own block is seen from row `r`. -/
abbrev seesC (r c : Fin 128) : Prop := c.val ≤ r.val

theorem selP (b : BitVec 32) (r c : Fin 128) (x y : EReal) :
    Scalar.select (IntOp.andi (IntOp.cmpi CmpIPredicate.sge (BitVec.ofNat 32 ↑c) (BitVec.ofNat 32 ↑r)) (Scalar.cmpi CmpIPredicate.sgt b 0#32)) x y
      = if seesP b r c then x else y := by
  have hr := r.isLt
  have hc := c.isLt
  rw [cmpi_sge_ofNat (w := 32) (by omega) (by omega), show Scalar.cmpi CmpIPredicate.sgt b 0#32 = _ from cmpi_sgt_eq b 0#32, andi_ofBool,
    select_ofBool]
  by_cases h1 : 0 < b.toInt <;> by_cases h2 : r.val ≤ c.val <;> simp [h1, h2]

theorem selC (r c : Fin 128) (x y : EReal) :
    Scalar.select (IntOp.cmpi CmpIPredicate.sle (BitVec.ofNat 32 ↑c) (BitVec.ofNat 32 ↑r)) x y
      = if seesC r c then x else y := by
  have hr := r.isLt
  have hc := c.isLt
  rw [cmpi_sle_ofNat (w := 32) (by omega) (by omega), select_ofBool]
  by_cases h2 : c.val ≤ r.val <;> simp [h2]

theorem named_mask : (Named.named κ "mask" (0xF149F2CA#32 : BitVec (FTy.bits .f32)) : Ideal .f32) = (⊥ : EReal) :=
  IdealRules.named_const.ideal_named_scalar _ _ _ _ rfl

theorem ofBits_eighth : Ideal.ofBits .bf16 0x3E00#16 = ((0.125 : ℝ) : EReal) := by
  simp [Ideal.ofBits, Ideal.ieee]
  rw [← EReal.coe_mul]
  congr 1
  norm_num
theorem ofBits_neg_inf : Ideal.ofBits .f32 0xFF800000#32 = (⊥ : EReal) := by
  simp [Ideal.ofBits, Ideal.ieee]

variable (b : BitVec 32) (q kp kc vp vc : Vec Ideal S1x128x64 .bf16)
  (Q KP KC VP VC : Fin 128 → Fin 64 → ℝ)

/-- The scaled dot product of a query and a key. -/
def dotR (Q K : Fin 128 → Fin 64 → ℝ) (r c : Fin 128) : ℝ := ∑ d, Q r d * 0.125 * K c d

theorem dot_eq (q k : Vec Ideal S1x128x64 .bf16) (Q K : Fin 128 → Fin 64 → ℝ) (hq : ∀ r d, q (ix3 0 r d) = (Q r d : EReal))
    (hk : ∀ r d, k (ix3 0 r d) = (K r d : EReal)) (r c : Fin 128) :
    (∑ d, q (ix3 0 r d) * Ideal.ofBits FTy.bf16 15872#16 * k (ix3 0 c d) : EReal) = (dotR Q K r c : EReal) := by
  simp only [hq, hk, ofBits_eighth, ← EReal.coe_mul, coe_sum, dotR]

/-- The sum of a row's weights. -/
def denR (r : Fin 128) : ℝ := ∑ c, (ew (seesP b r c) (dotR Q KP r c) + ew (seesC r c) (dotR Q KC r c))

theorem denR_pos (r : Fin 128) : 0 < denR b Q KP KC r := by
  refine Finset.sum_pos' (fun c _ => add_nonneg (ew_nonneg _ _) (ew_nonneg _ _)) ⟨r, Finset.mem_univ _, ?_⟩
  refine add_pos_of_nonneg_of_pos (ew_nonneg _ _) ?_
  unfold ew
  rw [if_pos (le_refl _)]
  exact Real.exp_pos _

theorem max_real (r : Fin 128) : ∃ μ : ℝ,
    Finset.fold max (⊥ : EReal) (fun c => max (sc (seesP b r c) (dotR Q KP r c)) (sc (seesC r c) (dotR Q KC r c))) Finset.univ = (μ : EReal) := by
  refine fold_max_real _ (fun c => ?_) ⟨r, ?_⟩
  · exact (max_lt (lt_top_iff_ne_top.mpr (sc_ne_top _ _)) (lt_top_iff_ne_top.mpr (sc_ne_top _ _))).ne
  · refine ((lt_of_lt_of_le ?_ (le_max_right _ _))).ne'
    rw [sc_of (le_refl _)]
    exact EReal.bot_lt_coe _

set_option maxHeartbeats 2000000 in
/-- The log of the sum of exponentials, at row `r`. -/
theorem headL_apply (hq : ∀ r d, q (ix3 0 r d) = (Q r d : EReal)) (hkp : ∀ r d, kp (ix3 0 r d) = (KP r d : EReal))
    (hkc : ∀ r d, kc (ix3 0 r d) = (KC r d : EReal)) (r : Fin 128) (d : Fin 64) :
    headL b q kp kc (ix3 0 r d) = (Real.log (denR b Q KP KC r) : EReal) := by
  pointwise [headL, wgt, rowSum, rowMax, masked, score, maskP, maskC]
  simp only [dot_eq q kp Q KP hq hkp, dot_eq q kc Q KC hq hkc, selP, selC, named_mask, ofBits_neg_inf, ite_sc]
  obtain ⟨μ, hμ⟩ := max_real b Q KP KC r
  rw [hμ]
  simp only [exp_sc_sub, ← EReal.coe_add, coe_sum, ← add_mul, ← Finset.sum_mul]
  refine Eq.trans (congrArg (fun z : EReal => (μ : EReal) + z) (log_shift _ _ (denR_pos b Q KP KC r))) ?_
  rw [← EReal.coe_add]
  congr 1
  show μ + (Real.log (denR b Q KP KC r) - μ) = _
  ring

set_option maxHeartbeats 2000000 in
/-- The attention output at row `r`, lane `d`. -/
theorem headO_apply (hq : ∀ r d, q (ix3 0 r d) = (Q r d : EReal)) (hkp : ∀ r d, kp (ix3 0 r d) = (KP r d : EReal))
    (hkc : ∀ r d, kc (ix3 0 r d) = (KC r d : EReal)) (hvp : ∀ r d, vp (ix3 0 r d) = (VP r d : EReal))
    (hvc : ∀ r d, vc (ix3 0 r d) = (VC r d : EReal)) (r : Fin 128) (d : Fin 64) :
    headO b q kp kc vp vc (ix3 0 r d)
      = (((∑ c, ew (seesP b r c) (dotR Q KP r c) * VP c d) + ∑ c, ew (seesC r c) (dotR Q KC r c) * VC c d) / denR b Q KP KC r : ℝ) := by
  pointwise [headO, pv, wgt, rowSum, rowMax, masked, score, maskP, maskC]
  simp only [dot_eq q kp Q KP hq hkp, dot_eq q kc Q KC hq hkc, selP, selC, named_mask, ofBits_neg_inf, ite_sc, hvp, hvc]
  obtain ⟨μ, hμ⟩ := max_real b Q KP KC r
  rw [hμ]
  simp only [exp_sc_sub, ← EReal.coe_add, ← EReal.coe_mul, coe_sum, ← add_mul, mul_right_comm _ (Real.exp (-μ)) _, ← Finset.sum_mul]
  exact div_shift _ _ _ (denR_pos b Q KP KC r)

end Cert.KernelIdeal.Head

end
-- ==== Proof.Block.lean ====
/- One grid point's blocks of results, head by head: lanes `64·k … 64·k + 63` of a block are head `k`'s. -/
module

public import proofs.«01_k».proof.Proof.Gen.KernelIdeal.Value
public import proofs.«01_k».proof.Proof.Head
public import Idealize.ShloMosaic.Lib.Pipeline.ReadBack
public import Idealize.ShloMosaic.Lib.Pipeline.ValueKit

@[expose] public section

set_option maxRecDepth 16384

noncomputable section

namespace Cert.KernelIdeal.Block

open Idealize.ShloMosaic Idealize.ShloMosaic.TcCoe Idealize.ShloMosaic.Tactic Idealize.SL.Sem
open Cert.KernelIdeal Cert.KernelIdeal.Gen Cert.KernelIdeal.Head

/-- A block read head by head. -/
def byHead (H : Fin 16 → S1x128x64.Idx → Ideal .f32) (y : S1x128x1024.Idx) : Ideal .f32 :=
  H ⟨(y 2).val / 64, by have h : (y 2).val < 1024 := (y 2).isLt; omega⟩ (ix3 0 (y 1) ⟨(y 2).val % 64, Nat.mod_lt _ (by decide)⟩)

theorem inbH (k : Fin 16) : ∀ a, (![0, 0, 64 * k.val] : Fin 3 → Nat) a + (![1, 128, 64] : Fin 3 → Nat) a ≤ S1x128x1024.size a :=
  fun a => match a with
    | ⟨0, _⟩ => (by decide : 0 + 1 ≤ 1)
    | ⟨1, _⟩ => (by decide : 0 + 128 ≤ 128)
    | ⟨2, _⟩ => (by have := k.isLt; show 64 * k.val + 64 ≤ 1024; omega)

theorem byHead_emb (H : Fin 16 → S1x128x64.Idx → Ideal .f32) (k : Fin 16) (x : S1x128x64.Idx) :
    byHead H ((Rect.unit (s := S1x128x1024) ![0, 0, 64 * k.val] ![1, 128, 64] (inbH k)).emb x) = H k x := by
  have h2 : (x 2).val < 64 := (x 2).isLt
  have h0 : (x 0).val < 1 := (x 0).isLt
  unfold byHead
  congr 1
  · apply Fin.ext
    show (64 * k.val + 1 * (x 2).val) / 64 = k.val
    omega
  · funext a
    apply Fin.ext
    match a with
    | ⟨0, _⟩ => show 0 = (x 0).val; omega
    | ⟨1, _⟩ => show 0 + 1 * (x 1).val = (x 1).val; omega
    | ⟨2, _⟩ => show (64 * k.val + 1 * (x 2).val) % 64 = (x 2).val; omega

/-- Head `k`'s lanes of an operand block. -/
def sl (X : Vec Ideal S1x128x1024 .bf16) (k : Fin 16) : Vec Ideal S1x128x64 .bf16 :=
  View.ld X (Rect.unit ![0, 0, 64 * k.val] ![1, 128, 64] (inbH k))

theorem sl_apply (X : Vec Ideal S1x128x1024 .bf16) (k : Fin 16) (r : Fin 128) (d : Fin 64) :
    sl X k (ix3 0 r d) = X (ix3 0 r ⟨64 * k.val + d.val, by have := k.isLt; have := d.isLt; omega⟩) := by
  unfold sl
  show X _ = X _
  congr 1
  funext a
  apply Fin.ext
  match a with
  | ⟨0, _⟩ => rfl
  | ⟨1, _⟩ => show 0 + 1 * r.val = r.val; omega
  | ⟨2, _⟩ => show 64 * k.val + 1 * d.val = 64 * k.val + d.val; omega

variable (m : (ℓ : Loc nD τ sig) → Buf (Elt Ideal) ℓ) (c : Dev nD) (t : Fin cfg0.N)

/-- The point's attention output, head by head. -/
def outO : Fin 16 → S1x128x64.Idx → Ideal .f32 := fun k =>
  headO (BitVec.ofNat 32 (grid0.coords t 2).val) (sl (iblk m c 0 t) k) (sl (iblk m c 1 t) k) (sl (iblk m c 2 t) k)
    (sl (iblk m c 3 t) k) (sl (iblk m c 4 t) k)

/-- The point's log-sum-exp, head by head. -/
def outL : Fin 16 → S1x128x64.Idx → Ideal .f32 := fun k =>
  headL (BitVec.ofNat 32 (grid0.coords t 2).val) (sl (iblk m c 0 t) k) (sl (iblk m c 1 t) k) (sl (iblk m c 2 t) k)

set_option maxHeartbeats 4000000 in
theorem out5 : (outsAt0 m c t).1 = byHead (outO m c t) := by
  simp only [outsAt0]
  frame_open
  simp (disch := decide) only [↓ View.readCov_skip, ↓ View.readCov_cons_toLoadRect, ↓ View.readCov_fill]
  frame_out
  funext y
  refine View.canon_apply_of_pieces (Val := Elt Ideal) (e := .f32) (byHead (outO m c t)) _ (View.PiecesOf.mem ?_) y (View.cover_of_tiled_head _ _ _ rfl y)
  exact ⟨fun x => (byHead_emb (outO m c t) 15 x).symm,
    fun x => (byHead_emb (outO m c t) 14 x).symm,
    fun x => (byHead_emb (outO m c t) 13 x).symm,
    fun x => (byHead_emb (outO m c t) 12 x).symm,
    fun x => (byHead_emb (outO m c t) 11 x).symm,
    fun x => (byHead_emb (outO m c t) 10 x).symm,
    fun x => (byHead_emb (outO m c t) 9 x).symm,
    fun x => (byHead_emb (outO m c t) 8 x).symm,
    fun x => (byHead_emb (outO m c t) 7 x).symm,
    fun x => (byHead_emb (outO m c t) 6 x).symm,
    fun x => (byHead_emb (outO m c t) 5 x).symm,
    fun x => (byHead_emb (outO m c t) 4 x).symm,
    fun x => (byHead_emb (outO m c t) 3 x).symm,
    fun x => (byHead_emb (outO m c t) 2 x).symm,
    fun x => (byHead_emb (outO m c t) 1 x).symm,
    fun x => (byHead_emb (outO m c t) 0 x).symm, trivial⟩

set_option maxHeartbeats 4000000 in
theorem out6 : (outsAt0 m c t).2 = byHead (outL m c t) := by
  simp only [outsAt0]
  frame_open
  simp (disch := decide) only [↓ View.readCov_skip, ↓ View.readCov_cons_toLoadRect, ↓ View.readCov_fill]
  frame_out
  funext y
  refine View.canon_apply_of_pieces (Val := Elt Ideal) (e := .f32) (byHead (outL m c t)) _ (View.PiecesOf.mem ?_) y (View.cover_of_tiled_head _ _ _ rfl y)
  exact ⟨fun x => (byHead_emb (outL m c t) 15 x).symm,
    fun x => (byHead_emb (outL m c t) 14 x).symm,
    fun x => (byHead_emb (outL m c t) 13 x).symm,
    fun x => (byHead_emb (outL m c t) 12 x).symm,
    fun x => (byHead_emb (outL m c t) 11 x).symm,
    fun x => (byHead_emb (outL m c t) 10 x).symm,
    fun x => (byHead_emb (outL m c t) 9 x).symm,
    fun x => (byHead_emb (outL m c t) 8 x).symm,
    fun x => (byHead_emb (outL m c t) 7 x).symm,
    fun x => (byHead_emb (outL m c t) 6 x).symm,
    fun x => (byHead_emb (outL m c t) 5 x).symm,
    fun x => (byHead_emb (outL m c t) 4 x).symm,
    fun x => (byHead_emb (outL m c t) 3 x).symm,
    fun x => (byHead_emb (outL m c t) 2 x).symm,
    fun x => (byHead_emb (outL m c t) 1 x).symm,
    fun x => (byHead_emb (outL m c t) 0 x).symm, trivial⟩

end Cert.KernelIdeal.Block

end
-- ==== Proof.Spec.lean ====
/- Banded attention with dilation, over the reals: the weights of the keys a query sees, and the two blocks of keys the
   kernel reads as the window of the whole (padded) key axis that matters. -/
module

public import proofs.«01_k».proof.Proof.Head

@[expose] public section

noncomputable section

namespace Cert.Spec

open Idealize.ShloMosaic Cert.SoftMath Cert.KernelIdeal.Head

/-- The weight of key `a` of the padded axis (`128` places of padding) for query `u`, in residue `ρ` of dilation `D`,
    batch `b`, head `h`; `X b t l` is entry `l` of token `t`. -/
def wgt (D : ℕ) (X : ℕ → ℕ → ℕ → ℝ) (b u ρ h a : ℕ) : ℝ :=
  ew (u ≤ a ∧ a ≤ u + 128 ∧ 128 * D ≤ a * D + ρ)
    (∑ d : Fin 64, X b (u * D + ρ) (h * 64 + d.val) * 0.125 * X b (a * D + ρ - 128 * D) (1024 + (h * 64 + d.val)))

def den (D NA : ℕ) (X : ℕ → ℕ → ℕ → ℝ) (b u ρ h : ℕ) : ℝ := ∑ a : Fin NA, wgt D X b u ρ h a.val

def num (D NA : ℕ) (X : ℕ → ℕ → ℕ → ℝ) (b u ρ h d : ℕ) : ℝ :=
  ∑ a : Fin NA, wgt D X b u ρ h a.val * X b (a.val * D + ρ - 128 * D) (2048 + (h * 64 + d))

theorem sum_window (NA s : ℕ) (f : ℕ → ℝ) (hs : s + 256 ≤ NA) (h0 : ∀ a, a < s ∨ s + 256 ≤ a → f a = 0) :
    ∑ a : Fin NA, f a.val = (∑ c : Fin 128, f (s + c.val)) + ∑ c : Fin 128, f (s + 128 + c.val) := by
  rw [Fin.sum_univ_eq_sum_range (fun a => f a) NA, Fin.sum_univ_eq_sum_range (fun c => f (s + c)) 128,
    Fin.sum_univ_eq_sum_range (fun c => f (s + 128 + c)) 128]
  rw [show NA = s + (128 + (128 + (NA - (s + 256)))) by omega, Finset.sum_range_add, Finset.sum_range_add, Finset.sum_range_add]
  rw [Finset.sum_eq_zero (s := Finset.range s) (fun a ha => h0 a (Or.inl (Finset.mem_range.mp ha)))]
  rw [Finset.sum_eq_zero (s := Finset.range (NA - (s + 256))) (fun a _ => h0 _ (Or.inr (by omega)))]
  simp only [zero_add, add_zero, Nat.add_assoc]

variable (D NA : ℕ) (X : ℕ → ℕ → ℕ → ℝ) (b i ρ h : ℕ)

/-- Block `i` of queries, as the kernel reads it. -/
def qB (r : Fin 128) (d : Fin 64) : ℝ := X b ((i * 128 + r.val) * D + ρ) (h * 64 + d.val)
/-- Entries from lane `o` of the block of tokens before block `i` (block `0` when there is none). -/
def prevB (o : ℕ) (c : Fin 128) (d : Fin 64) : ℝ := X b (((i - 1) * 128 + c.val) * D + ρ) (o + (h * 64 + d.val))
/-- Entries from lane `o` of block `i`. -/
def curB (o : ℕ) (c : Fin 128) (d : Fin 64) : ℝ := X b ((i * 128 + c.val) * D + ρ) (o + (h * 64 + d.val))

theorem tok_prev (hi : 0 < i) (c : ℕ) : (i * 128 + c) * D + ρ - 128 * D = ((i - 1) * 128 + c) * D + ρ := by
  obtain ⟨j, rfl⟩ : ∃ j, i = j + 1 := ⟨i - 1, by omega⟩
  have : ((j + 1) * 128 + c) * D = (j * 128 + c) * D + 128 * D := by ring
  rw [this, Nat.add_sub_cancel]
  omega

theorem tok_cur (c : ℕ) : (i * 128 + 128 + c) * D + ρ - 128 * D = (i * 128 + c) * D + ρ := by
  have : (i * 128 + 128 + c) * D = (i * 128 + c) * D + 128 * D := by ring
  omega

theorem toInt_pos (hi : i < 2 ^ 31) : 0 < (BitVec.ofNat 32 i).toInt ↔ 0 < i := by
  rw [WordCmp.toInt_ofNat_of_lt (w := 32) hi]
  omega

theorem wgt_prev (hρ : ρ < D) (hi : i < 2 ^ 31) (r c : Fin 128) :
    wgt D X b (i * 128 + r.val) ρ h (i * 128 + c.val)
      = ew (seesP (BitVec.ofNat 32 i) r c) (dotR (qB D X b i ρ h) (prevB D X b i ρ h 1024) r c) := by
  have hr := r.isLt
  have hc := c.isLt
  unfold wgt
  by_cases h1 : 0 < i ∧ r.val ≤ c.val
  · have h2 : 128 * D ≤ (i * 128 + c.val) * D + ρ := by
      have : 128 * D ≤ (i * 128 + c.val) * D := Nat.mul_le_mul_right _ (by omega)
      omega
    unfold ew
    rw [if_pos ⟨by omega, by omega, h2⟩, if_pos ⟨(toInt_pos i hi).mpr h1.1, h1.2⟩]
    simp only [tok_prev D i ρ h1.1, dotR, qB, prevB]
  · unfold ew
    rw [if_neg, if_neg]
    · rintro ⟨h3, h4⟩
      exact h1 ⟨(toInt_pos i hi).mp h3, h4⟩
    · rintro ⟨h3, -, h4⟩
      refine h1 ⟨?_, by omega⟩
      rcases Nat.eq_zero_or_pos i with h5 | h5
      · subst h5
        have : (0 * 128 + c.val + 1) * D ≤ 128 * D := Nat.mul_le_mul_right _ (by omega)
        rw [Nat.add_mul] at this
        omega
      · exact h5

theorem wgt_cur (r c : Fin 128) :
    wgt D X b (i * 128 + r.val) ρ h (i * 128 + 128 + c.val)
      = ew (seesC r c) (dotR (qB D X b i ρ h) (curB D X b i ρ h 1024) r c) := by
  have hr := r.isLt
  have hc := c.isLt
  unfold wgt
  have h2 : 128 * D ≤ (i * 128 + 128 + c.val) * D + ρ := by
    have : 128 * D ≤ (i * 128 + 128 + c.val) * D := Nat.mul_le_mul_right _ (by omega)
    omega
  simp only [tok_cur D i ρ]
  unfold ew
  by_cases h1 : c.val ≤ r.val
  · rw [if_pos ⟨by omega, by omega, h2⟩, if_pos h1]
    simp only [dotR, qB, curB]
  · rw [if_neg, if_neg h1]
    rintro ⟨-, h3, -⟩
    omega

theorem wgt_out (r : Fin 128) (a : ℕ) (ha : a < i * 128 ∨ i * 128 + 256 ≤ a) : wgt D X b (i * 128 + r.val) ρ h a = 0 := by
  have hr := r.isLt
  unfold wgt ew
  rw [if_neg]
  rintro ⟨h1, h2, -⟩
  omega

theorem den_eq (hρ : ρ < D) (hi : i < 2 ^ 31) (hN : i * 128 + 256 ≤ NA) (r : Fin 128) :
    denR (BitVec.ofNat 32 i) (qB D X b i ρ h) (prevB D X b i ρ h 1024) (curB D X b i ρ h 1024) r
      = den D NA X b (i * 128 + r.val) ρ h := by
  unfold den denR
  rw [sum_window NA (i * 128) (fun a => wgt D X b (i * 128 + r.val) ρ h a) hN (fun a ha => wgt_out D X b i ρ h r a ha)]
  simp only [wgt_prev D X b i ρ h hρ hi, wgt_cur, Finset.sum_add_distrib]

theorem num_eq (hρ : ρ < D) (hi : i < 2 ^ 31) (hN : i * 128 + 256 ≤ NA) (r : Fin 128) (d : Fin 64) :
    (∑ c, ew (seesP (BitVec.ofNat 32 i) r c) (dotR (qB D X b i ρ h) (prevB D X b i ρ h 1024) r c) * prevB D X b i ρ h 2048 c d)
      + (∑ c, ew (seesC r c) (dotR (qB D X b i ρ h) (curB D X b i ρ h 1024) r c) * curB D X b i ρ h 2048 c d)
      = num D NA X b (i * 128 + r.val) ρ h d.val := by
  unfold num
  rw [sum_window NA (i * 128) (fun a => wgt D X b (i * 128 + r.val) ρ h a * X b (a * D + ρ - 128 * D) (2048 + (h * 64 + d.val))) hN
    (fun a ha => by rw [wgt_out D X b i ρ h r a ha, zero_mul])]
  simp only [wgt_prev D X b i ρ h hρ hi, wgt_cur, tok_cur]
  refine congrArg (· + _) (Finset.sum_congr rfl fun c _ => ?_)
  rcases Nat.eq_zero_or_pos i with h5 | h5
  · have : ¬ seesP (BitVec.ofNat 32 i) r c := fun h6 => by
      have := (toInt_pos i hi).mp h6.1
      omega
    unfold ew
    rw [if_neg this, zero_mul, zero_mul]
  · rw [tok_prev D i ρ h5]
    rfl

end Cert.Spec

end
-- ==== Proof.Array.lean ====
/- The two result arrays of the kernel, entry by entry, when the argument's entries are real. -/
module

public import proofs.«01_k».proof.Proof.Block
public import proofs.«01_k».proof.Proof.Spec

@[expose] public section

set_option maxRecDepth 16384

noncomputable section

namespace Cert.KernelIdeal.Array

open Idealize.ShloMosaic Idealize.ShloMosaic.TcCoe Idealize.ShloMosaic.Tactic Idealize.SL.Sem
open Cert.KernelIdeal Cert.KernelIdeal.Gen Cert.KernelIdeal.Head Cert.KernelIdeal.Block Cert.Spec

/-- The real entries of an array of extended reals, at natural coordinates. -/
def entries (x : (⟨3, ![4, 4096, 3072]⟩ : Shape).Idx → EReal) (b t l : ℕ) : ℝ :=
  if h : b < 4 ∧ t < 4096 ∧ l < 3072 then (x (ix3 ⟨b, h.1⟩ ⟨t, h.2.1⟩ ⟨l, h.2.2⟩)).toReal else 0

theorem entries_eq (x : (⟨3, ![4, 4096, 3072]⟩ : Shape).Idx → EReal) (hx : ∀ i, x i ≠ ⊥ ∧ x i ≠ ⊤) (b : Fin 4) (t : Fin 4096) (l : Fin 3072) :
    x (ix3 b t l) = (entries x b.val t.val l.val : EReal) := by
  unfold entries
  rw [dif_pos ⟨b.isLt, t.isLt, l.isLt⟩]
  exact (EReal.coe_toReal (hx _).2 (hx _).1).symm

theorem index_eq : ∀ t : Fin cfg0.N,
    win0_0.index t = ![(grid0.coords t 0).val, (grid0.coords t 2).val, 3 * (grid0.coords t 1).val]
    ∧ win0_1.index t = ![(grid0.coords t 0).val, (grid0.coords t 2).val - 1, 3 * (grid0.coords t 1).val + 1]
    ∧ win0_2.index t = ![(grid0.coords t 0).val, (grid0.coords t 2).val, 3 * (grid0.coords t 1).val + 1]
    ∧ win0_3.index t = ![(grid0.coords t 0).val, (grid0.coords t 2).val - 1, 3 * (grid0.coords t 1).val + 2]
    ∧ win0_4.index t = ![(grid0.coords t 0).val, (grid0.coords t 2).val, 3 * (grid0.coords t 1).val + 2]
    ∧ win0_5.index t = ![(grid0.coords t 0).val, (grid0.coords t 2).val, (grid0.coords t 1).val]
    ∧ win0_6.index t = ![(grid0.coords t 0).val, (grid0.coords t 2).val, (grid0.coords t 1).val] :=
  (by decide +kernel : ∀ t : Fin grid0.N, _)

variable (m : (ℓ : Loc nD τ sig) → Buf (Elt Ideal) ℓ) (c : Dev nD) (t : Fin cfg0.N)

/-- The argument. -/
abbrev arg : (⟨3, ![4, 4096, 3072]⟩ : Shape).Idx → EReal := m ((c : Thread nD τ).loc main_arg0)

/-- The point's batch, residue and block of queries. -/
abbrev bt : ℕ := (grid0.coords t 0).val
abbrev rt : ℕ := (grid0.coords t 1).val
abbrev qt : ℕ := (grid0.coords t 2).val

theorem bt_lt : bt t < 4 := (grid0.coords t 0).isLt
theorem rt_lt : rt t < 4 := (grid0.coords t 1).isLt
theorem qt_lt : qt t < 8 := (grid0.coords t 2).isLt

theorem iblk0 (r : Fin 128) (l : Fin 1024) :
    (iblk m c 0 t (ix3 0 r l) : EReal)
      = arg m c (ix3 ⟨bt t, bt_lt t⟩ ⟨(qt t * 128 + r.val) * 4 + rt t, by
          have := rt_lt t; have := qt_lt t; have := r.isLt; omega⟩ ⟨0 + l.val, by have := l.isLt; omega⟩) := by
  blk_ext! [iblk, V, index_eq t]
  all_goals (simp only [bt, rt, qt]; omega)

theorem iblk1 (r : Fin 128) (l : Fin 1024) :
    (iblk m c 1 t (ix3 0 r l) : EReal)
      = arg m c (ix3 ⟨bt t, bt_lt t⟩ ⟨((qt t - 1) * 128 + r.val) * 4 + rt t, by
          have := rt_lt t; have := qt_lt t; have := r.isLt; omega⟩ ⟨1024 + l.val, by have := l.isLt; omega⟩) := by
  blk_ext! [iblk, V, index_eq t]
  all_goals (simp only [bt, rt, qt]; omega)

theorem iblk2 (r : Fin 128) (l : Fin 1024) :
    (iblk m c 2 t (ix3 0 r l) : EReal)
      = arg m c (ix3 ⟨bt t, bt_lt t⟩ ⟨(qt t * 128 + r.val) * 4 + rt t, by
          have := rt_lt t; have := qt_lt t; have := r.isLt; omega⟩ ⟨1024 + l.val, by have := l.isLt; omega⟩) := by
  blk_ext! [iblk, V, index_eq t]
  all_goals (simp only [bt, rt, qt]; omega)

theorem iblk3 (r : Fin 128) (l : Fin 1024) :
    (iblk m c 3 t (ix3 0 r l) : EReal)
      = arg m c (ix3 ⟨bt t, bt_lt t⟩ ⟨((qt t - 1) * 128 + r.val) * 4 + rt t, by
          have := rt_lt t; have := qt_lt t; have := r.isLt; omega⟩ ⟨2048 + l.val, by have := l.isLt; omega⟩) := by
  blk_ext! [iblk, V, index_eq t]
  all_goals (simp only [bt, rt, qt]; omega)

theorem iblk4 (r : Fin 128) (l : Fin 1024) :
    (iblk m c 4 t (ix3 0 r l) : EReal)
      = arg m c (ix3 ⟨bt t, bt_lt t⟩ ⟨(qt t * 128 + r.val) * 4 + rt t, by
          have := rt_lt t; have := qt_lt t; have := r.isLt; omega⟩ ⟨2048 + l.val, by have := l.isLt; omega⟩) := by
  blk_ext! [iblk, V, index_eq t]
  all_goals (simp only [bt, rt, qt]; omega)

variable (hx : ∀ i, arg m c i ≠ ⊥ ∧ arg m c i ≠ ⊤)

/-- The argument's real entries. -/
abbrev X : ℕ → ℕ → ℕ → ℝ := entries (arg m c)

include hx in
theorem sl0 (k : Fin 16) (r : Fin 128) (d : Fin 64) :
    sl (iblk m c 0 t) k (ix3 0 r d) = ((qB 4 (X m c) (bt t) (qt t) (rt t) k.val r d : ℝ) : EReal) := by
  rw [sl_apply]
  refine (iblk0 m c t r _).trans ((entries_eq _ hx _ _ _).trans ?_)
  simp only [qB, X, Nat.zero_add]
  congr 2
  omega

include hx in
theorem sl1 (k : Fin 16) (r : Fin 128) (d : Fin 64) :
    sl (iblk m c 1 t) k (ix3 0 r d) = ((prevB 4 (X m c) (bt t) (qt t) (rt t) k.val 1024 r d : ℝ) : EReal) := by
  rw [sl_apply]
  refine (iblk1 m c t r _).trans ((entries_eq _ hx _ _ _).trans ?_)
  simp only [prevB, X]
  congr 2
  omega

include hx in
theorem sl2 (k : Fin 16) (r : Fin 128) (d : Fin 64) :
    sl (iblk m c 2 t) k (ix3 0 r d) = ((curB 4 (X m c) (bt t) (qt t) (rt t) k.val 1024 r d : ℝ) : EReal) := by
  rw [sl_apply]
  refine (iblk2 m c t r _).trans ((entries_eq _ hx _ _ _).trans ?_)
  simp only [curB, X]
  congr 2
  omega

include hx in
theorem sl3 (k : Fin 16) (r : Fin 128) (d : Fin 64) :
    sl (iblk m c 3 t) k (ix3 0 r d) = ((prevB 4 (X m c) (bt t) (qt t) (rt t) k.val 2048 r d : ℝ) : EReal) := by
  rw [sl_apply]
  refine (iblk3 m c t r _).trans ((entries_eq _ hx _ _ _).trans ?_)
  simp only [prevB, X]
  congr 2
  omega

include hx in
theorem sl4 (k : Fin 16) (r : Fin 128) (d : Fin 64) :
    sl (iblk m c 4 t) k (ix3 0 r d) = ((curB 4 (X m c) (bt t) (qt t) (rt t) k.val 2048 r d : ℝ) : EReal) := by
  rw [sl_apply]
  refine (iblk4 m c t r _).trans ((entries_eq _ hx _ _ _).trans ?_)
  simp only [curB, X]
  congr 2
  omega

/-- What the two result arrays hold. -/
def G5 (y : S4x1024x4096.Idx) : EReal :=
  ((num 4 1152 (X m c) (y 0).val (y 1).val ((y 2).val / 1024) ((y 2).val % 1024 / 64) ((y 2).val % 64)
    / den 4 1152 (X m c) (y 0).val (y 1).val ((y 2).val / 1024) ((y 2).val % 1024 / 64) : ℝ) : EReal)
def G6 (y : S4x1024x4096.Idx) : EReal :=
  ((Real.log (den 4 1152 (X m c) (y 0).val (y 1).val ((y 2).val / 1024) ((y 2).val % 1024 / 64)) : ℝ) : EReal)

include hx in
theorem outO_apply (k : Fin 16) (r : Fin 128) (d : Fin 64) :
    outO m c t k (ix3 0 r d) = ((num 4 1152 (X m c) (bt t) (qt t * 128 + r.val) (rt t) k.val d.val
      / den 4 1152 (X m c) (bt t) (qt t * 128 + r.val) (rt t) k.val : ℝ) : EReal) := by
  have hq := qt_lt t
  unfold outO
  rw [headO_apply _ _ _ _ _ _ _ _ _ _ _ (sl0 m c t hx k) (sl1 m c t hx k) (sl2 m c t hx k) (sl3 m c t hx k) (sl4 m c t hx k),
    den_eq 4 1152 (X m c) (bt t) (qt t) (rt t) k.val (rt_lt t) (by omega) (by omega),
    num_eq 4 1152 (X m c) (bt t) (qt t) (rt t) k.val (rt_lt t) (by omega) (by omega)]

include hx in
theorem outL_apply (k : Fin 16) (r : Fin 128) (d : Fin 64) :
    outL m c t k (ix3 0 r d) = ((Real.log (den 4 1152 (X m c) (bt t) (qt t * 128 + r.val) (rt t) k.val) : ℝ) : EReal) := by
  have hq := qt_lt t
  unfold outL
  rw [headL_apply _ _ _ _ _ _ _ (sl0 m c t hx k) (sl1 m c t hx k) (sl2 m c t hx k),
    den_eq 4 1152 (X m c) (bt t) (qt t) (rt t) k.val (rt_lt t) (by omega) (by omega)]

include hx in
theorem arr5 : (dats m 0 c).arrAt 5 cfg0.N = G5 m c := by
  refine (dats m 0 c).arrAt_eq_of_covers 5 _ (by decide +kernel) fun t hf y => ?_
  blk_simp
  rw [after0_5, out5]
  have h0 : (y 0).val < 1 := (y 0).isLt
  have h1 : (y 1).val < 128 := (y 1).isLt
  have h2 : (y 2).val < 1024 := (y 2).isLt
  have e0 : ((win0_5.blk t).view.emb y 0).val = bt t := by blk_simp [index_eq t]
  have e1 : ((win0_5.blk t).view.emb y 1).val = qt t * 128 + (y 1).val := by blk_simp [index_eq t]
  have e2 : ((win0_5.blk t).view.emb y 2).val = rt t * 1024 + (y 2).val := by blk_simp [index_eq t]
  unfold G5
  rw [e0, e1, e2, show (rt t * 1024 + (y 2).val) / 1024 = rt t by omega,
    show (rt t * 1024 + (y 2).val) % 1024 = (y 2).val by omega,
    show (rt t * 1024 + (y 2).val) % 64 = (y 2).val % 64 by omega]
  exact outO_apply m c t hx _ _ _

include hx in
theorem arr6 : (dats m 0 c).arrAt 6 cfg0.N = G6 m c := by
  refine (dats m 0 c).arrAt_eq_of_covers 6 _ (by decide +kernel) fun t hf y => ?_
  blk_simp
  rw [after0_6, out6]
  have h0 : (y 0).val < 1 := (y 0).isLt
  have h1 : (y 1).val < 128 := (y 1).isLt
  have h2 : (y 2).val < 1024 := (y 2).isLt
  have e0 : ((win0_6.blk t).view.emb y 0).val = bt t := by blk_simp [index_eq t]
  have e1 : ((win0_6.blk t).view.emb y 1).val = qt t * 128 + (y 1).val := by blk_simp [index_eq t]
  have e2 : ((win0_6.blk t).view.emb y 2).val = rt t * 1024 + (y 2).val := by blk_simp [index_eq t]
  unfold G6
  rw [e0, e1, e2, show (rt t * 1024 + (y 2).val) / 1024 = rt t by omega,
    show (rt t * 1024 + (y 2).val) % 1024 = (y 2).val by omega]
  exact outL_apply m c t hx _ _ _

end Cert.KernelIdeal.Array

end
-- ==== Proof.RefValue.lean ====
/- The reference's two results, entry by entry, when the argument's entries are real. -/
module

public import proofs.«01_k».proof.Proof.Gen.ReferenceIdeal.Read
public import proofs.«01_k».proof.Proof.Array

@[expose] public section

set_option maxRecDepth 16384

noncomputable section

namespace Cert.ReferenceIdeal.RefValue

open Idealize.ShloMosaic Idealize.ShloMosaic.TcCoe Idealize.ShloMosaic.Tactic Idealize.SL.Sem
open Cert.ReferenceIdeal Cert.ReferenceIdeal.Gen Cert.ReferenceIdeal.Read Cert.Spec Cert.SoftMath
open Cert.KernelIdeal.Array (entries entries_eq)

variable (x : Vec Ideal S4x4096x3072 .f32)

theorem q_apply (b : Fin 4) (u : Fin 1024) (ρ : Fin 4) (h : Fin 16) (d : Fin 64) :
    val_main_v11 (F := Ideal) x (ix5 b u ρ h d) = x (ix3 b ⟨u.val * 4 + ρ.val, by omega⟩ ⟨h.val * 64 + d.val, by omega⟩) := by
  pointwise [val_main_v11, val_main_v6, val_main_v5, val_main_v0]

variable (hx : ∀ i, (x i : EReal) ≠ ⊥ ∧ (x i : EReal) ≠ ⊤)

/-- The argument's real entries. -/
abbrev X : ℕ → ℕ → ℕ → ℝ := entries x

/-- Lanes from `o` of the padded tokens, zero in the padding. -/
def padR (o b a ρ h d : ℕ) : ℝ := if 512 ≤ a * 4 + ρ then X x b (a * 4 + ρ - 512) (o + (h * 64 + d)) else 0

include hx in
theorem k_apply (b : Fin 4) (a : Fin 1152) (ρ : Fin 4) (h : Fin 16) (d : Fin 64) :
    val_main_v12 (F := Ideal) x (ix5 b a ρ h d) = (padR x 1024 b a ρ h d : EReal) := by
  pointwise [val_main_v12, val_main_v8, val_main_v7, val_main_v1, val_main_v0, val_main_call0_v0, val_main_c]
  unfold padR
  by_cases h1 : 512 ≤ a.val * 4 + ρ.val
  · rw [if_pos h1, dif_pos ⟨h1, by omega⟩]
    refine (entries_eq _ hx _ _ _).trans ?_
    simp only [Nat.add_assoc]
  · rw [if_neg h1, dif_neg (fun h2 => h1 h2.1)]
    show (((0#32 : BitVec 32).toInt : ℝ) : EReal) = _
    simp

include hx in
theorem v_apply (b : Fin 4) (a : Fin 1152) (ρ : Fin 4) (h : Fin 16) (d : Fin 64) :
    val_main_v13 (F := Ideal) x (ix5 b a ρ h d) = (padR x 2048 b a ρ h d : EReal) := by
  pointwise [val_main_v13, val_main_v10, val_main_v9, val_main_v1, val_main_v0, val_main_call0_v0, val_main_c]
  unfold padR
  by_cases h1 : 512 ≤ a.val * 4 + ρ.val
  · rw [if_pos h1, dif_pos ⟨h1, by omega⟩]
    refine (entries_eq _ hx _ _ _).trans ?_
    simp only [Nat.add_assoc]
  · rw [if_neg h1, dif_neg (fun h2 => h1 h2.1)]
    show (((0#32 : BitVec 32).toInt : ℝ) : EReal) = _
    simp

/-- The keys a query sees. -/
abbrev sees (u a ρ : ℕ) : Prop := u ≤ a ∧ a ≤ u + 128 ∧ 128 * 4 ≤ a * 4 + ρ

theorem mask_apply (u : Fin 1024) (a : Fin 1152) (ρ : Fin 4) :
    val_main_v37 (F := Ideal) (ix5 0 0 ρ u a) = BitVec.ofBool (decide (sees u a ρ)) := by
  pointwise [val_main_v37, val_main_v36, val_main_v35, val_main_v34, val_main_v33, val_main_v32, val_main_v31, val_main_v30, val_main_v29,
   val_main_v28, val_main_v27, val_main_v26, val_main_v25, val_main_v24, val_main_v23, val_main_v22, val_main_v21, val_main_v20, val_main_v19,
   val_main_v18, val_main_v17, val_main_v4, val_main_v3, val_main_v2, val_main_c_0, val_main_c_1]
  have hu := u.isLt
  have ha := a.isLt
  have hρ := ρ.isLt
  rw [show IntOp.addi (BitVec.ofNat 32 u.val) 128#32 = BitVec.ofNat 32 (u.val + 128) from (BitVec.ofNat_add _ _).symm,
    WordCmp.cmpi_sge_ofNat (w := 32) (by omega) (by omega), WordCmp.cmpi_sle_ofNat (w := 32) (by omega) (by omega),
    WordCmp.cmpi_sge_ofNat (w := 32) (by omega) (by omega), WordCmp.andi_ofBool, WordCmp.andi_ofBool]
  congr 1
  simp only [← Bool.decide_and]
  exact decide_eq_decide.mpr ⟨fun h => ⟨h.1.1, h.1.2, h.2⟩, fun h => ⟨⟨h.1, h.2.1⟩, h.2.2⟩⟩

theorem ofBits_eighth32 : Ideal.ofBits .f32 0x3E000000#32 = ((0.125 : ℝ) : EReal) := by
  simp [Ideal.ofBits, Ideal.ieee]
  rw [← EReal.coe_mul]
  congr 1
  norm_num

/-- The score of key `a` for query `u`. -/
def sR (b u ρ h a : ℕ) : ℝ :=
  ∑ d : Fin 64, X x b (u * 4 + ρ) (h * 64 + d.val) * 0.125 * X x b (a * 4 + ρ - 128 * 4) (1024 + (h * 64 + d.val))

include hx in
theorem s_apply (b : Fin 4) (h : Fin 16) (ρ : Fin 4) (u : Fin 1024) (a : Fin 1152) :
    val_main_v38 (F := Ideal) x (ix5 b h ρ u a) = sc (sees u a ρ) (sR x b u ρ h a) := by
  pointwise [val_main_v38, val_main_call1_v0, val_main_call1_v1, val_main_call1_v2, val_main_cst_2, val_main_v16, val_main_v15, val_main_cst, val_main_v14]
  rw [mask_apply, WordCmp.select_ofBool]
  unfold sc
  by_cases h1 : sees u a ρ
  · rw [if_pos (decide_eq_true h1), if_pos h1]
    simp only [q_apply, k_apply x hx, ofBits_eighth32]
    have hq : ∀ d : Fin 64, (x (ix3 b ⟨u.val * 4 + ρ.val, by omega⟩ ⟨h.val * 64 + d.val, by omega⟩) : EReal)
        = (X x b (u.val * 4 + ρ.val) (h.val * 64 + d.val) : EReal) := fun d => entries_eq _ hx _ _ _
    simp only [hq, ← EReal.coe_mul, coe_sum]
    congr 1
    unfold sR padR
    rw [Finset.sum_mul]
    refine Finset.sum_congr rfl fun d _ => ?_
    rw [if_pos h1.2.2]
    ring
  · rw [if_neg (by simpa using h1), if_neg h1]
    exact Cert.KernelIdeal.Head.ofBits_neg_inf

/-- Every query sees its own key. -/
theorem den_pos (b h ρ : ℕ) (u : Fin 1024) : 0 < den 4 1152 (X x) b u.val ρ h := by
  refine Finset.sum_pos' (fun a _ => ew_nonneg _ _) ⟨⟨u.val + 128, by omega⟩, Finset.mem_univ _, ?_⟩
  unfold wgt ew
  rw [if_pos ⟨by simp, by simp, by simp only; omega⟩]
  exact Real.exp_pos _

include hx in
theorem l_apply (b : Fin 4) (h : Fin 16) (ρ : Fin 4) (u : Fin 1024) :
    val_main_v46 (F := Ideal) x (ix4 b h ρ u) = (Real.log (den 4 1152 (X x) b u ρ h) : EReal) := by
  pointwise [val_main_v46, val_main_v45, val_main_v44, val_main_v43, val_main_v42, val_main_v41, val_main_v40, val_main_v39, val_main_cst_3, val_main_cst_4]
  simp only [s_apply x hx, Cert.KernelIdeal.Head.ofBits_neg_inf]
  obtain ⟨μ, hμ⟩ := fold_max_real (fun a : Fin 1152 => sc (sees u a ρ) (sR x b u ρ h a)) (fun a => sc_ne_top _ _)
    ⟨⟨u.val + 128, by omega⟩, by
      rw [sc_of ⟨by simp, by simp, by simp only; omega⟩]
      exact EReal.coe_ne_bot _⟩
  rw [hμ]
  simp only [exp_sc_sub, coe_sum, ← Finset.sum_mul]
  refine Eq.trans (congrArg (fun z : EReal => z + (μ : EReal)) (log_shift _ _ (den_pos x b h ρ u))) ?_
  rw [← EReal.coe_add]
  congr 1
  exact sub_add_cancel _ _

include hx in
theorem o_apply (b : Fin 4) (h : Fin 16) (ρ : Fin 4) (u : Fin 1024) (d : Fin 64) :
    val_main_v52 (F := Ideal) x (ix5 b u ρ h d)
      = ((num 4 1152 (X x) b u ρ h d / den 4 1152 (X x) b u ρ h : ℝ) : EReal) := by
  pointwise [val_main_v52, val_main_v51, val_main_v50, val_main_v49, val_main_v48, val_main_v47]
  simp only [v_apply x hx, s_apply x hx, l_apply x hx, exp_sc_sub_log _ _ _ (den_pos x b h ρ u), ← EReal.coe_mul, coe_sum]
  congr 1
  unfold num
  rw [Finset.sum_div]
  refine Finset.sum_congr rfl fun a _ => ?_
  unfold padR
  by_cases h1 : 512 ≤ a.val * 4 + ρ.val
  · rw [if_pos h1]
    show _ * (wgt 4 (X x) b u ρ h a / _) = _
    ring
  · have hw : wgt 4 (X x) b u ρ h a = 0 := if_neg (fun h2 => h1 h2.2.2)
    rw [if_neg h1, hw, zero_mul, zero_mul, zero_div]

include hx in
/-- What the two results hold. -/
theorem v58_eq : val_main_v58 (F := Ideal) x = fun y : S4x1024x4096.Idx =>
    ((num 4 1152 (X x) (y 0).val (y 1).val ((y 2).val / 1024) ((y 2).val % 1024 / 64) ((y 2).val % 64)
    / den 4 1152 (X x) (y 0).val (y 1).val ((y 2).val / 1024) ((y 2).val % 1024 / 64) : ℝ) : EReal) := by
  funext y
  obtain ⟨b, u, l, rfl⟩ : ∃ (b : Fin 4) (u : Fin 1024) (l : Fin 4096), y = ix3 b u l := ⟨y 0, y 1, y 2, eq_ix3 y⟩
  pointwise [val_main_v58, val_main_v53]
  rw [o_apply x hx]
  simp only [show (u.val * 4 + l.val / 1024) % 4 = l.val / 1024 by omega, show l.val / 64 % 16 = l.val % 1024 / 64 by omega]

include hx in
theorem v59_eq : val_main_v59 (F := Ideal) x = fun y : S4x1024x4096.Idx =>
    ((Real.log (den 4 1152 (X x) (y 0).val (y 1).val ((y 2).val / 1024) ((y 2).val % 1024 / 64)) : ℝ) : EReal) := by
  funext y
  obtain ⟨b, u, l, rfl⟩ : ∃ (b : Fin 4) (u : Fin 1024) (l : Fin 4096), y = ix3 b u l := ⟨y 0, y 1, y 2, eq_ix3 y⟩
  pointwise [val_main_v59, val_main_v57, val_main_v56, val_main_v55, val_main_v54]
  rw [l_apply x hx]
  simp only [show (u.val * 4 + l.val / 1024) % 4 = l.val / 1024 by omega, show l.val / 64 % 16 = l.val % 1024 / 64 by omega]

end Cert.ReferenceIdeal.RefValue

end
-- ==== Proof.Dilated.lean ====
/- The claims about the dilated window attention of one dilation group: the kernel's arrays (`Array.lean`) and the
   reference's results (`RefValue.lean`) are one function of finite entries. -/
module

public import proofs.«01_k».proof.Defs
public import proofs.«01_k».proof.Proof.RefValue
public import proofs.«01_k».proof.Proof.Gen.Kernel.Frame
public import proofs.«01_k».proof.Proof.Gen.KernelIdeal.Value
public import proofs.«01_k».proof.Proof.Gen.ReferenceIdeal.Run
public import Idealize.ShloMosaic.Adequacy

@[expose] public section

set_option maxRecDepth 16384

noncomputable section

namespace Cert.DilatedClaims

open Idealize.ShloMosaic Idealize.SL.Sem

/-- The side condition the precondition states. -/
theorem facts_finite : Cert.Pre_finite.Facts := ⟨by decide⟩

theorem ofBits_inf : Ideal.ofBits .f32 0x7F800000#32 = ⊤ := by
  simp [Ideal.ofBits, Ideal.ieee]

/-- What the precondition says of an entry. -/
theorem real_of_pre (x : FVec Ideal Cert.Pre_finite.S4x4096x3072 .f32)
    (h : @Cert.Pre_finite.fn facts_finite Ideal _ x = fun _ => 1#1) (i : Cert.Pre_finite.S4x4096x3072.Idx) :
    x i ≠ ⊥ ∧ x i ≠ ⊤ := by
  have h1 := congrFun h i
  pointwise [Cert.Pre_finite.fn] at h1
  rw [ofBits_inf] at h1
  have h2 : max (x i : EReal) (-(x i : EReal)) < ⊤ := by
    by_contra h3
    have h4 : ¬ FloatOps.absf (x i) < (⊤ : EReal) := h3
    rw [decide_eq_false h4] at h1
    exact absurd h1 (by decide)
  refine ⟨fun h3 => ?_, fun h3 => ?_⟩ <;> rw [h3] at h2 <;> simp at h2

theorem frame_p : Cert.quiescent_Kernel (hKernel := Cert.Kernel.Gen.facts) := fun m ρ _ => Cert.Kernel.Gen.frame m ρ
theorem frame_pi : Cert.quiescent_KernelIdeal (hKernelIdeal := Cert.KernelIdeal.Gen.facts) := fun m ρ _ =>
  Cert.KernelIdeal.Gen.frame m ρ
theorem frame_ri : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The fill of masked scores, named minus infinity. -/
theorem preserves : Cert.preserves_Kernel_KernelIdeal :=
  IdealRules.named_const.statement Cert.KernelIdeal.κ "mask" .f32 0xF149F2CA#32 ⊥ rfl

/-- From finite projections both programs end with the same outputs and the same logarithms of the weights' sums. -/
theorem algebraic : Cert.algebraic_KernelIdeal_ReferenceIdeal_pre_finite (hKernelIdeal := Cert.KernelIdeal.Gen.facts)
    (hReferenceIdeal := Cert.ReferenceIdeal.Gen.facts) (hPre_finite := facts_finite) := by
  intro m g m' g' hpre hag
  have hx : ∀ c i, Cert.KernelIdeal.Array.arg m c i ≠ ⊥ ∧ Cert.KernelIdeal.Array.arg m c i ≠ ⊤ :=
    fun c i => real_of_pre _ (hpre c) i
  refine ⟨fun c => Cert.KernelIdeal.Array.G5 m c, fun c => Cert.KernelIdeal.Array.G6 m c, ?_, ?_⟩
  · refine (θ_run Cert.KernelIdeal.defs _ _).mono (fun r h c => ?_) (Cert.KernelIdeal.Value.run_blocks m g)
    exact ⟨(h c).1.trans (Cert.KernelIdeal.Array.arr5 m c (hx c)),
      (h c).2.1.trans (Cert.KernelIdeal.Array.arr6 m c (hx c)), (h c).2.2⟩
  · refine (θ_run Cert.ReferenceIdeal.defs _ _).mono (fun r h c => ?_) (Cert.ReferenceIdeal.Value.run m' g')
    refine ⟨(h c).1.trans ?_, (h c).2.1.trans ?_, (h c).2.2⟩
    · rw [Cert.ReferenceIdeal.Read.val_main_v58_eq, hag c]
      exact Cert.ReferenceIdeal.RefValue.v58_eq _ (hx c)
    · rw [Cert.ReferenceIdeal.Read.val_main_v59_eq, hag c]
      exact Cert.ReferenceIdeal.RefValue.v59_eq _ (hx c)

end Cert.DilatedClaims

end
-- ==== Proof.FfnBlock.lean ====
/- One grid point of the feed-forward kernel: what it leaves in the two carried scratch arrays and in its output block. -/
module

public import proofs.«01_k».proof.Proof.Gen.Kernel2Ideal.Value
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Kernel2Ideal.Block

open Idealize.ShloMosaic Idealize.ShloMosaic.TcCoe Idealize.ShloMosaic.Tactic Idealize.SL.Sem
open Cert.Kernel2Ideal Cert.Kernel2Ideal.Gen

variable (m : (ℓ : Loc nD τ sig) → Buf (Elt Ideal) ℓ) (c : Dev nD) (t : Fin cfg0.N)

/-- The first point of a block of rows leaves the modulated rows. -/
theorem hidden_first (h0 : t.val % 2 = 0) :
    (outsAt0 m c t.val t.isLt).2.1 = k0_pay1 (iblk m c 0 t) (iblk m c 4 t) (iblk m c 1 t) (iblk m c 2 t) := by
  rw [outsAt0_A m c t h0 (by omega)]
  frame_open
  simp (disch := decide) only [↓ View.readCov_skip, ↓ View.readCov_cons_toLoadRect, ↓ View.readCov_fill]
  frame_out

/-- ... and the first half of the second product. -/
theorem acc_first (h0 : t.val % 2 = 0) :
    (outsAt0 m c t.val t.isLt).2.2 = k0_pay3 (k0_pay1 (iblk m c 0 t) (iblk m c 4 t) (iblk m c 1 t) (iblk m c 2 t))
      (iblk m c 5 t) (iblk m c 6 t) (k0_pay2 (F := Ideal)) (iblk m c 7 t) := by
  rw [outsAt0_A m c t h0 (by omega)]
  frame_open
  simp (disch := decide) only [↓ View.readCov_skip, ↓ View.readCov_cons_toLoadRect, ↓ View.readCov_fill]
  frame_out

/-- The second point adds the other half, scales it by the gate and adds the rows. -/
theorem out_second (h1 : t.val % 2 = 1) :
    (outsAt0 m c t.val t.isLt).1 = k0_pay4 (iblk m c 0 t) (iblk m c 3 t)
      (k0_pay3 (outsAt0 m c (t.val - 1) (by omega)).2.1 (iblk m c 5 t) (iblk m c 6 t)
        (outsAt0 m c (t.val - 1) (by omega)).2.2 (iblk m c 7 t)) := by
  rw [outsAt0_B m c t (by omega) h1]
  frame_open
  simp (disch := decide) only [↓ View.readCov_skip, ↓ View.readCov_cons_toLoadRect, ↓ View.readCov_fill]
  frame_out
  simp only [read_unread_whole]

end Cert.Kernel2Ideal.Block

end
-- ==== Proof.FfnSpec.lean ====
/- The feed-forward block entry by entry: rows normalized by their root mean square, scaled and shifted, the gated
   product of two projections, its projection back, a gate and the row itself. -/
module

public import Idealize.ShloMosaic.Lib.Pointwise

@[expose] public section

noncomputable section

namespace Cert.Ffn

open Idealize.ShloMosaic

variable (x : (⟨3, ![4, 4096, 1024]⟩ : Shape).Idx → EReal) (sh sc gt : (⟨3, ![4, 1, 1024]⟩ : Shape).Idx → EReal)
  (g : (⟨1, ![1024]⟩ : Shape).Idx → EReal) (wi : (⟨2, ![1024, 5632]⟩ : Shape).Idx → EReal)
  (wo : (⟨2, ![2816, 1024]⟩ : Shape).Idx → EReal)

/-- A modulated row. -/
def row (b : Fin 4) (t : Fin 4096) (k : Fin 1024) : EReal :=
  x (ix3 b t k) * Ideal.rsqrt (Ideal.div (∑ l : Fin 1024, x (ix3 b t l) * x (ix3 b t l)) (Ideal.ofBits FTy.f32 1149239296#32) +
    Ideal.ofBits FTy.f32 897988541#32) * g (ix1 k) * (1 + sc (ix3 b 0 k)) + sh (ix3 b 0 k)

/-- A column of the first product. -/
def col (b : Fin 4) (t : Fin 4096) (j : Fin 5632) : EReal := ∑ l : Fin 1024, row x sh sc g b t l * wi (ix2 l j)

/-- The gated product. -/
def act (b : Fin 4) (t : Fin 4096) (j : Fin 2816) : EReal :=
  col x sh sc g wi b t ⟨j.val, by have := j.isLt; omega⟩ * Ideal.logistic (col x sh sc g wi b t ⟨j.val, by have := j.isLt; omega⟩)
    * col x sh sc g wi b t ⟨2816 + j.val, by have := j.isLt; omega⟩

/-- The result. -/
def out (b : Fin 4) (t : Fin 4096) (k : Fin 1024) : EReal :=
  x (ix3 b t k) + gt (ix3 b 0 k) * ∑ j : Fin 2816, act x sh sc g wi b t j * wo (ix2 j k)

/-- The result with batches and positions on one axis. -/
def flat (y : (⟨2, ![16384, 1024]⟩ : Shape).Idx) : EReal :=
  out x sh sc gt g wi wo ⟨(y 0).val / 4096, by have : (y 0).val < 16384 := (y 0).isLt; omega⟩
    ⟨(y 0).val % 4096, by omega⟩ (y 1)

/-- A sum over 2816 indices, the first half first. -/
theorem sum_halves (f : Fin 2816 → EReal) :
    ∑ j : Fin 2816, f j = (0 + ∑ j : Fin 1408, f ⟨j.val, by have := j.isLt; omega⟩)
      + ∑ j : Fin 1408, f ⟨1408 + j.val, by have := j.isLt; omega⟩ := by
  rw [zero_add]
  exact Fin.sum_univ_add (M := EReal) (a := 1408) (b := 1408) f

end Cert.Ffn

end
-- ==== Proof.FfnArray.lean ====
/- The result array of the feed-forward kernel, entry by entry. -/
module

public import proofs.«01_k».proof.Proof.FfnBlock
public import proofs.«01_k».proof.Proof.FfnSpec

@[expose] public section

set_option maxRecDepth 16384

noncomputable section

namespace Cert.Kernel2Ideal.Array

open Idealize.ShloMosaic Idealize.ShloMosaic.TcCoe Idealize.ShloMosaic.Tactic Idealize.SL.Sem
open Cert.Kernel2Ideal Cert.Kernel2Ideal.Gen Cert.Kernel2Ideal.Block

theorem index_eq : ∀ t : Fin cfg0.N,
    win0_0.index t = ![t.val / 2, 0]
    ∧ win0_1.index t = ![t.val / 16, 0, 0]
    ∧ win0_2.index t = ![t.val / 16, 0, 0]
    ∧ win0_3.index t = ![t.val / 16, 0, 0]
    ∧ win0_4.index t = ![0, 0]
    ∧ win0_5.index t = ![0, t.val % 2]
    ∧ win0_6.index t = ![0, t.val % 2 + 2]
    ∧ win0_7.index t = ![t.val % 2, 0]
    ∧ win0_8.index t = ![t.val / 2, 0] :=
  (by decide +kernel : ∀ t : Fin grid0.N, _)

variable (m : (ℓ : Loc nD τ sig) → Buf (Elt Ideal) ℓ) (c : Dev nD) (t : Fin cfg0.N)

/-- The arguments. -/
abbrev X0 : (⟨3, ![4, 4096, 1024]⟩ : Shape).Idx → EReal := m ((c : Thread nD τ).loc main_arg0)
abbrev X1 : (⟨3, ![4, 1, 1024]⟩ : Shape).Idx → EReal := m ((c : Thread nD τ).loc main_arg1)
abbrev X2 : (⟨3, ![4, 1, 1024]⟩ : Shape).Idx → EReal := m ((c : Thread nD τ).loc main_arg2)
abbrev X3 : (⟨3, ![4, 1, 1024]⟩ : Shape).Idx → EReal := m ((c : Thread nD τ).loc main_arg3)
abbrev X4 : (⟨1, ![1024]⟩ : Shape).Idx → EReal := m ((c : Thread nD τ).loc main_arg4)
abbrev X5 : (⟨2, ![1024, 5632]⟩ : Shape).Idx → EReal := m ((c : Thread nD τ).loc main_arg5)
abbrev X6 : (⟨2, ![2816, 1024]⟩ : Shape).Idx → EReal := m ((c : Thread nD τ).loc main_arg6)

theorem t_lt : t.val < 64 := lt_of_lt_of_eq t.isLt N_0

/-- The batch and the position of a row of the point's block. -/
abbrev bt : Fin 4 := ⟨t.val / 16, by have := t_lt t; omega⟩
abbrev pos (r : Fin 512) : Fin 4096 := ⟨t.val / 2 % 8 * 512 + r.val, by have := r.isLt; omega⟩

theorem iblk0 (r : Fin 512) (k : Fin 1024) : (iblk m c 0 t (ix2 r k) : EReal) = X0 m c (ix3 (bt t) (pos t r) k) := by
  blk_ext! [iblk, V, index_eq t]
  all_goals (have := r.isLt; omega)

theorem iblk1 (k : Fin 1024) : (iblk m c 1 t (ix3 0 0 k) : EReal) = X1 m c (ix3 (bt t) 0 k) := by
  blk_ext! [iblk, V, index_eq t]

theorem iblk2 (k : Fin 1024) : (iblk m c 2 t (ix3 0 0 k) : EReal) = X2 m c (ix3 (bt t) 0 k) := by
  blk_ext! [iblk, V, index_eq t]

theorem iblk3 (k : Fin 1024) : (iblk m c 3 t (ix3 0 0 k) : EReal) = X3 m c (ix3 (bt t) 0 k) := by
  blk_ext! [iblk, V, index_eq t]

theorem iblk4 (k : Fin 1024) : (iblk m c 4 t (ix2 0 k) : EReal) = X4 m c (ix1 k) := by
  blk_ext! [iblk, V, index_eq t]

theorem iblk5 (l : Fin 1024) (j : Fin 1408) : (iblk m c 5 t (ix2 l j) : EReal)
    = X5 m c (ix2 l ⟨t.val % 2 * 1408 + j.val, by have := j.isLt; omega⟩) := by
  blk_ext! [iblk, V, index_eq t]

theorem iblk6 (l : Fin 1024) (j : Fin 1408) : (iblk m c 6 t (ix2 l j) : EReal)
    = X5 m c (ix2 l ⟨2816 + (t.val % 2 * 1408 + j.val), by have := j.isLt; omega⟩) := by
  blk_ext! [iblk, V, index_eq t]
  all_goals omega

theorem iblk7 (j : Fin 1408) (k : Fin 1024) : (iblk m c 7 t (ix2 j k) : EReal)
    = X6 m c (ix2 ⟨t.val % 2 * 1408 + j.val, by have := j.isLt; omega⟩ k) := by
  blk_ext! [iblk, V, index_eq t]

/-- The modulated rows of the point's block. -/
theorem pay1_apply (r : Fin 512) (k : Fin 1024) :
    k0_pay1 (iblk m c 0 t) (iblk m c 4 t) (iblk m c 1 t) (iblk m c 2 t) (ix2 r k)
      = Ffn.row (X0 m c) (X1 m c) (X2 m c) (X4 m c) (bt t) (pos t r) k := by
  pointwise [k0_pay1]
  simp only [iblk0, iblk1, iblk2, iblk4]
  rfl

/-- What a point adds to the second product. -/
def part (n : ℕ) (b : Fin 4) (p : Fin 4096) (k : Fin 1024) (hn : n < 2) : EReal :=
  ∑ j : Fin 1408, Ffn.act (X0 m c) (X1 m c) (X2 m c) (X4 m c) (X5 m c) b p ⟨n * 1408 + j.val, by have := j.isLt; omega⟩
    * X6 m c (ix2 ⟨n * 1408 + j.val, by have := j.isLt; omega⟩ k)

theorem pay3_apply (h : Vec Ideal S512x1024 .bf16) (a : Vec Ideal S512x1024 .f32) (r : Fin 512) (k : Fin 1024)
    (hh : ∀ l : Fin 1024, (h (ix2 r l) : EReal) = Ffn.row (X0 m c) (X1 m c) (X2 m c) (X4 m c) (bt t) (pos t r) l) :
    k0_pay3 h (iblk m c 5 t) (iblk m c 6 t) a (iblk m c 7 t) (ix2 r k)
      = (a (ix2 r k) : EReal) + part m c (t.val % 2) (bt t) (pos t r) k (by omega) := by
  pointwise [k0_pay3]
  simp only [iblk5, iblk6, iblk7, hh]
  rfl

/-- The point's block of the result. -/
theorem out_apply (h1 : t.val % 2 = 1) (r : Fin 512) (k : Fin 1024) :
    ((outsAt0 m c t.val t.isLt).1 (ix2 r k) : EReal)
      = Ffn.out (X0 m c) (X1 m c) (X2 m c) (X3 m c) (X4 m c) (X5 m c) (X6 m c) (bt t) (pos t r) k := by
  have hlt : t.val - 1 < cfg0.N := by have := t.isLt; omega
  have hp := hidden_first m c ⟨t.val - 1, hlt⟩ (by simp only; omega)
  have hq := acc_first m c ⟨t.val - 1, hlt⟩ (by simp only; omega)
  simp only at hp hq
  have eb : bt ⟨t.val - 1, hlt⟩ = bt t := Fin.ext (by simp only [bt]; omega)
  have ep : pos ⟨t.val - 1, hlt⟩ r = pos t r := Fin.ext (by simp only [pos]; omega)
  have hh : ∀ l : Fin 1024, ((outsAt0 m c (t.val - 1) hlt).2.1 (ix2 r l) : EReal)
      = Ffn.row (X0 m c) (X1 m c) (X2 m c) (X4 m c) (bt t) (pos t r) l := fun l => by
    rw [hp, pay1_apply, eb, ep]
  have ha : ((outsAt0 m c (t.val - 1) hlt).2.2 (ix2 r k) : EReal) = 0 + part m c 0 (bt t) (pos t r) k (by omega) := by
    rw [hq]
    refine (pay3_apply m c ⟨t.val - 1, hlt⟩ _ _ r k fun l => pay1_apply m c ⟨t.val - 1, hlt⟩ r l).trans ?_
    simp only [eb, ep, show (t.val - 1) % 2 = 0 by omega]
    congr 1
    pointwise [k0_pay2]
  rw [out_second m c t h1]
  pointwise [k0_pay4]
  refine Eq.trans (congrArg₂ (fun u v : EReal => u + v) (iblk0 m c t r k) (congrArg₂ (fun u v : EReal => u * v) (iblk3 m c t k)
    (pay3_apply m c t _ _ r k hh))) ?_
  rw [ha]
  unfold Ffn.out
  rw [Ffn.sum_halves]
  simp only [h1]
  unfold part
  simp only [Nat.zero_mul, Nat.one_mul, Nat.zero_add]

theorem arr8 : (dats m 0 c).arrAt 8 cfg0.N
    = Ffn.flat (X0 m c) (X1 m c) (X2 m c) (X3 m c) (X4 m c) (X5 m c) (X6 m c) := by
  refine (dats m 0 c).arrAt_eq_of_covers 8 _ (by decide +kernel) fun t hf y => ?_
  have h1 : t.val % 2 = 1 := (flush0_8 t).mp hf
  have ht := t_lt t
  blk_simp
  rw [after0_8]
  have e0 : ((win0_8.blk t).view.emb y 0).val = t.val / 2 * 512 + (y 0).val := by blk_simp [index_eq t]
  have e1 : ((win0_8.blk t).view.emb y 1).val = (y 1).val := by blk_simp [index_eq t]
  obtain ⟨r, k, rfl⟩ : ∃ (r : Fin 512) (k : Fin 1024), y = ix2 r k := ⟨y 0, y 1, eq_ix2 y⟩
  replace e0 : _ = t.val / 2 * 512 + r.val := e0
  replace e1 : _ = k.val := e1
  refine (out_apply m c t h1 r k).trans ?_
  unfold Ffn.flat
  congr 1
  · exact Fin.ext (by simp only [e0, bt]; omega)
  · exact Fin.ext (by simp only [e0, pos]; omega)
  · exact Fin.ext e1.symm

end Cert.Kernel2Ideal.Array

end
-- ==== Proof.FfnRef.lean ====
/- The feed-forward reference's result, entry by entry. -/
module

public import proofs.«01_k».proof.Proof.FfnSpec
public import proofs.«01_k».proof.Proof.Gen.Reference2Ideal.Read

@[expose] public section

set_option maxRecDepth 16384

noncomputable section

namespace Cert.Reference2Ideal.RefValue

open Idealize.ShloMosaic Idealize.ShloMosaic.TcCoe Idealize.ShloMosaic.Tactic Idealize.SL.Sem
open Cert.Reference2Ideal Cert.Reference2Ideal.Gen Cert.Reference2Ideal.Read

variable (x0 : (⟨S4x4096x1024, .f32⟩ : BufTy).Contents (Elt Ideal)) (x1 x2 x3 : (⟨S4x1x1024, .f32⟩ : BufTy).Contents (Elt Ideal))
  (x4 : (⟨S1024, .f32⟩ : BufTy).Contents (Elt Ideal)) (x5 : (⟨S1024x5632, .f32⟩ : BufTy).Contents (Elt Ideal))
  (x6 : (⟨S2816x1024, .f32⟩ : BufTy).Contents (Elt Ideal))

theorem v18_apply (b : Fin 4) (t : Fin 4096) (k : Fin 1024) :
    val_main_v18 (F := Ideal) x0 x1 x2 x4 (ix3 b t k) = Ffn.row x0 x1 x2 x4 b t k := by
  pointwise [val_main_v18, val_main_v17, val_main_v16, val_main_v15, val_main_v14, val_main_v13, val_main_cst_2, val_main_v12, val_main_v11, val_main_v10, val_main_v9, val_main_v8, val_main_v7, val_main_v6, val_main_v5, val_main_cst_1, val_main_v4, val_main_v3, val_main_cst_0, val_main_v2, val_main_v1, val_main_cst, val_main_v0]
  rfl

theorem v23_apply (b : Fin 4) (t : Fin 4096) (k : Fin 2816) :
    val_main_v23 (F := Ideal) x0 x1 x2 x4 x5 (ix3 b t k) = Ffn.act x0 x1 x2 x4 x5 b t k := by
  pointwise [val_main_v23, val_main_v22, val_main_call0_v5, val_main_call0_v4, val_main_call0_cst_0, val_main_call0_v3, val_main_call0_cst, val_main_call0_v2, val_main_call0_v1, val_main_call0_v0, val_main_v21, val_main_v20, val_main_v19]
  simp only [v18_apply]
  rfl

theorem v28_eq : val_main_v28 (F := Ideal) x0 x1 x2 x3 x4 x5 x6 = Ffn.flat x0 x1 x2 x3 x4 x5 x6 := by
  funext y
  obtain ⟨r, k, rfl⟩ : ∃ (r : Fin 16384) (k : Fin 1024), y = ix2 r k := ⟨y 0, y 1, eq_ix2 y⟩
  pointwise [val_main_v28, val_main_v27, val_main_v26, val_main_v25, val_main_v24]
  simp only [v23_apply]
  rfl

end Cert.Reference2Ideal.RefValue

end
-- ==== Proof.FeedForward.lean ====
/- The claims about the feed-forward block: the kernel's array (`FfnArray.lean`) and the reference's result
   (`FfnRef.lean`) are one function of the arguments. -/
module

public import proofs.«01_k».proof.Defs
public import proofs.«01_k».proof.Proof.FfnArray
public import proofs.«01_k».proof.Proof.FfnRef
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import Idealize.ShloMosaic.Adequacy

@[expose] public section

noncomputable section

namespace Cert.FeedForwardClaims

open Idealize.ShloMosaic Idealize.SL.Sem

theorem frame_p : Cert.quiescent_Kernel2 (hKernel2 := Cert.Kernel2.Gen.facts) := fun m ρ _ => Cert.Kernel2.Gen.frame m ρ
theorem frame_pi : Cert.quiescent_Kernel2Ideal (hKernel2Ideal := Cert.Kernel2Ideal.Gen.facts) := fun m ρ _ =>
  Cert.Kernel2Ideal.Gen.frame m ρ
theorem frame_ri : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves : Cert.preserves_Kernel2_Kernel2Ideal := trivial

/-- Both programs end with the rows plus the gated feed-forward product. -/
theorem algebraic : Cert.algebraic_Kernel2Ideal_Reference2Ideal (hKernel2Ideal := Cert.Kernel2Ideal.Gen.facts)
    (hReference2Ideal := Cert.Reference2Ideal.Gen.facts) := by
  intro m g m' g' _ hag
  refine ⟨fun c => Cert.Ffn.flat (Cert.Kernel2Ideal.Array.X0 m c) (Cert.Kernel2Ideal.Array.X1 m c)
    (Cert.Kernel2Ideal.Array.X2 m c) (Cert.Kernel2Ideal.Array.X3 m c) (Cert.Kernel2Ideal.Array.X4 m c)
    (Cert.Kernel2Ideal.Array.X5 m c) (Cert.Kernel2Ideal.Array.X6 m c), ?_, ?_⟩
  · refine (θ_run Cert.Kernel2Ideal.defs _ _).mono (fun r h c => ?_) (Cert.Kernel2Ideal.Value.run_blocks m g)
    exact ⟨(h c).1.trans (Cert.Kernel2Ideal.Array.arr8 m c), (h c).2⟩
  · refine (θ_run Cert.Reference2Ideal.defs _ _).mono (fun r h c => ?_) (Cert.Reference2Ideal.Value.run m' g')
    refine ⟨(h c).1.trans ?_, (h c).2⟩
    obtain ⟨a0, a1, a2, a3, a4, a5, a6⟩ := hag c
    rw [Cert.Reference2Ideal.Read.val_main_v28_eq, a0, a1, a2, a3, a4, a5, a6]
    exact Cert.Reference2Ideal.RefValue.v28_eq _ _ _ _ _ _ _

end Cert.FeedForwardClaims

end
-- ==== Proof.ProjSpec.lean ====
/- The projection of modulated rows, entry by entry: a product with columns of the weights, some of them rotated by angles
   of their positions. -/
module

public import proofs.«01_k».proof.Proof.FfnSpec

@[expose] public section

noncomputable section

namespace Cert.Proj

open Idealize.ShloMosaic

/-- The angle of a position and a frequency. -/
def ang (p n : ℕ) : EReal :=
  FloatOps.sitofp (F := Ideal) FTy.f32 (BitVec.ofNat 32 p) * Ideal.pow (Ideal.ofBits FTy.f32 1176256512#32)
    (Ideal.div (-FloatOps.sitofp (F := Ideal) FTy.f32 (BitVec.ofNat 32 n)) (Ideal.ofBits FTy.f32 1107296256#32))

/-- A rotated column: the two halves of a head's 64 entries turn together. -/
def turn (f : ℕ → EReal) (p n : ℕ) : EReal :=
  if n % 64 < 32 then f n * Ideal.cos (ang p (n % 64)) - f (n + 32) * Ideal.sin (ang p (n % 64))
  else f n * Ideal.cos (ang p (n % 64 - 32)) + f (n - 32) * Ideal.sin (ang p (n % 64 - 32))

/-- The tables of cosines and of sines, the latter with the first half of a head negated. -/
def cosAt (p n : ℕ) : EReal := if n % 64 < 32 then Ideal.cos (ang p (n % 64)) else Ideal.cos (ang p (n % 64 - 32))
def sinAt (p n : ℕ) : EReal := if n % 64 < 32 then -Ideal.sin (ang p (n % 64)) else Ideal.sin (ang p (n % 64 - 32))

/-- The rotation as it is done on a tile: the other half of the head at a sine of its sign. -/
theorem turn_eq (f : ℕ → EReal) (p n : ℕ) :
    f n * cosAt p n + (if n % 64 < 32 then f (n + 32) else f (n - 32)) * sinAt p n = turn f p n := by
  unfold turn cosAt sinAt
  by_cases h : n % 64 < 32
  · simp only [if_pos h]
    rw [mul_neg, ← sub_eq_add_neg]
  · simp only [if_neg h]

variable {N : ℕ} [NeZero N] (x : (⟨3, ![4, 4096, 1024]⟩ : Shape).Idx → EReal) (sh sc : (⟨3, ![4, 1, 1024]⟩ : Shape).Idx → EReal)
  (g : (⟨1, ![1024]⟩ : Shape).Idx → EReal) (w : (⟨2, ![1024, N]⟩ : Shape).Idx → EReal)

/-- A column of the product. -/
def acc (b : Fin 4) (p : Fin 4096) (n : ℕ) : EReal :=
  ∑ l : Fin 1024, Ffn.row x sh sc g b p l * w (ix2 l ⟨n % N, Nat.mod_lt _ (NeZero.pos N)⟩)

/-- A rotated column. -/
def rot (b : Fin 4) (p : Fin 4096) (n : ℕ) : EReal := turn (acc x sh sc g w b p) p.val n

/-- The columns of a group, which start at `o`: queries and keys rotated, values not. -/
def out (o : ℕ) (b : Fin 4) (p : Fin 4096) (n : ℕ) : EReal :=
  if n < 2048 then rot x sh sc g w b p (o + n) else acc x sh sc g w b p (o + n)

/-- An array over batches and positions on one axis. -/
def flat {M : ℕ} (f : Fin 4 → Fin 4096 → ℕ → EReal) (y : (⟨2, ![16384, M]⟩ : Shape).Idx) : EReal :=
  f ⟨(y 0).val / 4096, by have : (y 0).val < 16384 := (y 0).isLt; omega⟩ ⟨(y 0).val % 4096, by omega⟩ (y 1).val

theorem flat_of {M : ℕ} (f : Fin 4 → Fin 4096 → ℕ → EReal) (y : (⟨2, ![16384, M]⟩ : Shape).Idx) (b : Fin 4) (p : Fin 4096) (n : ℕ)
    (e0 : (y 0).val = b.val * 4096 + p.val) (e1 : (y 1).val = n) : f b p n = flat f y := by
  have hp := p.isLt
  unfold flat
  congr 1
  · exact Fin.ext (by simp only [e0]; omega)
  · exact Fin.ext (by simp only [e0]; omega)
  · exact e1.symm

end Cert.Proj

end
-- ==== Proof.ProjTile.lean ====
/- One tile of the projection to queries, keys and values: what its operations leave, entry by entry. -/
module

public import proofs.«01_k».proof.Proof.Gen.Kernel3Ideal.Value
public import proofs.«01_k».proof.Proof.ProjSpec
public import Idealize.ShloMosaic.Lib.Pipeline.ValueKit

@[expose] public section

set_option maxRecDepth 16384

noncomputable section

namespace Cert.Kernel3Ideal.Tile

open Idealize.ShloMosaic Idealize.ShloMosaic.TcCoe Idealize.ShloMosaic.Tactic Idealize.SL.Sem
open Cert.Kernel3Ideal Cert.Kernel3Ideal.Gen

/-- A tile of the first result, from the rows, the columns, the tables, and whether it is rotated. -/
def tile (h : Vec Ideal S1024x1024 .bf16) (w : Vec Ideal S1024x512 .bf16) (cs sn : Vec Ideal S1024x128 .f32) (f : BitVec 1) :
    FVec Ideal S1024x512 .f32 :=
  k0_pay1 (k0_pay4 h w) f (k0_pay5 cs) (k0_pay6 sn) k0_pay7 (k0_pay8 (k0_pay4 h w))

theorem pay4_apply (h : Vec Ideal S1024x1024 .bf16) (w : Vec Ideal S1024x512 .bf16) (r : Fin 1024) (k : Fin 512) :
    k0_pay4 h w (ix2 r k) = ∑ l : Fin 1024, (h (ix2 r l) : EReal) * w (ix2 l k) := by
  pointwise [k0_pay4]

theorem pay5_apply (v : Vec Ideal S1024x128 .f32) (r : Fin 1024) (k : Fin 512) :
    k0_pay5 v (ix2 r k) = v (ix2 r ⟨k.val % 128, Nat.mod_lt _ (by decide)⟩) := by
  have hk := k.isLt
  pointwise [k0_pay5]
  split_ifs <;> exact congrArg (fun l => v (ix2 r l)) (Fin.ext (by simp only; omega))

theorem pay6_apply (v : Vec Ideal S1024x128 .f32) (r : Fin 1024) (k : Fin 512) :
    k0_pay6 v (ix2 r k) = v (ix2 r ⟨k.val % 128, Nat.mod_lt _ (by decide)⟩) := by
  have hk := k.isLt
  pointwise [k0_pay6]
  split_ifs <;> exact congrArg (fun l => v (ix2 r l)) (Fin.ext (by simp only; omega))

theorem pay7_apply (r : Fin 1024) (k : Fin 512) : k0_pay7 (ix2 r k) = if k.val % 64 < 32 then 1#1 else 0#1 := by
  pointwise [k0_pay7]
  clear r
  revert k
  decide +kernel

theorem pay1_apply (v6 v54 v55 v75 : FVec Ideal S1024x512 .f32) (f : BitVec 1) (v74 : IVec S1024x512 1) (r : Fin 1024) (k : Fin 512) :
    k0_pay1 v6 f v54 v55 v74 v75 (ix2 r k) = Scalar.select f ((v6 (ix2 r k) : EReal) * v54 (ix2 r k)
      + Scalar.select (v74 (ix2 r k)) (v75 (ix2 r k) : EReal) (v6 (ix2 r ⟨(k.val + 512 - 32) % 512, Nat.mod_lt _ (by decide)⟩))
        * v55 (ix2 r k)) (v6 (ix2 r k)) := by
  pointwise [k0_pay1]

theorem pay8_apply (v6 : FVec Ideal S1024x512 .f32) (r : Fin 1024) (k : Fin 512) :
    k0_pay8 v6 (ix2 r k) = v6 (ix2 r ⟨(k.val + 512 - 480) % 512, Nat.mod_lt _ (by decide)⟩) := by
  pointwise [k0_pay8]

/-- A tile of the columns from `n` on, of the row of position `p`. -/
theorem tile_apply (h : Vec Ideal S1024x1024 .bf16) (w : Vec Ideal S1024x512 .bf16) (cs sn : Vec Ideal S1024x128 .f32) (f : BitVec 1)
    (a : ℕ → EReal) (n p : ℕ) (r : Fin 1024) (k : Fin 512) (hn : n % 128 = 0) (hf : f = 0#1 ∨ f = 1#1)
    (ha : ∀ k : Fin 512, ∑ l : Fin 1024, (h (ix2 r l) : EReal) * w (ix2 l k) = a (n + k.val))
    (hc : ∀ l : Fin 128, (cs (ix2 r l) : EReal) = Proj.cosAt p l.val) (hs : ∀ l : Fin 128, (sn (ix2 r l) : EReal) = Proj.sinAt p l.val) :
    tile h w cs sn f (ix2 r k) = if f = 1#1 then Proj.turn a p (n + k.val) else a (n + k.val) := by
  have hk := k.isLt
  unfold tile
  rw [pay1_apply, pay8_apply, pay5_apply, pay6_apply, pay7_apply, hc, hs, pay4_apply, pay4_apply, pay4_apply, ha, ha, ha]
  rcases hf with rfl | rfl
  · rw [ValueIdx.select_zero, if_neg (by decide)]
  · rw [ValueIdx.select_one, if_pos rfl, ← Proj.turn_eq]
    have em : (n + k.val) % 64 = k.val % 64 := by omega
    have ek : k.val % 128 % 64 = k.val % 64 := by omega
    unfold Proj.cosAt Proj.sinAt
    simp only [em, ek]
    by_cases h2 : k.val % 64 < 32
    · simp only [h2, if_true, ValueIdx.select_one]
      rw [show n + (k.val + 512 - 480) % 512 = n + k.val + 32 by omega]
    · simp only [h2, if_false, ValueIdx.select_zero]
      rw [show n + (k.val + 512 - 32) % 512 = n + k.val - 32 by omega]

end Cert.Kernel3Ideal.Tile

end
-- ==== Proof.ProjBlock.lean ====
/- One grid point of the projection kernel: what it leaves in the carried rows and in its two output blocks. -/
module

public import proofs.«01_k».proof.Proof.ProjTile
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Kernel3Ideal.Block

open Idealize.ShloMosaic Idealize.ShloMosaic.TcCoe Idealize.ShloMosaic.Tactic Idealize.SL.Sem
open Cert.Kernel3Ideal Cert.Kernel3Ideal.Gen

variable (m : (ℓ : Loc nD τ sig) → Buf (Elt Ideal) ℓ) (c : Dev nD) (t : Fin cfg0.N)

/-- The first point of a block of rows leaves the modulated rows. -/
theorem hidden_first (h0 : t.val % 6 = 0) :
    (outsAt0 m c t.val t.isLt).2.2 = k0_pay3 (iblk m c 0 t) (iblk m c 3 t) (iblk m c 1 t) (iblk m c 2 t) := by
  rw [outsAt0_A m c t h0]
  frame_open
  simp (disch := decide) only [↓ View.readCov_skip, ↓ View.readCov_cons_toLoadRect, ↓ View.readCov_fill]
  frame_out

/-- The others keep them. -/
theorem hidden_rest (h0 : ¬ t.val % 6 = 0) :
    (outsAt0 m c t.val t.isLt).2.2 = (outsAt0 m c (t.val - 1) (by omega)).2.2 := by
  rw [outsAt0_B m c t h0]
  rfl

/-- Whether the point's columns are rotated. -/
def flag : BitVec 1 := if t.val % 6 < 4 then 1#1 else 0#1

/-- A point's block of the first result, from the rows it holds. -/
abbrev block (h : Vec Ideal S1024x1024 .bf16) : FVec Ideal S1024x512 .f32 :=
  Cert.Kernel3Ideal.Tile.tile h (iblk m c 4 t) (iblk m c 5 t) (iblk m c 6 t) (flag t)

theorem out_eq : (outsAt0 m c t.val t.isLt).1 = block m c t (outsAt0 m c t.val t.isLt).2.2 := by
  by_cases h0 : t.val % 6 = 0
  · rw [hidden_first m c t h0, outsAt0_A m c t h0]
    frame_open
    simp (disch := decide) only [↓ View.readCov_skip, ↓ View.readCov_cons_toLoadRect, ↓ View.readCov_fill]
    frame_out
    unfold block Cert.Kernel3Ideal.Tile.tile
    congr 1
    clear h0
    revert t
    show ∀ t : Fin grid0.N, _
    decide +kernel
  · rw [hidden_rest m c t h0, outsAt0_B m c t h0]
    frame_open
    simp (disch := decide) only [↓ View.readCov_skip, ↓ View.readCov_cons_toLoadRect, ↓ View.readCov_fill]
    frame_out
    simp only [read_unread_whole]
    unfold block Cert.Kernel3Ideal.Tile.tile
    congr 1
    clear h0
    revert t
    show ∀ t : Fin grid0.N, _
    decide +kernel

theorem out_bf : (outsAt0 m c t.val t.isLt).2.1
    = truncf .bf16 (block m c t (outsAt0 m c t.val t.isLt).2.2) bitsLt_bf16_f32 := by
  by_cases h0 : t.val % 6 = 0
  · rw [hidden_first m c t h0, outsAt0_A m c t h0]
    frame_open
    simp (disch := decide) only [↓ View.readCov_skip, ↓ View.readCov_cons_toLoadRect, ↓ View.readCov_fill]
    frame_out
    dsimp only [k0_pay2, block, Cert.Kernel3Ideal.Tile.tile]
    congr 2
    clear h0
    revert t
    show ∀ t : Fin grid0.N, _
    decide +kernel
  · rw [hidden_rest m c t h0, outsAt0_B m c t h0]
    frame_open
    simp (disch := decide) only [↓ View.readCov_skip, ↓ View.readCov_cons_toLoadRect, ↓ View.readCov_fill]
    frame_out
    simp only [read_unread_whole]
    dsimp only [k0_pay2, block, Cert.Kernel3Ideal.Tile.tile]
    congr 2
    clear h0
    revert t
    show ∀ t : Fin grid0.N, _
    decide +kernel

end Cert.Kernel3Ideal.Block

end
-- ==== Proof.ProjArray.lean ====
/- The two result arrays of the projection kernel, entry by entry. -/
module

public import proofs.«01_k».proof.Proof.ProjBlock
public import proofs.«01_k».proof.Proof.ProjSpec

@[expose] public section

set_option maxRecDepth 16384

noncomputable section

namespace Cert.Kernel3Ideal.Array

open Idealize.ShloMosaic Idealize.ShloMosaic.TcCoe Idealize.ShloMosaic.Tactic Idealize.SL.Sem
open Cert.Kernel3Ideal Cert.Kernel3Ideal.Gen Cert.Kernel3Ideal.Block

theorem index_eq : ∀ t : Fin cfg0.N,
    win0_0.index t = ![t.val / 6, 0]
    ∧ win0_1.index t = ![t.val / 24, 0, 0]
    ∧ win0_2.index t = ![t.val / 24, 0, 0]
    ∧ win0_3.index t = ![0, 0]
    ∧ win0_4.index t = ![0, t.val % 6]
    ∧ win0_5.index t = ![t.val / 6 % 4, 0]
    ∧ win0_6.index t = ![t.val / 6 % 4, 0]
    ∧ win0_7.index t = ![t.val / 6, t.val % 6]
    ∧ win0_8.index t = ![t.val / 6, t.val % 6] :=
  (by decide +kernel : ∀ t : Fin grid0.N, _)

variable (m : (ℓ : Loc nD τ sig) → Buf (Elt Ideal) ℓ) (c : Dev nD) (t : Fin cfg0.N)

/-- The arguments. -/
abbrev X0 : (⟨3, ![4, 4096, 1024]⟩ : Shape).Idx → EReal := m ((c : Thread nD τ).loc main_arg0)
abbrev X1 : (⟨3, ![4, 1, 1024]⟩ : Shape).Idx → EReal := m ((c : Thread nD τ).loc main_arg1)
abbrev X2 : (⟨3, ![4, 1, 1024]⟩ : Shape).Idx → EReal := m ((c : Thread nD τ).loc main_arg2)
abbrev X3 : (⟨1, ![1024]⟩ : Shape).Idx → EReal := m ((c : Thread nD τ).loc main_arg3)
abbrev X4 : (⟨2, ![1024, 9216]⟩ : Shape).Idx → EReal := m ((c : Thread nD τ).loc main_arg4)

theorem t_lt : t.val < 96 := lt_of_lt_of_eq t.isLt N_0

/-- The batch and the position of a row of the point's block. -/
abbrev bt : Fin 4 := ⟨t.val / 24, by have := t_lt t; omega⟩
abbrev pos (r : Fin 1024) : Fin 4096 := ⟨t.val / 6 % 4 * 1024 + r.val, by have := r.isLt; omega⟩

theorem iblk0 (r : Fin 1024) (k : Fin 1024) : (iblk m c 0 t (ix2 r k) : EReal) = X0 m c (ix3 (bt t) (pos t r) k) := by
  blk_ext! [iblk, V, index_eq t]
  all_goals (have := r.isLt; omega)

theorem iblk1 (k : Fin 1024) : (iblk m c 1 t (ix3 0 0 k) : EReal) = X1 m c (ix3 (bt t) 0 k) := by
  blk_ext! [iblk, V, index_eq t]

theorem iblk2 (k : Fin 1024) : (iblk m c 2 t (ix3 0 0 k) : EReal) = X2 m c (ix3 (bt t) 0 k) := by
  blk_ext! [iblk, V, index_eq t]

theorem iblk3 (k : Fin 1024) : (iblk m c 3 t (ix2 0 k) : EReal) = X3 m c (ix1 k) := by
  blk_ext! [iblk, V, index_eq t]

theorem iblk4 (l : Fin 1024) (j : Fin 512) : (iblk m c 4 t (ix2 l j) : EReal)
    = X4 m c (ix2 l ⟨(3072 + t.val % 6 * 512 + j.val) % 9216, Nat.mod_lt _ (by decide)⟩) := by
  have hj := j.isLt
  rw [show (⟨(3072 + t.val % 6 * 512 + j.val) % 9216, Nat.mod_lt _ (by decide)⟩ : Fin 9216)
    = ⟨3072 + t.val % 6 * 512 + j.val, by omega⟩ from Fin.ext (by simp only; omega)]
  blk_ext! [iblk, V, index_eq t]

/-- The tables. -/
theorem iblk5 (r : Fin 1024) (l : Fin 128) : (iblk m c 5 t (ix2 r l) : EReal)
    = Proj.cosAt (pos t r).val l.val := by
  have e0 : ((win0_5.blk t).view.emb (ix2 r l)) = ix2 (pos t r) l := by
    blk_ext! [index_eq t]
  refine Eq.trans (b := (V m c main_v18 (ix2 (pos t r) l) : EReal)) ?_ ?_
  · exact congrArg (V m c main_v18) e0
  · blk_simp [V]
    entry_read
    pointwise
    rfl

theorem iblk6 (r : Fin 1024) (l : Fin 128) : (iblk m c 6 t (ix2 r l) : EReal)
    = Proj.sinAt (pos t r).val l.val := by
  have e0 : ((win0_6.blk t).view.emb (ix2 r l)) = ix2 (pos t r) l := by
    blk_ext! [index_eq t]
  refine Eq.trans (b := (V m c main_v23 (ix2 (pos t r) l) : EReal)) ?_ ?_
  · exact congrArg (V m c main_v23) e0
  · blk_simp [V]
    entry_read
    pointwise
    rfl

/-- The modulated rows of the point's block. -/
theorem pay3_apply (r : Fin 1024) (k : Fin 1024) :
    k0_pay3 (iblk m c 0 t) (iblk m c 3 t) (iblk m c 1 t) (iblk m c 2 t) (ix2 r k)
      = Ffn.row (X0 m c) (X1 m c) (X2 m c) (X3 m c) (bt t) (pos t r) k := by
  pointwise [k0_pay3]
  simp only [iblk0, iblk1, iblk2, iblk3]
  rfl

/-- Every point holds the modulated rows of its block. -/
theorem hidden : ∀ (n : ℕ) (hn : n < cfg0.N) (r k : Fin 1024), ((outsAt0 m c n hn).2.2 (ix2 r k) : EReal)
    = Ffn.row (X0 m c) (X1 m c) (X2 m c) (X3 m c) (bt ⟨n, hn⟩) (pos ⟨n, hn⟩ r) k := by
  intro n
  induction n with
  | zero =>
    intro hn r k
    have h := hidden_first m c ⟨0, hn⟩ rfl
    exact (congrFun h _).trans (pay3_apply m c ⟨0, hn⟩ r k)
  | succ n ih =>
    intro hn r k
    by_cases h0 : (n + 1) % 6 = 0
    · have h := hidden_first m c ⟨n + 1, hn⟩ h0
      exact (congrFun h _).trans (pay3_apply m c ⟨n + 1, hn⟩ r k)
    · have h := hidden_rest m c ⟨n + 1, hn⟩ h0
      refine (congrFun h _).trans ((ih (by omega) r k).trans ?_)
      have eb : bt ⟨n, by omega⟩ = bt ⟨n + 1, hn⟩ := Fin.ext (by simp only [bt]; omega)
      have ep : pos ⟨n, by omega⟩ r = pos ⟨n + 1, hn⟩ r := Fin.ext (by simp only [pos]; omega)
      rw [eb, ep]

theorem acc_apply (h : Vec Ideal S1024x1024 .bf16) (r : Fin 1024) (k : Fin 512)
    (hh : ∀ l : Fin 1024, (h (ix2 r l) : EReal) = Ffn.row (X0 m c) (X1 m c) (X2 m c) (X3 m c) (bt t) (pos t r) l) :
    ∑ l : Fin 1024, (h (ix2 r l) : EReal) * iblk m c 4 t (ix2 l k)
      = Proj.acc (X0 m c) (X1 m c) (X2 m c) (X3 m c) (X4 m c) (bt t) (pos t r) (3072 + t.val % 6 * 512 + k.val) := by
  simp only [iblk4, hh]
  rfl

/-- The point's block of the result. -/
theorem block_apply (h : Vec Ideal S1024x1024 .bf16) (r : Fin 1024) (k : Fin 512)
    (hh : ∀ l : Fin 1024, (h (ix2 r l) : EReal) = Ffn.row (X0 m c) (X1 m c) (X2 m c) (X3 m c) (bt t) (pos t r) l) :
    block m c t h (ix2 r k)
      = Proj.out (X0 m c) (X1 m c) (X2 m c) (X3 m c) (X4 m c) 3072 (bt t) (pos t r) (t.val % 6 * 512 + k.val) := by
  have hk := k.isLt
  refine (Cert.Kernel3Ideal.Tile.tile_apply h _ _ _ _ _ (3072 + t.val % 6 * 512) (pos t r).val r k (by omega)
    (by unfold flag; split_ifs <;> simp) (fun k => acc_apply m c t h r k hh) (iblk5 m c t r) (iblk6 m c t r)).trans ?_
  unfold Proj.out Proj.rot flag
  rw [Nat.add_assoc]
  by_cases h1 : t.val % 6 < 4
  · rw [if_pos h1, if_pos rfl, if_pos (by omega)]
  · rw [if_neg h1, if_neg (by decide), if_neg (by omega)]

theorem arr7 : (dats m 0 c).arrAt 7 cfg0.N = Proj.flat (Proj.out (X0 m c) (X1 m c) (X2 m c) (X3 m c) (X4 m c) 3072) := by
  refine (dats m 0 c).arrAt_eq_of_covers 7 _ (by decide +kernel) fun t hf y => ?_
  blk_simp
  rw [after0_7, out_eq]
  have e0 : ((win0_7.blk t).view.emb y 0).val = t.val / 6 * 1024 + (y 0).val := by blk_simp [index_eq t]
  have e1 : ((win0_7.blk t).view.emb y 1).val = t.val % 6 * 512 + (y 1).val := by blk_simp [index_eq t]
  obtain ⟨r, k, rfl⟩ : ∃ (r : Fin 1024) (k : Fin 512), y = ix2 r k := ⟨y 0, y 1, eq_ix2 y⟩
  refine (block_apply m c t _ r k fun l => hidden m c t.val t.isLt r l).trans ?_
  replace e0 : _ = t.val / 6 * 1024 + r.val := e0
  refine Proj.flat_of _ _ _ _ _ ?_ e1
  simp only [e0, bt, pos]
  have := t_lt t
  omega

theorem arr8 : (dats m 0 c).arrAt 8 cfg0.N = Proj.flat (Proj.out (X0 m c) (X1 m c) (X2 m c) (X3 m c) (X4 m c) 3072) := by
  refine (dats m 0 c).arrAt_eq_of_covers 8 _ (by decide +kernel) fun t hf y => ?_
  blk_simp
  rw [after0_8, out_bf]
  have e0 : ((win0_8.blk t).view.emb y 0).val = t.val / 6 * 1024 + (y 0).val := by blk_simp [index_eq t]
  have e1 : ((win0_8.blk t).view.emb y 1).val = t.val % 6 * 512 + (y 1).val := by blk_simp [index_eq t]
  obtain ⟨r, k, rfl⟩ : ∃ (r : Fin 1024) (k : Fin 512), y = ix2 r k := ⟨y 0, y 1, eq_ix2 y⟩
  refine (block_apply m c t _ r k fun l => hidden m c t.val t.isLt r l).trans ?_
  replace e0 : _ = t.val / 6 * 1024 + r.val := e0
  refine Proj.flat_of _ _ _ _ _ ?_ e1
  simp only [e0, bt, pos]
  have := t_lt t
  omega

end Cert.Kernel3Ideal.Array

end
-- ==== Proof.ProjRef.lean ====
/- The projection reference's results, entry by entry. -/
module

public import proofs.«01_k».proof.Proof.ProjSpec
public import proofs.«01_k».proof.Proof.Gen.Reference3Ideal.Read
public import Idealize.ShloMosaic.Lib.ValueIdxRank6

@[expose] public section

set_option maxRecDepth 16384

noncomputable section

namespace Cert.Reference3Ideal.RefValue

open Idealize.ShloMosaic Idealize.ShloMosaic.TcCoe Idealize.ShloMosaic.Tactic Idealize.SL.Sem
open Cert.Reference3Ideal Cert.Reference3Ideal.Gen Cert.Reference3Ideal.Read

variable (x0 : (⟨S4x4096x1024, .f32⟩ : BufTy).Contents (Elt Ideal)) (x1 x2 : (⟨S4x1x1024, .f32⟩ : BufTy).Contents (Elt Ideal))
  (x3 : (⟨S1024, .f32⟩ : BufTy).Contents (Elt Ideal)) (x4 : (⟨S1024x9216, .f32⟩ : BufTy).Contents (Elt Ideal))

theorem v18_apply (b : Fin 4) (t : Fin 4096) (k : Fin 1024) :
    val_main_v18 (F := Ideal) x0 x1 x2 x3 (ix3 b t k) = Ffn.row x0 x1 x2 x3 b t k := by
  pointwise [val_main_v18, val_main_v17, val_main_v16, val_main_v15, val_main_v14, val_main_v13, val_main_cst_2, val_main_v12, val_main_v11, val_main_v10, val_main_v9, val_main_v8, val_main_v7, val_main_v6, val_main_v5, val_main_cst_1, val_main_v4, val_main_v3, val_main_cst_0, val_main_v2, val_main_v1, val_main_cst, val_main_v0]
  rfl

theorem v20_apply (b : Fin 4) (p : Fin 4096) (n : Fin 9216) (k : ℕ) (hk : k = n.val) :
    val_main_v20 (F := Ideal) x0 x1 x2 x3 x4 (ix3 b p n) = Proj.acc x0 x1 x2 x3 x4 b p k := by
  pointwise [val_main_v20]
  simp only [v18_apply]
  have e : n = ⟨k % 9216, Nat.mod_lt _ (by decide)⟩ := Fin.ext (by have := n.isLt; simp only; omega)
  unfold Proj.acc
  rw [← e]

theorem q_apply (b : Fin 4) (p : Fin 4096) (j : Fin 3) (h : Fin 16) (d : Fin 64) (k : ℕ) (hk : k = j.val * 3072 + h.val * 64 + d.val) :
    val_main_v23 (F := Ideal) x0 x1 x2 x3 x4 (ix5 b p j h d) = Proj.acc x0 x1 x2 x3 x4 b p k := by
  pointwise [val_main_v23, val_main_v22, val_main_v21]
  exact v20_apply x0 x1 x2 x3 x4 b p _ k (by simp only; omega)

theorem k_apply (b : Fin 4) (p : Fin 4096) (j : Fin 3) (h : Fin 16) (d : Fin 64) (k : ℕ) (hk : k = j.val * 3072 + 1024 + h.val * 64 + d.val) :
    val_main_v54 (F := Ideal) x0 x1 x2 x3 x4 (ix5 b p j h d) = Proj.acc x0 x1 x2 x3 x4 b p k := by
  pointwise [val_main_v54, val_main_v53, val_main_v21]
  exact v20_apply x0 x1 x2 x3 x4 b p _ k (by simp only; omega)

theorem v_apply (b : Fin 4) (p : Fin 4096) (j : Fin 3) (h : Fin 16) (d : Fin 64) (k : ℕ) (hk : k = j.val * 3072 + 2048 + h.val * 64 + d.val) :
    val_main_v85 (F := Ideal) x0 x1 x2 x3 x4 (ix5 b p j h d) = Proj.acc x0 x1 x2 x3 x4 b p k := by
  pointwise [val_main_v85, val_main_v84, val_main_v21]
  exact v20_apply x0 x1 x2 x3 x4 b p _ k (by simp only; omega)

theorem v35_apply (p : Fin 4096) (k : Fin 32) : val_main_v35 (F := Ideal) (ix2 p k) = Proj.ang p.val k.val := by
  pointwise [val_main_v35, val_main_v34, val_main_v33, val_main_v32, val_main_v31, val_main_v30, val_main_v29, val_main_v28, val_main_cst_4, val_main_v27, val_main_v26, val_main_cst_3, val_main_v25, val_main_v24, val_main_v19]
  rfl

theorem v66_apply (p : Fin 4096) (k : Fin 32) : val_main_v66 (F := Ideal) (ix2 p k) = Proj.ang p.val k.val := by
  pointwise [val_main_v66, val_main_v65, val_main_v64, val_main_v63, val_main_v62, val_main_v61, val_main_v60, val_main_v59, val_main_cst_6, val_main_v58, val_main_v57, val_main_cst_5, val_main_v56, val_main_v55, val_main_v19]
  rfl

theorem qr_apply (b : Fin 4) (p : Fin 4096) (j : Fin 3) (h : Fin 16) (d : Fin 64) (k : ℕ) (hk : k = j.val * 3072 + h.val * 64 + d.val) :
    val_main_v52 (F := Ideal) x0 x1 x2 x3 x4 (ix5 b p j h d) = Proj.rot x0 x1 x2 x3 x4 b p k := by
  have e : k % 64 = d.val := by omega
  pointwise [val_main_v52, val_main_v51, val_main_v50, val_main_v49, val_main_v48, val_main_v47, val_main_v46, val_main_v45, val_main_v44, val_main_v43, val_main_v42, val_main_v41, val_main_v40, val_main_v39, val_main_v38, val_main_v37, val_main_v36]
  simp only [v35_apply]
  unfold Proj.rot Proj.turn
  rw [e]
  by_cases hd : d.val < 32
  · rw [dif_pos hd, if_pos hd, q_apply x0 x1 x2 x3 x4 b p j h _ k hk, q_apply x0 x1 x2 x3 x4 b p j h _ (k + 32) (by simp only; omega)]
  · rw [dif_neg hd, if_neg hd, q_apply x0 x1 x2 x3 x4 b p j h _ k (by simp only; omega), q_apply x0 x1 x2 x3 x4 b p j h _ (k - 32) (by simp only; omega)]

theorem kr_apply (b : Fin 4) (p : Fin 4096) (j : Fin 3) (h : Fin 16) (d : Fin 64) (k : ℕ) (hk : k = j.val * 3072 + 1024 + h.val * 64 + d.val) :
    val_main_v83 (F := Ideal) x0 x1 x2 x3 x4 (ix5 b p j h d) = Proj.rot x0 x1 x2 x3 x4 b p k := by
  have e : k % 64 = d.val := by omega
  pointwise [val_main_v83, val_main_v82, val_main_v81, val_main_v80, val_main_v79, val_main_v78, val_main_v77, val_main_v76, val_main_v75, val_main_v74, val_main_v73, val_main_v72, val_main_v71, val_main_v70, val_main_v69, val_main_v68, val_main_v67]
  simp only [v66_apply]
  unfold Proj.rot Proj.turn
  rw [e]
  by_cases hd : d.val < 32
  · rw [dif_pos hd, if_pos hd, k_apply x0 x1 x2 x3 x4 b p j h _ k hk, k_apply x0 x1 x2 x3 x4 b p j h _ (k + 32) (by simp only; omega)]
  · rw [dif_neg hd, if_neg hd, k_apply x0 x1 x2 x3 x4 b p j h _ k (by simp only; omega), k_apply x0 x1 x2 x3 x4 b p j h _ (k - 32) (by simp only; omega)]

theorem cast_apply (v : Vec Ideal S4x4096x1x16x64 .f32) (b : Fin 4) (p : Fin 4096) (h : Fin 16) (d : Fin 64) :
    shapeCast S4x4096x16x64 v shapeCasts_S4x4096x1x16x64_S4x4096x16x64 (ix4 b p h d) = v (ix5 b p 0 h d) := by
  pointwise

theorem v90_apply (b : Fin 4) (p : Fin 4096) (h : Fin 16) (d : Fin 64) :
    val_main_v90 (F := Ideal) x0 x1 x2 x3 x4 (ix4 b p h d) = val_main_v89 (F := Ideal) x0 x1 x2 x3 x4 (ix5 b p 0 h d) := by
  unfold val_main_v90
  exact cast_apply _ b p h d

theorem slice_apply (v : Vec Ideal S4x4096x3x16x64 .f32) (b : Fin 4) (p : Fin 4096) (h : Fin 16) (d : Fin 64) :
    extractStridedSlice S4x4096x1x16x64 ![0, 0, 1, 0, 0] v slices_S4x4096x3x16x64_S4x4096x1x16x64_0_0_1_0_0 (ix5 b p 0 h d)
      = v (ix5 b p 1 h d) := by
  pointwise

theorem bcast_apply (v : Vec Ideal S4x4096x16x64 .f32) (b : Fin 4) (p : Fin 4096) (z : Fin 1) (h : Fin 16) (d : Fin 64) :
    broadcastInDim S4x4096x1x16x64 ![0, 1, 3, 4] bcast_S4x4096x16x64_S4x4096x1x16x64_0_1_3_4 v (ix5 b p z h d)
      = v (ix4 b p h d) := by
  pointwise

theorem v91_apply (b : Fin 4) (p : Fin 4096) (z : Fin 1) (h : Fin 16) (d : Fin 64) :
    val_main_v91 (F := Ideal) x0 x1 x2 x3 x4 (ix5 b p z h d) = val_main_v52 (F := Ideal) x0 x1 x2 x3 x4 (ix5 b p 1 h d) := by
  unfold val_main_v91
  refine (bcast_apply _ b p z h d).trans ((v90_apply x0 x1 x2 x3 x4 b p h d).trans ?_)
  unfold val_main_v89
  exact slice_apply _ b p h d

theorem v93_apply (b : Fin 4) (p : Fin 4096) (s : Fin 2) (h : Fin 16) (d : Fin 64) :
    val_main_v93 (F := Ideal) x0 x1 x2 x3 x4 (ix5 b p s h d)
      = if s.val < 1 then val_main_v83 (F := Ideal) x0 x1 x2 x3 x4 (ix5 b p 1 h d)
        else val_main_v85 (F := Ideal) x0 x1 x2 x3 x4 (ix5 b p 1 h d) := by
  pointwise [val_main_v93, val_main_v92, val_main_v88, val_main_v87, val_main_v86]
  simp only [dite_eq_ite]

theorem v94_apply (b : Fin 4) (p : Fin 4096) (s : Fin 3) (h : Fin 16) (d : Fin 64) (k : ℕ)
    (hk : k = s.val * 1024 + h.val * 64 + d.val) :
    val_main_v94 (F := Ideal) x0 x1 x2 x3 x4 (ix5 b p s h d) = Proj.out x0 x1 x2 x3 x4 3072 b p k := by
  have hh := h.isLt
  have hd := d.isLt
  pointwise [val_main_v94]
  unfold Proj.out
  by_cases h1 : s.val < 1
  · rw [dif_pos h1, if_pos (by omega), v91_apply, qr_apply x0 x1 x2 x3 x4 b p 1 h d (3072 + k) (by have : (1 : Fin 3).val = 1 := rfl; omega)]
  · rw [dif_neg h1, v93_apply]
    by_cases h2 : k < 2048
    · rw [if_pos h2, if_pos (by simp only; omega), kr_apply x0 x1 x2 x3 x4 b p 1 h d (3072 + k) (by have : (1 : Fin 3).val = 1 := rfl; omega)]
    · rw [if_neg h2, if_neg (by simp only; omega), v_apply x0 x1 x2 x3 x4 b p 1 h d (3072 + k) (by have : (1 : Fin 3).val = 1 := rfl; omega)]

theorem v95_eq : val_main_v95 (F := Ideal) x0 x1 x2 x3 x4 = Proj.flat (Proj.out x0 x1 x2 x3 x4 3072) := by
  funext y
  obtain ⟨r, k, rfl⟩ : ∃ (r : Fin 16384) (k : Fin 3072), y = ix2 r k := ⟨y 0, y 1, eq_ix2 y⟩
  pointwise [val_main_v95]
  exact v94_apply x0 x1 x2 x3 x4 _ _ _ _ _ k.val (by simp only; omega)

theorem v96_eq : val_main_v96 (F := Ideal) x0 x1 x2 x3 x4 = Proj.flat (Proj.out x0 x1 x2 x3 x4 3072) := by
  rw [← v95_eq]
  funext y
  pointwise [val_main_v96]

end Cert.Reference3Ideal.RefValue

end
-- ==== Proof.Projection.lean ====
/- The claims about the projection to queries, keys and values: the kernel's arrays (`ProjArray.lean`) and the
   reference's results (`ProjRef.lean`) are one function of the arguments. -/
module

public import proofs.«01_k».proof.Defs
public import proofs.«01_k».proof.Proof.ProjArray
public import proofs.«01_k».proof.Proof.ProjRef
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import Idealize.ShloMosaic.Adequacy

@[expose] public section

noncomputable section

namespace Cert.ProjectionClaims

open Idealize.ShloMosaic Idealize.SL.Sem

theorem frame_p : Cert.quiescent_Kernel3 (hKernel3 := Cert.Kernel3.Gen.facts) := fun m ρ _ => Cert.Kernel3.Gen.frame m ρ
theorem frame_pi : Cert.quiescent_Kernel3Ideal (hKernel3Ideal := Cert.Kernel3Ideal.Gen.facts) := fun m ρ _ =>
  Cert.Kernel3Ideal.Gen.frame m ρ
theorem frame_ri : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem preserves : Cert.preserves_Kernel3_Kernel3Ideal := trivial

/-- Both programs end with the group's queries, keys and values, twice. -/
theorem algebraic : Cert.algebraic_Kernel3Ideal_Reference3Ideal (hKernel3Ideal := Cert.Kernel3Ideal.Gen.facts)
    (hReference3Ideal := Cert.Reference3Ideal.Gen.facts) := by
  intro m g m' g' _ hag
  refine ⟨fun c => Cert.Proj.flat (Cert.Proj.out (Cert.Kernel3Ideal.Array.X0 m c) (Cert.Kernel3Ideal.Array.X1 m c) (Cert.Kernel3Ideal.Array.X2 m c) (Cert.Kernel3Ideal.Array.X3 m c) (Cert.Kernel3Ideal.Array.X4 m c) 3072),
    fun c => Cert.Proj.flat (Cert.Proj.out (Cert.Kernel3Ideal.Array.X0 m c) (Cert.Kernel3Ideal.Array.X1 m c) (Cert.Kernel3Ideal.Array.X2 m c) (Cert.Kernel3Ideal.Array.X3 m c) (Cert.Kernel3Ideal.Array.X4 m c) 3072), ?_, ?_⟩
  · refine (θ_run Cert.Kernel3Ideal.defs _ _).mono (fun r h c => ?_) (Cert.Kernel3Ideal.Value.run_blocks m g)
    exact ⟨(h c).1.trans (Cert.Kernel3Ideal.Array.arr7 m c),
      (h c).2.1.trans (Cert.Kernel3Ideal.Array.arr8 m c), (h c).2.2⟩
  · refine (θ_run Cert.Reference3Ideal.defs _ _).mono (fun r h c => ?_) (Cert.Reference3Ideal.Value.run m' g')
    refine ⟨(h c).1.trans ?_, (h c).2.1.trans ?_, (h c).2.2⟩
    all_goals obtain ⟨a0, a1, a2, a3, a4⟩ := hag c
    · rw [Cert.Reference3Ideal.Read.val_main_v95_eq, a0, a1, a2, a3, a4]
      exact Cert.Reference3Ideal.RefValue.v95_eq _ _ _ _ _
    · rw [Cert.Reference3Ideal.Read.val_main_v96_eq, a0, a1, a2, a3, a4]
      exact Cert.Reference3Ideal.RefValue.v96_eq _ _ _ _ _

end Cert.ProjectionClaims

end
-- ==== Proof.KvSpec.lean ====
/- The tables of a rotated tile, and the columns of keys and values, entry by entry. -/
module

public import proofs.«01_k».proof.Proof.ProjSpec
public import Idealize.ShloMosaic.Lib.Pointwise

@[expose] public section

noncomputable section

namespace Cert.Proj

open Idealize.ShloMosaic

/-- A tile whose columns start at a multiple of 128 turns each column with the other half of its head, whichever of the two
    is at hand, at the tables' entry of its lane. -/
theorem turn_tile (a : ℕ → EReal) (p n k i j : ℕ) (hn : n % 128 = 0) (hi : k % 64 < 32 → i = k + 32) (hj : ¬ k % 64 < 32 → j + 32 = k) :
    a (n + k) * cosAt p (k % 128) + Scalar.select (if k % 64 < 32 then 1#1 else 0#1) (a (n + i)) (a (n + j)) * sinAt p (k % 128)
      = turn a p (n + k) := by
  rw [← turn_eq]
  have em : (n + k) % 64 = k % 64 := by omega
  have ek : k % 128 % 64 = k % 64 := by omega
  unfold cosAt sinAt
  simp only [em, ek]
  by_cases h2 : k % 64 < 32
  · simp only [h2, if_true, ValueIdx.select_one]
    rw [hi h2, Nat.add_assoc]
  · simp only [h2, if_false, ValueIdx.select_zero]
    rw [show n + k - 32 = n + j by have := hj h2; omega]

variable {N : ℕ} [NeZero N] (x : (⟨3, ![4, 4096, 1024]⟩ : Shape).Idx → EReal) (sh sc : (⟨3, ![4, 1, 1024]⟩ : Shape).Idx → EReal)
  (g : (⟨1, ![1024]⟩ : Shape).Idx → EReal) (w : (⟨2, ![1024, N]⟩ : Shape).Idx → EReal)

/-- The columns from `o` on, of which those of one tile of 256 are rotated. -/
def part (o j : ℕ) (b : Fin 4) (p : Fin 4096) (n : ℕ) : EReal :=
  if n / 256 = j then rot x sh sc g w b p (o + n) else acc x sh sc g w b p (o + n)

end Cert.Proj

end
-- ==== Proof.KvTile.lean ====
/- One tile of the projection to keys and values: what its operations leave, entry by entry. -/
module

public import proofs.«01_k».proof.Proof.Gen.Kernel4Ideal.Value
public import proofs.«01_k».proof.Proof.KvSpec
public import Idealize.ShloMosaic.Lib.Pipeline.ValueKit

@[expose] public section

set_option maxRecDepth 16384

noncomputable section

namespace Cert.Kernel4Ideal.Tile

open Idealize.ShloMosaic Idealize.ShloMosaic.TcCoe Idealize.ShloMosaic.Tactic Idealize.SL.Sem
open Cert.Kernel4Ideal Cert.Kernel4Ideal.Gen

/-- A tile of the result, from the rows, the columns, the two numbers whose equality says it is rotated, and the tables. -/
def tile (h : Vec Ideal S1024x1024 .bf16) (w : Vec Ideal S1024x256 .bf16) (i j : BitVec 32) (cs sn : Vec Ideal S1024x128 .f32) :
    FVec Ideal S1024x256 .f32 :=
  k0_pay1 (k0_pay3 h w) i j cs sn

theorem pay3_apply (h : Vec Ideal S1024x1024 .bf16) (w : Vec Ideal S1024x256 .bf16) (r : Fin 1024) (k : Fin 256) :
    k0_pay3 h w (ix2 r k) = ∑ l : Fin 1024, (h (ix2 r l) : EReal) * w (ix2 l k) := by
  pointwise [k0_pay3]

/-- Two copies of a table side by side. -/
theorem twice (v : Vec Ideal S1024x128 .f32) (r : Fin 1024) (k : Fin 256) :
    (if h : k.val < 128 then v (ix2 r ⟨k.val, h⟩) else v (ix2 r ⟨k.val - 128, by have := k.isLt; omega⟩))
      = v (ix2 r ⟨k.val % 128, Nat.mod_lt _ (by decide)⟩) := by
  have hk := k.isLt
  split_ifs <;> exact congrArg (fun l => v (ix2 r l)) (Fin.ext (by simp only; omega))

theorem pay1_apply (v6 : FVec Ideal S1024x256 .f32) (i j : BitVec 32) (cs sn : Vec Ideal S1024x128 .f32) (r : Fin 1024) (k : Fin 256) :
    k0_pay1 v6 i j cs sn (ix2 r k) = Scalar.select (Scalar.cmpi .eq i j)
      ((v6 (ix2 r k) : EReal) * cs (ix2 r ⟨k.val % 128, Nat.mod_lt _ (by decide)⟩)
        + Scalar.select (if k.val % 64 < 32 then 1#1 else 0#1) (v6 (ix2 r ⟨(k.val + 256 - 224) % 256, Nat.mod_lt _ (by decide)⟩) : EReal)
          (v6 (ix2 r ⟨(k.val + 256 - 32) % 256, Nat.mod_lt _ (by decide)⟩)) * sn (ix2 r ⟨k.val % 128, Nat.mod_lt _ (by decide)⟩))
      (v6 (ix2 r k)) := by
  pointwise [k0_pay1]
  rw [twice cs r k, twice sn r k]
  congr 4
  clear v6 cs sn i j r
  revert k
  decide +kernel

/-- A tile of the columns from `n` on, of the row of position `p`. -/
theorem tile_apply (h : Vec Ideal S1024x1024 .bf16) (w : Vec Ideal S1024x256 .bf16) (i j : BitVec 32) (cs sn : Vec Ideal S1024x128 .f32)
    (a : ℕ → EReal) (n p : ℕ) (r : Fin 1024) (k : Fin 256) (q : Prop) [Decidable q] (hn : n % 128 = 0)
    (hf : Scalar.cmpi .eq i j = if q then 1#1 else 0#1)
    (ha : ∀ k : Fin 256, ∑ l : Fin 1024, (h (ix2 r l) : EReal) * w (ix2 l k) = a (n + k.val))
    (hc : ∀ l : Fin 128, (cs (ix2 r l) : EReal) = Proj.cosAt p l.val) (hs : ∀ l : Fin 128, (sn (ix2 r l) : EReal) = Proj.sinAt p l.val) :
    tile h w i j cs sn (ix2 r k) = if q then Proj.turn a p (n + k.val) else a (n + k.val) := by
  have hk := k.isLt
  unfold tile
  rw [pay1_apply, hc, hs, pay3_apply, pay3_apply, pay3_apply, ha, ha, ha, hf]
  by_cases hq : q
  · rw [if_pos hq, if_pos hq, ValueIdx.select_one]
    exact Proj.turn_tile a p n k.val _ _ hn (fun _ => by simp only; omega) (fun _ => by simp only; omega)
  · rw [if_neg hq, if_neg hq, ValueIdx.select_zero]

end Cert.Kernel4Ideal.Tile

end
-- ==== Proof.KvRows.lean ====
/- The result array of the projection to the cached keys and values, entry by entry. -/
module

public import proofs.«01_k».proof.Proof.KvTile
public import proofs.«01_k».proof.Proof.Gen.Kernel4Ideal.Value
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Kernel4Ideal.Array

open Idealize.ShloMosaic Idealize.ShloMosaic.TcCoe Idealize.ShloMosaic.Tactic Idealize.SL.Sem
open Cert.Kernel4Ideal Cert.Kernel4Ideal.Gen

variable (m : (ℓ : Loc nD τ sig) → Buf (Elt Ideal) ℓ) (c : Dev nD) (t : Fin cfg0.N)

/-- The first point of a block of rows leaves the modulated rows. -/
theorem hidden_first (h0 : t.val % 4 = 0) :
    (outsAt0 m c t.val t.isLt).2 = k0_pay2 (iblk m c 0 t) (iblk m c 3 t) (iblk m c 1 t) (iblk m c 2 t) := by
  rw [outsAt0_A m c t h0]
  frame_open
  simp (disch := decide) only [↓ View.readCov_skip, ↓ View.readCov_cons_toLoadRect, ↓ View.readCov_fill]
  frame_out

/-- The others keep them. -/
theorem hidden_rest (h0 : ¬ t.val % 4 = 0) :
    (outsAt0 m c t.val t.isLt).2 = (outsAt0 m c (t.val - 1) (by omega)).2 := by
  rw [outsAt0_B m c t h0]
  rfl

/-- A point's block of the result, from the rows it holds. -/
abbrev block (h : Vec Ideal S1024x1024 .bf16) : FVec Ideal S1024x256 .f32 :=
  Cert.Kernel4Ideal.Tile.tile h (iblk m c 4 t) (BitVec.ofNat 32 (t.val % 4)) 2#32 (iblk m c 5 t) (iblk m c 6 t)

theorem out_eq : (outsAt0 m c t.val t.isLt).1 = block m c t (outsAt0 m c t.val t.isLt).2 := by
  by_cases h0 : t.val % 4 = 0
  · rw [hidden_first m c t h0, outsAt0_A m c t h0]
    frame_open
    simp (disch := decide) only [↓ View.readCov_skip, ↓ View.readCov_cons_toLoadRect, ↓ View.readCov_fill]
    frame_out
    unfold block Cert.Kernel4Ideal.Tile.tile
    congr 1
    clear h0
    revert t
    show ∀ t : Fin grid0.N, _
    decide +kernel
  · rw [hidden_rest m c t h0, outsAt0_B m c t h0]
    frame_open
    simp (disch := decide) only [↓ View.readCov_skip, ↓ View.readCov_cons_toLoadRect, ↓ View.readCov_fill]
    frame_out
    simp only [read_unread_whole]
    unfold block Cert.Kernel4Ideal.Tile.tile
    congr 1
    clear h0
    revert t
    show ∀ t : Fin grid0.N, _
    decide +kernel

theorem index_eq : ∀ t : Fin cfg0.N,
    win0_0.index t = ![t.val / 4, 0]
    ∧ win0_1.index t = ![t.val / 16, 0, 0]
    ∧ win0_2.index t = ![t.val / 16, 0, 0]
    ∧ win0_3.index t = ![0, 0]
    ∧ win0_4.index t = ![0, t.val % 4]
    ∧ win0_5.index t = ![t.val / 4 % 4, 0]
    ∧ win0_6.index t = ![t.val / 4 % 4, 0]
    ∧ win0_7.index t = ![t.val / 4, t.val % 4] :=
  (by decide +kernel : ∀ t : Fin grid0.N, _)

/-- The arguments. -/
abbrev X0 : (⟨3, ![4, 4096, 1024]⟩ : Shape).Idx → EReal := m ((c : Thread nD τ).loc main_arg0)
abbrev X1 : (⟨3, ![4, 1, 1024]⟩ : Shape).Idx → EReal := m ((c : Thread nD τ).loc main_arg1)
abbrev X2 : (⟨3, ![4, 1, 1024]⟩ : Shape).Idx → EReal := m ((c : Thread nD τ).loc main_arg2)
abbrev X3 : (⟨1, ![1024]⟩ : Shape).Idx → EReal := m ((c : Thread nD τ).loc main_arg3)
abbrev X4 : (⟨2, ![1024, 1536]⟩ : Shape).Idx → EReal := m ((c : Thread nD τ).loc main_arg4)

theorem t_lt : t.val < 64 := lt_of_lt_of_eq t.isLt N_0

/-- The batch and the position of a row of the point's block. -/
abbrev bt : Fin 4 := ⟨t.val / 16, by have := t_lt t; omega⟩
abbrev pos (r : Fin 1024) : Fin 4096 := ⟨t.val / 4 % 4 * 1024 + r.val, by have := r.isLt; omega⟩

theorem iblk0 (r : Fin 1024) (k : Fin 1024) : (iblk m c 0 t (ix2 r k) : EReal) = X0 m c (ix3 (bt t) (pos t r) k) := by
  blk_ext! [iblk, V, index_eq t]
  all_goals (have := r.isLt; omega)

theorem iblk1 (k : Fin 1024) : (iblk m c 1 t (ix3 0 0 k) : EReal) = X1 m c (ix3 (bt t) 0 k) := by
  blk_ext! [iblk, V, index_eq t]

theorem iblk2 (k : Fin 1024) : (iblk m c 2 t (ix3 0 0 k) : EReal) = X2 m c (ix3 (bt t) 0 k) := by
  blk_ext! [iblk, V, index_eq t]

theorem iblk3 (k : Fin 1024) : (iblk m c 3 t (ix2 0 k) : EReal) = X3 m c (ix1 k) := by
  blk_ext! [iblk, V, index_eq t]

theorem iblk4 (l : Fin 1024) (j : Fin 256) : (iblk m c 4 t (ix2 l j) : EReal)
    = X4 m c (ix2 l ⟨(0 + t.val % 4 * 256 + j.val) % 1536, Nat.mod_lt _ (by decide)⟩) := by
  have hj := j.isLt
  rw [show (⟨(0 + t.val % 4 * 256 + j.val) % 1536, Nat.mod_lt _ (by decide)⟩ : Fin 1536)
    = ⟨0 + t.val % 4 * 256 + j.val, by omega⟩ from Fin.ext (by simp only; omega)]
  blk_ext! [iblk, V, index_eq t]

/-- The tables. -/
theorem iblk5 (r : Fin 1024) (l : Fin 128) : (iblk m c 5 t (ix2 r l) : EReal)
    = Proj.cosAt (pos t r).val l.val := by
  have e0 : ((win0_5.blk t).view.emb (ix2 r l)) = ix2 (pos t r) l := by
    blk_ext! [index_eq t]
  refine Eq.trans (b := (V m c main_v20 (ix2 (pos t r) l) : EReal)) ?_ ?_
  · exact congrArg (V m c main_v20) e0
  · blk_simp [V]
    entry_read
    pointwise
    rfl

theorem iblk6 (r : Fin 1024) (l : Fin 128) : (iblk m c 6 t (ix2 r l) : EReal)
    = Proj.sinAt (pos t r).val l.val := by
  have e0 : ((win0_6.blk t).view.emb (ix2 r l)) = ix2 (pos t r) l := by
    blk_ext! [index_eq t]
  refine Eq.trans (b := (V m c main_v25 (ix2 (pos t r) l) : EReal)) ?_ ?_
  · exact congrArg (V m c main_v25) e0
  · blk_simp [V]
    entry_read
    pointwise
    rfl

/-- The modulated rows of the point's block. -/
theorem pay2_apply (r : Fin 1024) (k : Fin 1024) :
    k0_pay2 (iblk m c 0 t) (iblk m c 3 t) (iblk m c 1 t) (iblk m c 2 t) (ix2 r k)
      = Ffn.row (X0 m c) (X1 m c) (X2 m c) (X3 m c) (bt t) (pos t r) k := by
  pointwise [k0_pay2]
  simp only [iblk0, iblk1, iblk2, iblk3]
  rfl

/-- Every point holds the modulated rows of its block. -/
theorem hidden : ∀ (n : ℕ) (hn : n < cfg0.N) (r k : Fin 1024), ((outsAt0 m c n hn).2 (ix2 r k) : EReal)
    = Ffn.row (X0 m c) (X1 m c) (X2 m c) (X3 m c) (bt ⟨n, hn⟩) (pos ⟨n, hn⟩ r) k := by
  intro n
  induction n with
  | zero =>
    intro hn r k
    have h := hidden_first m c ⟨0, hn⟩ rfl
    exact (congrFun h _).trans (pay2_apply m c ⟨0, hn⟩ r k)
  | succ n ih =>
    intro hn r k
    by_cases h0 : (n + 1) % 4 = 0
    · have h := hidden_first m c ⟨n + 1, hn⟩ h0
      exact (congrFun h _).trans (pay2_apply m c ⟨n + 1, hn⟩ r k)
    · have h := hidden_rest m c ⟨n + 1, hn⟩ h0
      refine (congrFun h _).trans ((ih (by omega) r k).trans ?_)
      have eb : bt ⟨n, by omega⟩ = bt ⟨n + 1, hn⟩ := Fin.ext (by simp only [bt]; omega)
      have ep : pos ⟨n, by omega⟩ r = pos ⟨n + 1, hn⟩ r := Fin.ext (by simp only [pos]; omega)
      rw [eb, ep]

theorem acc_apply (h : Vec Ideal S1024x1024 .bf16) (r : Fin 1024) (k : Fin 256)
    (hh : ∀ l : Fin 1024, (h (ix2 r l) : EReal) = Ffn.row (X0 m c) (X1 m c) (X2 m c) (X3 m c) (bt t) (pos t r) l) :
    ∑ l : Fin 1024, (h (ix2 r l) : EReal) * iblk m c 4 t (ix2 l k)
      = Proj.acc (X0 m c) (X1 m c) (X2 m c) (X3 m c) (X4 m c) (bt t) (pos t r) (0 + t.val % 4 * 256 + k.val) := by
  simp only [iblk4, hh]
  rfl

/-- The point's numbers are equal where its columns are rotated. -/
theorem flag : Scalar.cmpi .eq (BitVec.ofNat 32 (t.val % 4)) 2#32 = if t.val % 4 = 2 then 1#1 else 0#1 := by
  revert t
  show ∀ t : Fin grid0.N, _
  decide +kernel

/-- The point's block of the result. -/
theorem block_apply (h : Vec Ideal S1024x1024 .bf16) (r : Fin 1024) (k : Fin 256)
    (hh : ∀ l : Fin 1024, (h (ix2 r l) : EReal) = Ffn.row (X0 m c) (X1 m c) (X2 m c) (X3 m c) (bt t) (pos t r) l) :
    block m c t h (ix2 r k) = Proj.part (X0 m c) (X1 m c) (X2 m c) (X3 m c) (X4 m c) 0 2 (bt t) (pos t r) (t.val % 4 * 256 + k.val) := by
  have hk := k.isLt
  refine (Cert.Kernel4Ideal.Tile.tile_apply h _ _ _ _ _ _ (0 + t.val % 4 * 256) (pos t r).val r k _ (by omega)
    (flag t) (fun k => acc_apply m c t h r k hh) (iblk5 m c t r) (iblk6 m c t r)).trans ?_
  unfold Proj.part Proj.rot
  rw [Nat.add_assoc]
  by_cases h1 : t.val % 4 = 2
  · rw [if_pos h1, if_pos (by omega)]
  · rw [if_neg h1, if_neg (by omega)]

theorem arr7 : (dats m 0 c).arrAt 7 cfg0.N = Proj.flat (Proj.part (X0 m c) (X1 m c) (X2 m c) (X3 m c) (X4 m c) 0 2) := by
  refine (dats m 0 c).arrAt_eq_of_covers 7 _ (by decide +kernel) fun t hf y => ?_
  blk_simp
  rw [after0_7, out_eq]
  have e0 : ((win0_7.blk t).view.emb y 0).val = t.val / 4 * 1024 + (y 0).val := by blk_simp [index_eq t]
  have e1 : ((win0_7.blk t).view.emb y 1).val = t.val % 4 * 256 + (y 1).val := by blk_simp [index_eq t]
  obtain ⟨r, k, rfl⟩ : ∃ (r : Fin 1024) (k : Fin 256), y = ix2 r k := ⟨y 0, y 1, eq_ix2 y⟩
  refine (block_apply m c t _ r k fun l => hidden m c t.val t.isLt r l).trans ?_
  replace e0 : _ = t.val / 4 * 1024 + r.val := e0
  refine Proj.flat_of _ _ _ _ _ ?_ e1
  simp only [e0, bt, pos]
  have := t_lt t
  omega

end Cert.Kernel4Ideal.Array

end
-- ==== Proof.KvRowsRef.lean ====
/- The reference's result for the cached keys and values, entry by entry. -/
module

public import proofs.«01_k».proof.Proof.KvSpec
public import proofs.«01_k».proof.Proof.Gen.Reference4Ideal.Read
public import Idealize.ShloMosaic.Lib.ValueIdxRank6

@[expose] public section

set_option maxRecDepth 16384

noncomputable section

namespace Cert.Reference4Ideal.RefValue

open Idealize.ShloMosaic Idealize.ShloMosaic.TcCoe Idealize.ShloMosaic.Tactic Idealize.SL.Sem
open Cert.Reference4Ideal Cert.Reference4Ideal.Gen Cert.Reference4Ideal.Read

variable (x0 : (⟨S4x4096x1024, .f32⟩ : BufTy).Contents (Elt Ideal)) (x1 x2 : (⟨S4x1x1024, .f32⟩ : BufTy).Contents (Elt Ideal))
  (x3 : (⟨S1024, .f32⟩ : BufTy).Contents (Elt Ideal)) (x4 : (⟨S1024x1536, .f32⟩ : BufTy).Contents (Elt Ideal))

theorem v18_apply (b : Fin 4) (t : Fin 4096) (k : Fin 1024) :
    val_main_v18 (F := Ideal) x0 x1 x2 x3 (ix3 b t k) = Ffn.row x0 x1 x2 x3 b t k := by
  pointwise [val_main_v18, val_main_v17, val_main_v16, val_main_v15, val_main_v14, val_main_v13, val_main_cst_2, val_main_v12, val_main_v11, val_main_v10, val_main_v9, val_main_v8, val_main_v7, val_main_v6, val_main_v5, val_main_cst_1, val_main_v4, val_main_v3, val_main_cst_0, val_main_v2, val_main_v1, val_main_cst, val_main_v0]
  rfl

theorem v20_apply (b : Fin 4) (p : Fin 4096) (n : Fin 1536) (k : ℕ) (hk : k = n.val) :
    val_main_v20 (F := Ideal) x0 x1 x2 x3 x4 (ix3 b p n) = Proj.acc x0 x1 x2 x3 x4 b p k := by
  pointwise [val_main_v20]
  simp only [v18_apply]
  have e : n = ⟨k % 1536, Nat.mod_lt _ (by decide)⟩ := Fin.ext (by have := n.isLt; simp only; omega)
  unfold Proj.acc
  rw [← e]

theorem v23_apply (b : Fin 4) (p : Fin 4096) (h : Fin 4) (d : Fin 64) (k : ℕ) (hk : k = 0 + h.val * 64 + d.val) :
    val_main_v23 (F := Ideal) x0 x1 x2 x3 x4 (ix4 b p h d) = Proj.acc x0 x1 x2 x3 x4 b p k := by
  have hh := h.isLt
  have hd := d.isLt
  pointwise [val_main_v23, val_main_v22, val_main_v21]
  exact v20_apply x0 x1 x2 x3 x4 b p _ k (by simp only; omega)

theorem v25_apply (b : Fin 4) (p : Fin 4096) (h : Fin 4) (d : Fin 64) (k : ℕ) (hk : k = 256 + h.val * 64 + d.val) :
    val_main_v25 (F := Ideal) x0 x1 x2 x3 x4 (ix4 b p h d) = Proj.acc x0 x1 x2 x3 x4 b p k := by
  have hh := h.isLt
  have hd := d.isLt
  pointwise [val_main_v25, val_main_v24, val_main_v21]
  exact v20_apply x0 x1 x2 x3 x4 b p _ k (by simp only; omega)

theorem v27_apply (b : Fin 4) (p : Fin 4096) (h : Fin 4) (d : Fin 64) (k : ℕ) (hk : k = 512 + h.val * 64 + d.val) :
    val_main_v27 (F := Ideal) x0 x1 x2 x3 x4 (ix4 b p h d) = Proj.acc x0 x1 x2 x3 x4 b p k := by
  have hh := h.isLt
  have hd := d.isLt
  pointwise [val_main_v27, val_main_v26, val_main_v21]
  exact v20_apply x0 x1 x2 x3 x4 b p _ k (by simp only; omega)

theorem v39_apply (p : Fin 4096) (k : Fin 32) : val_main_v39 (F := Ideal) (ix2 p k) = Proj.ang p.val k.val := by
  pointwise [val_main_v39, val_main_v38, val_main_v37, val_main_v36, val_main_v35, val_main_v34, val_main_v33, val_main_v32, val_main_cst_4, val_main_v31, val_main_v30, val_main_cst_3, val_main_v29, val_main_v28, val_main_v19]
  rfl

theorem v56_apply (b : Fin 4) (p : Fin 4096) (h : Fin 4) (d : Fin 64) (k : ℕ) (hk : k = 512 + h.val * 64 + d.val) :
    val_main_v56 (F := Ideal) x0 x1 x2 x3 x4 (ix4 b p h d) = Proj.rot x0 x1 x2 x3 x4 b p k := by
  have e : k % 64 = d.val := by omega
  pointwise [val_main_v56, val_main_v55, val_main_v54, val_main_v53, val_main_v52, val_main_v51, val_main_v50, val_main_v49, val_main_v48, val_main_v47, val_main_v46, val_main_v45, val_main_v44, val_main_v43, val_main_v42, val_main_v41, val_main_v40]
  simp only [v39_apply]
  unfold Proj.rot Proj.turn
  rw [e]
  by_cases hd : d.val < 32
  · rw [dif_pos hd, if_pos hd, v27_apply x0 x1 x2 x3 x4 b p h _ k hk, v27_apply x0 x1 x2 x3 x4 b p h _ (k + 32) (by simp only; omega)]
  · rw [dif_neg hd, if_neg hd, v27_apply x0 x1 x2 x3 x4 b p h _ k (by simp only; omega), v27_apply x0 x1 x2 x3 x4 b p h _ (k - 32) (by simp only; omega)]

theorem v58_apply (b : Fin 4) (p : Fin 4096) (h : Fin 4) (d : Fin 64) (k : ℕ) (hk : k = 768 + h.val * 64 + d.val) :
    val_main_v58 (F := Ideal) x0 x1 x2 x3 x4 (ix4 b p h d) = Proj.acc x0 x1 x2 x3 x4 b p k := by
  have hh := h.isLt
  have hd := d.isLt
  pointwise [val_main_v58, val_main_v57, val_main_v21]
  exact v20_apply x0 x1 x2 x3 x4 b p _ k (by simp only; omega)

theorem v63_apply (b : Fin 4) (p : Fin 4096) (s : Fin 4) (h : Fin 4) (d : Fin 64) (k : ℕ) (hk : k = s.val * 256 + h.val * 64 + d.val) :
    val_main_v63 (F := Ideal) x0 x1 x2 x3 x4 (ix5 b p s h d) = Proj.part x0 x1 x2 x3 x4 0 2 b p k := by
  have hs := s.isLt
  have hh := h.isLt
  have hd := d.isLt
  pointwise [val_main_v63, val_main_v62, val_main_v61, val_main_v60, val_main_v59]
  unfold Proj.part
  rw [Nat.zero_add]
  by_cases h1 : s.val < 1
  · rw [dif_pos h1, if_neg (by omega), v23_apply x0 x1 x2 x3 x4 b p h d k (by omega)]
  · rw [dif_neg h1]
    by_cases h2 : s.val - 1 < 1
    · rw [dif_pos h2, if_neg (by omega), v25_apply x0 x1 x2 x3 x4 b p h d k (by omega)]
    · rw [dif_neg h2]
      by_cases h3 : s.val - 1 - 1 < 1
      · rw [dif_pos h3, if_pos (by omega), v56_apply x0 x1 x2 x3 x4 b p h d k (by omega)]
      · rw [dif_neg h3, if_neg (by omega), v58_apply x0 x1 x2 x3 x4 b p h d k (by omega)]

theorem v100_eq : val_main_v100 (F := Ideal) x0 x1 x2 x3 x4 = Proj.flat (Proj.part x0 x1 x2 x3 x4 0 2) := by
  funext y
  obtain ⟨r, k, rfl⟩ : ∃ (r : Fin 16384) (k : Fin 1024), y = ix2 r k := ⟨y 0, y 1, eq_ix2 y⟩
  pointwise [val_main_v100]
  exact v63_apply x0 x1 x2 x3 x4 _ _ _ _ _ k.val (by simp only; omega)

end Cert.Reference4Ideal.RefValue

end
-- ==== Proof.KvRowsClaims.lean ====
/- The claims about the projection to the cached keys and values: the kernel's array (`KvRows.lean`) and the
   reference's result (`KvRowsRef.lean`) are one function of the arguments. -/
module

public import proofs.«01_k».proof.Defs
public import proofs.«01_k».proof.Proof.KvRows
public import proofs.«01_k».proof.Proof.KvRowsRef
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import Idealize.ShloMosaic.Adequacy

@[expose] public section

noncomputable section

namespace Cert.KvRowsClaims

open Idealize.ShloMosaic Idealize.SL.Sem

theorem frame_p : Cert.quiescent_Kernel4 (hKernel4 := Cert.Kernel4.Gen.facts) := fun m ρ _ => Cert.Kernel4.Gen.frame m ρ
theorem frame_pi : Cert.quiescent_Kernel4Ideal (hKernel4Ideal := Cert.Kernel4Ideal.Gen.facts) := fun m ρ _ =>
  Cert.Kernel4Ideal.Gen.frame m ρ
theorem frame_ri : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

theorem preserves : Cert.preserves_Kernel4_Kernel4Ideal := trivial

/-- Both programs end with the keys and values. -/
theorem algebraic : Cert.algebraic_Kernel4Ideal_Reference4Ideal (hKernel4Ideal := Cert.Kernel4Ideal.Gen.facts)
    (hReference4Ideal := Cert.Reference4Ideal.Gen.facts) := by
  intro m g m' g' _ hag
  refine ⟨fun c => Cert.Proj.flat (Cert.Proj.part (Cert.Kernel4Ideal.Array.X0 m c) (Cert.Kernel4Ideal.Array.X1 m c) (Cert.Kernel4Ideal.Array.X2 m c) (Cert.Kernel4Ideal.Array.X3 m c) (Cert.Kernel4Ideal.Array.X4 m c) 0 2), ?_, ?_⟩
  · refine (θ_run Cert.Kernel4Ideal.defs _ _).mono (fun r h c => ?_) (Cert.Kernel4Ideal.Value.run_blocks m g)
    exact ⟨(h c).1.trans (Cert.Kernel4Ideal.Array.arr7 m c), (h c).2⟩
  · refine (θ_run Cert.Reference4Ideal.defs _ _).mono (fun r h c => ?_) (Cert.Reference4Ideal.Value.run m' g')
    refine ⟨(h c).1.trans ?_, (h c).2⟩
    obtain ⟨a0, a1, a2, a3, a4⟩ := hag c
    rw [Cert.Reference4Ideal.Read.val_main_v100_eq, a0, a1, a2, a3, a4]
    exact Cert.Reference4Ideal.RefValue.v100_eq _ _ _ _ _

end Cert.KvRowsClaims

end
-- ==== Proof.FinalNorm.lean ====
/- The final norm: the kernel's array and the reference's result are one function of the residual stream and the
   norm's weights. -/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ReadBack
public import Idealize.ShloMosaic.Lib.Pipeline.ValueKit
public import Idealize.ShloMosaic.Lib.Pointwise
public import Idealize.ShloMosaic.Adequacy

@[expose] public section

set_option maxRecDepth 16384

noncomputable section

namespace Cert.FinalNorm

open Idealize.ShloMosaic

/-- An entry of the normalized stream, batches and positions on one axis. -/
def flat (x : (⟨3, ![4, 4096, 1024]⟩ : Shape).Idx → EReal) (g : (⟨1, ![1024]⟩ : Shape).Idx → EReal)
    (y : (⟨2, ![16384, 1024]⟩ : Shape).Idx) : EReal :=
  let b : Fin 4 := ⟨(y 0).val / 4096, by have : (y 0).val < 16384 := (y 0).isLt; omega⟩
  let t : Fin 4096 := ⟨(y 0).val % 4096, by omega⟩
  x (ix3 b t (y 1)) * Ideal.rsqrt (Ideal.div (∑ l : Fin 1024, x (ix3 b t l) * x (ix3 b t l))
    (Ideal.ofBits FTy.f32 1149239296#32) + Ideal.ofBits FTy.f32 897988541#32) * g (ix1 (y 1))

end Cert.FinalNorm

namespace Cert.Kernel5Ideal.Array

open Idealize.ShloMosaic Idealize.ShloMosaic.TcCoe Idealize.ShloMosaic.Tactic Idealize.SL.Sem
open Cert.Kernel5Ideal Cert.Kernel5Ideal.Gen

theorem index_eq : ∀ t : Fin cfg0.N,
    win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD) (t : Fin cfg0.N)

abbrev X0 : (⟨3, ![4, 4096, 1024]⟩ : Shape).Idx → EReal := m ((c : Thread nD τ).loc main_arg0)
abbrev X1 : (⟨1, ![1024]⟩ : Shape).Idx → EReal := m ((c : Thread nD τ).loc main_arg1)

theorem t_lt : t.val < 32 := lt_of_lt_of_eq t.isLt N_0

theorem iblk0 (r : Fin 512) (k : Fin 1024) : (iblk m c 0 t (ix2 r k) : EReal)
    = X0 m c (ix3 ⟨t.val / 8, by have := t_lt t; omega⟩ ⟨t.val % 8 * 512 + r.val, by have := r.isLt; omega⟩ k) := by
  blk_ext! [iblk, V, index_eq t]
  all_goals (have := r.isLt; omega)

theorem iblk1 (k : Fin 1024) : (iblk m c 1 t (ix2 0 k) : EReal) = X1 m c (ix1 k) := by
  blk_ext! [iblk, V, index_eq t]

theorem arr2 : (dats m 0 c).arrAt 2 cfg0.N = FinalNorm.flat (X0 m c) (X1 m c) := by
  refine (dats m 0 c).arrAt_eq_of_covers 2 _ (by decide +kernel) fun t hf y => ?_
  blk_simp
  rw [after0_2]
  have e0 : ((win0_2.blk t).view.emb y 0).val = t.val * 512 + (y 0).val := by blk_simp [index_eq t]
  have e1 : ((win0_2.blk t).view.emb y 1).val = (y 1).val := by blk_simp [index_eq t]
  obtain ⟨r, k, rfl⟩ : ∃ (r : Fin 512) (k : Fin 1024), y = ix2 r k := ⟨y 0, y 1, eq_ix2 y⟩
  unfold out0_2
  frame_out
  pointwise [k0_pay1]
  simp only [iblk0, iblk1]
  have hr := r.isLt
  have ht := t_lt t
  unfold FinalNorm.flat
  replace e0 : _ = t.val * 512 + r.val := e0
  replace e1 : _ = k.val := e1
  have ek : ((win0_2.blk t).view.emb (ix2 r k) 1 : Fin 1024) = k := Fin.ext e1
  have eb : (⟨t.val / 8, by omega⟩ : Fin 4) = ⟨((win0_2.blk t).view.emb (ix2 r k) 0).val / 4096, by omega⟩ := Fin.ext (by simp only [e0]; omega)
  have ep : (⟨t.val % 8 * 512 + r.val, by omega⟩ : Fin 4096) = ⟨((win0_2.blk t).view.emb (ix2 r k) 0).val % 4096, by omega⟩ := Fin.ext (by simp only [e0]; omega)
  simp only [ek, ← eb, ← ep]

end Cert.Kernel5Ideal.Array

namespace Cert.FinalNormClaims

open Idealize.ShloMosaic Idealize.ShloMosaic.Tactic Idealize.SL.Sem
open Cert.Reference5Ideal Cert.Reference5Ideal.Read in
theorem v13_eq (x0 : (⟨S4x4096x1024, .f32⟩ : BufTy).Contents (Elt Ideal)) (x1 : (⟨S1024, .f32⟩ : BufTy).Contents (Elt Ideal)) :
    val_main_v13 (F := Ideal) x0 x1 = Cert.FinalNorm.flat x0 x1 := by
  funext y
  obtain ⟨r, k, rfl⟩ : ∃ (r : Fin 16384) (k : Fin 1024), y = ix2 r k := ⟨y 0, y 1, eq_ix2 y⟩
  pointwise [val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  rfl

theorem frame_p : Cert.quiescent_Kernel5 (hKernel5 := Cert.Kernel5.Gen.facts) := fun m ρ _ => Cert.Kernel5.Gen.frame m ρ
theorem frame_pi : Cert.quiescent_Kernel5Ideal (hKernel5Ideal := Cert.Kernel5Ideal.Gen.facts) := fun m ρ _ =>
  Cert.Kernel5Ideal.Gen.frame m ρ
theorem frame_ri : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

theorem preserves : Cert.preserves_Kernel5_Kernel5Ideal := trivial

theorem algebraic : Cert.algebraic_Kernel5Ideal_Reference5Ideal (hKernel5Ideal := Cert.Kernel5Ideal.Gen.facts)
    (hReference5Ideal := Cert.Reference5Ideal.Gen.facts) := by
  intro m g m' g' _ hag
  refine ⟨fun c => Cert.FinalNorm.flat (Cert.Kernel5Ideal.Array.X0 m c) (Cert.Kernel5Ideal.Array.X1 m c), ?_, ?_⟩
  · refine (θ_run Cert.Kernel5Ideal.defs _ _).mono (fun r h c => ?_) (Cert.Kernel5Ideal.Value.run_blocks m g)
    exact ⟨(h c).1.trans (Cert.Kernel5Ideal.Array.arr2 m c), (h c).2⟩
  · refine (θ_run Cert.Reference5Ideal.defs _ _).mono (fun r h c => ?_) (Cert.Reference5Ideal.Value.run m' g')
    refine ⟨(h c).1.trans ?_, (h c).2⟩
    obtain ⟨a0, a1⟩ := hag c
    rw [Cert.Reference5Ideal.Read.val_main_v13_eq, a0, a1]
    exact v13_eq _ _

end Cert.FinalNormClaims

end
-- ==== Proof.OutProj.lean ====
/- The output projection of a layer: the kernel's array and the reference's result are one function of the attention's
   output, the weights, the residual stream and the gate rows. -/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ReadBack
public import Idealize.ShloMosaic.Lib.Pipeline.ValueKit
public import Idealize.ShloMosaic.Lib.Pointwise
public import Idealize.ShloMosaic.Adequacy

@[expose] public section

set_option maxRecDepth 16384

noncomputable section

namespace Cert.OutProj

open Idealize.ShloMosaic

/-- The residual stream and the gated product, batches and positions on one axis. -/
def flat (o : (⟨2, ![16384, 1024]⟩ : Shape).Idx → EReal) (w : (⟨2, ![1024, 1024]⟩ : Shape).Idx → EReal)
    (x : (⟨3, ![4, 4096, 1024]⟩ : Shape).Idx → EReal) (gt : (⟨3, ![4, 1, 1024]⟩ : Shape).Idx → EReal)
    (y : (⟨2, ![16384, 1024]⟩ : Shape).Idx) : EReal :=
  let b : Fin 4 := ⟨(y 0).val / 4096, by have : (y 0).val < 16384 := (y 0).isLt; omega⟩
  let t : Fin 4096 := ⟨(y 0).val % 4096, by omega⟩
  x (ix3 b t (y 1)) + gt (ix3 b 0 (y 1)) * ∑ l : Fin 1024, o (ix2 (y 0) l) * w (ix2 l (y 1))

end Cert.OutProj

namespace Cert.Kernel6Ideal.Array

open Idealize.ShloMosaic Idealize.ShloMosaic.TcCoe Idealize.ShloMosaic.Tactic Idealize.SL.Sem
open Cert.Kernel6Ideal Cert.Kernel6Ideal.Gen

theorem index_eq : ∀ t : Fin cfg0.N,
    win0_0.index t = ![t.val, 0] ∧ win0_1.index t = ![0, 0] ∧ win0_2.index t = ![t.val, 0]
    ∧ win0_3.index t = ![t.val / 8, 0, 0] ∧ win0_4.index t = ![t.val, 0] :=
  (by decide +kernel : ∀ t : Fin grid0.N, _)

variable (m : (ℓ : Loc nD τ sig) → Buf (Elt Ideal) ℓ) (c : Dev nD) (t : Fin cfg0.N)

abbrev X0 : (⟨2, ![16384, 1024]⟩ : Shape).Idx → EReal := m ((c : Thread nD τ).loc main_arg0)
abbrev X1 : (⟨2, ![1024, 1024]⟩ : Shape).Idx → EReal := m ((c : Thread nD τ).loc main_arg1)
abbrev X2 : (⟨3, ![4, 4096, 1024]⟩ : Shape).Idx → EReal := m ((c : Thread nD τ).loc main_arg2)
abbrev X3 : (⟨3, ![4, 1, 1024]⟩ : Shape).Idx → EReal := m ((c : Thread nD τ).loc main_arg3)

theorem t_lt : t.val < 32 := lt_of_lt_of_eq t.isLt N_0

theorem iblk0 (r : Fin 512) (k : Fin 1024) : (iblk m c 0 t (ix2 r k) : EReal)
    = X0 m c (ix2 ⟨t.val * 512 + r.val, by have := r.isLt; have := t_lt t; omega⟩ k) := by
  blk_ext! [iblk, V, index_eq t]

theorem iblk1 (l k : Fin 1024) : (iblk m c 1 t (ix2 l k) : EReal) = X1 m c (ix2 l k) := by
  blk_ext! [iblk, V, index_eq t]

theorem iblk2 (r : Fin 512) (k : Fin 1024) : (iblk m c 2 t (ix2 r k) : EReal)
    = X2 m c (ix3 ⟨t.val / 8, by have := t_lt t; omega⟩ ⟨t.val % 8 * 512 + r.val, by have := r.isLt; omega⟩ k) := by
  blk_ext! [iblk, V, index_eq t]
  all_goals (have := r.isLt; omega)

theorem iblk3 (k : Fin 1024) : (iblk m c 3 t (ix3 0 0 k) : EReal)
    = X3 m c (ix3 ⟨t.val / 8, by have := t_lt t; omega⟩ 0 k) := by
  blk_ext! [iblk, V, index_eq t]

theorem arr4 : (dats m 0 c).arrAt 4 cfg0.N = OutProj.flat (X0 m c) (X1 m c) (X2 m c) (X3 m c) := by
  refine (dats m 0 c).arrAt_eq_of_covers 4 _ (by decide +kernel) fun t hf y => ?_
  blk_simp
  rw [after0_4]
  have e0 : ((win0_4.blk t).view.emb y 0).val = t.val * 512 + (y 0).val := by blk_simp [index_eq t]
  have e1 : ((win0_4.blk t).view.emb y 1).val = (y 1).val := by blk_simp [index_eq t]
  obtain ⟨r, k, rfl⟩ : ∃ (r : Fin 512) (k : Fin 1024), y = ix2 r k := ⟨y 0, y 1, eq_ix2 y⟩
  unfold out0_4
  frame_out
  pointwise [k0_pay1]
  simp only [iblk0, iblk1, iblk2, iblk3]
  have hr := r.isLt
  have ht := t_lt t
  unfold OutProj.flat
  replace e0 : _ = t.val * 512 + r.val := e0
  replace e1 : _ = k.val := e1
  have ek : ((win0_4.blk t).view.emb (ix2 r k) 1 : Fin 1024) = k := Fin.ext e1
  have er : (⟨t.val * 512 + r.val, by omega⟩ : Fin 16384) = (win0_4.blk t).view.emb (ix2 r k) 0 := Fin.ext e0.symm
  have eb : (⟨t.val / 8, by omega⟩ : Fin 4) = ⟨(t.val * 512 + r.val) / 4096, by omega⟩ := Fin.ext (by simp only; omega)
  have ep : (⟨t.val % 8 * 512 + r.val, by omega⟩ : Fin 4096) = ⟨(t.val * 512 + r.val) % 4096, by omega⟩ := Fin.ext (by simp only; omega)
  simp only [ek, ← er, ← eb, ← ep]

end Cert.Kernel6Ideal.Array

namespace Cert.OutProjClaims

open Idealize.ShloMosaic Idealize.ShloMosaic.Tactic Idealize.SL.Sem
open Cert.Reference6Ideal Cert.Reference6Ideal.Read in
theorem v5_eq (x0 : (⟨S16384x1024, .f32⟩ : BufTy).Contents (Elt Ideal)) (x1 : (⟨S1024x1024, .f32⟩ : BufTy).Contents (Elt Ideal))
    (x2 : (⟨S4x4096x1024, .f32⟩ : BufTy).Contents (Elt Ideal)) (x3 : (⟨S4x1x1024, .f32⟩ : BufTy).Contents (Elt Ideal)) :
    val_main_v5 (F := Ideal) x0 x1 x2 x3 = Cert.OutProj.flat x0 x1 x2 x3 := by
  funext y
  obtain ⟨r, k, rfl⟩ : ∃ (r : Fin 16384) (k : Fin 1024), y = ix2 r k := ⟨y 0, y 1, eq_ix2 y⟩
  pointwise [val_main_v5, val_main_v4, val_main_v3, val_main_v2, val_main_v1, val_main_v0]
  rfl

theorem frame_p : Cert.quiescent_Kernel6 (hKernel6 := Cert.Kernel6.Gen.facts) := fun m ρ _ => Cert.Kernel6.Gen.frame m ρ
theorem frame_pi : Cert.quiescent_Kernel6Ideal (hKernel6Ideal := Cert.Kernel6Ideal.Gen.facts) := fun m ρ _ =>
  Cert.Kernel6Ideal.Gen.frame m ρ
theorem frame_ri : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

theorem preserves : Cert.preserves_Kernel6_Kernel6Ideal := trivial

theorem algebraic : Cert.algebraic_Kernel6Ideal_Reference6Ideal (hKernel6Ideal := Cert.Kernel6Ideal.Gen.facts)
    (hReference6Ideal := Cert.Reference6Ideal.Gen.facts) := by
  intro m g m' g' _ hag
  refine ⟨fun c => Cert.OutProj.flat (Cert.Kernel6Ideal.Array.X0 m c) (Cert.Kernel6Ideal.Array.X1 m c)
    (Cert.Kernel6Ideal.Array.X2 m c) (Cert.Kernel6Ideal.Array.X3 m c), ?_, ?_⟩
  · refine (θ_run Cert.Kernel6Ideal.defs _ _).mono (fun r h c => ?_) (Cert.Kernel6Ideal.Value.run_blocks m g)
    exact ⟨(h c).1.trans (Cert.Kernel6Ideal.Array.arr4 m c), (h c).2⟩
  · refine (θ_run Cert.Reference6Ideal.defs _ _).mono (fun r h c => ?_) (Cert.Reference6Ideal.Value.run m' g')
    refine ⟨(h c).1.trans ?_, (h c).2⟩
    obtain ⟨a0, a1, a2, a3⟩ := hag c
    rw [Cert.Reference6Ideal.Read.val_main_v5_eq, a0, a1, a2, a3]
    exact v5_eq _ _ _ _

end Cert.OutProjClaims

end
-- ==== Proof.KvWin.lean ====
/- The result array of the projection to the window's keys and values, entry by entry. -/
module

public import proofs.«01_k».proof.Proof.KvTile
public import proofs.«01_k».proof.Proof.Gen.Kernel7Ideal.Value
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Kernel7Ideal.Array

open Idealize.ShloMosaic Idealize.ShloMosaic.TcCoe Idealize.ShloMosaic.Tactic Idealize.SL.Sem
open Cert.Kernel7Ideal Cert.Kernel7Ideal.Gen

variable (m : (ℓ : Loc nD τ sig) → Buf (Elt Ideal) ℓ) (c : Dev nD) (t : Fin cfg0.N)

/-- The first point of a block of rows leaves the modulated rows. -/
theorem hidden_first (h0 : t.val % 2 = 0) :
    (outsAt0 m c t.val t.isLt).2 = k0_pay2 (iblk m c 0 t) (iblk m c 3 t) (iblk m c 1 t) (iblk m c 2 t) := by
  rw [outsAt0_A m c t h0]
  frame_open
  simp (disch := decide) only [↓ View.readCov_skip, ↓ View.readCov_cons_toLoadRect, ↓ View.readCov_fill]
  frame_out

/-- The others keep them. -/
theorem hidden_rest (h0 : ¬ t.val % 2 = 0) :
    (outsAt0 m c t.val t.isLt).2 = (outsAt0 m c (t.val - 1) (by omega)).2 := by
  rw [outsAt0_B m c t h0]
  rfl

/-- A point's block of the result, from the rows it holds. -/
abbrev block (h : Vec Ideal S1024x1024 .bf16) : FVec Ideal S1024x256 .f32 :=
  Cert.Kernel4Ideal.Tile.tile h (iblk m c 4 t) (BitVec.ofNat 32 (t.val % 2)) 0#32 (iblk m c 5 t) (iblk m c 6 t)

theorem out_eq : (outsAt0 m c t.val t.isLt).1 = block m c t (outsAt0 m c t.val t.isLt).2 := by
  by_cases h0 : t.val % 2 = 0
  · rw [hidden_first m c t h0, outsAt0_A m c t h0]
    frame_open
    simp (disch := decide) only [↓ View.readCov_skip, ↓ View.readCov_cons_toLoadRect, ↓ View.readCov_fill]
    frame_out
    unfold block Cert.Kernel4Ideal.Tile.tile
    congr 1
    clear h0
    revert t
    show ∀ t : Fin grid0.N, _
    decide +kernel
  · rw [hidden_rest m c t h0, outsAt0_B m c t h0]
    frame_open
    simp (disch := decide) only [↓ View.readCov_skip, ↓ View.readCov_cons_toLoadRect, ↓ View.readCov_fill]
    frame_out
    simp only [read_unread_whole]
    unfold block Cert.Kernel4Ideal.Tile.tile
    congr 1
    clear h0
    revert t
    show ∀ t : Fin grid0.N, _
    decide +kernel

theorem index_eq : ∀ t : Fin cfg0.N,
    win0_0.index t = ![t.val / 2, 0]
    ∧ win0_1.index t = ![t.val / 8, 0, 0]
    ∧ win0_2.index t = ![t.val / 8, 0, 0]
    ∧ win0_3.index t = ![0, 0]
    ∧ win0_4.index t = ![0, t.val % 2]
    ∧ win0_5.index t = ![t.val / 2 % 4, 0]
    ∧ win0_6.index t = ![t.val / 2 % 4, 0]
    ∧ win0_7.index t = ![t.val / 2, t.val % 2] :=
  (by decide +kernel : ∀ t : Fin grid0.N, _)

/-- The arguments. -/
abbrev X0 : (⟨3, ![4, 4096, 1024]⟩ : Shape).Idx → EReal := m ((c : Thread nD τ).loc main_arg0)
abbrev X1 : (⟨3, ![4, 1, 1024]⟩ : Shape).Idx → EReal := m ((c : Thread nD τ).loc main_arg1)
abbrev X2 : (⟨3, ![4, 1, 1024]⟩ : Shape).Idx → EReal := m ((c : Thread nD τ).loc main_arg2)
abbrev X3 : (⟨1, ![1024]⟩ : Shape).Idx → EReal := m ((c : Thread nD τ).loc main_arg3)
abbrev X4 : (⟨2, ![1024, 1536]⟩ : Shape).Idx → EReal := m ((c : Thread nD τ).loc main_arg4)

theorem t_lt : t.val < 32 := lt_of_lt_of_eq t.isLt N_0

/-- The batch and the position of a row of the point's block. -/
abbrev bt : Fin 4 := ⟨t.val / 8, by have := t_lt t; omega⟩
abbrev pos (r : Fin 1024) : Fin 4096 := ⟨t.val / 2 % 4 * 1024 + r.val, by have := r.isLt; omega⟩

theorem iblk0 (r : Fin 1024) (k : Fin 1024) : (iblk m c 0 t (ix2 r k) : EReal) = X0 m c (ix3 (bt t) (pos t r) k) := by
  blk_ext! [iblk, V, index_eq t]
  all_goals (have := r.isLt; omega)

theorem iblk1 (k : Fin 1024) : (iblk m c 1 t (ix3 0 0 k) : EReal) = X1 m c (ix3 (bt t) 0 k) := by
  blk_ext! [iblk, V, index_eq t]

theorem iblk2 (k : Fin 1024) : (iblk m c 2 t (ix3 0 0 k) : EReal) = X2 m c (ix3 (bt t) 0 k) := by
  blk_ext! [iblk, V, index_eq t]

theorem iblk3 (k : Fin 1024) : (iblk m c 3 t (ix2 0 k) : EReal) = X3 m c (ix1 k) := by
  blk_ext! [iblk, V, index_eq t]

theorem iblk4 (l : Fin 1024) (j : Fin 256) : (iblk m c 4 t (ix2 l j) : EReal)
    = X4 m c (ix2 l ⟨(1024 + t.val % 2 * 256 + j.val) % 1536, Nat.mod_lt _ (by decide)⟩) := by
  have hj := j.isLt
  rw [show (⟨(1024 + t.val % 2 * 256 + j.val) % 1536, Nat.mod_lt _ (by decide)⟩ : Fin 1536)
    = ⟨1024 + t.val % 2 * 256 + j.val, by omega⟩ from Fin.ext (by simp only; omega)]
  blk_ext! [iblk, V, index_eq t]

/-- The tables. -/
theorem iblk5 (r : Fin 1024) (l : Fin 128) : (iblk m c 5 t (ix2 r l) : EReal)
    = Proj.cosAt (pos t r).val l.val := by
  have e0 : ((win0_5.blk t).view.emb (ix2 r l)) = ix2 (pos t r) l := by
    blk_ext! [index_eq t]
  refine Eq.trans (b := (V m c main_v20 (ix2 (pos t r) l) : EReal)) ?_ ?_
  · exact congrArg (V m c main_v20) e0
  · blk_simp [V]
    entry_read
    pointwise
    rfl

theorem iblk6 (r : Fin 1024) (l : Fin 128) : (iblk m c 6 t (ix2 r l) : EReal)
    = Proj.sinAt (pos t r).val l.val := by
  have e0 : ((win0_6.blk t).view.emb (ix2 r l)) = ix2 (pos t r) l := by
    blk_ext! [index_eq t]
  refine Eq.trans (b := (V m c main_v25 (ix2 (pos t r) l) : EReal)) ?_ ?_
  · exact congrArg (V m c main_v25) e0
  · blk_simp [V]
    entry_read
    pointwise
    rfl

/-- The modulated rows of the point's block. -/
theorem pay2_apply (r : Fin 1024) (k : Fin 1024) :
    k0_pay2 (iblk m c 0 t) (iblk m c 3 t) (iblk m c 1 t) (iblk m c 2 t) (ix2 r k)
      = Ffn.row (X0 m c) (X1 m c) (X2 m c) (X3 m c) (bt t) (pos t r) k := by
  pointwise [k0_pay2]
  simp only [iblk0, iblk1, iblk2, iblk3]
  rfl

/-- Every point holds the modulated rows of its block. -/
theorem hidden : ∀ (n : ℕ) (hn : n < cfg0.N) (r k : Fin 1024), ((outsAt0 m c n hn).2 (ix2 r k) : EReal)
    = Ffn.row (X0 m c) (X1 m c) (X2 m c) (X3 m c) (bt ⟨n, hn⟩) (pos ⟨n, hn⟩ r) k := by
  intro n
  induction n with
  | zero =>
    intro hn r k
    have h := hidden_first m c ⟨0, hn⟩ rfl
    exact (congrFun h _).trans (pay2_apply m c ⟨0, hn⟩ r k)
  | succ n ih =>
    intro hn r k
    by_cases h0 : (n + 1) % 2 = 0
    · have h := hidden_first m c ⟨n + 1, hn⟩ h0
      exact (congrFun h _).trans (pay2_apply m c ⟨n + 1, hn⟩ r k)
    · have h := hidden_rest m c ⟨n + 1, hn⟩ h0
      refine (congrFun h _).trans ((ih (by omega) r k).trans ?_)
      have eb : bt ⟨n, by omega⟩ = bt ⟨n + 1, hn⟩ := Fin.ext (by simp only [bt]; omega)
      have ep : pos ⟨n, by omega⟩ r = pos ⟨n + 1, hn⟩ r := Fin.ext (by simp only [pos]; omega)
      rw [eb, ep]

theorem acc_apply (h : Vec Ideal S1024x1024 .bf16) (r : Fin 1024) (k : Fin 256)
    (hh : ∀ l : Fin 1024, (h (ix2 r l) : EReal) = Ffn.row (X0 m c) (X1 m c) (X2 m c) (X3 m c) (bt t) (pos t r) l) :
    ∑ l : Fin 1024, (h (ix2 r l) : EReal) * iblk m c 4 t (ix2 l k)
      = Proj.acc (X0 m c) (X1 m c) (X2 m c) (X3 m c) (X4 m c) (bt t) (pos t r) (1024 + t.val % 2 * 256 + k.val) := by
  simp only [iblk4, hh]
  rfl

/-- The point's numbers are equal where its columns are rotated. -/
theorem flag : Scalar.cmpi .eq (BitVec.ofNat 32 (t.val % 2)) 0#32 = if t.val % 2 = 0 then 1#1 else 0#1 := by
  revert t
  show ∀ t : Fin grid0.N, _
  decide +kernel

/-- The point's block of the result. -/
theorem block_apply (h : Vec Ideal S1024x1024 .bf16) (r : Fin 1024) (k : Fin 256)
    (hh : ∀ l : Fin 1024, (h (ix2 r l) : EReal) = Ffn.row (X0 m c) (X1 m c) (X2 m c) (X3 m c) (bt t) (pos t r) l) :
    block m c t h (ix2 r k) = Proj.part (X0 m c) (X1 m c) (X2 m c) (X3 m c) (X4 m c) 1024 0 (bt t) (pos t r) (t.val % 2 * 256 + k.val) := by
  have hk := k.isLt
  refine (Cert.Kernel4Ideal.Tile.tile_apply h _ _ _ _ _ _ (1024 + t.val % 2 * 256) (pos t r).val r k _ (by omega)
    (flag t) (fun k => acc_apply m c t h r k hh) (iblk5 m c t r) (iblk6 m c t r)).trans ?_
  unfold Proj.part Proj.rot
  rw [Nat.add_assoc]
  by_cases h1 : t.val % 2 = 0
  · rw [if_pos h1, if_pos (by omega)]
  · rw [if_neg h1, if_neg (by omega)]

theorem arr7 : (dats m 0 c).arrAt 7 cfg0.N = Proj.flat (Proj.part (X0 m c) (X1 m c) (X2 m c) (X3 m c) (X4 m c) 1024 0) := by
  refine (dats m 0 c).arrAt_eq_of_covers 7 _ (by decide +kernel) fun t hf y => ?_
  blk_simp
  rw [after0_7, out_eq]
  have e0 : ((win0_7.blk t).view.emb y 0).val = t.val / 2 * 1024 + (y 0).val := by blk_simp [index_eq t]
  have e1 : ((win0_7.blk t).view.emb y 1).val = t.val % 2 * 256 + (y 1).val := by blk_simp [index_eq t]
  obtain ⟨r, k, rfl⟩ : ∃ (r : Fin 1024) (k : Fin 256), y = ix2 r k := ⟨y 0, y 1, eq_ix2 y⟩
  refine (block_apply m c t _ r k fun l => hidden m c t.val t.isLt r l).trans ?_
  replace e0 : _ = t.val / 2 * 1024 + r.val := e0
  refine Proj.flat_of _ _ _ _ _ ?_ e1
  simp only [e0, bt, pos]
  have := t_lt t
  omega

end Cert.Kernel7Ideal.Array

end
-- ==== Proof.KvWinRef.lean ====
/- The reference's result for the window's keys and values, entry by entry. -/
module

public import proofs.«01_k».proof.Proof.KvSpec
public import proofs.«01_k».proof.Proof.Gen.Reference7Ideal.Read
public import Idealize.ShloMosaic.Lib.ValueIdxRank6

@[expose] public section

set_option maxRecDepth 16384

noncomputable section

namespace Cert.Reference7Ideal.RefValue

open Idealize.ShloMosaic Idealize.ShloMosaic.TcCoe Idealize.ShloMosaic.Tactic Idealize.SL.Sem
open Cert.Reference7Ideal Cert.Reference7Ideal.Gen Cert.Reference7Ideal.Read

variable (x0 : (⟨S4x4096x1024, .f32⟩ : BufTy).Contents (Elt Ideal)) (x1 x2 : (⟨S4x1x1024, .f32⟩ : BufTy).Contents (Elt Ideal))
  (x3 : (⟨S1024, .f32⟩ : BufTy).Contents (Elt Ideal)) (x4 : (⟨S1024x1536, .f32⟩ : BufTy).Contents (Elt Ideal))

theorem v18_apply (b : Fin 4) (t : Fin 4096) (k : Fin 1024) :
    val_main_v18 (F := Ideal) x0 x1 x2 x3 (ix3 b t k) = Ffn.row x0 x1 x2 x3 b t k := by
  pointwise [val_main_v18, val_main_v17, val_main_v16, val_main_v15, val_main_v14, val_main_v13, val_main_cst_2, val_main_v12, val_main_v11, val_main_v10, val_main_v9, val_main_v8, val_main_v7, val_main_v6, val_main_v5, val_main_cst_1, val_main_v4, val_main_v3, val_main_cst_0, val_main_v2, val_main_v1, val_main_cst, val_main_v0]
  rfl

theorem v20_apply (b : Fin 4) (p : Fin 4096) (n : Fin 1536) (k : ℕ) (hk : k = n.val) :
    val_main_v20 (F := Ideal) x0 x1 x2 x3 x4 (ix3 b p n) = Proj.acc x0 x1 x2 x3 x4 b p k := by
  pointwise [val_main_v20]
  simp only [v18_apply]
  have e : n = ⟨k % 1536, Nat.mod_lt _ (by decide)⟩ := Fin.ext (by have := n.isLt; simp only; omega)
  unfold Proj.acc
  rw [← e]

theorem v65_apply (b : Fin 4) (p : Fin 4096) (h : Fin 4) (d : Fin 64) (k : ℕ) (hk : k = 1024 + h.val * 64 + d.val) :
    val_main_v65 (F := Ideal) x0 x1 x2 x3 x4 (ix4 b p h d) = Proj.acc x0 x1 x2 x3 x4 b p k := by
  have hh := h.isLt
  have hd := d.isLt
  pointwise [val_main_v65, val_main_v64, val_main_v21]
  exact v20_apply x0 x1 x2 x3 x4 b p _ k (by simp only; omega)

theorem v77_apply (p : Fin 4096) (k : Fin 32) : val_main_v77 (F := Ideal) (ix2 p k) = Proj.ang p.val k.val := by
  pointwise [val_main_v77, val_main_v76, val_main_v75, val_main_v74, val_main_v73, val_main_v72, val_main_v71, val_main_v70, val_main_cst_6, val_main_v69, val_main_v68, val_main_cst_5, val_main_v67, val_main_v66, val_main_v19]
  rfl

theorem v94_apply (b : Fin 4) (p : Fin 4096) (h : Fin 4) (d : Fin 64) (k : ℕ) (hk : k = 1024 + h.val * 64 + d.val) :
    val_main_v94 (F := Ideal) x0 x1 x2 x3 x4 (ix4 b p h d) = Proj.rot x0 x1 x2 x3 x4 b p k := by
  have e : k % 64 = d.val := by omega
  pointwise [val_main_v94, val_main_v93, val_main_v92, val_main_v91, val_main_v90, val_main_v89, val_main_v88, val_main_v87, val_main_v86, val_main_v85, val_main_v84, val_main_v83, val_main_v82, val_main_v81, val_main_v80, val_main_v79, val_main_v78]
  simp only [v77_apply]
  unfold Proj.rot Proj.turn
  rw [e]
  by_cases hd : d.val < 32
  · rw [dif_pos hd, if_pos hd, v65_apply x0 x1 x2 x3 x4 b p h _ k hk, v65_apply x0 x1 x2 x3 x4 b p h _ (k + 32) (by simp only; omega)]
  · rw [dif_neg hd, if_neg hd, v65_apply x0 x1 x2 x3 x4 b p h _ k (by simp only; omega), v65_apply x0 x1 x2 x3 x4 b p h _ (k - 32) (by simp only; omega)]

theorem v96_apply (b : Fin 4) (p : Fin 4096) (h : Fin 4) (d : Fin 64) (k : ℕ) (hk : k = 1280 + h.val * 64 + d.val) :
    val_main_v96 (F := Ideal) x0 x1 x2 x3 x4 (ix4 b p h d) = Proj.acc x0 x1 x2 x3 x4 b p k := by
  have hh := h.isLt
  have hd := d.isLt
  pointwise [val_main_v96, val_main_v95, val_main_v21]
  exact v20_apply x0 x1 x2 x3 x4 b p _ k (by simp only; omega)

theorem v99_apply (b : Fin 4) (p : Fin 4096) (s : Fin 2) (h : Fin 4) (d : Fin 64) (k : ℕ) (hk : k = s.val * 256 + h.val * 64 + d.val) :
    val_main_v99 (F := Ideal) x0 x1 x2 x3 x4 (ix5 b p s h d) = Proj.part x0 x1 x2 x3 x4 1024 0 b p k := by
  have hs := s.isLt
  have hh := h.isLt
  have hd := d.isLt
  pointwise [val_main_v99, val_main_v98, val_main_v97]
  unfold Proj.part
  by_cases h1 : s.val < 1
  · rw [dif_pos h1, if_pos (by omega), v94_apply x0 x1 x2 x3 x4 b p h d (1024 + k) (by omega)]
  · rw [dif_neg h1, if_neg (by omega), v96_apply x0 x1 x2 x3 x4 b p h d (1024 + k) (by omega)]

theorem v100_eq : val_main_v100 (F := Ideal) x0 x1 x2 x3 x4 = Proj.flat (Proj.part x0 x1 x2 x3 x4 1024 0) := by
  funext y
  obtain ⟨r, k, rfl⟩ : ∃ (r : Fin 16384) (k : Fin 512), y = ix2 r k := ⟨y 0, y 1, eq_ix2 y⟩
  pointwise [val_main_v100]
  exact v99_apply x0 x1 x2 x3 x4 _ _ _ _ _ k.val (by simp only; omega)

end Cert.Reference7Ideal.RefValue

end
-- ==== Proof.KvWinClaims.lean ====
/- The claims about the projection to the window's keys and values: the kernel's array (`KvWin.lean`) and the
   reference's result (`KvWinRef.lean`) are one function of the arguments. -/
module

public import proofs.«01_k».proof.Defs
public import proofs.«01_k».proof.Proof.KvWin
public import proofs.«01_k».proof.Proof.KvWinRef
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import Idealize.ShloMosaic.Adequacy

@[expose] public section

noncomputable section

namespace Cert.KvWinClaims

open Idealize.ShloMosaic Idealize.SL.Sem

theorem frame_p : Cert.quiescent_Kernel7 (hKernel7 := Cert.Kernel7.Gen.facts) := fun m ρ _ => Cert.Kernel7.Gen.frame m ρ
theorem frame_pi : Cert.quiescent_Kernel7Ideal (hKernel7Ideal := Cert.Kernel7Ideal.Gen.facts) := fun m ρ _ =>
  Cert.Kernel7Ideal.Gen.frame m ρ
theorem frame_ri : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

theorem preserves : Cert.preserves_Kernel7_Kernel7Ideal := trivial

/-- Both programs end with the keys and values. -/
theorem algebraic : Cert.algebraic_Kernel7Ideal_Reference7Ideal (hKernel7Ideal := Cert.Kernel7Ideal.Gen.facts)
    (hReference7Ideal := Cert.Reference7Ideal.Gen.facts) := by
  intro m g m' g' _ hag
  refine ⟨fun c => Cert.Proj.flat (Cert.Proj.part (Cert.Kernel7Ideal.Array.X0 m c) (Cert.Kernel7Ideal.Array.X1 m c) (Cert.Kernel7Ideal.Array.X2 m c) (Cert.Kernel7Ideal.Array.X3 m c) (Cert.Kernel7Ideal.Array.X4 m c) 1024 0), ?_, ?_⟩
  · refine (θ_run Cert.Kernel7Ideal.defs _ _).mono (fun r h c => ?_) (Cert.Kernel7Ideal.Value.run_blocks m g)
    exact ⟨(h c).1.trans (Cert.Kernel7Ideal.Array.arr7 m c), (h c).2⟩
  · refine (θ_run Cert.Reference7Ideal.defs _ _).mono (fun r h c => ?_) (Cert.Reference7Ideal.Value.run m' g')
    refine ⟨(h c).1.trans ?_, (h c).2⟩
    obtain ⟨a0, a1, a2, a3, a4⟩ := hag c
    rw [Cert.Reference7Ideal.Read.val_main_v100_eq, a0, a1, a2, a3, a4]
    exact Cert.Reference7Ideal.RefValue.v100_eq _ _ _ _ _

end Cert.KvWinClaims

end
-- ==== Proof.ProjBlock0.lean ====
/- One grid point of the projection kernel of group 0: what it leaves in the carried rows and in its two output blocks. -/
module

public import proofs.«01_k».proof.Proof.ProjTile
public import proofs.«01_k».proof.Proof.Gen.Kernel8Ideal.Value
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Kernel8Ideal.Block

open Idealize.ShloMosaic Idealize.ShloMosaic.TcCoe Idealize.ShloMosaic.Tactic Idealize.SL.Sem
open Cert.Kernel8Ideal Cert.Kernel8Ideal.Gen

variable (m : (ℓ : Loc nD τ sig) → Buf (Elt Ideal) ℓ) (c : Dev nD) (t : Fin cfg0.N)

/-- The first point of a block of rows leaves the modulated rows. -/
theorem hidden_first (h0 : t.val % 6 = 0) :
    (outsAt0 m c t.val t.isLt).2.2 = k0_pay3 (iblk m c 0 t) (iblk m c 3 t) (iblk m c 1 t) (iblk m c 2 t) := by
  rw [outsAt0_A m c t h0]
  frame_open
  simp (disch := decide) only [↓ View.readCov_skip, ↓ View.readCov_cons_toLoadRect, ↓ View.readCov_fill]
  frame_out

/-- The others keep them. -/
theorem hidden_rest (h0 : ¬ t.val % 6 = 0) :
    (outsAt0 m c t.val t.isLt).2.2 = (outsAt0 m c (t.val - 1) (by omega)).2.2 := by
  rw [outsAt0_B m c t h0]
  rfl

/-- Whether the point's columns are rotated. -/
def flag : BitVec 1 := if t.val % 6 < 4 then 1#1 else 0#1

/-- A tile of the first result; it is made as for group 1. -/
def tile (h : Vec Ideal S1024x1024 .bf16) (w : Vec Ideal S1024x512 .bf16) (cs sn : Vec Ideal S1024x128 .f32) (f : BitVec 1) :
    FVec Ideal S1024x512 .f32 :=
  k0_pay1 (k0_pay4 h w) f (k0_pay5 cs) (k0_pay6 sn) k0_pay7 (k0_pay8 (k0_pay4 h w))

theorem tile_eq (h : Vec Ideal S1024x1024 .bf16) (w : Vec Ideal S1024x512 .bf16) (cs sn : Vec Ideal S1024x128 .f32) (f : BitVec 1) :
    tile h w cs sn f = Cert.Kernel3Ideal.Tile.tile h w cs sn f := rfl

/-- A point's block of the first result, from the rows it holds. -/
abbrev block (h : Vec Ideal S1024x1024 .bf16) : FVec Ideal S1024x512 .f32 :=
  tile h (iblk m c 4 t) (iblk m c 5 t) (iblk m c 6 t) (flag t)

theorem out_eq : (outsAt0 m c t.val t.isLt).1 = block m c t (outsAt0 m c t.val t.isLt).2.2 := by
  by_cases h0 : t.val % 6 = 0
  · rw [hidden_first m c t h0, outsAt0_A m c t h0]
    frame_open
    simp (disch := decide) only [↓ View.readCov_skip, ↓ View.readCov_cons_toLoadRect, ↓ View.readCov_fill]
    frame_out
    unfold block tile
    congr 1
    clear h0
    revert t
    show ∀ t : Fin grid0.N, _
    decide +kernel
  · rw [hidden_rest m c t h0, outsAt0_B m c t h0]
    frame_open
    simp (disch := decide) only [↓ View.readCov_skip, ↓ View.readCov_cons_toLoadRect, ↓ View.readCov_fill]
    frame_out
    simp only [read_unread_whole]
    unfold block tile
    congr 1
    clear h0
    revert t
    show ∀ t : Fin grid0.N, _
    decide +kernel

theorem out_bf : (outsAt0 m c t.val t.isLt).2.1
    = truncf .bf16 (block m c t (outsAt0 m c t.val t.isLt).2.2) bitsLt_bf16_f32 := by
  by_cases h0 : t.val % 6 = 0
  · rw [hidden_first m c t h0, outsAt0_A m c t h0]
    frame_open
    simp (disch := decide) only [↓ View.readCov_skip, ↓ View.readCov_cons_toLoadRect, ↓ View.readCov_fill]
    frame_out
    dsimp only [k0_pay2, block, tile]
    congr 2
    clear h0
    revert t
    show ∀ t : Fin grid0.N, _
    decide +kernel
  · rw [hidden_rest m c t h0, outsAt0_B m c t h0]
    frame_open
    simp (disch := decide) only [↓ View.readCov_skip, ↓ View.readCov_cons_toLoadRect, ↓ View.readCov_fill]
    frame_out
    simp only [read_unread_whole]
    dsimp only [k0_pay2, block, tile]
    congr 2
    clear h0
    revert t
    show ∀ t : Fin grid0.N, _
    decide +kernel

end Cert.Kernel8Ideal.Block

end
-- ==== Proof.ProjArray0.lean ====
/- The two result arrays of the projection kernel of group 0, entry by entry. -/
module

public import proofs.«01_k».proof.Proof.ProjBlock0
public import proofs.«01_k».proof.Proof.ProjSpec

@[expose] public section

set_option maxRecDepth 16384

noncomputable section

namespace Cert.Kernel8Ideal.Array

open Idealize.ShloMosaic Idealize.ShloMosaic.TcCoe Idealize.ShloMosaic.Tactic Idealize.SL.Sem
open Cert.Kernel8Ideal Cert.Kernel8Ideal.Gen Cert.Kernel8Ideal.Block

theorem index_eq : ∀ t : Fin cfg0.N,
    win0_0.index t = ![t.val / 6, 0]
    ∧ win0_1.index t = ![t.val / 24, 0, 0]
    ∧ win0_2.index t = ![t.val / 24, 0, 0]
    ∧ win0_3.index t = ![0, 0]
    ∧ win0_4.index t = ![0, t.val % 6]
    ∧ win0_5.index t = ![t.val / 6 % 4, 0]
    ∧ win0_6.index t = ![t.val / 6 % 4, 0]
    ∧ win0_7.index t = ![t.val / 6, t.val % 6]
    ∧ win0_8.index t = ![t.val / 6, t.val % 6] :=
  (by decide +kernel : ∀ t : Fin grid0.N, _)

variable (m : (ℓ : Loc nD τ sig) → Buf (Elt Ideal) ℓ) (c : Dev nD) (t : Fin cfg0.N)

/-- The arguments. -/
abbrev X0 : (⟨3, ![4, 4096, 1024]⟩ : Shape).Idx → EReal := m ((c : Thread nD τ).loc main_arg0)
abbrev X1 : (⟨3, ![4, 1, 1024]⟩ : Shape).Idx → EReal := m ((c : Thread nD τ).loc main_arg1)
abbrev X2 : (⟨3, ![4, 1, 1024]⟩ : Shape).Idx → EReal := m ((c : Thread nD τ).loc main_arg2)
abbrev X3 : (⟨1, ![1024]⟩ : Shape).Idx → EReal := m ((c : Thread nD τ).loc main_arg3)
abbrev X4 : (⟨2, ![1024, 9216]⟩ : Shape).Idx → EReal := m ((c : Thread nD τ).loc main_arg4)

theorem t_lt : t.val < 96 := lt_of_lt_of_eq t.isLt N_0

/-- The batch and the position of a row of the point's block. -/
abbrev bt : Fin 4 := ⟨t.val / 24, by have := t_lt t; omega⟩
abbrev pos (r : Fin 1024) : Fin 4096 := ⟨t.val / 6 % 4 * 1024 + r.val, by have := r.isLt; omega⟩

theorem iblk0 (r : Fin 1024) (k : Fin 1024) : (iblk m c 0 t (ix2 r k) : EReal) = X0 m c (ix3 (bt t) (pos t r) k) := by
  blk_ext! [iblk, V, index_eq t]
  all_goals (have := r.isLt; omega)

theorem iblk1 (k : Fin 1024) : (iblk m c 1 t (ix3 0 0 k) : EReal) = X1 m c (ix3 (bt t) 0 k) := by
  blk_ext! [iblk, V, index_eq t]

theorem iblk2 (k : Fin 1024) : (iblk m c 2 t (ix3 0 0 k) : EReal) = X2 m c (ix3 (bt t) 0 k) := by
  blk_ext! [iblk, V, index_eq t]

theorem iblk3 (k : Fin 1024) : (iblk m c 3 t (ix2 0 k) : EReal) = X3 m c (ix1 k) := by
  blk_ext! [iblk, V, index_eq t]

theorem iblk4 (l : Fin 1024) (j : Fin 512) : (iblk m c 4 t (ix2 l j) : EReal)
    = X4 m c (ix2 l ⟨(0 + t.val % 6 * 512 + j.val) % 9216, Nat.mod_lt _ (by decide)⟩) := by
  have hj := j.isLt
  rw [show (⟨(0 + t.val % 6 * 512 + j.val) % 9216, Nat.mod_lt _ (by decide)⟩ : Fin 9216)
    = ⟨0 + t.val % 6 * 512 + j.val, by omega⟩ from Fin.ext (by simp only; omega)]
  blk_ext! [iblk, V, index_eq t]

/-- The tables. -/
theorem iblk5 (r : Fin 1024) (l : Fin 128) : (iblk m c 5 t (ix2 r l) : EReal)
    = Proj.cosAt (pos t r).val l.val := by
  have e0 : ((win0_5.blk t).view.emb (ix2 r l)) = ix2 (pos t r) l := by
    blk_ext! [index_eq t]
  refine Eq.trans (b := (V m c main_v18 (ix2 (pos t r) l) : EReal)) ?_ ?_
  · exact congrArg (V m c main_v18) e0
  · blk_simp [V]
    entry_read
    pointwise
    rfl

theorem iblk6 (r : Fin 1024) (l : Fin 128) : (iblk m c 6 t (ix2 r l) : EReal)
    = Proj.sinAt (pos t r).val l.val := by
  have e0 : ((win0_6.blk t).view.emb (ix2 r l)) = ix2 (pos t r) l := by
    blk_ext! [index_eq t]
  refine Eq.trans (b := (V m c main_v23 (ix2 (pos t r) l) : EReal)) ?_ ?_
  · exact congrArg (V m c main_v23) e0
  · blk_simp [V]
    entry_read
    pointwise
    rfl

/-- The modulated rows of the point's block. -/
theorem pay3_apply (r : Fin 1024) (k : Fin 1024) :
    k0_pay3 (iblk m c 0 t) (iblk m c 3 t) (iblk m c 1 t) (iblk m c 2 t) (ix2 r k)
      = Ffn.row (X0 m c) (X1 m c) (X2 m c) (X3 m c) (bt t) (pos t r) k := by
  pointwise [k0_pay3]
  simp only [iblk0, iblk1, iblk2, iblk3]
  rfl

/-- Every point holds the modulated rows of its block. -/
theorem hidden : ∀ (n : ℕ) (hn : n < cfg0.N) (r k : Fin 1024), ((outsAt0 m c n hn).2.2 (ix2 r k) : EReal)
    = Ffn.row (X0 m c) (X1 m c) (X2 m c) (X3 m c) (bt ⟨n, hn⟩) (pos ⟨n, hn⟩ r) k := by
  intro n
  induction n with
  | zero =>
    intro hn r k
    have h := hidden_first m c ⟨0, hn⟩ rfl
    exact (congrFun h _).trans (pay3_apply m c ⟨0, hn⟩ r k)
  | succ n ih =>
    intro hn r k
    by_cases h0 : (n + 1) % 6 = 0
    · have h := hidden_first m c ⟨n + 1, hn⟩ h0
      exact (congrFun h _).trans (pay3_apply m c ⟨n + 1, hn⟩ r k)
    · have h := hidden_rest m c ⟨n + 1, hn⟩ h0
      refine (congrFun h _).trans ((ih (by omega) r k).trans ?_)
      have eb : bt ⟨n, by omega⟩ = bt ⟨n + 1, hn⟩ := Fin.ext (by simp only [bt]; omega)
      have ep : pos ⟨n, by omega⟩ r = pos ⟨n + 1, hn⟩ r := Fin.ext (by simp only [pos]; omega)
      rw [eb, ep]

theorem acc_apply (h : Vec Ideal S1024x1024 .bf16) (r : Fin 1024) (k : Fin 512)
    (hh : ∀ l : Fin 1024, (h (ix2 r l) : EReal) = Ffn.row (X0 m c) (X1 m c) (X2 m c) (X3 m c) (bt t) (pos t r) l) :
    ∑ l : Fin 1024, (h (ix2 r l) : EReal) * iblk m c 4 t (ix2 l k)
      = Proj.acc (X0 m c) (X1 m c) (X2 m c) (X3 m c) (X4 m c) (bt t) (pos t r) (0 + t.val % 6 * 512 + k.val) := by
  simp only [iblk4, hh]
  rfl

/-- The point's block of the result. -/
theorem block_apply (h : Vec Ideal S1024x1024 .bf16) (r : Fin 1024) (k : Fin 512)
    (hh : ∀ l : Fin 1024, (h (ix2 r l) : EReal) = Ffn.row (X0 m c) (X1 m c) (X2 m c) (X3 m c) (bt t) (pos t r) l) :
    block m c t h (ix2 r k)
      = Proj.out (X0 m c) (X1 m c) (X2 m c) (X3 m c) (X4 m c) 0 (bt t) (pos t r) (t.val % 6 * 512 + k.val) := by
  have hk := k.isLt
  unfold block
  rw [tile_eq]
  refine (Cert.Kernel3Ideal.Tile.tile_apply h _ _ _ _ _ (0 + t.val % 6 * 512) (pos t r).val r k (by omega)
    (by unfold flag; split_ifs <;> simp) (fun k => acc_apply m c t h r k hh) (iblk5 m c t r) (iblk6 m c t r)).trans ?_
  unfold Proj.out Proj.rot flag
  rw [Nat.add_assoc]
  by_cases h1 : t.val % 6 < 4
  · rw [if_pos h1, if_pos rfl, if_pos (by omega)]
  · rw [if_neg h1, if_neg (by decide), if_neg (by omega)]

theorem arr7 : (dats m 0 c).arrAt 7 cfg0.N = Proj.flat (Proj.out (X0 m c) (X1 m c) (X2 m c) (X3 m c) (X4 m c) 0) := by
  refine (dats m 0 c).arrAt_eq_of_covers 7 _ (by decide +kernel) fun t hf y => ?_
  blk_simp
  rw [after0_7, out_eq]
  have e0 : ((win0_7.blk t).view.emb y 0).val = t.val / 6 * 1024 + (y 0).val := by blk_simp [index_eq t]
  have e1 : ((win0_7.blk t).view.emb y 1).val = t.val % 6 * 512 + (y 1).val := by blk_simp [index_eq t]
  obtain ⟨r, k, rfl⟩ : ∃ (r : Fin 1024) (k : Fin 512), y = ix2 r k := ⟨y 0, y 1, eq_ix2 y⟩
  refine (block_apply m c t _ r k fun l => hidden m c t.val t.isLt r l).trans ?_
  replace e0 : _ = t.val / 6 * 1024 + r.val := e0
  refine Proj.flat_of _ _ _ _ _ ?_ e1
  simp only [e0, bt, pos]
  have := t_lt t
  omega

theorem arr8 : (dats m 0 c).arrAt 8 cfg0.N = Proj.flat (Proj.out (X0 m c) (X1 m c) (X2 m c) (X3 m c) (X4 m c) 0) := by
  refine (dats m 0 c).arrAt_eq_of_covers 8 _ (by decide +kernel) fun t hf y => ?_
  blk_simp
  rw [after0_8, out_bf]
  have e0 : ((win0_8.blk t).view.emb y 0).val = t.val / 6 * 1024 + (y 0).val := by blk_simp [index_eq t]
  have e1 : ((win0_8.blk t).view.emb y 1).val = t.val % 6 * 512 + (y 1).val := by blk_simp [index_eq t]
  obtain ⟨r, k, rfl⟩ : ∃ (r : Fin 1024) (k : Fin 512), y = ix2 r k := ⟨y 0, y 1, eq_ix2 y⟩
  refine (block_apply m c t _ r k fun l => hidden m c t.val t.isLt r l).trans ?_
  replace e0 : _ = t.val / 6 * 1024 + r.val := e0
  refine Proj.flat_of _ _ _ _ _ ?_ e1
  simp only [e0, bt, pos]
  have := t_lt t
  omega

end Cert.Kernel8Ideal.Array

end
-- ==== Proof.ProjRef0.lean ====
/- The results of the projection's reference at group 0, entry by entry: up to the choice of the group it computes what
   the reference at group 1 does (`ProjRef.lean`). -/
module

public import proofs.«01_k».proof.Proof.ProjRef
public import proofs.«01_k».proof.Proof.Gen.Reference8Ideal.Read

@[expose] public section

set_option maxRecDepth 16384

noncomputable section

namespace Cert.Reference8Ideal.RefValue

open Idealize.ShloMosaic Idealize.ShloMosaic.TcCoe Idealize.ShloMosaic.Tactic Idealize.SL.Sem
open Cert.Reference8Ideal Cert.Reference8Ideal.Gen Cert.Reference8Ideal.Read

variable (x0 : (⟨S4x4096x1024, .f32⟩ : BufTy).Contents (Elt Ideal)) (x1 x2 : (⟨S4x1x1024, .f32⟩ : BufTy).Contents (Elt Ideal))
  (x3 : (⟨S1024, .f32⟩ : BufTy).Contents (Elt Ideal)) (x4 : (⟨S1024x9216, .f32⟩ : BufTy).Contents (Elt Ideal))

theorem qr_eq : val_main_v52 (F := Ideal) x0 x1 x2 x3 x4 = Cert.Reference3Ideal.Read.val_main_v52 (F := Ideal) x0 x1 x2 x3 x4 := rfl

theorem kr_eq : val_main_v83 (F := Ideal) x0 x1 x2 x3 x4 = Cert.Reference3Ideal.Read.val_main_v83 (F := Ideal) x0 x1 x2 x3 x4 := rfl

theorem v_eq : val_main_v85 (F := Ideal) x0 x1 x2 x3 x4 = Cert.Reference3Ideal.Read.val_main_v85 (F := Ideal) x0 x1 x2 x3 x4 := rfl

theorem cast_apply (v : Vec Ideal S4x4096x1x16x64 .f32) (b : Fin 4) (p : Fin 4096) (h : Fin 16) (d : Fin 64) :
    shapeCast S4x4096x16x64 v shapeCasts_S4x4096x1x16x64_S4x4096x16x64 (ix4 b p h d) = v (ix5 b p 0 h d) := by
  pointwise

theorem v90_apply (b : Fin 4) (p : Fin 4096) (h : Fin 16) (d : Fin 64) :
    val_main_v90 (F := Ideal) x0 x1 x2 x3 x4 (ix4 b p h d) = val_main_v89 (F := Ideal) x0 x1 x2 x3 x4 (ix5 b p 0 h d) := by
  unfold val_main_v90
  exact cast_apply _ b p h d

theorem slice_apply (v : Vec Ideal S4x4096x3x16x64 .f32) (b : Fin 4) (p : Fin 4096) (h : Fin 16) (d : Fin 64) :
    extractStridedSlice S4x4096x1x16x64 ![0, 0, 0, 0, 0] v slices_S4x4096x3x16x64_S4x4096x1x16x64_0_0_0_0_0 (ix5 b p 0 h d)
      = v (ix5 b p 0 h d) := by
  pointwise

theorem bcast_apply (v : Vec Ideal S4x4096x16x64 .f32) (b : Fin 4) (p : Fin 4096) (z : Fin 1) (h : Fin 16) (d : Fin 64) :
    broadcastInDim S4x4096x1x16x64 ![0, 1, 3, 4] bcast_S4x4096x16x64_S4x4096x1x16x64_0_1_3_4 v (ix5 b p z h d)
      = v (ix4 b p h d) := by
  pointwise

theorem v91_apply (b : Fin 4) (p : Fin 4096) (z : Fin 1) (h : Fin 16) (d : Fin 64) :
    val_main_v91 (F := Ideal) x0 x1 x2 x3 x4 (ix5 b p z h d) = val_main_v52 (F := Ideal) x0 x1 x2 x3 x4 (ix5 b p 0 h d) := by
  unfold val_main_v91
  refine (bcast_apply _ b p z h d).trans ((v90_apply x0 x1 x2 x3 x4 b p h d).trans ?_)
  unfold val_main_v89
  exact slice_apply _ b p h d

theorem v93_apply (b : Fin 4) (p : Fin 4096) (s : Fin 2) (h : Fin 16) (d : Fin 64) :
    val_main_v93 (F := Ideal) x0 x1 x2 x3 x4 (ix5 b p s h d)
      = if s.val < 1 then val_main_v83 (F := Ideal) x0 x1 x2 x3 x4 (ix5 b p 0 h d)
        else val_main_v85 (F := Ideal) x0 x1 x2 x3 x4 (ix5 b p 0 h d) := by
  pointwise [val_main_v93, val_main_v92, val_main_v88, val_main_v87, val_main_v86]
  simp only [dite_eq_ite]

theorem v94_apply (b : Fin 4) (p : Fin 4096) (s : Fin 3) (h : Fin 16) (d : Fin 64) (k : ℕ)
    (hk : k = s.val * 1024 + h.val * 64 + d.val) :
    val_main_v94 (F := Ideal) x0 x1 x2 x3 x4 (ix5 b p s h d) = Proj.out x0 x1 x2 x3 x4 0 b p k := by
  have hh := h.isLt
  have hd := d.isLt
  pointwise [val_main_v94]
  unfold Proj.out
  by_cases h1 : s.val < 1
  · rw [dif_pos h1, if_pos (by omega), v91_apply, qr_eq, Cert.Reference3Ideal.RefValue.qr_apply x0 x1 x2 x3 x4 b p 0 h d (0 + k) (by have : (0 : Fin 3).val = 0 := rfl; omega)]
  · rw [dif_neg h1, v93_apply]
    by_cases h2 : k < 2048
    · rw [if_pos h2, if_pos (by simp only; omega), kr_eq, Cert.Reference3Ideal.RefValue.kr_apply x0 x1 x2 x3 x4 b p 0 h d (0 + k) (by have : (0 : Fin 3).val = 0 := rfl; omega)]
    · rw [if_neg h2, if_neg (by simp only; omega), v_eq, Cert.Reference3Ideal.RefValue.v_apply x0 x1 x2 x3 x4 b p 0 h d (0 + k) (by have : (0 : Fin 3).val = 0 := rfl; omega)]

theorem v95_eq : val_main_v95 (F := Ideal) x0 x1 x2 x3 x4 = Proj.flat (Proj.out x0 x1 x2 x3 x4 0) := by
  funext y
  obtain ⟨r, k, rfl⟩ : ∃ (r : Fin 16384) (k : Fin 3072), y = ix2 r k := ⟨y 0, y 1, eq_ix2 y⟩
  pointwise [val_main_v95]
  exact v94_apply x0 x1 x2 x3 x4 _ _ _ _ _ k.val (by simp only; omega)

theorem v96_eq : val_main_v96 (F := Ideal) x0 x1 x2 x3 x4 = Proj.flat (Proj.out x0 x1 x2 x3 x4 0) := by
  rw [← v95_eq]
  funext y
  pointwise [val_main_v96]

end Cert.Reference8Ideal.RefValue

end
-- ==== Proof.Projection0.lean ====
/- The claims about the projection to group 0's queries, keys and values: the kernel's arrays (`ProjArray0.lean`) and the
   reference's results (`ProjRef0.lean`) are one function of the arguments. -/
module

public import proofs.«01_k».proof.Defs
public import proofs.«01_k».proof.Proof.ProjArray0
public import proofs.«01_k».proof.Proof.ProjRef0
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import Idealize.ShloMosaic.Adequacy

@[expose] public section

noncomputable section

namespace Cert.ProjectionClaims0

open Idealize.ShloMosaic Idealize.SL.Sem

theorem frame_p : Cert.quiescent_Kernel8 (hKernel8 := Cert.Kernel8.Gen.facts) := fun m ρ _ => Cert.Kernel8.Gen.frame m ρ
theorem frame_pi : Cert.quiescent_Kernel8Ideal (hKernel8Ideal := Cert.Kernel8Ideal.Gen.facts) := fun m ρ _ =>
  Cert.Kernel8Ideal.Gen.frame m ρ
theorem frame_ri : Cert.quiescent_Reference8Ideal (hReference8Ideal := Cert.Reference8Ideal.Gen.facts) := fun m ρ _ =>
  (θ_run Cert.Reference8Ideal.defs _ _).mono (fun r h => ⟨fun c => (h c).2.2, sem_eq_zero_of_no_sems (by decide) r.2⟩)
    (Cert.Reference8Ideal.Value.run (F := Ideal) m ρ)

theorem preserves : Cert.preserves_Kernel8_Kernel8Ideal := trivial

/-- Both programs end with the group's queries, keys and values, twice. -/
theorem algebraic : Cert.algebraic_Kernel8Ideal_Reference8Ideal (hKernel8Ideal := Cert.Kernel8Ideal.Gen.facts)
    (hReference8Ideal := Cert.Reference8Ideal.Gen.facts) := by
  intro m g m' g' _ hag
  refine ⟨fun c => Cert.Proj.flat (Cert.Proj.out (Cert.Kernel8Ideal.Array.X0 m c) (Cert.Kernel8Ideal.Array.X1 m c) (Cert.Kernel8Ideal.Array.X2 m c) (Cert.Kernel8Ideal.Array.X3 m c) (Cert.Kernel8Ideal.Array.X4 m c) 0),
    fun c => Cert.Proj.flat (Cert.Proj.out (Cert.Kernel8Ideal.Array.X0 m c) (Cert.Kernel8Ideal.Array.X1 m c) (Cert.Kernel8Ideal.Array.X2 m c) (Cert.Kernel8Ideal.Array.X3 m c) (Cert.Kernel8Ideal.Array.X4 m c) 0), ?_, ?_⟩
  · refine (θ_run Cert.Kernel8Ideal.defs _ _).mono (fun r h c => ?_) (Cert.Kernel8Ideal.Value.run_blocks m g)
    exact ⟨(h c).1.trans (Cert.Kernel8Ideal.Array.arr7 m c),
      (h c).2.1.trans (Cert.Kernel8Ideal.Array.arr8 m c), (h c).2.2⟩
  · refine (θ_run Cert.Reference8Ideal.defs _ _).mono (fun r h c => ?_) (Cert.Reference8Ideal.Value.run m' g')
    refine ⟨(h c).1.trans ?_, (h c).2.1.trans ?_, (h c).2.2⟩
    all_goals obtain ⟨a0, a1, a2, a3, a4⟩ := hag c
    · rw [Cert.Reference8Ideal.Read.val_main_v95_eq, a0, a1, a2, a3, a4]
      exact Cert.Reference8Ideal.RefValue.v95_eq _ _ _ _ _
    · rw [Cert.Reference8Ideal.Read.val_main_v96_eq, a0, a1, a2, a3, a4]
      exact Cert.Reference8Ideal.RefValue.v96_eq _ _ _ _ _

end Cert.ProjectionClaims0

end
-- ==== Proof.ProjBlock2.lean ====
/- One grid point of the projection kernel of group 2: what it leaves in the carried rows and in its two output blocks. -/
module

public import proofs.«01_k».proof.Proof.ProjTile
public import proofs.«01_k».proof.Proof.Gen.Kernel9Ideal.Value
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Kernel9Ideal.Block

open Idealize.ShloMosaic Idealize.ShloMosaic.TcCoe Idealize.ShloMosaic.Tactic Idealize.SL.Sem
open Cert.Kernel9Ideal Cert.Kernel9Ideal.Gen

variable (m : (ℓ : Loc nD τ sig) → Buf (Elt Ideal) ℓ) (c : Dev nD) (t : Fin cfg0.N)

/-- The first point of a block of rows leaves the modulated rows. -/
theorem hidden_first (h0 : t.val % 6 = 0) :
    (outsAt0 m c t.val t.isLt).2.2 = k0_pay3 (iblk m c 0 t) (iblk m c 3 t) (iblk m c 1 t) (iblk m c 2 t) := by
  rw [outsAt0_A m c t h0]
  frame_open
  simp (disch := decide) only [↓ View.readCov_skip, ↓ View.readCov_cons_toLoadRect, ↓ View.readCov_fill]
  frame_out

/-- The others keep them. -/
theorem hidden_rest (h0 : ¬ t.val % 6 = 0) :
    (outsAt0 m c t.val t.isLt).2.2 = (outsAt0 m c (t.val - 1) (by omega)).2.2 := by
  rw [outsAt0_B m c t h0]
  rfl

/-- Whether the point's columns are rotated. -/
def flag : BitVec 1 := if t.val % 6 < 4 then 1#1 else 0#1

/-- A tile of the first result; it is made as for group 1. -/
def tile (h : Vec Ideal S1024x1024 .bf16) (w : Vec Ideal S1024x512 .bf16) (cs sn : Vec Ideal S1024x128 .f32) (f : BitVec 1) :
    FVec Ideal S1024x512 .f32 :=
  k0_pay1 (k0_pay4 h w) f (k0_pay5 cs) (k0_pay6 sn) k0_pay7 (k0_pay8 (k0_pay4 h w))

theorem tile_eq (h : Vec Ideal S1024x1024 .bf16) (w : Vec Ideal S1024x512 .bf16) (cs sn : Vec Ideal S1024x128 .f32) (f : BitVec 1) :
    tile h w cs sn f = Cert.Kernel3Ideal.Tile.tile h w cs sn f := rfl

/-- A point's block of the first result, from the rows it holds. -/
abbrev block (h : Vec Ideal S1024x1024 .bf16) : FVec Ideal S1024x512 .f32 :=
  tile h (iblk m c 4 t) (iblk m c 5 t) (iblk m c 6 t) (flag t)

theorem out_eq : (outsAt0 m c t.val t.isLt).1 = block m c t (outsAt0 m c t.val t.isLt).2.2 := by
  by_cases h0 : t.val % 6 = 0
  · rw [hidden_first m c t h0, outsAt0_A m c t h0]
    frame_open
    simp (disch := decide) only [↓ View.readCov_skip, ↓ View.readCov_cons_toLoadRect, ↓ View.readCov_fill]
    frame_out
    unfold block tile
    congr 1
    clear h0
    revert t
    show ∀ t : Fin grid0.N, _
    decide +kernel
  · rw [hidden_rest m c t h0, outsAt0_B m c t h0]
    frame_open
    simp (disch := decide) only [↓ View.readCov_skip, ↓ View.readCov_cons_toLoadRect, ↓ View.readCov_fill]
    frame_out
    simp only [read_unread_whole]
    unfold block tile
    congr 1
    clear h0
    revert t
    show ∀ t : Fin grid0.N, _
    decide +kernel

theorem out_bf : (outsAt0 m c t.val t.isLt).2.1
    = truncf .bf16 (block m c t (outsAt0 m c t.val t.isLt).2.2) bitsLt_bf16_f32 := by
  by_cases h0 : t.val % 6 = 0
  · rw [hidden_first m c t h0, outsAt0_A m c t h0]
    frame_open
    simp (disch := decide) only [↓ View.readCov_skip, ↓ View.readCov_cons_toLoadRect, ↓ View.readCov_fill]
    frame_out
    dsimp only [k0_pay2, block, tile]
    congr 2
    clear h0
    revert t
    show ∀ t : Fin grid0.N, _
    decide +kernel
  · rw [hidden_rest m c t h0, outsAt0_B m c t h0]
    frame_open
    simp (disch := decide) only [↓ View.readCov_skip, ↓ View.readCov_cons_toLoadRect, ↓ View.readCov_fill]
    frame_out
    simp only [read_unread_whole]
    dsimp only [k0_pay2, block, tile]
    congr 2
    clear h0
    revert t
    show ∀ t : Fin grid0.N, _
    decide +kernel

end Cert.Kernel9Ideal.Block

end
-- ==== Proof.ProjArray2.lean ====
/- The two result arrays of the projection kernel of group 2, entry by entry. -/
module

public import proofs.«01_k».proof.Proof.ProjBlock2
public import proofs.«01_k».proof.Proof.ProjSpec

@[expose] public section

set_option maxRecDepth 16384

noncomputable section

namespace Cert.Kernel9Ideal.Array

open Idealize.ShloMosaic Idealize.ShloMosaic.TcCoe Idealize.ShloMosaic.Tactic Idealize.SL.Sem
open Cert.Kernel9Ideal Cert.Kernel9Ideal.Gen Cert.Kernel9Ideal.Block

theorem index_eq : ∀ t : Fin cfg0.N,
    win0_0.index t = ![t.val / 6, 0]
    ∧ win0_1.index t = ![t.val / 24, 0, 0]
    ∧ win0_2.index t = ![t.val / 24, 0, 0]
    ∧ win0_3.index t = ![0, 0]
    ∧ win0_4.index t = ![0, t.val % 6]
    ∧ win0_5.index t = ![t.val / 6 % 4, 0]
    ∧ win0_6.index t = ![t.val / 6 % 4, 0]
    ∧ win0_7.index t = ![t.val / 6, t.val % 6]
    ∧ win0_8.index t = ![t.val / 6, t.val % 6] :=
  (by decide +kernel : ∀ t : Fin grid0.N, _)

variable (m : (ℓ : Loc nD τ sig) → Buf (Elt Ideal) ℓ) (c : Dev nD) (t : Fin cfg0.N)

/-- The arguments. -/
abbrev X0 : (⟨3, ![4, 4096, 1024]⟩ : Shape).Idx → EReal := m ((c : Thread nD τ).loc main_arg0)
abbrev X1 : (⟨3, ![4, 1, 1024]⟩ : Shape).Idx → EReal := m ((c : Thread nD τ).loc main_arg1)
abbrev X2 : (⟨3, ![4, 1, 1024]⟩ : Shape).Idx → EReal := m ((c : Thread nD τ).loc main_arg2)
abbrev X3 : (⟨1, ![1024]⟩ : Shape).Idx → EReal := m ((c : Thread nD τ).loc main_arg3)
abbrev X4 : (⟨2, ![1024, 9216]⟩ : Shape).Idx → EReal := m ((c : Thread nD τ).loc main_arg4)

theorem t_lt : t.val < 96 := lt_of_lt_of_eq t.isLt N_0

/-- The batch and the position of a row of the point's block. -/
abbrev bt : Fin 4 := ⟨t.val / 24, by have := t_lt t; omega⟩
abbrev pos (r : Fin 1024) : Fin 4096 := ⟨t.val / 6 % 4 * 1024 + r.val, by have := r.isLt; omega⟩

theorem iblk0 (r : Fin 1024) (k : Fin 1024) : (iblk m c 0 t (ix2 r k) : EReal) = X0 m c (ix3 (bt t) (pos t r) k) := by
  blk_ext! [iblk, V, index_eq t]
  all_goals (have := r.isLt; omega)

theorem iblk1 (k : Fin 1024) : (iblk m c 1 t (ix3 0 0 k) : EReal) = X1 m c (ix3 (bt t) 0 k) := by
  blk_ext! [iblk, V, index_eq t]

theorem iblk2 (k : Fin 1024) : (iblk m c 2 t (ix3 0 0 k) : EReal) = X2 m c (ix3 (bt t) 0 k) := by
  blk_ext! [iblk, V, index_eq t]

theorem iblk3 (k : Fin 1024) : (iblk m c 3 t (ix2 0 k) : EReal) = X3 m c (ix1 k) := by
  blk_ext! [iblk, V, index_eq t]

theorem iblk4 (l : Fin 1024) (j : Fin 512) : (iblk m c 4 t (ix2 l j) : EReal)
    = X4 m c (ix2 l ⟨(6144 + t.val % 6 * 512 + j.val) % 9216, Nat.mod_lt _ (by decide)⟩) := by
  have hj := j.isLt
  rw [show (⟨(6144 + t.val % 6 * 512 + j.val) % 9216, Nat.mod_lt _ (by decide)⟩ : Fin 9216)
    = ⟨6144 + t.val % 6 * 512 + j.val, by omega⟩ from Fin.ext (by simp only; omega)]
  blk_ext! [iblk, V, index_eq t]

/-- The tables. -/
theorem iblk5 (r : Fin 1024) (l : Fin 128) : (iblk m c 5 t (ix2 r l) : EReal)
    = Proj.cosAt (pos t r).val l.val := by
  have e0 : ((win0_5.blk t).view.emb (ix2 r l)) = ix2 (pos t r) l := by
    blk_ext! [index_eq t]
  refine Eq.trans (b := (V m c main_v18 (ix2 (pos t r) l) : EReal)) ?_ ?_
  · exact congrArg (V m c main_v18) e0
  · blk_simp [V]
    entry_read
    pointwise
    rfl

theorem iblk6 (r : Fin 1024) (l : Fin 128) : (iblk m c 6 t (ix2 r l) : EReal)
    = Proj.sinAt (pos t r).val l.val := by
  have e0 : ((win0_6.blk t).view.emb (ix2 r l)) = ix2 (pos t r) l := by
    blk_ext! [index_eq t]
  refine Eq.trans (b := (V m c main_v23 (ix2 (pos t r) l) : EReal)) ?_ ?_
  · exact congrArg (V m c main_v23) e0
  · blk_simp [V]
    entry_read
    pointwise
    rfl

/-- The modulated rows of the point's block. -/
theorem pay3_apply (r : Fin 1024) (k : Fin 1024) :
    k0_pay3 (iblk m c 0 t) (iblk m c 3 t) (iblk m c 1 t) (iblk m c 2 t) (ix2 r k)
      = Ffn.row (X0 m c) (X1 m c) (X2 m c) (X3 m c) (bt t) (pos t r) k := by
  pointwise [k0_pay3]
  simp only [iblk0, iblk1, iblk2, iblk3]
  rfl

/-- Every point holds the modulated rows of its block. -/
theorem hidden : ∀ (n : ℕ) (hn : n < cfg0.N) (r k : Fin 1024), ((outsAt0 m c n hn).2.2 (ix2 r k) : EReal)
    = Ffn.row (X0 m c) (X1 m c) (X2 m c) (X3 m c) (bt ⟨n, hn⟩) (pos ⟨n, hn⟩ r) k := by
  intro n
  induction n with
  | zero =>
    intro hn r k
    have h := hidden_first m c ⟨0, hn⟩ rfl
    exact (congrFun h _).trans (pay3_apply m c ⟨0, hn⟩ r k)
  | succ n ih =>
    intro hn r k
    by_cases h0 : (n + 1) % 6 = 0
    · have h := hidden_first m c ⟨n + 1, hn⟩ h0
      exact (congrFun h _).trans (pay3_apply m c ⟨n + 1, hn⟩ r k)
    · have h := hidden_rest m c ⟨n + 1, hn⟩ h0
      refine (congrFun h _).trans ((ih (by omega) r k).trans ?_)
      have eb : bt ⟨n, by omega⟩ = bt ⟨n + 1, hn⟩ := Fin.ext (by simp only [bt]; omega)
      have ep : pos ⟨n, by omega⟩ r = pos ⟨n + 1, hn⟩ r := Fin.ext (by simp only [pos]; omega)
      rw [eb, ep]

theorem acc_apply (h : Vec Ideal S1024x1024 .bf16) (r : Fin 1024) (k : Fin 512)
    (hh : ∀ l : Fin 1024, (h (ix2 r l) : EReal) = Ffn.row (X0 m c) (X1 m c) (X2 m c) (X3 m c) (bt t) (pos t r) l) :
    ∑ l : Fin 1024, (h (ix2 r l) : EReal) * iblk m c 4 t (ix2 l k)
      = Proj.acc (X0 m c) (X1 m c) (X2 m c) (X3 m c) (X4 m c) (bt t) (pos t r) (6144 + t.val % 6 * 512 + k.val) := by
  simp only [iblk4, hh]
  rfl

/-- The point's block of the result. -/
theorem block_apply (h : Vec Ideal S1024x1024 .bf16) (r : Fin 1024) (k : Fin 512)
    (hh : ∀ l : Fin 1024, (h (ix2 r l) : EReal) = Ffn.row (X0 m c) (X1 m c) (X2 m c) (X3 m c) (bt t) (pos t r) l) :
    block m c t h (ix2 r k)
      = Proj.out (X0 m c) (X1 m c) (X2 m c) (X3 m c) (X4 m c) 6144 (bt t) (pos t r) (t.val % 6 * 512 + k.val) := by
  have hk := k.isLt
  unfold block
  rw [tile_eq]
  refine (Cert.Kernel3Ideal.Tile.tile_apply h _ _ _ _ _ (6144 + t.val % 6 * 512) (pos t r).val r k (by omega)
    (by unfold flag; split_ifs <;> simp) (fun k => acc_apply m c t h r k hh) (iblk5 m c t r) (iblk6 m c t r)).trans ?_
  unfold Proj.out Proj.rot flag
  rw [Nat.add_assoc]
  by_cases h1 : t.val % 6 < 4
  · rw [if_pos h1, if_pos rfl, if_pos (by omega)]
  · rw [if_neg h1, if_neg (by decide), if_neg (by omega)]

theorem arr7 : (dats m 0 c).arrAt 7 cfg0.N = Proj.flat (Proj.out (X0 m c) (X1 m c) (X2 m c) (X3 m c) (X4 m c) 6144) := by
  refine (dats m 0 c).arrAt_eq_of_covers 7 _ (by decide +kernel) fun t hf y => ?_
  blk_simp
  rw [after0_7, out_eq]
  have e0 : ((win0_7.blk t).view.emb y 0).val = t.val / 6 * 1024 + (y 0).val := by blk_simp [index_eq t]
  have e1 : ((win0_7.blk t).view.emb y 1).val = t.val % 6 * 512 + (y 1).val := by blk_simp [index_eq t]
  obtain ⟨r, k, rfl⟩ : ∃ (r : Fin 1024) (k : Fin 512), y = ix2 r k := ⟨y 0, y 1, eq_ix2 y⟩
  refine (block_apply m c t _ r k fun l => hidden m c t.val t.isLt r l).trans ?_
  replace e0 : _ = t.val / 6 * 1024 + r.val := e0
  refine Proj.flat_of _ _ _ _ _ ?_ e1
  simp only [e0, bt, pos]
  have := t_lt t
  omega

theorem arr8 : (dats m 0 c).arrAt 8 cfg0.N = Proj.flat (Proj.out (X0 m c) (X1 m c) (X2 m c) (X3 m c) (X4 m c) 6144) := by
  refine (dats m 0 c).arrAt_eq_of_covers 8 _ (by decide +kernel) fun t hf y => ?_
  blk_simp
  rw [after0_8, out_bf]
  have e0 : ((win0_8.blk t).view.emb y 0).val = t.val / 6 * 1024 + (y 0).val := by blk_simp [index_eq t]
  have e1 : ((win0_8.blk t).view.emb y 1).val = t.val % 6 * 512 + (y 1).val := by blk_simp [index_eq t]
  obtain ⟨r, k, rfl⟩ : ∃ (r : Fin 1024) (k : Fin 512), y = ix2 r k := ⟨y 0, y 1, eq_ix2 y⟩
  refine (block_apply m c t _ r k fun l => hidden m c t.val t.isLt r l).trans ?_
  replace e0 : _ = t.val / 6 * 1024 + r.val := e0
  refine Proj.flat_of _ _ _ _ _ ?_ e1
  simp only [e0, bt, pos]
  have := t_lt t
  omega

end Cert.Kernel9Ideal.Array

end
-- ==== Proof.ProjRef2.lean ====
/- The results of the projection's reference at group 2, entry by entry: up to the choice of the group it computes what
   the reference at group 1 does (`ProjRef.lean`). -/
module

public import proofs.«01_k».proof.Proof.ProjRef
public import proofs.«01_k».proof.Proof.Gen.Reference9Ideal.Read

@[expose] public section

set_option maxRecDepth 16384

noncomputable section

namespace Cert.Reference9Ideal.RefValue

open Idealize.ShloMosaic Idealize.ShloMosaic.TcCoe Idealize.ShloMosaic.Tactic Idealize.SL.Sem
open Cert.Reference9Ideal Cert.Reference9Ideal.Gen Cert.Reference9Ideal.Read

variable (x0 : (⟨S4x4096x1024, .f32⟩ : BufTy).Contents (Elt Ideal)) (x1 x2 : (⟨S4x1x1024, .f32⟩ : BufTy).Contents (Elt Ideal))
  (x3 : (⟨S1024, .f32⟩ : BufTy).Contents (Elt Ideal)) (x4 : (⟨S1024x9216, .f32⟩ : BufTy).Contents (Elt Ideal))

theorem qr_eq : val_main_v52 (F := Ideal) x0 x1 x2 x3 x4 = Cert.Reference3Ideal.Read.val_main_v52 (F := Ideal) x0 x1 x2 x3 x4 := rfl

theorem kr_eq : val_main_v83 (F := Ideal) x0 x1 x2 x3 x4 = Cert.Reference3Ideal.Read.val_main_v83 (F := Ideal) x0 x1 x2 x3 x4 := rfl

theorem v_eq : val_main_v85 (F := Ideal) x0 x1 x2 x3 x4 = Cert.Reference3Ideal.Read.val_main_v85 (F := Ideal) x0 x1 x2 x3 x4 := rfl

theorem cast_apply (v : Vec Ideal S4x4096x1x16x64 .f32) (b : Fin 4) (p : Fin 4096) (h : Fin 16) (d : Fin 64) :
    shapeCast S4x4096x16x64 v shapeCasts_S4x4096x1x16x64_S4x4096x16x64 (ix4 b p h d) = v (ix5 b p 0 h d) := by
  pointwise

theorem v90_apply (b : Fin 4) (p : Fin 4096) (h : Fin 16) (d : Fin 64) :
    val_main_v90 (F := Ideal) x0 x1 x2 x3 x4 (ix4 b p h d) = val_main_v89 (F := Ideal) x0 x1 x2 x3 x4 (ix5 b p 0 h d) := by
  unfold val_main_v90
  exact cast_apply _ b p h d

theorem slice_apply (v : Vec Ideal S4x4096x3x16x64 .f32) (b : Fin 4) (p : Fin 4096) (h : Fin 16) (d : Fin 64) :
    extractStridedSlice S4x4096x1x16x64 ![0, 0, 2, 0, 0] v slices_S4x4096x3x16x64_S4x4096x1x16x64_0_0_2_0_0 (ix5 b p 0 h d)
      = v (ix5 b p 2 h d) := by
  pointwise

theorem bcast_apply (v : Vec Ideal S4x4096x16x64 .f32) (b : Fin 4) (p : Fin 4096) (z : Fin 1) (h : Fin 16) (d : Fin 64) :
    broadcastInDim S4x4096x1x16x64 ![0, 1, 3, 4] bcast_S4x4096x16x64_S4x4096x1x16x64_0_1_3_4 v (ix5 b p z h d)
      = v (ix4 b p h d) := by
  pointwise

theorem v91_apply (b : Fin 4) (p : Fin 4096) (z : Fin 1) (h : Fin 16) (d : Fin 64) :
    val_main_v91 (F := Ideal) x0 x1 x2 x3 x4 (ix5 b p z h d) = val_main_v52 (F := Ideal) x0 x1 x2 x3 x4 (ix5 b p 2 h d) := by
  unfold val_main_v91
  refine (bcast_apply _ b p z h d).trans ((v90_apply x0 x1 x2 x3 x4 b p h d).trans ?_)
  unfold val_main_v89
  exact slice_apply _ b p h d

theorem v93_apply (b : Fin 4) (p : Fin 4096) (s : Fin 2) (h : Fin 16) (d : Fin 64) :
    val_main_v93 (F := Ideal) x0 x1 x2 x3 x4 (ix5 b p s h d)
      = if s.val < 1 then val_main_v83 (F := Ideal) x0 x1 x2 x3 x4 (ix5 b p 2 h d)
        else val_main_v85 (F := Ideal) x0 x1 x2 x3 x4 (ix5 b p 2 h d) := by
  pointwise [val_main_v93, val_main_v92, val_main_v88, val_main_v87, val_main_v86]
  simp only [dite_eq_ite]

theorem v94_apply (b : Fin 4) (p : Fin 4096) (s : Fin 3) (h : Fin 16) (d : Fin 64) (k : ℕ)
    (hk : k = s.val * 1024 + h.val * 64 + d.val) :
    val_main_v94 (F := Ideal) x0 x1 x2 x3 x4 (ix5 b p s h d) = Proj.out x0 x1 x2 x3 x4 6144 b p k := by
  have hh := h.isLt
  have hd := d.isLt
  pointwise [val_main_v94]
  unfold Proj.out
  by_cases h1 : s.val < 1
  · rw [dif_pos h1, if_pos (by omega), v91_apply, qr_eq, Cert.Reference3Ideal.RefValue.qr_apply x0 x1 x2 x3 x4 b p 2 h d (6144 + k) (by have : (2 : Fin 3).val = 2 := rfl; omega)]
  · rw [dif_neg h1, v93_apply]
    by_cases h2 : k < 2048
    · rw [if_pos h2, if_pos (by simp only; omega), kr_eq, Cert.Reference3Ideal.RefValue.kr_apply x0 x1 x2 x3 x4 b p 2 h d (6144 + k) (by have : (2 : Fin 3).val = 2 := rfl; omega)]
    · rw [if_neg h2, if_neg (by simp only; omega), v_eq, Cert.Reference3Ideal.RefValue.v_apply x0 x1 x2 x3 x4 b p 2 h d (6144 + k) (by have : (2 : Fin 3).val = 2 := rfl; omega)]

theorem v95_eq : val_main_v95 (F := Ideal) x0 x1 x2 x3 x4 = Proj.flat (Proj.out x0 x1 x2 x3 x4 6144) := by
  funext y
  obtain ⟨r, k, rfl⟩ : ∃ (r : Fin 16384) (k : Fin 3072), y = ix2 r k := ⟨y 0, y 1, eq_ix2 y⟩
  pointwise [val_main_v95]
  exact v94_apply x0 x1 x2 x3 x4 _ _ _ _ _ k.val (by simp only; omega)

theorem v96_eq : val_main_v96 (F := Ideal) x0 x1 x2 x3 x4 = Proj.flat (Proj.out x0 x1 x2 x3 x4 6144) := by
  rw [← v95_eq]
  funext y
  pointwise [val_main_v96]

end Cert.Reference9Ideal.RefValue

end
-- ==== Proof.Projection2.lean ====
/- The claims about the projection to group 2's queries, keys and values: the kernel's arrays (`ProjArray2.lean`) and the
   reference's results (`ProjRef2.lean`) are one function of the arguments. -/
module

public import proofs.«01_k».proof.Defs
public import proofs.«01_k».proof.Proof.ProjArray2
public import proofs.«01_k».proof.Proof.ProjRef2
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import Idealize.ShloMosaic.Adequacy

@[expose] public section

noncomputable section

namespace Cert.ProjectionClaims2

open Idealize.ShloMosaic Idealize.SL.Sem

theorem frame_p : Cert.quiescent_Kernel9 (hKernel9 := Cert.Kernel9.Gen.facts) := fun m ρ _ => Cert.Kernel9.Gen.frame m ρ
theorem frame_pi : Cert.quiescent_Kernel9Ideal (hKernel9Ideal := Cert.Kernel9Ideal.Gen.facts) := fun m ρ _ =>
  Cert.Kernel9Ideal.Gen.frame m ρ
theorem frame_ri : Cert.quiescent_Reference9Ideal (hReference9Ideal := Cert.Reference9Ideal.Gen.facts) := fun m ρ _ =>
  (θ_run Cert.Reference9Ideal.defs _ _).mono (fun r h => ⟨fun c => (h c).2.2, sem_eq_zero_of_no_sems (by decide) r.2⟩)
    (Cert.Reference9Ideal.Value.run (F := Ideal) m ρ)

theorem preserves : Cert.preserves_Kernel9_Kernel9Ideal := trivial

/-- Both programs end with the group's queries, keys and values, twice. -/
theorem algebraic : Cert.algebraic_Kernel9Ideal_Reference9Ideal (hKernel9Ideal := Cert.Kernel9Ideal.Gen.facts)
    (hReference9Ideal := Cert.Reference9Ideal.Gen.facts) := by
  intro m g m' g' _ hag
  refine ⟨fun c => Cert.Proj.flat (Cert.Proj.out (Cert.Kernel9Ideal.Array.X0 m c) (Cert.Kernel9Ideal.Array.X1 m c) (Cert.Kernel9Ideal.Array.X2 m c) (Cert.Kernel9Ideal.Array.X3 m c) (Cert.Kernel9Ideal.Array.X4 m c) 6144),
    fun c => Cert.Proj.flat (Cert.Proj.out (Cert.Kernel9Ideal.Array.X0 m c) (Cert.Kernel9Ideal.Array.X1 m c) (Cert.Kernel9Ideal.Array.X2 m c) (Cert.Kernel9Ideal.Array.X3 m c) (Cert.Kernel9Ideal.Array.X4 m c) 6144), ?_, ?_⟩
  · refine (θ_run Cert.Kernel9Ideal.defs _ _).mono (fun r h c => ?_) (Cert.Kernel9Ideal.Value.run_blocks m g)
    exact ⟨(h c).1.trans (Cert.Kernel9Ideal.Array.arr7 m c),
      (h c).2.1.trans (Cert.Kernel9Ideal.Array.arr8 m c), (h c).2.2⟩
  · refine (θ_run Cert.Reference9Ideal.defs _ _).mono (fun r h c => ?_) (Cert.Reference9Ideal.Value.run m' g')
    refine ⟨(h c).1.trans ?_, (h c).2.1.trans ?_, (h c).2.2⟩
    all_goals obtain ⟨a0, a1, a2, a3, a4⟩ := hag c
    · rw [Cert.Reference9Ideal.Read.val_main_v95_eq, a0, a1, a2, a3, a4]
      exact Cert.Reference9Ideal.RefValue.v95_eq _ _ _ _ _
    · rw [Cert.Reference9Ideal.Read.val_main_v96_eq, a0, a1, a2, a3, a4]
      exact Cert.Reference9Ideal.RefValue.v96_eq _ _ _ _ _

end Cert.ProjectionClaims2

end
-- ==== Proof.QProj.lean ====
/- The two result arrays of the projection to the second attention's queries, entry by entry. -/
module

public import proofs.«01_k».proof.Proof.KvSpec
public import proofs.«01_k».proof.Proof.ProjTile
public import proofs.«01_k».proof.Proof.Gen.Kernel10Ideal.Value
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Kernel10Ideal.Array

open Idealize.ShloMosaic Idealize.ShloMosaic.TcCoe Idealize.ShloMosaic.Tactic Idealize.SL.Sem
open Cert.Kernel10Ideal Cert.Kernel10Ideal.Gen

/-- A rotated tile, from the rows, the columns and the tables. -/
def tile (h : Vec Ideal S1024x1024 .bf16) (w : Vec Ideal S1024x512 .bf16) (cs sn : Vec Ideal S1024x128 .f32) :
    FVec Ideal S1024x512 .f32 :=
  k0_pay1 (k0_pay3 h w) (k0_pay4 cs) (k0_pay5 sn) k0_pay6 (k0_pay7 h w) 32#32

/-- Its operations are those of a rotated tile of the first attention's projection. -/
theorem tile_eq (h : Vec Ideal S1024x1024 .bf16) (w : Vec Ideal S1024x512 .bf16) (cs sn : Vec Ideal S1024x128 .f32) (y : S1024x512.Idx) :
    tile h w cs sn y = Cert.Kernel3Ideal.Tile.tile h w cs sn 1#1 y := rfl

variable (m : (ℓ : Loc nD τ sig) → Buf (Elt Ideal) ℓ) (c : Dev nD) (t : Fin cfg0.N)

/-- The first point of a block of rows leaves the modulated rows. -/
theorem hidden_first (h0 : t.val % 2 = 0) :
    (outsAt0 m c t.val t.isLt).2.2 = k0_pay2 (iblk m c 0 t) (iblk m c 3 t) (iblk m c 1 t) (iblk m c 2 t) := by
  rw [outsAt0_A m c t h0]
  frame_open
  simp (disch := decide) only [↓ View.readCov_skip, ↓ View.readCov_cons_toLoadRect, ↓ View.readCov_fill]
  frame_out

/-- The others keep them. -/
theorem hidden_rest (h0 : ¬ t.val % 2 = 0) :
    (outsAt0 m c t.val t.isLt).2.2 = (outsAt0 m c (t.val - 1) (by omega)).2.2 := by
  rw [outsAt0_B m c t h0]
  rfl

theorem out_acc : (outsAt0 m c t.val t.isLt).1 = k0_pay3 (outsAt0 m c t.val t.isLt).2.2 (iblk m c 4 t) := by
  by_cases h0 : t.val % 2 = 0
  · rw [hidden_first m c t h0, outsAt0_A m c t h0]
    frame_open
    simp (disch := decide) only [↓ View.readCov_skip, ↓ View.readCov_cons_toLoadRect, ↓ View.readCov_fill]
    frame_out
  · rw [hidden_rest m c t h0, outsAt0_B m c t h0]
    frame_open
    simp (disch := decide) only [↓ View.readCov_skip, ↓ View.readCov_cons_toLoadRect, ↓ View.readCov_fill]
    frame_out
    simp only [read_unread_whole]

theorem out_rot : (outsAt0 m c t.val t.isLt).2.1 = tile (outsAt0 m c t.val t.isLt).2.2 (iblk m c 4 t) (iblk m c 5 t) (iblk m c 6 t) := by
  by_cases h0 : t.val % 2 = 0
  · rw [hidden_first m c t h0, outsAt0_A m c t h0]
    frame_open
    simp (disch := decide) only [↓ View.readCov_skip, ↓ View.readCov_cons_toLoadRect, ↓ View.readCov_fill]
    frame_out
    rfl
  · rw [hidden_rest m c t h0, outsAt0_B m c t h0]
    frame_open
    simp (disch := decide) only [↓ View.readCov_skip, ↓ View.readCov_cons_toLoadRect, ↓ View.readCov_fill]
    frame_out
    simp only [read_unread_whole]
    rfl

theorem index_eq : ∀ t : Fin cfg0.N,
    win0_0.index t = ![t.val / 2, 0]
    ∧ win0_1.index t = ![t.val / 8, 0, 0]
    ∧ win0_2.index t = ![t.val / 8, 0, 0]
    ∧ win0_3.index t = ![0, 0]
    ∧ win0_4.index t = ![0, t.val % 2]
    ∧ win0_5.index t = ![t.val / 2 % 4, 0]
    ∧ win0_6.index t = ![t.val / 2 % 4, 0]
    ∧ win0_7.index t = ![t.val / 2, t.val % 2]
    ∧ win0_8.index t = ![t.val / 2, t.val % 2] :=
  (by decide +kernel : ∀ t : Fin grid0.N, _)

/-- The arguments. -/
abbrev X0 : (⟨3, ![4, 4096, 1024]⟩ : Shape).Idx → EReal := m ((c : Thread nD τ).loc main_arg0)
abbrev X1 : (⟨3, ![4, 1, 1024]⟩ : Shape).Idx → EReal := m ((c : Thread nD τ).loc main_arg1)
abbrev X2 : (⟨3, ![4, 1, 1024]⟩ : Shape).Idx → EReal := m ((c : Thread nD τ).loc main_arg2)
abbrev X3 : (⟨1, ![1024]⟩ : Shape).Idx → EReal := m ((c : Thread nD τ).loc main_arg3)
abbrev X4 : (⟨2, ![1024, 1072]⟩ : Shape).Idx → EReal := m ((c : Thread nD τ).loc main_arg4)

theorem t_lt : t.val < 32 := lt_of_lt_of_eq t.isLt N_0

/-- The batch and the position of a row of the point's block. -/
abbrev bt : Fin 4 := ⟨t.val / 8, by have := t_lt t; omega⟩
abbrev pos (r : Fin 1024) : Fin 4096 := ⟨t.val / 2 % 4 * 1024 + r.val, by have := r.isLt; omega⟩

theorem iblk0 (r : Fin 1024) (k : Fin 1024) : (iblk m c 0 t (ix2 r k) : EReal) = X0 m c (ix3 (bt t) (pos t r) k) := by
  blk_ext! [iblk, V, index_eq t]
  all_goals (have := r.isLt; omega)

theorem iblk1 (k : Fin 1024) : (iblk m c 1 t (ix3 0 0 k) : EReal) = X1 m c (ix3 (bt t) 0 k) := by
  blk_ext! [iblk, V, index_eq t]

theorem iblk2 (k : Fin 1024) : (iblk m c 2 t (ix3 0 0 k) : EReal) = X2 m c (ix3 (bt t) 0 k) := by
  blk_ext! [iblk, V, index_eq t]

theorem iblk3 (k : Fin 1024) : (iblk m c 3 t (ix2 0 k) : EReal) = X3 m c (ix1 k) := by
  blk_ext! [iblk, V, index_eq t]

theorem iblk4 (l : Fin 1024) (j : Fin 512) : (iblk m c 4 t (ix2 l j) : EReal)
    = X4 m c (ix2 l ⟨(t.val % 2 * 512 + j.val) % 1072, Nat.mod_lt _ (by decide)⟩) := by
  have hj := j.isLt
  rw [show (⟨(t.val % 2 * 512 + j.val) % 1072, Nat.mod_lt _ (by decide)⟩ : Fin 1072)
    = ⟨t.val % 2 * 512 + j.val, by omega⟩ from Fin.ext (by simp only; omega)]
  blk_ext! [iblk, V, index_eq t]

/-- The tables. -/
theorem iblk5 (r : Fin 1024) (l : Fin 128) : (iblk m c 5 t (ix2 r l) : EReal)
    = Proj.cosAt (pos t r).val l.val := by
  have e0 : ((win0_5.blk t).view.emb (ix2 r l)) = ix2 (pos t r) l := by
    blk_ext! [index_eq t]
  refine Eq.trans (b := (V m c main_v18 (ix2 (pos t r) l) : EReal)) ?_ ?_
  · exact congrArg (V m c main_v18) e0
  · blk_simp [V]
    entry_read
    pointwise
    rfl

theorem iblk6 (r : Fin 1024) (l : Fin 128) : (iblk m c 6 t (ix2 r l) : EReal)
    = Proj.sinAt (pos t r).val l.val := by
  have e0 : ((win0_6.blk t).view.emb (ix2 r l)) = ix2 (pos t r) l := by
    blk_ext! [index_eq t]
  refine Eq.trans (b := (V m c main_v23 (ix2 (pos t r) l) : EReal)) ?_ ?_
  · exact congrArg (V m c main_v23) e0
  · blk_simp [V]
    entry_read
    pointwise
    rfl

/-- The modulated rows of the point's block. -/
theorem pay2_apply (r : Fin 1024) (k : Fin 1024) :
    k0_pay2 (iblk m c 0 t) (iblk m c 3 t) (iblk m c 1 t) (iblk m c 2 t) (ix2 r k)
      = Ffn.row (X0 m c) (X1 m c) (X2 m c) (X3 m c) (bt t) (pos t r) k := by
  pointwise [k0_pay2]
  simp only [iblk0, iblk1, iblk2, iblk3]
  rfl

/-- Every point holds the modulated rows of its block. -/
theorem hidden : ∀ (n : ℕ) (hn : n < cfg0.N) (r k : Fin 1024), ((outsAt0 m c n hn).2.2 (ix2 r k) : EReal)
    = Ffn.row (X0 m c) (X1 m c) (X2 m c) (X3 m c) (bt ⟨n, hn⟩) (pos ⟨n, hn⟩ r) k := by
  intro n
  induction n with
  | zero =>
    intro hn r k
    have h := hidden_first m c ⟨0, hn⟩ rfl
    exact (congrFun h _).trans (pay2_apply m c ⟨0, hn⟩ r k)
  | succ n ih =>
    intro hn r k
    by_cases h0 : (n + 1) % 2 = 0
    · have h := hidden_first m c ⟨n + 1, hn⟩ h0
      exact (congrFun h _).trans (pay2_apply m c ⟨n + 1, hn⟩ r k)
    · have h := hidden_rest m c ⟨n + 1, hn⟩ h0
      refine (congrFun h _).trans ((ih (by omega) r k).trans ?_)
      have eb : bt ⟨n, by omega⟩ = bt ⟨n + 1, hn⟩ := Fin.ext (by simp only [bt]; omega)
      have ep : pos ⟨n, by omega⟩ r = pos ⟨n + 1, hn⟩ r := Fin.ext (by simp only [pos]; omega)
      rw [eb, ep]

theorem acc_apply (h : Vec Ideal S1024x1024 .bf16) (r : Fin 1024) (k : Fin 512)
    (hh : ∀ l : Fin 1024, (h (ix2 r l) : EReal) = Ffn.row (X0 m c) (X1 m c) (X2 m c) (X3 m c) (bt t) (pos t r) l) :
    ∑ l : Fin 1024, (h (ix2 r l) : EReal) * iblk m c 4 t (ix2 l k)
      = Proj.acc (X0 m c) (X1 m c) (X2 m c) (X3 m c) (X4 m c) (bt t) (pos t r) (t.val % 2 * 512 + k.val) := by
  simp only [iblk4, hh]
  rfl

/-- The point's blocks of the two results. -/
theorem block_acc (h : Vec Ideal S1024x1024 .bf16) (r : Fin 1024) (k : Fin 512)
    (hh : ∀ l : Fin 1024, (h (ix2 r l) : EReal) = Ffn.row (X0 m c) (X1 m c) (X2 m c) (X3 m c) (bt t) (pos t r) l) :
    k0_pay3 h (iblk m c 4 t) (ix2 r k) = Proj.acc (X0 m c) (X1 m c) (X2 m c) (X3 m c) (X4 m c) (bt t) (pos t r) (t.val % 2 * 512 + k.val) := by
  pointwise [k0_pay3]
  exact acc_apply m c t h r k hh

theorem block_rot (h : Vec Ideal S1024x1024 .bf16) (r : Fin 1024) (k : Fin 512)
    (hh : ∀ l : Fin 1024, (h (ix2 r l) : EReal) = Ffn.row (X0 m c) (X1 m c) (X2 m c) (X3 m c) (bt t) (pos t r) l) :
    tile h (iblk m c 4 t) (iblk m c 5 t) (iblk m c 6 t) (ix2 r k)
      = Proj.rot (X0 m c) (X1 m c) (X2 m c) (X3 m c) (X4 m c) (bt t) (pos t r) (t.val % 2 * 512 + k.val) := by
  refine (tile_eq h _ _ _ _).trans ((Cert.Kernel3Ideal.Tile.tile_apply h _ _ _ _ _ (t.val % 2 * 512) (pos t r).val r k (by omega)
    (.inr rfl) (fun k => acc_apply m c t h r k hh) (iblk5 m c t r) (iblk6 m c t r)).trans ?_)
  rw [if_pos rfl]
  rfl

theorem arr7 : (dats m 0 c).arrAt 7 cfg0.N = Proj.flat (Proj.acc (X0 m c) (X1 m c) (X2 m c) (X3 m c) (X4 m c)) := by
  refine (dats m 0 c).arrAt_eq_of_covers 7 _ (by decide +kernel) fun t hf y => ?_
  blk_simp
  rw [after0_7, out_acc]
  have e0 : ((win0_7.blk t).view.emb y 0).val = t.val / 2 * 1024 + (y 0).val := by blk_simp [index_eq t]
  have e1 : ((win0_7.blk t).view.emb y 1).val = t.val % 2 * 512 + (y 1).val := by blk_simp [index_eq t]
  obtain ⟨r, k, rfl⟩ : ∃ (r : Fin 1024) (k : Fin 512), y = ix2 r k := ⟨y 0, y 1, eq_ix2 y⟩
  refine (block_acc m c t _ r k fun l => hidden m c t.val t.isLt r l).trans ?_
  replace e0 : _ = t.val / 2 * 1024 + r.val := e0
  refine Proj.flat_of _ _ _ _ _ ?_ e1
  simp only [e0, bt, pos]
  have := t_lt t
  omega

theorem arr8 : (dats m 0 c).arrAt 8 cfg0.N = Proj.flat (Proj.rot (X0 m c) (X1 m c) (X2 m c) (X3 m c) (X4 m c)) := by
  refine (dats m 0 c).arrAt_eq_of_covers 8 _ (by decide +kernel) fun t hf y => ?_
  blk_simp
  rw [after0_8, out_rot]
  have e0 : ((win0_8.blk t).view.emb y 0).val = t.val / 2 * 1024 + (y 0).val := by blk_simp [index_eq t]
  have e1 : ((win0_8.blk t).view.emb y 1).val = t.val % 2 * 512 + (y 1).val := by blk_simp [index_eq t]
  obtain ⟨r, k, rfl⟩ : ∃ (r : Fin 1024) (k : Fin 512), y = ix2 r k := ⟨y 0, y 1, eq_ix2 y⟩
  refine (block_rot m c t _ r k fun l => hidden m c t.val t.isLt r l).trans ?_
  replace e0 : _ = t.val / 2 * 1024 + r.val := e0
  refine Proj.flat_of _ _ _ _ _ ?_ e1
  simp only [e0, bt, pos]
  have := t_lt t
  omega

end Cert.Kernel10Ideal.Array

end
-- ==== Proof.QRef.lean ====
/- The reference's results for the second attention's queries, entry by entry. -/
module

public import proofs.«01_k».proof.Proof.ProjSpec
public import proofs.«01_k».proof.Proof.Gen.Reference10Ideal.Read
public import Idealize.ShloMosaic.Lib.ValueIdxRank6

@[expose] public section

set_option maxRecDepth 16384

noncomputable section

namespace Cert.Reference10Ideal.RefValue

open Idealize.ShloMosaic Idealize.ShloMosaic.TcCoe Idealize.ShloMosaic.Tactic Idealize.SL.Sem
open Cert.Reference10Ideal Cert.Reference10Ideal.Gen Cert.Reference10Ideal.Read

variable (x0 : (⟨S4x4096x1024, .f32⟩ : BufTy).Contents (Elt Ideal)) (x1 x2 : (⟨S4x1x1024, .f32⟩ : BufTy).Contents (Elt Ideal))
  (x3 : (⟨S1024, .f32⟩ : BufTy).Contents (Elt Ideal)) (x4 : (⟨S1024x1072, .f32⟩ : BufTy).Contents (Elt Ideal))

theorem v18_apply (b : Fin 4) (t : Fin 4096) (k : Fin 1024) :
    val_main_v18 (F := Ideal) x0 x1 x2 x3 (ix3 b t k) = Ffn.row x0 x1 x2 x3 b t k := by
  pointwise [val_main_v18, val_main_v17, val_main_v16, val_main_v15, val_main_v14, val_main_v13, val_main_cst_2, val_main_v12, val_main_v11, val_main_v10, val_main_v9, val_main_v8, val_main_v7, val_main_v6, val_main_v5, val_main_cst_1, val_main_v4, val_main_v3, val_main_cst_0, val_main_v2, val_main_v1, val_main_cst, val_main_v0]
  rfl

theorem v19_apply (b : Fin 4) (p : Fin 4096) (n : Fin 1072) (k : ℕ) (hk : k = n.val) :
    val_main_v19 (F := Ideal) x0 x1 x2 x3 x4 (ix3 b p n) = Proj.acc x0 x1 x2 x3 x4 b p k := by
  pointwise [val_main_v19]
  simp only [v18_apply]
  have e : n = ⟨k % 1072, Nat.mod_lt _ (by decide)⟩ := Fin.ext (by have := n.isLt; simp only; omega)
  unfold Proj.acc
  rw [← e]

theorem v21_apply (b : Fin 4) (p : Fin 4096) (h : Fin 16) (d : Fin 64) (k : ℕ) (hk : k = h.val * 64 + d.val) :
    val_main_v21 (F := Ideal) x0 x1 x2 x3 x4 (ix4 b p h d) = Proj.acc x0 x1 x2 x3 x4 b p k := by
  have hh := h.isLt
  have hd := d.isLt
  pointwise [val_main_v21, val_main_v20]
  exact v19_apply x0 x1 x2 x3 x4 b p _ k (by simp only; omega)

theorem v35_apply (p : Fin 4096) (k : Fin 32) : val_main_v35 (F := Ideal) (ix2 p k) = Proj.ang p.val k.val := by
  pointwise [val_main_v35, val_main_v34, val_main_v33, val_main_v32, val_main_v31, val_main_v30, val_main_v29, val_main_v28, val_main_v27, val_main_v26, val_main_v25, val_main_v24, val_main_v23, val_main_cst_4, val_main_cst_3]
  rfl

theorem v52_apply (b : Fin 4) (p : Fin 4096) (h : Fin 16) (d : Fin 64) (k : ℕ) (hk : k = h.val * 64 + d.val) :
    val_main_v52 (F := Ideal) x0 x1 x2 x3 x4 (ix4 b p h d) = Proj.rot x0 x1 x2 x3 x4 b p k := by
  have e : k % 64 = d.val := by omega
  pointwise [val_main_v52, val_main_v51, val_main_v50, val_main_v49, val_main_v48, val_main_v47, val_main_v46, val_main_v45, val_main_v44, val_main_v43, val_main_v42, val_main_v41, val_main_v40, val_main_v39, val_main_v38, val_main_v37, val_main_v36]
  simp only [v35_apply]
  unfold Proj.rot Proj.turn
  rw [e]
  by_cases hd : d.val < 32
  · rw [dif_pos hd, if_pos hd, v21_apply x0 x1 x2 x3 x4 b p h _ k hk, v21_apply x0 x1 x2 x3 x4 b p h _ (k + 32) (by simp only; omega)]
  · rw [dif_neg hd, if_neg hd, v21_apply x0 x1 x2 x3 x4 b p h _ k (by simp only; omega), v21_apply x0 x1 x2 x3 x4 b p h _ (k - 32) (by simp only; omega)]

theorem v22_eq : val_main_v22 (F := Ideal) x0 x1 x2 x3 x4 = Proj.flat (Proj.acc x0 x1 x2 x3 x4) := by
  funext y
  obtain ⟨r, k, rfl⟩ : ∃ (r : Fin 16384) (k : Fin 1024), y = ix2 r k := ⟨y 0, y 1, eq_ix2 y⟩
  pointwise [val_main_v22]
  exact v21_apply x0 x1 x2 x3 x4 _ _ _ _ k.val (by simp only; omega)

theorem v53_eq : val_main_v53 (F := Ideal) x0 x1 x2 x3 x4 = Proj.flat (Proj.rot x0 x1 x2 x3 x4) := by
  funext y
  obtain ⟨r, k, rfl⟩ : ∃ (r : Fin 16384) (k : Fin 1024), y = ix2 r k := ⟨y 0, y 1, eq_ix2 y⟩
  pointwise [val_main_v53]
  exact v52_apply x0 x1 x2 x3 x4 _ _ _ _ k.val (by simp only; omega)

end Cert.Reference10Ideal.RefValue

end
-- ==== Proof.QClaims.lean ====
/- The claims about the projection to the second attention's queries: the kernel's arrays (`QProj.lean`) and the
   reference's results (`QRef.lean`) are one function of the arguments. -/
module

public import proofs.«01_k».proof.Defs
public import proofs.«01_k».proof.Proof.QProj
public import proofs.«01_k».proof.Proof.QRef
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import Idealize.ShloMosaic.Adequacy

@[expose] public section

noncomputable section

namespace Cert.QClaims

open Idealize.ShloMosaic Idealize.SL.Sem

theorem frame_p : Cert.quiescent_Kernel10 (hKernel10 := Cert.Kernel10.Gen.facts) := fun m ρ _ => Cert.Kernel10.Gen.frame m ρ
theorem frame_pi : Cert.quiescent_Kernel10Ideal (hKernel10Ideal := Cert.Kernel10Ideal.Gen.facts) := fun m ρ _ =>
  Cert.Kernel10Ideal.Gen.frame m ρ
theorem frame_ri : Cert.quiescent_Reference10Ideal (hReference10Ideal := Cert.Reference10Ideal.Gen.facts) := fun m ρ _ =>
  (θ_run Cert.Reference10Ideal.defs _ _).mono (fun r h => ⟨fun c => (h c).2.2, sem_eq_zero_of_no_sems (by decide) r.2⟩)
    (Cert.Reference10Ideal.Value.run (F := Ideal) m ρ)

theorem preserves : Cert.preserves_Kernel10_Kernel10Ideal := trivial

/-- Both programs end with the queries and the rotated queries. -/
theorem algebraic : Cert.algebraic_Kernel10Ideal_Reference10Ideal (hKernel10Ideal := Cert.Kernel10Ideal.Gen.facts)
    (hReference10Ideal := Cert.Reference10Ideal.Gen.facts) := by
  intro m g m' g' _ hag
  refine ⟨fun c => Cert.Proj.flat (Cert.Proj.acc (Cert.Kernel10Ideal.Array.X0 m c) (Cert.Kernel10Ideal.Array.X1 m c) (Cert.Kernel10Ideal.Array.X2 m c) (Cert.Kernel10Ideal.Array.X3 m c) (Cert.Kernel10Ideal.Array.X4 m c)),
    fun c => Cert.Proj.flat (Cert.Proj.rot (Cert.Kernel10Ideal.Array.X0 m c) (Cert.Kernel10Ideal.Array.X1 m c) (Cert.Kernel10Ideal.Array.X2 m c) (Cert.Kernel10Ideal.Array.X3 m c) (Cert.Kernel10Ideal.Array.X4 m c)), ?_, ?_⟩
  · refine (θ_run Cert.Kernel10Ideal.defs _ _).mono (fun r h c => ?_) (Cert.Kernel10Ideal.Value.run_blocks m g)
    exact ⟨(h c).1.trans (Cert.Kernel10Ideal.Array.arr7 m c),
      (h c).2.1.trans (Cert.Kernel10Ideal.Array.arr8 m c), (h c).2.2⟩
  · refine (θ_run Cert.Reference10Ideal.defs _ _).mono (fun r h c => ?_) (Cert.Reference10Ideal.Value.run m' g')
    refine ⟨(h c).1.trans ?_, (h c).2.1.trans ?_, (h c).2.2⟩
    all_goals obtain ⟨a0, a1, a2, a3, a4⟩ := hag c
    · rw [Cert.Reference10Ideal.Read.val_main_v22_eq, a0, a1, a2, a3, a4]
      exact Cert.Reference10Ideal.RefValue.v22_eq _ _ _ _ _
    · rw [Cert.Reference10Ideal.Read.val_main_v53_eq, a0, a1, a2, a3, a4]
      exact Cert.Reference10Ideal.RefValue.v53_eq _ _ _ _ _

end Cert.QClaims

end
-- ==== Proof.CombineSpec.lean ====
/- The combination of three groups' outputs, head by head, weighted by the denominators of their softmaxes: one division at the
   end, or a softmax of the logarithms of the denominators. -/
module

public import Idealize.ShloMosaic.Lib.Pointwise

@[expose] public section

noncomputable section

namespace Cert.Combine

open Idealize.ShloMosaic

/-- The weighted sum over the sum of the weights, which are exponentials shifted by `μ`. -/
def mix (l0 l1 l2 o0 o1 o2 : EReal) : EReal :=
  Ideal.div (Ideal.exp (l0 - max (max l0 l1) l2) * o0 + Ideal.exp (l1 - max (max l0 l1) l2) * o1
      + Ideal.exp (l2 - max (max l0 l1) l2) * o2)
    (Ideal.exp (l0 - max (max l0 l1) l2) + Ideal.exp (l1 - max (max l0 l1) l2) + Ideal.exp (l2 - max (max l0 l1) l2))

/-- A weighted sum divided at the end is the sum of the divided weights, for finite shifted logarithms. -/
theorem div_end (a b c : ℝ) (o0 o1 o2 : EReal) :
    Ideal.div (Ideal.exp (a : EReal) * o0 + Ideal.exp (b : EReal) * o1 + Ideal.exp (c : EReal) * o2)
        (Ideal.exp (a : EReal) + Ideal.exp (b : EReal) + Ideal.exp (c : EReal))
      = Ideal.div (Ideal.exp (a : EReal)) (Ideal.exp (a : EReal) + Ideal.exp (b : EReal) + Ideal.exp (c : EReal)) * o0
        + Ideal.div (Ideal.exp (b : EReal)) (Ideal.exp (a : EReal) + Ideal.exp (b : EReal) + Ideal.exp (c : EReal)) * o1
        + Ideal.div (Ideal.exp (c : EReal)) (Ideal.exp (a : EReal) + Ideal.exp (b : EReal) + Ideal.exp (c : EReal)) * o2 := by
  have hS : (0 : ℝ) < Real.exp a + Real.exp b + Real.exp c := by positivity
  have h0 : (0 : EReal) ≤ ((1 / (Real.exp a + Real.exp b + Real.exp c) : ℝ) : EReal) :=
    EReal.coe_nonneg.mpr (one_div_nonneg.mpr hS.le)
  simp only [Ideal.exp_coe]
  rw [← EReal.coe_add, ← EReal.coe_add]
  simp only [Ideal.div_coe hS.ne']
  rw [EReal.right_distrib_of_nonneg_of_ne_top h0 (EReal.coe_ne_top _), EReal.right_distrib_of_nonneg_of_ne_top h0 (EReal.coe_ne_top _)]
  simp only [mul_right_comm]

/-- The softmax of three finite logarithms, as a sum over the groups, is the same. -/
theorem mix_eq (l o : Fin 3 → EReal) (hl : ∀ i, l i ≠ ⊥ ∧ l i ≠ ⊤) :
    ∑ k : Fin 3, Ideal.div (Ideal.exp (l k - Finset.fold max (⊥ : EReal) l Finset.univ))
        (∑ j : Fin 3, Ideal.exp (l j - Finset.fold max (⊥ : EReal) l Finset.univ)) * o k
      = mix (l 0) (l 1) (l 2) (o 0) (o 1) (o 2) := by
  have hf : Finset.fold max (⊥ : EReal) l Finset.univ = max (max (l 0) (l 1)) (l 2) := by
    rw [show (Finset.univ : Finset (Fin 3)) = {0, 1, 2} from by decide]
    simp [Finset.fold_insert, max_assoc]
  have hr : ∀ i, ∃ r : ℝ, l i = r := fun i => ⟨(l i).toReal, (EReal.coe_toReal (hl i).2 (hl i).1).symm⟩
  obtain ⟨a, ha⟩ := hr 0
  obtain ⟨b, hb⟩ := hr 1
  obtain ⟨c, hc⟩ := hr 2
  rw [hf]
  unfold mix
  have hm : max (max (a : EReal) (b : EReal)) (c : EReal) = ((max (max a b) c : ℝ) : EReal) := by
    rw [EReal.coe_strictMono.monotone.map_max, EReal.coe_strictMono.monotone.map_max]
  simp only [Fin.sum_univ_three, ha, hb, hc, hm, ← EReal.coe_sub]
  exact (div_end _ _ _ _ _ _).symm

end Cert.Combine

end
-- ==== Proof.Combine.lean ====
/- The combination of the dilated groups with the output projection: the kernel's array and the reference's result are one
   function of the groups' outputs, the logarithms of their weights' sums, the weights, the residual stream and the gate rows. -/
module

public import proofs.«01_k».proof.Defs
public import proofs.«01_k».proof.Proof.CombineSpec
public import proofs.«01_k».proof.Proof.Dilated
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ReadBack
public import Idealize.ShloMosaic.Lib.Pipeline.ValueKit
public import Idealize.ShloMosaic.Lib.Pointwise
public import Idealize.ShloMosaic.Adequacy

@[expose] public section

set_option maxRecDepth 16384

noncomputable section

namespace Cert.Combine

open Idealize.ShloMosaic

/-- The head and the lane of a column. -/
abbrev hd (l : Fin 1024) : Fin 16 := ⟨l.val / 64, by have := l.isLt; omega⟩
abbrev ln (l : Fin 1024) : Fin 64 := ⟨l.val % 64, by omega⟩

/-- The residual stream and the gated product of the combined outputs. -/
def row (o0 o1 o2 : (⟨4, ![4, 4096, 16, 64]⟩ : Shape).Idx → EReal) (l0 l1 l2 : (⟨3, ![4, 4096, 16]⟩ : Shape).Idx → EReal)
    (w : (⟨2, ![1024, 1024]⟩ : Shape).Idx → EReal) (x : (⟨3, ![4, 4096, 1024]⟩ : Shape).Idx → EReal)
    (gt : (⟨3, ![4, 1, 1024]⟩ : Shape).Idx → EReal) (b : Fin 4) (t : Fin 4096) (n : Fin 1024) : EReal :=
  x (ix3 b t n) + gt (ix3 b 0 n) * ∑ l : Fin 1024, mix (l0 (ix3 b t (hd l))) (l1 (ix3 b t (hd l))) (l2 (ix3 b t (hd l)))
    (o0 (ix4 b t (hd l) (ln l))) (o1 (ix4 b t (hd l) (ln l))) (o2 (ix4 b t (hd l) (ln l))) * w (ix2 l n)

/-- The same with batches and positions on one axis. -/
def flat (o0 o1 o2 : (⟨4, ![4, 4096, 16, 64]⟩ : Shape).Idx → EReal) (l0 l1 l2 : (⟨3, ![4, 4096, 16]⟩ : Shape).Idx → EReal)
    (w : (⟨2, ![1024, 1024]⟩ : Shape).Idx → EReal) (x : (⟨3, ![4, 4096, 1024]⟩ : Shape).Idx → EReal)
    (gt : (⟨3, ![4, 1, 1024]⟩ : Shape).Idx → EReal) (y : (⟨2, ![16384, 1024]⟩ : Shape).Idx) : EReal :=
  row o0 o1 o2 l0 l1 l2 w x gt ⟨(y 0).val / 4096, by have : (y 0).val < 16384 := (y 0).isLt; omega⟩ ⟨(y 0).val % 4096, by omega⟩ (y 1)

end Cert.Combine

namespace Cert.Kernel11Ideal.Array

open Idealize.ShloMosaic Idealize.ShloMosaic.TcCoe Idealize.ShloMosaic.Tactic Idealize.SL.Sem
open Cert.Kernel11Ideal Cert.Kernel11Ideal.Gen

theorem index_eq : ∀ t : Fin cfg0.N,
    win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![0, 0] ∧ win0_7.index t = ![t.val, 0]
    ∧ win0_8.index t = ![t.val / 16, 0, 0] ∧ win0_9.index t = ![t.val, 0] :=
  (by decide +kernel : ∀ t : Fin grid0.N, _)

variable (m : (ℓ : Loc nD τ sig) → Buf (Elt Ideal) ℓ) (c : Dev nD) (t : Fin cfg0.N)

abbrev X0 : (⟨4, ![4, 4096, 16, 64]⟩ : Shape).Idx → EReal := m ((c : Thread nD τ).loc main_arg0)
abbrev X1 : (⟨4, ![4, 4096, 16, 64]⟩ : Shape).Idx → EReal := m ((c : Thread nD τ).loc main_arg1)
abbrev X2 : (⟨4, ![4, 4096, 16, 64]⟩ : Shape).Idx → EReal := m ((c : Thread nD τ).loc main_arg2)
abbrev X3 : (⟨3, ![4, 4096, 16]⟩ : Shape).Idx → EReal := m ((c : Thread nD τ).loc main_arg3)
abbrev X4 : (⟨3, ![4, 4096, 16]⟩ : Shape).Idx → EReal := m ((c : Thread nD τ).loc main_arg4)
abbrev X5 : (⟨3, ![4, 4096, 16]⟩ : Shape).Idx → EReal := m ((c : Thread nD τ).loc main_arg5)
abbrev X6 : (⟨2, ![1024, 1024]⟩ : Shape).Idx → EReal := m ((c : Thread nD τ).loc main_arg6)
abbrev X7 : (⟨3, ![4, 4096, 1024]⟩ : Shape).Idx → EReal := m ((c : Thread nD τ).loc main_arg7)
abbrev X8 : (⟨3, ![4, 1, 1024]⟩ : Shape).Idx → EReal := m ((c : Thread nD τ).loc main_arg8)

theorem t_lt : t.val < 64 := lt_of_lt_of_eq t.isLt N_0

/-- The batch and the position of a row of the point's block. -/
abbrev bt : Fin 4 := ⟨t.val / 16, by have := t_lt t; omega⟩
abbrev pos (r : Fin 256) : Fin 4096 := ⟨t.val % 16 * 256 + r.val, by have := r.isLt; omega⟩

theorem iblk0 (r : Fin 256) (k : Fin 1024) : (iblk m c 0 t (ix2 r k) : EReal)
    = X0 m c (ix4 (bt t) (pos t r) (Combine.hd k) (Combine.ln k)) := by
  blk_ext! [iblk, V, index_eq t]
  all_goals (have := r.isLt; have := k.isLt; omega)

theorem iblk1 (r : Fin 256) (k : Fin 1024) : (iblk m c 1 t (ix2 r k) : EReal)
    = X1 m c (ix4 (bt t) (pos t r) (Combine.hd k) (Combine.ln k)) := by
  blk_ext! [iblk, V, index_eq t]
  all_goals (have := r.isLt; have := k.isLt; omega)

theorem iblk2 (r : Fin 256) (k : Fin 1024) : (iblk m c 2 t (ix2 r k) : EReal)
    = X2 m c (ix4 (bt t) (pos t r) (Combine.hd k) (Combine.ln k)) := by
  blk_ext! [iblk, V, index_eq t]
  all_goals (have := r.isLt; have := k.isLt; omega)

theorem iblk3 (r : Fin 256) (k : Fin 1024) : (iblk m c 3 t (ix2 r k) : EReal)
    = X3 m c (ix3 (bt t) (pos t r) (Combine.hd k)) := by
  blk_ext! [iblk, V, index_eq t]
  all_goals (have := r.isLt; have := k.isLt; omega)

theorem iblk4 (r : Fin 256) (k : Fin 1024) : (iblk m c 4 t (ix2 r k) : EReal)
    = X4 m c (ix3 (bt t) (pos t r) (Combine.hd k)) := by
  blk_ext! [iblk, V, index_eq t]
  all_goals (have := r.isLt; have := k.isLt; omega)

theorem iblk5 (r : Fin 256) (k : Fin 1024) : (iblk m c 5 t (ix2 r k) : EReal)
    = X5 m c (ix3 (bt t) (pos t r) (Combine.hd k)) := by
  blk_ext! [iblk, V, index_eq t]
  all_goals (have := r.isLt; have := k.isLt; omega)

theorem iblk6 (l k : Fin 1024) : (iblk m c 6 t (ix2 l k) : EReal) = X6 m c (ix2 l k) := by
  blk_ext! [iblk, V, index_eq t]

theorem iblk7 (r : Fin 256) (k : Fin 1024) : (iblk m c 7 t (ix2 r k) : EReal) = X7 m c (ix3 (bt t) (pos t r) k) := by
  blk_ext! [iblk, V, index_eq t]
  all_goals (have := r.isLt; omega)

theorem iblk8 (k : Fin 1024) : (iblk m c 8 t (ix3 0 0 k) : EReal) = X8 m c (ix3 (bt t) 0 k) := by
  blk_ext! [iblk, V, index_eq t]

theorem row_congr {b b' : Fin 4} {p p' : Fin 4096} {n n' : Fin 1024} (hb : b = b') (hp : p = p') (hn : n = n') :
    Combine.row (X0 m c) (X1 m c) (X2 m c) (X3 m c) (X4 m c) (X5 m c) (X6 m c) (X7 m c) (X8 m c) b p n
      = Combine.row (X0 m c) (X1 m c) (X2 m c) (X3 m c) (X4 m c) (X5 m c) (X6 m c) (X7 m c) (X8 m c) b' p' n' := by
  rw [hb, hp, hn]

/-- What the body stores, at an entry. -/
theorem pay_apply (v0 v2 v4 v14 v18 v23 v28 : Vec Ideal S256x1024 .f32) (v30 : Vec Ideal S1x1x1024 .f32)
    (v33 : Vec Ideal S1024x1024 .bf16) (r : Fin 256) (k : Fin 1024) :
    (k0_pay1 v0 v2 v4 v14 v18 v23 v28 v30 v33 (ix2 r k) : EReal)
      = (v28 (ix2 r k) : EReal) + (v30 (ix3 0 0 k) : EReal) * ∑ l : Fin 1024,
          Combine.mix (v0 (ix2 r l)) (v2 (ix2 r l)) (v4 (ix2 r l)) (v14 (ix2 r l)) (v18 (ix2 r l)) (v23 (ix2 r l))
            * (v33 (ix2 l k) : EReal) := by
  pointwise [k0_pay1]
  rfl

theorem arr9 : (dats m 0 c).arrAt 9 cfg0.N
    = Combine.flat (X0 m c) (X1 m c) (X2 m c) (X3 m c) (X4 m c) (X5 m c) (X6 m c) (X7 m c) (X8 m c) := by
  refine (dats m 0 c).arrAt_eq_of_covers 9 _ (by decide +kernel) fun t hf y => ?_
  blk_simp
  rw [after0_9]
  have e0 : ((win0_9.blk t).view.emb y 0).val = t.val * 256 + (y 0).val := by blk_simp [index_eq t]
  have e1 : ((win0_9.blk t).view.emb y 1).val = (y 1).val := by blk_simp [index_eq t]
  obtain ⟨r, k, rfl⟩ : ∃ (r : Fin 256) (k : Fin 1024), y = ix2 r k := ⟨y 0, y 1, eq_ix2 y⟩
  unfold out0_9
  frame_out
  refine (pay_apply _ _ _ _ _ _ _ _ _ r k).trans ?_
  simp only [iblk0, iblk1, iblk2, iblk3, iblk4, iblk5, iblk6, iblk7, iblk8]
  have hr := r.isLt
  have ht := t_lt t
  replace e0 : _ = t.val * 256 + r.val := e0
  replace e1 : _ = k.val := e1
  have ek : k = ((win0_9.blk t).view.emb (ix2 r k) 1 : Fin 1024) := Fin.ext e1.symm
  have eb : bt t = ⟨((win0_9.blk t).view.emb (ix2 r k) 0).val / 4096, by omega⟩ := Fin.ext (by simp only [e0, bt]; omega)
  have ep : pos t r = ⟨((win0_9.blk t).view.emb (ix2 r k) 0).val % 4096, by omega⟩ := Fin.ext (by simp only [e0, pos]; omega)
  exact row_congr m c eb ep ek

end Cert.Kernel11Ideal.Array

namespace Cert.Reference11Ideal.RefValue

open Idealize.ShloMosaic Idealize.ShloMosaic.TcCoe Idealize.ShloMosaic.Tactic Idealize.SL.Sem
open Cert.Reference11Ideal Cert.Reference11Ideal.Gen Cert.Reference11Ideal.Read

variable (x0 x1 x2 : (⟨S4x4096x16x64, .f32⟩ : BufTy).Contents (Elt Ideal)) (x3 x4 x5 : (⟨S4x4096x16, .f32⟩ : BufTy).Contents (Elt Ideal))
  (x6 : (⟨S1024x1024, .f32⟩ : BufTy).Contents (Elt Ideal)) (x7 : (⟨S4x4096x1024, .f32⟩ : BufTy).Contents (Elt Ideal))
  (x8 : (⟨S4x1x1024, .f32⟩ : BufTy).Contents (Elt Ideal))

/-- The three groups' logarithms and outputs, stacked. -/
theorem v3_apply (s : Fin 3) (b : Fin 4) (t : Fin 4096) (h : Fin 16) :
    val_main_v3 (F := Ideal) x3 x4 x5 (ix4 s b t h)
      = if s.val < 1 then x3 (ix3 b t h) else if s.val - 1 < 1 then x4 (ix3 b t h) else x5 (ix3 b t h) := by
  pointwise [val_main_v3, val_main_v2, val_main_v1, val_main_v0]
  rfl

theorem v19_apply (s : Fin 3) (b : Fin 4) (t : Fin 4096) (h : Fin 16) (d : Fin 64) :
    val_main_v19 (F := Ideal) x0 x1 x2 (ix5 s b t h d)
      = if s.val < 1 then x0 (ix4 b t h d) else if s.val - 1 < 1 then x1 (ix4 b t h d) else x2 (ix4 b t h d) := by
  pointwise [val_main_v19, val_main_v18, val_main_v17, val_main_v16]
  rfl

theorem ofBits_bot : Ideal.ofBits .f32 0xFF800000#32 = ⊥ := by
  simp [Ideal.ofBits, Ideal.ieee]

/-- The largest logarithm. -/
theorem v6_apply (b : Fin 4) (t : Fin 4096) (h : Fin 16) :
    val_main_v6 (F := Ideal) x3 x4 x5 (ix3 b t h)
      = Finset.fold max (⊥ : EReal) (fun s : Fin 3 => val_main_v3 (F := Ideal) x3 x4 x5 (ix4 s b t h)) Finset.univ := by
  pointwise [val_main_v6, val_main_v5, val_main_cst_0, val_main_v4, val_main_cst]
  rw [ofBits_bot]
  exact max_eq_right bot_le

/-- The weighted sum of the outputs, from finite logarithms. -/
theorem v22_apply (hl : ∀ i, ((x3 i : EReal) ≠ ⊥ ∧ (x3 i : EReal) ≠ ⊤) ∧ ((x4 i : EReal) ≠ ⊥ ∧ (x4 i : EReal) ≠ ⊤)
      ∧ ((x5 i : EReal) ≠ ⊥ ∧ (x5 i : EReal) ≠ ⊤)) (b : Fin 4) (t : Fin 4096) (h : Fin 16) (d : Fin 64) :
    val_main_v22 (F := Ideal) x0 x1 x2 x3 x4 x5 (ix4 b t h d)
      = Combine.mix (x3 (ix3 b t h)) (x4 (ix3 b t h)) (x5 (ix3 b t h)) (x0 (ix4 b t h d)) (x1 (ix4 b t h d)) (x2 (ix4 b t h d)) := by
  pointwise [val_main_v22, val_main_v21, val_main_v20, val_main_v15, val_main_v14, val_main_v13, val_main_v12, val_main_v11, val_main_v10, val_main_v9, val_main_v8, val_main_v7, val_main_cst_1, val_main_cst_2]
  simp only [v6_apply]
  have hm := Combine.mix_eq (fun s : Fin 3 => val_main_v3 (F := Ideal) x3 x4 x5 (ix4 s b t h))
    (fun s : Fin 3 => val_main_v19 (F := Ideal) x0 x1 x2 (ix5 s b t h d)) (fun s => by
      simp only [v3_apply]
      by_cases h0 : s.val < 1
      · rw [if_pos h0]; exact (hl _).1
      · rw [if_neg h0]
        by_cases h1 : s.val - 1 < 1
        · rw [if_pos h1]; exact (hl _).2.1
        · rw [if_neg h1]; exact (hl _).2.2)
  refine hm.trans ?_
  simp only [v3_apply, v19_apply]
  rfl

theorem v28_eq (hl : ∀ i, ((x3 i : EReal) ≠ ⊥ ∧ (x3 i : EReal) ≠ ⊤) ∧ ((x4 i : EReal) ≠ ⊥ ∧ (x4 i : EReal) ≠ ⊤)
      ∧ ((x5 i : EReal) ≠ ⊥ ∧ (x5 i : EReal) ≠ ⊤)) :
    val_main_v28 (F := Ideal) x0 x1 x2 x3 x4 x5 x6 x7 x8 = Combine.flat x0 x1 x2 x3 x4 x5 x6 x7 x8 := by
  funext y
  obtain ⟨r, k, rfl⟩ : ∃ (r : Fin 16384) (k : Fin 1024), y = ix2 r k := ⟨y 0, y 1, eq_ix2 y⟩
  pointwise [val_main_v28, val_main_v27, val_main_v26, val_main_v25, val_main_v24, val_main_v23]
  simp only [v22_apply x0 x1 x2 x3 x4 x5 hl]
  rfl

end Cert.Reference11Ideal.RefValue

namespace Cert.CombineClaims

open Idealize.ShloMosaic Idealize.ShloMosaic.Tactic Idealize.SL.Sem

theorem facts_finite : Cert.Pre_finite_sums.Facts := ⟨by decide⟩

/-- An extended real whose magnitude is below plus infinity. -/
theorem real_of_lt (x : EReal) (h : max x (-x) < ⊤) : x ≠ ⊥ ∧ x ≠ ⊤ := by
  refine ⟨fun h3 => ?_, fun h3 => ?_⟩ <;> rw [h3] at h <;> simp at h

/-- What the precondition says of an entry. -/
theorem real_of_pre (x0 x1 x2 : FVec Ideal Cert.Pre_finite_sums.S4x4096x16x64 .f32)
    (x3 x4 x5 : FVec Ideal Cert.Pre_finite_sums.S4x4096x16 .f32) (x6 : FVec Ideal Cert.Pre_finite_sums.S1024x1024 .f32)
    (x7 : FVec Ideal Cert.Pre_finite_sums.S4x4096x1024 .f32) (x8 : FVec Ideal Cert.Pre_finite_sums.S4x1x1024 .f32)
    (h : @Cert.Pre_finite_sums.fn facts_finite Ideal _ x0 x1 x2 x3 x4 x5 x6 x7 x8 = fun _ => 1#1)
    (i : Cert.Pre_finite_sums.S4x4096x16.Idx) :
    ((x3 i : EReal) ≠ ⊥ ∧ (x3 i : EReal) ≠ ⊤) ∧ ((x4 i : EReal) ≠ ⊥ ∧ (x4 i : EReal) ≠ ⊤)
      ∧ ((x5 i : EReal) ≠ ⊥ ∧ (x5 i : EReal) ≠ ⊤) := by
  have h1 := congrFun h i
  pointwise [Cert.Pre_finite_sums.fn] at h1
  rw [Cert.DilatedClaims.ofBits_inf] at h1
  have key : ∀ p q s : Bool, BitVec.ofBool p &&& BitVec.ofBool q &&& BitVec.ofBool s = 1#1 → p = true ∧ q = true ∧ s = true := by
    decide
  obtain ⟨ha, hb, hc⟩ := key _ _ _ h1
  exact ⟨real_of_lt _ (of_decide_eq_true ha), real_of_lt _ (of_decide_eq_true hb), real_of_lt _ (of_decide_eq_true hc)⟩

theorem frame_p : Cert.quiescent_Kernel11 (hKernel11 := Cert.Kernel11.Gen.facts) := fun m ρ _ => Cert.Kernel11.Gen.frame m ρ
theorem frame_pi : Cert.quiescent_Kernel11Ideal (hKernel11Ideal := Cert.Kernel11Ideal.Gen.facts) := fun m ρ _ =>
  Cert.Kernel11Ideal.Gen.frame m ρ
theorem frame_ri : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run (F := Ideal) m ρ)

theorem preserves : Cert.preserves_Kernel11_Kernel11Ideal := trivial

/-- From finite logarithms both programs end with the same rows. -/
theorem algebraic : Cert.algebraic_Kernel11Ideal_Reference11Ideal_pre_finite_sums
    (hKernel11Ideal := Cert.Kernel11Ideal.Gen.facts) (hReference11Ideal := Cert.Reference11Ideal.Gen.facts)
    (hPre_finite_sums := facts_finite) := by
  intro m g m' g' hpre hag
  refine ⟨fun c => Cert.Combine.flat (Cert.Kernel11Ideal.Array.X0 m c) (Cert.Kernel11Ideal.Array.X1 m c)
    (Cert.Kernel11Ideal.Array.X2 m c) (Cert.Kernel11Ideal.Array.X3 m c) (Cert.Kernel11Ideal.Array.X4 m c)
    (Cert.Kernel11Ideal.Array.X5 m c) (Cert.Kernel11Ideal.Array.X6 m c) (Cert.Kernel11Ideal.Array.X7 m c)
    (Cert.Kernel11Ideal.Array.X8 m c), ?_, ?_⟩
  · refine (θ_run Cert.Kernel11Ideal.defs _ _).mono (fun r h c => ?_) (Cert.Kernel11Ideal.Value.run_blocks m g)
    exact ⟨(h c).1.trans (Cert.Kernel11Ideal.Array.arr9 m c), (h c).2⟩
  · refine (θ_run Cert.Reference11Ideal.defs _ _).mono (fun r h c => ?_) (Cert.Reference11Ideal.Value.run m' g')
    refine ⟨(h c).1.trans ?_, (h c).2⟩
    obtain ⟨a0, a1, a2, a3, a4, a5, a6, a7, a8⟩ := hag c
    rw [Cert.Reference11Ideal.Read.val_main_v28_eq, a0, a1, a2, a3, a4, a5, a6, a7, a8]
    exact Cert.Reference11Ideal.RefValue.v28_eq _ _ _ _ _ _ _ _ _ (fun i => real_of_pre _ _ _ _ _ _ _ _ _ (hpre c) i)

end Cert.CombineClaims

end
-- ==== Proof.SampleSpec.lean ====
/- The shared keys and values of the sample's rows, entry by entry: eight positions of 128 sequences, from position 2048 on. -/
module

public import proofs.«01_k».proof.Proof.KvSpec
public import Idealize.ShloMosaic.Lib.Pointwise

@[expose] public section

noncomputable section

namespace Cert.Sample

open Idealize.ShloMosaic

variable {N : ℕ} [NeZero N] (x : (⟨3, ![128, 8, 1024]⟩ : Shape).Idx → EReal) (sh sc : (⟨3, ![128, 1, 1024]⟩ : Shape).Idx → EReal)
  (g : (⟨1, ![1024]⟩ : Shape).Idx → EReal) (w : (⟨2, ![1024, N]⟩ : Shape).Idx → EReal)

/-- A normalized row. -/
def unit (b : Fin 128) (t : Fin 8) (k : Fin 1024) : EReal :=
  x (ix3 b t k) * Ideal.rsqrt (Ideal.div (∑ l : Fin 1024, x (ix3 b t l) * x (ix3 b t l)) (Ideal.ofBits FTy.f32 1149239296#32) +
    Ideal.ofBits FTy.f32 897988541#32) * g (ix1 k)

/-- A modulated row. -/
def row (b : Fin 128) (t : Fin 8) (k : Fin 1024) : EReal := unit x g b t k * (1 + sc (ix3 b 0 k)) + sh (ix3 b 0 k)

/-- A column of the product. -/
def acc (b : Fin 128) (p : Fin 8) (n : ℕ) : EReal :=
  ∑ l : Fin 1024, row x sh sc g b p l * w (ix2 l ⟨n % N, Nat.mod_lt _ (NeZero.pos N)⟩)

/-- A rotated column. -/
def rot (b : Fin 128) (p : Fin 8) (n : ℕ) : EReal := Proj.turn (acc x sh sc g w b p) (2048 + p.val) n

/-- The columns from `o` on, of which those of one tile of 256 are rotated. -/
def part (o j : ℕ) (b : Fin 128) (p : Fin 8) (n : ℕ) : EReal :=
  if n / 256 = j then rot x sh sc g w b p (o + n) else acc x sh sc g w b p (o + n)

/-- An array over sequences and positions on one axis. -/
def flat {M : ℕ} (f : Fin 128 → Fin 8 → ℕ → EReal) (y : (⟨2, ![1024, M]⟩ : Shape).Idx) : EReal :=
  f ⟨(y 0).val / 8, by have : (y 0).val < 1024 := (y 0).isLt; omega⟩ ⟨(y 0).val % 8, by omega⟩ (y 1).val

theorem flat_of {M : ℕ} (f : Fin 128 → Fin 8 → ℕ → EReal) (y : (⟨2, ![1024, M]⟩ : Shape).Idx) (b : Fin 128) (p : Fin 8) (n : ℕ)
    (e0 : (y 0).val = b.val * 8 + p.val) (e1 : (y 1).val = n) : f b p n = flat f y := by
  have hp := p.isLt
  unfold flat
  congr 1
  · exact Fin.ext (by simp only [e0]; omega)
  · exact Fin.ext (by simp only [e0]; omega)
  · exact e1.symm

/-- The normalized rows on one axis. -/
def units (y : (⟨2, ![1024, 1024]⟩ : Shape).Idx) : EReal :=
  unit x g ⟨(y 0).val / 8, by have : (y 0).val < 1024 := (y 0).isLt; omega⟩ ⟨(y 0).val % 8, by omega⟩ (y 1)

theorem position (n : ℕ) (h : n < 8) : IntOp.addi 2048#32 (BitVec.ofNat 32 n) = BitVec.ofNat 32 (2048 + n) := by
  have e : ∀ p : Fin 8, IntOp.addi 2048#32 (BitVec.ofNat 32 p.val) = BitVec.ofNat 32 (2048 + p.val) := by decide
  exact e ⟨n, h⟩

end Cert.Sample

end
-- ==== Proof.SampleNorm.lean ====
/- The final norm: the kernel's array and the reference's result are one function of the residual stream and the
   norm's weights. -/
module

public import proofs.«01_k».proof.Defs
public import proofs.«01_k».proof.Proof.SampleSpec
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ReadBack
public import Idealize.ShloMosaic.Lib.Pipeline.ValueKit
public import Idealize.ShloMosaic.Lib.Pointwise
public import Idealize.ShloMosaic.Adequacy

@[expose] public section

set_option maxRecDepth 16384

noncomputable section

namespace Cert.Kernel12Ideal.Array

open Idealize.ShloMosaic Idealize.ShloMosaic.TcCoe Idealize.ShloMosaic.Tactic Idealize.SL.Sem
open Cert.Kernel12Ideal Cert.Kernel12Ideal.Gen

theorem index_eq : ∀ t : Fin cfg0.N,
    win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD) (t : Fin cfg0.N)

abbrev X0 : (⟨3, ![128, 8, 1024]⟩ : Shape).Idx → EReal := m ((c : Thread nD τ).loc main_arg0)
abbrev X1 : (⟨1, ![1024]⟩ : Shape).Idx → EReal := m ((c : Thread nD τ).loc main_arg1)

theorem t_lt : t.val < 2 := lt_of_lt_of_eq t.isLt N_0

theorem iblk0 (r : Fin 512) (k : Fin 1024) : (iblk m c 0 t (ix2 r k) : EReal)
    = X0 m c (ix3 ⟨t.val * 64 + r.val / 8, by have := t_lt t; have := r.isLt; omega⟩ ⟨r.val % 8, by omega⟩ k) := by
  blk_ext! [iblk, V, index_eq t]
  all_goals (have := r.isLt; omega)

theorem iblk1 (k : Fin 1024) : (iblk m c 1 t (ix2 0 k) : EReal) = X1 m c (ix1 k) := by
  blk_ext! [iblk, V, index_eq t]

theorem arr2 : (dats m 0 c).arrAt 2 cfg0.N = Sample.units (X0 m c) (X1 m c) := by
  refine (dats m 0 c).arrAt_eq_of_covers 2 _ (by decide +kernel) fun t hf y => ?_
  blk_simp
  rw [after0_2]
  have e0 : ((win0_2.blk t).view.emb y 0).val = t.val * 512 + (y 0).val := by blk_simp [index_eq t]
  have e1 : ((win0_2.blk t).view.emb y 1).val = (y 1).val := by blk_simp [index_eq t]
  obtain ⟨r, k, rfl⟩ : ∃ (r : Fin 512) (k : Fin 1024), y = ix2 r k := ⟨y 0, y 1, eq_ix2 y⟩
  unfold out0_2
  frame_out
  pointwise [k0_pay1]
  simp only [iblk0, iblk1]
  have hr := r.isLt
  have ht := t_lt t
  unfold Sample.units Sample.unit
  replace e0 : _ = t.val * 512 + r.val := e0
  replace e1 : _ = k.val := e1
  have ek : ((win0_2.blk t).view.emb (ix2 r k) 1 : Fin 1024) = k := Fin.ext e1
  have eb : (⟨t.val * 64 + r.val / 8, by omega⟩ : Fin 128) = ⟨((win0_2.blk t).view.emb (ix2 r k) 0).val / 8, by omega⟩ := Fin.ext (by simp only [e0]; omega)
  have ep : (⟨r.val % 8, by omega⟩ : Fin 8) = ⟨((win0_2.blk t).view.emb (ix2 r k) 0).val % 8, by omega⟩ := Fin.ext (by simp only [e0]; omega)
  simp only [ek, ← eb, ← ep]

end Cert.Kernel12Ideal.Array

namespace Cert.SampleNormClaims

open Idealize.ShloMosaic Idealize.ShloMosaic.Tactic Idealize.SL.Sem
open Cert.Reference12Ideal Cert.Reference12Ideal.Read in
theorem v13_eq (x0 : (⟨S128x8x1024, .f32⟩ : BufTy).Contents (Elt Ideal)) (x1 : (⟨S1024, .f32⟩ : BufTy).Contents (Elt Ideal)) :
    val_main_v13 (F := Ideal) x0 x1 = Cert.Sample.units x0 x1 := by
  funext y
  obtain ⟨r, k, rfl⟩ : ∃ (r : Fin 1024) (k : Fin 1024), y = ix2 r k := ⟨y 0, y 1, eq_ix2 y⟩
  pointwise [val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  rfl

theorem frame_p : Cert.quiescent_Kernel12 (hKernel12 := Cert.Kernel12.Gen.facts) := fun m ρ _ => Cert.Kernel12.Gen.frame m ρ
theorem frame_pi : Cert.quiescent_Kernel12Ideal (hKernel12Ideal := Cert.Kernel12Ideal.Gen.facts) := fun m ρ _ =>
  Cert.Kernel12Ideal.Gen.frame m ρ
theorem frame_ri : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run (F := Ideal) m ρ)

theorem preserves : Cert.preserves_Kernel12_Kernel12Ideal := trivial

theorem algebraic : Cert.algebraic_Kernel12Ideal_Reference12Ideal (hKernel12Ideal := Cert.Kernel12Ideal.Gen.facts)
    (hReference12Ideal := Cert.Reference12Ideal.Gen.facts) := by
  intro m g m' g' _ hag
  refine ⟨fun c => Cert.Sample.units (Cert.Kernel12Ideal.Array.X0 m c) (Cert.Kernel12Ideal.Array.X1 m c), ?_, ?_⟩
  · refine (θ_run Cert.Kernel12Ideal.defs _ _).mono (fun r h c => ?_) (Cert.Kernel12Ideal.Value.run_blocks m g)
    exact ⟨(h c).1.trans (Cert.Kernel12Ideal.Array.arr2 m c), (h c).2⟩
  · refine (θ_run Cert.Reference12Ideal.defs _ _).mono (fun r h c => ?_) (Cert.Reference12Ideal.Value.run m' g')
    refine ⟨(h c).1.trans ?_, (h c).2⟩
    obtain ⟨a0, a1⟩ := hag c
    rw [Cert.Reference12Ideal.Read.val_main_v13_eq, a0, a1]
    exact v13_eq _ _

end Cert.SampleNormClaims

end
-- ==== Proof.SampleTile.lean ====
/- One tile of the sample's projection to keys and values: what its operations leave, entry by entry. -/
module

public import proofs.«01_k».proof.Proof.Gen.Kernel13Ideal.Value
public import proofs.«01_k».proof.Proof.SampleSpec
public import Idealize.ShloMosaic.Lib.Pipeline.ValueKit

@[expose] public section

set_option maxRecDepth 16384

noncomputable section

namespace Cert.Kernel13Ideal.Tile

open Idealize.ShloMosaic Idealize.ShloMosaic.TcCoe Idealize.ShloMosaic.Tactic Idealize.SL.Sem
open Cert.Kernel13Ideal Cert.Kernel13Ideal.Gen

/-- A tile of the result, from the rows, the columns, the two numbers whose equality says it is rotated, and the tables. -/
def tile (h : Vec Ideal S512x1024 .bf16) (w : Vec Ideal S1024x256 .bf16) (i j : BitVec 32) (cs sn : Vec Ideal S512x128 .f32) :
    FVec Ideal S512x256 .f32 :=
  k0_pay1 (k0_pay3 h w) i j cs sn

theorem pay3_apply (h : Vec Ideal S512x1024 .bf16) (w : Vec Ideal S1024x256 .bf16) (r : Fin 512) (k : Fin 256) :
    k0_pay3 h w (ix2 r k) = ∑ l : Fin 1024, (h (ix2 r l) : EReal) * w (ix2 l k) := by
  pointwise [k0_pay3]

/-- Two copies of a table side by side. -/
theorem twice (v : Vec Ideal S512x128 .f32) (r : Fin 512) (k : Fin 256) :
    (if h : k.val < 128 then v (ix2 r ⟨k.val, h⟩) else v (ix2 r ⟨k.val - 128, by have := k.isLt; omega⟩))
      = v (ix2 r ⟨k.val % 128, Nat.mod_lt _ (by decide)⟩) := by
  have hk := k.isLt
  split_ifs <;> exact congrArg (fun l => v (ix2 r l)) (Fin.ext (by simp only; omega))

theorem pay1_apply (v6 : FVec Ideal S512x256 .f32) (i j : BitVec 32) (cs sn : Vec Ideal S512x128 .f32) (r : Fin 512) (k : Fin 256) :
    k0_pay1 v6 i j cs sn (ix2 r k) = Scalar.select (Scalar.cmpi .eq i j)
      ((v6 (ix2 r k) : EReal) * cs (ix2 r ⟨k.val % 128, Nat.mod_lt _ (by decide)⟩)
        + Scalar.select (if k.val % 64 < 32 then 1#1 else 0#1) (v6 (ix2 r ⟨(k.val + 256 - 224) % 256, Nat.mod_lt _ (by decide)⟩) : EReal)
          (v6 (ix2 r ⟨(k.val + 256 - 32) % 256, Nat.mod_lt _ (by decide)⟩)) * sn (ix2 r ⟨k.val % 128, Nat.mod_lt _ (by decide)⟩))
      (v6 (ix2 r k)) := by
  pointwise [k0_pay1]
  rw [twice cs r k, twice sn r k]
  congr 4
  clear v6 cs sn i j r
  revert k
  decide +kernel

/-- A tile of the columns from `n` on, of the row of position `p`. -/
theorem tile_apply (h : Vec Ideal S512x1024 .bf16) (w : Vec Ideal S1024x256 .bf16) (i j : BitVec 32) (cs sn : Vec Ideal S512x128 .f32)
    (a : ℕ → EReal) (n p : ℕ) (r : Fin 512) (k : Fin 256) (q : Prop) [Decidable q] (hn : n % 128 = 0)
    (hf : Scalar.cmpi .eq i j = if q then 1#1 else 0#1)
    (ha : ∀ k : Fin 256, ∑ l : Fin 1024, (h (ix2 r l) : EReal) * w (ix2 l k) = a (n + k.val))
    (hc : ∀ l : Fin 128, (cs (ix2 r l) : EReal) = Proj.cosAt p l.val) (hs : ∀ l : Fin 128, (sn (ix2 r l) : EReal) = Proj.sinAt p l.val) :
    tile h w i j cs sn (ix2 r k) = if q then Proj.turn a p (n + k.val) else a (n + k.val) := by
  have hk := k.isLt
  unfold tile
  rw [pay1_apply, hc, hs, pay3_apply, pay3_apply, pay3_apply, ha, ha, ha, hf]
  by_cases hq : q
  · rw [if_pos hq, if_pos hq, ValueIdx.select_one]
    exact Proj.turn_tile a p n k.val _ _ hn (fun _ => by simp only; omega) (fun _ => by simp only; omega)
  · rw [if_neg hq, if_neg hq, ValueIdx.select_zero]

end Cert.Kernel13Ideal.Tile

end
-- ==== Proof.SampleRows.lean ====
/- The result array of the sample's projection to the cached keys and values, entry by entry. -/
module

public import proofs.«01_k».proof.Proof.SampleTile
public import proofs.«01_k».proof.Proof.Gen.Kernel13Ideal.Value
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Kernel13Ideal.Array

open Idealize.ShloMosaic Idealize.ShloMosaic.TcCoe Idealize.ShloMosaic.Tactic Idealize.SL.Sem
open Cert.Kernel13Ideal Cert.Kernel13Ideal.Gen

variable (m : (ℓ : Loc nD τ sig) → Buf (Elt Ideal) ℓ) (c : Dev nD) (t : Fin cfg0.N)

/-- The first point of a block of rows leaves the modulated rows. -/
theorem hidden_first (h0 : t.val % 4 = 0) :
    (outsAt0 m c t.val t.isLt).2 = k0_pay2 (iblk m c 0 t) (iblk m c 3 t) (iblk m c 1 t) (iblk m c 2 t) := by
  rw [outsAt0_A m c t h0]
  frame_open
  simp (disch := decide) only [↓ View.readCov_skip, ↓ View.readCov_cons_toLoadRect, ↓ View.readCov_fill]
  frame_out

/-- The others keep them. -/
theorem hidden_rest (h0 : ¬ t.val % 4 = 0) :
    (outsAt0 m c t.val t.isLt).2 = (outsAt0 m c (t.val - 1) (by omega)).2 := by
  rw [outsAt0_B m c t h0]
  rfl

/-- A point's block of the result, from the rows it holds. -/
abbrev block (h : Vec Ideal S512x1024 .bf16) : FVec Ideal S512x256 .f32 :=
  Cert.Kernel13Ideal.Tile.tile h (iblk m c 4 t) (BitVec.ofNat 32 (t.val % 4)) 2#32 (iblk m c 5 t) (iblk m c 6 t)

theorem out_eq : (outsAt0 m c t.val t.isLt).1 = block m c t (outsAt0 m c t.val t.isLt).2 := by
  by_cases h0 : t.val % 4 = 0
  · rw [hidden_first m c t h0, outsAt0_A m c t h0]
    frame_open
    simp (disch := decide) only [↓ View.readCov_skip, ↓ View.readCov_cons_toLoadRect, ↓ View.readCov_fill]
    frame_out
    unfold block Cert.Kernel13Ideal.Tile.tile
    congr 1
    clear h0
    revert t
    show ∀ t : Fin grid0.N, _
    decide +kernel
  · rw [hidden_rest m c t h0, outsAt0_B m c t h0]
    frame_open
    simp (disch := decide) only [↓ View.readCov_skip, ↓ View.readCov_cons_toLoadRect, ↓ View.readCov_fill]
    frame_out
    simp only [read_unread_whole]
    unfold block Cert.Kernel13Ideal.Tile.tile
    congr 1
    clear h0
    revert t
    show ∀ t : Fin grid0.N, _
    decide +kernel

theorem index_eq : ∀ t : Fin cfg0.N,
    win0_0.index t = ![t.val / 4, 0]
    ∧ win0_1.index t = ![t.val / 4, 0]
    ∧ win0_2.index t = ![t.val / 4, 0]
    ∧ win0_3.index t = ![0, 0]
    ∧ win0_4.index t = ![0, t.val % 4]
    ∧ win0_5.index t = ![t.val / 4, 0]
    ∧ win0_6.index t = ![t.val / 4, 0]
    ∧ win0_7.index t = ![t.val / 4, t.val % 4] :=
  (by decide +kernel : ∀ t : Fin grid0.N, _)

/-- The arguments. -/
abbrev X0 : (⟨3, ![128, 8, 1024]⟩ : Shape).Idx → EReal := m ((c : Thread nD τ).loc main_arg0)
abbrev X1 : (⟨3, ![128, 1, 1024]⟩ : Shape).Idx → EReal := m ((c : Thread nD τ).loc main_arg1)
abbrev X2 : (⟨3, ![128, 1, 1024]⟩ : Shape).Idx → EReal := m ((c : Thread nD τ).loc main_arg2)
abbrev X3 : (⟨1, ![1024]⟩ : Shape).Idx → EReal := m ((c : Thread nD τ).loc main_arg3)
abbrev X4 : (⟨2, ![1024, 1536]⟩ : Shape).Idx → EReal := m ((c : Thread nD τ).loc main_arg4)

theorem t_lt : t.val < 8 := lt_of_lt_of_eq t.isLt N_0

/-- The batch and the position of a row of the point's block. -/
abbrev bt (r : Fin 512) : Fin 128 := ⟨t.val / 4 * 64 + r.val / 8, by have := t_lt t; have := r.isLt; omega⟩
abbrev pos (r : Fin 512) : Fin 8 := ⟨r.val % 8, by omega⟩

theorem iblk0 (r : Fin 512) (k : Fin 1024) : (iblk m c 0 t (ix2 r k) : EReal) = X0 m c (ix3 (bt t r) (pos r) k) := by
  blk_ext! [iblk, V, index_eq t]
  all_goals (have := r.isLt; omega)

theorem iblk1 (r : Fin 512) (k : Fin 1024) : (iblk m c 1 t (ix2 r k) : EReal) = X1 m c (ix3 (bt t r) 0 k) := by
  blk_ext! [iblk, V, index_eq t]
  all_goals (have := r.isLt; omega)

theorem iblk2 (r : Fin 512) (k : Fin 1024) : (iblk m c 2 t (ix2 r k) : EReal) = X2 m c (ix3 (bt t r) 0 k) := by
  blk_ext! [iblk, V, index_eq t]
  all_goals (have := r.isLt; omega)

theorem iblk3 (k : Fin 1024) : (iblk m c 3 t (ix2 0 k) : EReal) = X3 m c (ix1 k) := by
  blk_ext! [iblk, V, index_eq t]

theorem iblk4 (l : Fin 1024) (j : Fin 256) : (iblk m c 4 t (ix2 l j) : EReal)
    = X4 m c (ix2 l ⟨(0 + t.val % 4 * 256 + j.val) % 1536, Nat.mod_lt _ (by decide)⟩) := by
  have hj := j.isLt
  rw [show (⟨(0 + t.val % 4 * 256 + j.val) % 1536, Nat.mod_lt _ (by decide)⟩ : Fin 1536)
    = ⟨0 + t.val % 4 * 256 + j.val, by omega⟩ from Fin.ext (by simp only; omega)]
  blk_ext! [iblk, V, index_eq t]

/-- The tables. -/
theorem iblk5 (r : Fin 512) (l : Fin 128) : (iblk m c 5 t (ix2 r l) : EReal)
    = Proj.cosAt (2048 + (pos r).val) l.val := by
  have hr := r.isLt
  have ht := t_lt t
  have e0 : ((win0_5.blk t).view.emb (ix2 r l)) = ix2 (⟨t.val / 4 * 512 + r.val, by omega⟩ : Fin 1024) l := by
    blk_ext! [index_eq t]
  refine Eq.trans (b := (V m c main_v30 (ix2 (⟨t.val / 4 * 512 + r.val, by omega⟩ : Fin 1024) l) : EReal)) ?_ ?_
  · exact congrArg (V m c main_v30) e0
  · have ep : (⟨(t.val / 4 * 512 + r.val) % 8, by omega⟩ : Fin 8) = pos r := Fin.ext (by simp only [pos]; omega)
    rw [← ep]
    blk_simp [V]
    entry_read
    pointwise
    rw [Sample.position _ (Nat.mod_lt _ (by decide))]
    rfl

theorem iblk6 (r : Fin 512) (l : Fin 128) : (iblk m c 6 t (ix2 r l) : EReal)
    = Proj.sinAt (2048 + (pos r).val) l.val := by
  have hr := r.isLt
  have ht := t_lt t
  have e0 : ((win0_6.blk t).view.emb (ix2 r l)) = ix2 (⟨t.val / 4 * 512 + r.val, by omega⟩ : Fin 1024) l := by
    blk_ext! [index_eq t]
  refine Eq.trans (b := (V m c main_v33 (ix2 (⟨t.val / 4 * 512 + r.val, by omega⟩ : Fin 1024) l) : EReal)) ?_ ?_
  · exact congrArg (V m c main_v33) e0
  · have ep : (⟨(t.val / 4 * 512 + r.val) % 8, by omega⟩ : Fin 8) = pos r := Fin.ext (by simp only [pos]; omega)
    rw [← ep]
    blk_simp [V]
    entry_read
    pointwise
    rw [Sample.position _ (Nat.mod_lt _ (by decide))]
    rfl

/-- The modulated rows of the point's block. -/
theorem pay2_apply (r : Fin 512) (k : Fin 1024) :
    k0_pay2 (iblk m c 0 t) (iblk m c 3 t) (iblk m c 1 t) (iblk m c 2 t) (ix2 r k)
      = Sample.row (X0 m c) (X1 m c) (X2 m c) (X3 m c) (bt t r) (pos r) k := by
  pointwise [k0_pay2]
  simp only [iblk0, iblk1, iblk2, iblk3]
  rfl

/-- Every point holds the modulated rows of its block. -/
theorem hidden : ∀ (n : ℕ) (hn : n < cfg0.N) (r : Fin 512) (k : Fin 1024), ((outsAt0 m c n hn).2 (ix2 r k) : EReal)
    = Sample.row (X0 m c) (X1 m c) (X2 m c) (X3 m c) (bt ⟨n, hn⟩ r) (pos r) k := by
  intro n
  induction n with
  | zero =>
    intro hn r k
    have h := hidden_first m c ⟨0, hn⟩ rfl
    exact (congrFun h _).trans (pay2_apply m c ⟨0, hn⟩ r k)
  | succ n ih =>
    intro hn r k
    by_cases h0 : (n + 1) % 4 = 0
    · have h := hidden_first m c ⟨n + 1, hn⟩ h0
      exact (congrFun h _).trans (pay2_apply m c ⟨n + 1, hn⟩ r k)
    · have h := hidden_rest m c ⟨n + 1, hn⟩ h0
      refine (congrFun h _).trans ((ih (by omega) r k).trans ?_)
      have eb : bt ⟨n, by omega⟩ r = bt ⟨n + 1, hn⟩ r := Fin.ext (by simp only [bt]; omega)
      rw [eb]

theorem acc_apply (h : Vec Ideal S512x1024 .bf16) (r : Fin 512) (k : Fin 256)
    (hh : ∀ l : Fin 1024, (h (ix2 r l) : EReal) = Sample.row (X0 m c) (X1 m c) (X2 m c) (X3 m c) (bt t r) (pos r) l) :
    ∑ l : Fin 1024, (h (ix2 r l) : EReal) * iblk m c 4 t (ix2 l k)
      = Sample.acc (X0 m c) (X1 m c) (X2 m c) (X3 m c) (X4 m c) (bt t r) (pos r) (0 + t.val % 4 * 256 + k.val) := by
  simp only [iblk4, hh]
  rfl

/-- The point's numbers are equal where its columns are rotated. -/
theorem flag : Scalar.cmpi .eq (BitVec.ofNat 32 (t.val % 4)) 2#32 = if t.val % 4 = 2 then 1#1 else 0#1 := by
  revert t
  show ∀ t : Fin grid0.N, _
  decide +kernel

/-- The point's block of the result. -/
theorem block_apply (h : Vec Ideal S512x1024 .bf16) (r : Fin 512) (k : Fin 256)
    (hh : ∀ l : Fin 1024, (h (ix2 r l) : EReal) = Sample.row (X0 m c) (X1 m c) (X2 m c) (X3 m c) (bt t r) (pos r) l) :
    block m c t h (ix2 r k) = Sample.part (X0 m c) (X1 m c) (X2 m c) (X3 m c) (X4 m c) 0 2 (bt t r) (pos r) (t.val % 4 * 256 + k.val) := by
  have hk := k.isLt
  refine (Cert.Kernel13Ideal.Tile.tile_apply h _ _ _ _ _ _ (0 + t.val % 4 * 256) (2048 + (pos r).val) r k _ (by omega)
    (flag t) (fun k => acc_apply m c t h r k hh) (iblk5 m c t r) (iblk6 m c t r)).trans ?_
  unfold Sample.part Sample.rot
  rw [Nat.add_assoc]
  by_cases h1 : t.val % 4 = 2
  · rw [if_pos h1, if_pos (by omega)]
  · rw [if_neg h1, if_neg (by omega)]

theorem arr7 : (dats m 0 c).arrAt 7 cfg0.N = Sample.flat (Sample.part (X0 m c) (X1 m c) (X2 m c) (X3 m c) (X4 m c) 0 2) := by
  refine (dats m 0 c).arrAt_eq_of_covers 7 _ (by decide +kernel) fun t hf y => ?_
  blk_simp
  rw [after0_7, out_eq]
  have e0 : ((win0_7.blk t).view.emb y 0).val = t.val / 4 * 512 + (y 0).val := by blk_simp [index_eq t]
  have e1 : ((win0_7.blk t).view.emb y 1).val = t.val % 4 * 256 + (y 1).val := by blk_simp [index_eq t]
  obtain ⟨r, k, rfl⟩ : ∃ (r : Fin 512) (k : Fin 256), y = ix2 r k := ⟨y 0, y 1, eq_ix2 y⟩
  refine (block_apply m c t _ r k fun l => hidden m c t.val t.isLt r l).trans ?_
  replace e0 : _ = t.val / 4 * 512 + r.val := e0
  refine Sample.flat_of _ _ _ _ _ ?_ e1
  simp only [e0, bt, pos]
  have := t_lt t
  have := r.isLt
  omega

end Cert.Kernel13Ideal.Array

end
-- ==== Proof.SampleRowsRef.lean ====
/- The reference's result for the sample's cached keys and values, entry by entry. -/
module

public import proofs.«01_k».proof.Proof.SampleSpec
public import proofs.«01_k».proof.Proof.Gen.Reference13Ideal.Read
public import Idealize.ShloMosaic.Lib.ValueIdxRank6

@[expose] public section

set_option maxRecDepth 16384

noncomputable section

namespace Cert.Reference13Ideal.RefValue

open Idealize.ShloMosaic Idealize.ShloMosaic.TcCoe Idealize.ShloMosaic.Tactic Idealize.SL.Sem
open Cert.Reference13Ideal Cert.Reference13Ideal.Gen Cert.Reference13Ideal.Read

variable (x0 : (⟨S128x8x1024, .f32⟩ : BufTy).Contents (Elt Ideal)) (x1 x2 : (⟨S128x1x1024, .f32⟩ : BufTy).Contents (Elt Ideal))
  (x3 : (⟨S1024, .f32⟩ : BufTy).Contents (Elt Ideal)) (x4 : (⟨S1024x1536, .f32⟩ : BufTy).Contents (Elt Ideal))

theorem v18_apply (b : Fin 128) (t : Fin 8) (k : Fin 1024) :
    val_main_v18 (F := Ideal) x0 x1 x2 x3 (ix3 b t k) = Sample.row x0 x1 x2 x3 b t k := by
  pointwise [val_main_v18, val_main_v17, val_main_v16, val_main_v15, val_main_v14, val_main_v13, val_main_cst_2, val_main_v12, val_main_v11, val_main_v10, val_main_v9, val_main_v8, val_main_v7, val_main_v6, val_main_v5, val_main_cst_1, val_main_v4, val_main_v3, val_main_cst_0, val_main_v2, val_main_v1, val_main_cst, val_main_v0]
  rfl

theorem v22_apply (b : Fin 128) (p : Fin 8) (n : Fin 1536) (k : ℕ) (hk : k = n.val) :
    val_main_v22 (F := Ideal) x0 x1 x2 x3 x4 (ix3 b p n) = Sample.acc x0 x1 x2 x3 x4 b p k := by
  pointwise [val_main_v22]
  simp only [v18_apply]
  have e : n = ⟨k % 1536, Nat.mod_lt _ (by decide)⟩ := Fin.ext (by have := n.isLt; simp only; omega)
  unfold Sample.acc
  rw [← e]

theorem v25_apply (b : Fin 128) (p : Fin 8) (h : Fin 4) (d : Fin 64) (k : ℕ) (hk : k = 0 + h.val * 64 + d.val) :
    val_main_v25 (F := Ideal) x0 x1 x2 x3 x4 (ix4 b p h d) = Sample.acc x0 x1 x2 x3 x4 b p k := by
  have hh := h.isLt
  have hd := d.isLt
  pointwise [val_main_v25, val_main_v24, val_main_v23]
  exact v22_apply x0 x1 x2 x3 x4 b p _ k (by simp only; omega)

theorem v27_apply (b : Fin 128) (p : Fin 8) (h : Fin 4) (d : Fin 64) (k : ℕ) (hk : k = 256 + h.val * 64 + d.val) :
    val_main_v27 (F := Ideal) x0 x1 x2 x3 x4 (ix4 b p h d) = Sample.acc x0 x1 x2 x3 x4 b p k := by
  have hh := h.isLt
  have hd := d.isLt
  pointwise [val_main_v27, val_main_v26, val_main_v23]
  exact v22_apply x0 x1 x2 x3 x4 b p _ k (by simp only; omega)

theorem v29_apply (b : Fin 128) (p : Fin 8) (h : Fin 4) (d : Fin 64) (k : ℕ) (hk : k = 512 + h.val * 64 + d.val) :
    val_main_v29 (F := Ideal) x0 x1 x2 x3 x4 (ix4 b p h d) = Sample.acc x0 x1 x2 x3 x4 b p k := by
  have hh := h.isLt
  have hd := d.isLt
  pointwise [val_main_v29, val_main_v28, val_main_v23]
  exact v22_apply x0 x1 x2 x3 x4 b p _ k (by simp only; omega)

theorem v41_apply (p : Fin 8) (k : Fin 32) : val_main_v41 (F := Ideal) (ix2 p k) = Proj.ang (2048 + p.val) k.val := by
  pointwise [val_main_v41, val_main_v40, val_main_v39, val_main_v38, val_main_v37, val_main_v36, val_main_v35, val_main_v34, val_main_cst_4, val_main_v33, val_main_v32, val_main_cst_3, val_main_v31, val_main_v30, val_main_v21, val_main_v20, val_main_c, val_main_v19]
  rw [Sample.position _ p.isLt]
  rfl

theorem v58_apply (b : Fin 128) (p : Fin 8) (h : Fin 4) (d : Fin 64) (k : ℕ) (hk : k = 512 + h.val * 64 + d.val) :
    val_main_v58 (F := Ideal) x0 x1 x2 x3 x4 (ix4 b p h d) = Sample.rot x0 x1 x2 x3 x4 b p k := by
  have e : k % 64 = d.val := by omega
  pointwise [val_main_v58, val_main_v57, val_main_v56, val_main_v55, val_main_v54, val_main_v53, val_main_v52, val_main_v51, val_main_v50, val_main_v49, val_main_v48, val_main_v47, val_main_v46, val_main_v45, val_main_v44, val_main_v43, val_main_v42]
  simp only [v41_apply]
  unfold Sample.rot Proj.turn
  rw [e]
  by_cases hd : d.val < 32
  · rw [dif_pos hd, if_pos hd, v29_apply x0 x1 x2 x3 x4 b p h _ k hk, v29_apply x0 x1 x2 x3 x4 b p h _ (k + 32) (by simp only; omega)]
  · rw [dif_neg hd, if_neg hd, v29_apply x0 x1 x2 x3 x4 b p h _ k (by simp only; omega), v29_apply x0 x1 x2 x3 x4 b p h _ (k - 32) (by simp only; omega)]

theorem v60_apply (b : Fin 128) (p : Fin 8) (h : Fin 4) (d : Fin 64) (k : ℕ) (hk : k = 768 + h.val * 64 + d.val) :
    val_main_v60 (F := Ideal) x0 x1 x2 x3 x4 (ix4 b p h d) = Sample.acc x0 x1 x2 x3 x4 b p k := by
  have hh := h.isLt
  have hd := d.isLt
  pointwise [val_main_v60, val_main_v59, val_main_v23]
  exact v22_apply x0 x1 x2 x3 x4 b p _ k (by simp only; omega)

theorem v65_apply (b : Fin 128) (p : Fin 8) (s : Fin 4) (h : Fin 4) (d : Fin 64) (k : ℕ) (hk : k = s.val * 256 + h.val * 64 + d.val) :
    val_main_v65 (F := Ideal) x0 x1 x2 x3 x4 (ix5 b p s h d) = Sample.part x0 x1 x2 x3 x4 0 2 b p k := by
  have hs := s.isLt
  have hh := h.isLt
  have hd := d.isLt
  pointwise [val_main_v65, val_main_v64, val_main_v63, val_main_v62, val_main_v61]
  unfold Sample.part
  rw [Nat.zero_add]
  by_cases h1 : s.val < 1
  · rw [dif_pos h1, if_neg (by omega), v25_apply x0 x1 x2 x3 x4 b p h d k (by omega)]
  · rw [dif_neg h1]
    by_cases h2 : s.val - 1 < 1
    · rw [dif_pos h2, if_neg (by omega), v27_apply x0 x1 x2 x3 x4 b p h d k (by omega)]
    · rw [dif_neg h2]
      by_cases h3 : s.val - 1 - 1 < 1
      · rw [dif_pos h3, if_pos (by omega), v58_apply x0 x1 x2 x3 x4 b p h d k (by omega)]
      · rw [dif_neg h3, if_neg (by omega), v60_apply x0 x1 x2 x3 x4 b p h d k (by omega)]

theorem v102_eq : val_main_v102 (F := Ideal) x0 x1 x2 x3 x4 = Sample.flat (Sample.part x0 x1 x2 x3 x4 0 2) := by
  funext y
  obtain ⟨r, k, rfl⟩ : ∃ (r : Fin 1024) (k : Fin 1024), y = ix2 r k := ⟨y 0, y 1, eq_ix2 y⟩
  pointwise [val_main_v102]
  exact v65_apply x0 x1 x2 x3 x4 _ _ _ _ _ k.val (by simp only; omega)

end Cert.Reference13Ideal.RefValue

end
-- ==== Proof.SampleRowsClaims.lean ====
/- The claims about the sample's projection to the cached keys and values: the kernel's array (`SampleRows.lean`) and the
   reference's result (`SampleRowsRef.lean`) are one function of the arguments. -/
module

public import proofs.«01_k».proof.Defs
public import proofs.«01_k».proof.Proof.SampleRows
public import proofs.«01_k».proof.Proof.SampleRowsRef
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import Idealize.ShloMosaic.Adequacy

@[expose] public section

noncomputable section

namespace Cert.SampleRowsClaims

open Idealize.ShloMosaic Idealize.SL.Sem

theorem frame_p : Cert.quiescent_Kernel13 (hKernel13 := Cert.Kernel13.Gen.facts) := fun m ρ _ => Cert.Kernel13.Gen.frame m ρ
theorem frame_pi : Cert.quiescent_Kernel13Ideal (hKernel13Ideal := Cert.Kernel13Ideal.Gen.facts) := fun m ρ _ =>
  Cert.Kernel13Ideal.Gen.frame m ρ
theorem frame_ri : Cert.quiescent_Reference13Ideal (hReference13Ideal := Cert.Reference13Ideal.Gen.facts) := fun m ρ _ =>
  (θ_run Cert.Reference13Ideal.defs _ _).mono (fun r h => ⟨fun c => (h c).2, sem_eq_zero_of_no_sems (by decide) r.2⟩)
    (Cert.Reference13Ideal.Value.run (F := Ideal) m ρ)

theorem preserves : Cert.preserves_Kernel13_Kernel13Ideal := trivial

/-- Both programs end with the keys and values. -/
theorem algebraic : Cert.algebraic_Kernel13Ideal_Reference13Ideal (hKernel13Ideal := Cert.Kernel13Ideal.Gen.facts)
    (hReference13Ideal := Cert.Reference13Ideal.Gen.facts) := by
  intro m g m' g' _ hag
  refine ⟨fun c => Cert.Sample.flat (Cert.Sample.part (Cert.Kernel13Ideal.Array.X0 m c) (Cert.Kernel13Ideal.Array.X1 m c) (Cert.Kernel13Ideal.Array.X2 m c) (Cert.Kernel13Ideal.Array.X3 m c) (Cert.Kernel13Ideal.Array.X4 m c) 0 2), ?_, ?_⟩
  · refine (θ_run Cert.Kernel13Ideal.defs _ _).mono (fun r h c => ?_) (Cert.Kernel13Ideal.Value.run_blocks m g)
    exact ⟨(h c).1.trans (Cert.Kernel13Ideal.Array.arr7 m c), (h c).2⟩
  · refine (θ_run Cert.Reference13Ideal.defs _ _).mono (fun r h c => ?_) (Cert.Reference13Ideal.Value.run m' g')
    refine ⟨(h c).1.trans ?_, (h c).2⟩
    obtain ⟨a0, a1, a2, a3, a4⟩ := hag c
    rw [Cert.Reference13Ideal.Read.val_main_v102_eq, a0, a1, a2, a3, a4]
    exact Cert.Reference13Ideal.RefValue.v102_eq _ _ _ _ _

end Cert.SampleRowsClaims

end
-- ==== Proof.SampleWin.lean ====
/- The result array of the sample's projection to the window's keys and values, entry by entry. -/
module

public import proofs.«01_k».proof.Proof.SampleTile
public import proofs.«01_k».proof.Proof.Gen.Kernel14Ideal.Value
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Kernel14Ideal.Array

open Idealize.ShloMosaic Idealize.ShloMosaic.TcCoe Idealize.ShloMosaic.Tactic Idealize.SL.Sem
open Cert.Kernel14Ideal Cert.Kernel14Ideal.Gen

variable (m : (ℓ : Loc nD τ sig) → Buf (Elt Ideal) ℓ) (c : Dev nD) (t : Fin cfg0.N)

/-- The first point of a block of rows leaves the modulated rows. -/
theorem hidden_first (h0 : t.val % 2 = 0) :
    (outsAt0 m c t.val t.isLt).2 = k0_pay2 (iblk m c 0 t) (iblk m c 3 t) (iblk m c 1 t) (iblk m c 2 t) := by
  rw [outsAt0_A m c t h0]
  frame_open
  simp (disch := decide) only [↓ View.readCov_skip, ↓ View.readCov_cons_toLoadRect, ↓ View.readCov_fill]
  frame_out

/-- The others keep them. -/
theorem hidden_rest (h0 : ¬ t.val % 2 = 0) :
    (outsAt0 m c t.val t.isLt).2 = (outsAt0 m c (t.val - 1) (by omega)).2 := by
  rw [outsAt0_B m c t h0]
  rfl

/-- A point's block of the result, from the rows it holds. -/
abbrev block (h : Vec Ideal S512x1024 .bf16) : FVec Ideal S512x256 .f32 :=
  Cert.Kernel13Ideal.Tile.tile h (iblk m c 4 t) (BitVec.ofNat 32 (t.val % 2)) 0#32 (iblk m c 5 t) (iblk m c 6 t)

theorem out_eq : (outsAt0 m c t.val t.isLt).1 = block m c t (outsAt0 m c t.val t.isLt).2 := by
  by_cases h0 : t.val % 2 = 0
  · rw [hidden_first m c t h0, outsAt0_A m c t h0]
    frame_open
    simp (disch := decide) only [↓ View.readCov_skip, ↓ View.readCov_cons_toLoadRect, ↓ View.readCov_fill]
    frame_out
    unfold block Cert.Kernel13Ideal.Tile.tile
    congr 1
    clear h0
    revert t
    show ∀ t : Fin grid0.N, _
    decide +kernel
  · rw [hidden_rest m c t h0, outsAt0_B m c t h0]
    frame_open
    simp (disch := decide) only [↓ View.readCov_skip, ↓ View.readCov_cons_toLoadRect, ↓ View.readCov_fill]
    frame_out
    simp only [read_unread_whole]
    unfold block Cert.Kernel13Ideal.Tile.tile
    congr 1
    clear h0
    revert t
    show ∀ t : Fin grid0.N, _
    decide +kernel

theorem index_eq : ∀ t : Fin cfg0.N,
    win0_0.index t = ![t.val / 2, 0]
    ∧ win0_1.index t = ![t.val / 2, 0]
    ∧ win0_2.index t = ![t.val / 2, 0]
    ∧ win0_3.index t = ![0, 0]
    ∧ win0_4.index t = ![0, t.val % 2]
    ∧ win0_5.index t = ![t.val / 2, 0]
    ∧ win0_6.index t = ![t.val / 2, 0]
    ∧ win0_7.index t = ![t.val / 2, t.val % 2] :=
  (by decide +kernel : ∀ t : Fin grid0.N, _)

/-- The arguments. -/
abbrev X0 : (⟨3, ![128, 8, 1024]⟩ : Shape).Idx → EReal := m ((c : Thread nD τ).loc main_arg0)
abbrev X1 : (⟨3, ![128, 1, 1024]⟩ : Shape).Idx → EReal := m ((c : Thread nD τ).loc main_arg1)
abbrev X2 : (⟨3, ![128, 1, 1024]⟩ : Shape).Idx → EReal := m ((c : Thread nD τ).loc main_arg2)
abbrev X3 : (⟨1, ![1024]⟩ : Shape).Idx → EReal := m ((c : Thread nD τ).loc main_arg3)
abbrev X4 : (⟨2, ![1024, 1536]⟩ : Shape).Idx → EReal := m ((c : Thread nD τ).loc main_arg4)

theorem t_lt : t.val < 4 := lt_of_lt_of_eq t.isLt N_0

/-- The batch and the position of a row of the point's block. -/
abbrev bt (r : Fin 512) : Fin 128 := ⟨t.val / 2 * 64 + r.val / 8, by have := t_lt t; have := r.isLt; omega⟩
abbrev pos (r : Fin 512) : Fin 8 := ⟨r.val % 8, by omega⟩

theorem iblk0 (r : Fin 512) (k : Fin 1024) : (iblk m c 0 t (ix2 r k) : EReal) = X0 m c (ix3 (bt t r) (pos r) k) := by
  blk_ext! [iblk, V, index_eq t]
  all_goals (have := r.isLt; omega)

theorem iblk1 (r : Fin 512) (k : Fin 1024) : (iblk m c 1 t (ix2 r k) : EReal) = X1 m c (ix3 (bt t r) 0 k) := by
  blk_ext! [iblk, V, index_eq t]
  all_goals (have := r.isLt; omega)

theorem iblk2 (r : Fin 512) (k : Fin 1024) : (iblk m c 2 t (ix2 r k) : EReal) = X2 m c (ix3 (bt t r) 0 k) := by
  blk_ext! [iblk, V, index_eq t]
  all_goals (have := r.isLt; omega)

theorem iblk3 (k : Fin 1024) : (iblk m c 3 t (ix2 0 k) : EReal) = X3 m c (ix1 k) := by
  blk_ext! [iblk, V, index_eq t]

theorem iblk4 (l : Fin 1024) (j : Fin 256) : (iblk m c 4 t (ix2 l j) : EReal)
    = X4 m c (ix2 l ⟨(1024 + t.val % 2 * 256 + j.val) % 1536, Nat.mod_lt _ (by decide)⟩) := by
  have hj := j.isLt
  rw [show (⟨(1024 + t.val % 2 * 256 + j.val) % 1536, Nat.mod_lt _ (by decide)⟩ : Fin 1536)
    = ⟨1024 + t.val % 2 * 256 + j.val, by omega⟩ from Fin.ext (by simp only; omega)]
  blk_ext! [iblk, V, index_eq t]

/-- The tables. -/
theorem iblk5 (r : Fin 512) (l : Fin 128) : (iblk m c 5 t (ix2 r l) : EReal)
    = Proj.cosAt (2048 + (pos r).val) l.val := by
  have hr := r.isLt
  have ht := t_lt t
  have e0 : ((win0_5.blk t).view.emb (ix2 r l)) = ix2 (⟨t.val / 2 * 512 + r.val, by omega⟩ : Fin 1024) l := by
    blk_ext! [index_eq t]
  refine Eq.trans (b := (V m c main_v30 (ix2 (⟨t.val / 2 * 512 + r.val, by omega⟩ : Fin 1024) l) : EReal)) ?_ ?_
  · exact congrArg (V m c main_v30) e0
  · have ep : (⟨(t.val / 2 * 512 + r.val) % 8, by omega⟩ : Fin 8) = pos r := Fin.ext (by simp only [pos]; omega)
    rw [← ep]
    blk_simp [V]
    entry_read
    pointwise
    rw [Sample.position _ (Nat.mod_lt _ (by decide))]
    rfl

theorem iblk6 (r : Fin 512) (l : Fin 128) : (iblk m c 6 t (ix2 r l) : EReal)
    = Proj.sinAt (2048 + (pos r).val) l.val := by
  have hr := r.isLt
  have ht := t_lt t
  have e0 : ((win0_6.blk t).view.emb (ix2 r l)) = ix2 (⟨t.val / 2 * 512 + r.val, by omega⟩ : Fin 1024) l := by
    blk_ext! [index_eq t]
  refine Eq.trans (b := (V m c main_v33 (ix2 (⟨t.val / 2 * 512 + r.val, by omega⟩ : Fin 1024) l) : EReal)) ?_ ?_
  · exact congrArg (V m c main_v33) e0
  · have ep : (⟨(t.val / 2 * 512 + r.val) % 8, by omega⟩ : Fin 8) = pos r := Fin.ext (by simp only [pos]; omega)
    rw [← ep]
    blk_simp [V]
    entry_read
    pointwise
    rw [Sample.position _ (Nat.mod_lt _ (by decide))]
    rfl

/-- The modulated rows of the point's block. -/
theorem pay2_apply (r : Fin 512) (k : Fin 1024) :
    k0_pay2 (iblk m c 0 t) (iblk m c 3 t) (iblk m c 1 t) (iblk m c 2 t) (ix2 r k)
      = Sample.row (X0 m c) (X1 m c) (X2 m c) (X3 m c) (bt t r) (pos r) k := by
  pointwise [k0_pay2]
  simp only [iblk0, iblk1, iblk2, iblk3]
  rfl

/-- Every point holds the modulated rows of its block. -/
theorem hidden : ∀ (n : ℕ) (hn : n < cfg0.N) (r : Fin 512) (k : Fin 1024), ((outsAt0 m c n hn).2 (ix2 r k) : EReal)
    = Sample.row (X0 m c) (X1 m c) (X2 m c) (X3 m c) (bt ⟨n, hn⟩ r) (pos r) k := by
  intro n
  induction n with
  | zero =>
    intro hn r k
    have h := hidden_first m c ⟨0, hn⟩ rfl
    exact (congrFun h _).trans (pay2_apply m c ⟨0, hn⟩ r k)
  | succ n ih =>
    intro hn r k
    by_cases h0 : (n + 1) % 2 = 0
    · have h := hidden_first m c ⟨n + 1, hn⟩ h0
      exact (congrFun h _).trans (pay2_apply m c ⟨n + 1, hn⟩ r k)
    · have h := hidden_rest m c ⟨n + 1, hn⟩ h0
      refine (congrFun h _).trans ((ih (by omega) r k).trans ?_)
      have eb : bt ⟨n, by omega⟩ r = bt ⟨n + 1, hn⟩ r := Fin.ext (by simp only [bt]; omega)
      rw [eb]

theorem acc_apply (h : Vec Ideal S512x1024 .bf16) (r : Fin 512) (k : Fin 256)
    (hh : ∀ l : Fin 1024, (h (ix2 r l) : EReal) = Sample.row (X0 m c) (X1 m c) (X2 m c) (X3 m c) (bt t r) (pos r) l) :
    ∑ l : Fin 1024, (h (ix2 r l) : EReal) * iblk m c 4 t (ix2 l k)
      = Sample.acc (X0 m c) (X1 m c) (X2 m c) (X3 m c) (X4 m c) (bt t r) (pos r) (1024 + t.val % 2 * 256 + k.val) := by
  simp only [iblk4, hh]
  rfl

/-- The point's numbers are equal where its columns are rotated. -/
theorem flag : Scalar.cmpi .eq (BitVec.ofNat 32 (t.val % 2)) 0#32 = if t.val % 2 = 0 then 1#1 else 0#1 := by
  revert t
  show ∀ t : Fin grid0.N, _
  decide +kernel

/-- The point's block of the result. -/
theorem block_apply (h : Vec Ideal S512x1024 .bf16) (r : Fin 512) (k : Fin 256)
    (hh : ∀ l : Fin 1024, (h (ix2 r l) : EReal) = Sample.row (X0 m c) (X1 m c) (X2 m c) (X3 m c) (bt t r) (pos r) l) :
    block m c t h (ix2 r k) = Sample.part (X0 m c) (X1 m c) (X2 m c) (X3 m c) (X4 m c) 1024 0 (bt t r) (pos r) (t.val % 2 * 256 + k.val) := by
  have hk := k.isLt
  refine (Cert.Kernel13Ideal.Tile.tile_apply h _ _ _ _ _ _ (1024 + t.val % 2 * 256) (2048 + (pos r).val) r k _ (by omega)
    (flag t) (fun k => acc_apply m c t h r k hh) (iblk5 m c t r) (iblk6 m c t r)).trans ?_
  unfold Sample.part Sample.rot
  rw [Nat.add_assoc]
  by_cases h1 : t.val % 2 = 0
  · rw [if_pos h1, if_pos (by omega)]
  · rw [if_neg h1, if_neg (by omega)]

theorem arr7 : (dats m 0 c).arrAt 7 cfg0.N = Sample.flat (Sample.part (X0 m c) (X1 m c) (X2 m c) (X3 m c) (X4 m c) 1024 0) := by
  refine (dats m 0 c).arrAt_eq_of_covers 7 _ (by decide +kernel) fun t hf y => ?_
  blk_simp
  rw [after0_7, out_eq]
  have e0 : ((win0_7.blk t).view.emb y 0).val = t.val / 2 * 512 + (y 0).val := by blk_simp [index_eq t]
  have e1 : ((win0_7.blk t).view.emb y 1).val = t.val % 2 * 256 + (y 1).val := by blk_simp [index_eq t]
  obtain ⟨r, k, rfl⟩ : ∃ (r : Fin 512) (k : Fin 256), y = ix2 r k := ⟨y 0, y 1, eq_ix2 y⟩
  refine (block_apply m c t _ r k fun l => hidden m c t.val t.isLt r l).trans ?_
  replace e0 : _ = t.val / 2 * 512 + r.val := e0
  refine Sample.flat_of _ _ _ _ _ ?_ e1
  simp only [e0, bt, pos]
  have := t_lt t
  have := r.isLt
  omega

end Cert.Kernel14Ideal.Array

end
-- ==== Proof.SampleWinRef.lean ====
/- The reference's result for the sample's window's keys and values, entry by entry. -/
module

public import proofs.«01_k».proof.Proof.SampleSpec
public import proofs.«01_k».proof.Proof.Gen.Reference14Ideal.Read
public import Idealize.ShloMosaic.Lib.ValueIdxRank6

@[expose] public section

set_option maxRecDepth 16384

noncomputable section

namespace Cert.Reference14Ideal.RefValue

open Idealize.ShloMosaic Idealize.ShloMosaic.TcCoe Idealize.ShloMosaic.Tactic Idealize.SL.Sem
open Cert.Reference14Ideal Cert.Reference14Ideal.Gen Cert.Reference14Ideal.Read

variable (x0 : (⟨S128x8x1024, .f32⟩ : BufTy).Contents (Elt Ideal)) (x1 x2 : (⟨S128x1x1024, .f32⟩ : BufTy).Contents (Elt Ideal))
  (x3 : (⟨S1024, .f32⟩ : BufTy).Contents (Elt Ideal)) (x4 : (⟨S1024x1536, .f32⟩ : BufTy).Contents (Elt Ideal))

theorem v18_apply (b : Fin 128) (t : Fin 8) (k : Fin 1024) :
    val_main_v18 (F := Ideal) x0 x1 x2 x3 (ix3 b t k) = Sample.row x0 x1 x2 x3 b t k := by
  pointwise [val_main_v18, val_main_v17, val_main_v16, val_main_v15, val_main_v14, val_main_v13, val_main_cst_2, val_main_v12, val_main_v11, val_main_v10, val_main_v9, val_main_v8, val_main_v7, val_main_v6, val_main_v5, val_main_cst_1, val_main_v4, val_main_v3, val_main_cst_0, val_main_v2, val_main_v1, val_main_cst, val_main_v0]
  rfl

theorem v22_apply (b : Fin 128) (p : Fin 8) (n : Fin 1536) (k : ℕ) (hk : k = n.val) :
    val_main_v22 (F := Ideal) x0 x1 x2 x3 x4 (ix3 b p n) = Sample.acc x0 x1 x2 x3 x4 b p k := by
  pointwise [val_main_v22]
  simp only [v18_apply]
  have e : n = ⟨k % 1536, Nat.mod_lt _ (by decide)⟩ := Fin.ext (by have := n.isLt; simp only; omega)
  unfold Sample.acc
  rw [← e]

theorem v67_apply (b : Fin 128) (p : Fin 8) (h : Fin 4) (d : Fin 64) (k : ℕ) (hk : k = 1024 + h.val * 64 + d.val) :
    val_main_v67 (F := Ideal) x0 x1 x2 x3 x4 (ix4 b p h d) = Sample.acc x0 x1 x2 x3 x4 b p k := by
  have hh := h.isLt
  have hd := d.isLt
  pointwise [val_main_v67, val_main_v66, val_main_v23]
  exact v22_apply x0 x1 x2 x3 x4 b p _ k (by simp only; omega)

theorem v79_apply (p : Fin 8) (k : Fin 32) : val_main_v79 (F := Ideal) (ix2 p k) = Proj.ang (2048 + p.val) k.val := by
  pointwise [val_main_v79, val_main_v78, val_main_v77, val_main_v76, val_main_v75, val_main_v74, val_main_v73, val_main_v72, val_main_cst_6, val_main_v71, val_main_v70, val_main_cst_5, val_main_v69, val_main_v68, val_main_v21, val_main_v20, val_main_c, val_main_v19]
  rw [Sample.position _ p.isLt]
  rfl

theorem v96_apply (b : Fin 128) (p : Fin 8) (h : Fin 4) (d : Fin 64) (k : ℕ) (hk : k = 1024 + h.val * 64 + d.val) :
    val_main_v96 (F := Ideal) x0 x1 x2 x3 x4 (ix4 b p h d) = Sample.rot x0 x1 x2 x3 x4 b p k := by
  have e : k % 64 = d.val := by omega
  pointwise [val_main_v96, val_main_v95, val_main_v94, val_main_v93, val_main_v92, val_main_v91, val_main_v90, val_main_v89, val_main_v88, val_main_v87, val_main_v86, val_main_v85, val_main_v84, val_main_v83, val_main_v82, val_main_v81, val_main_v80]
  simp only [v79_apply]
  unfold Sample.rot Proj.turn
  rw [e]
  by_cases hd : d.val < 32
  · rw [dif_pos hd, if_pos hd, v67_apply x0 x1 x2 x3 x4 b p h _ k hk, v67_apply x0 x1 x2 x3 x4 b p h _ (k + 32) (by simp only; omega)]
  · rw [dif_neg hd, if_neg hd, v67_apply x0 x1 x2 x3 x4 b p h _ k (by simp only; omega), v67_apply x0 x1 x2 x3 x4 b p h _ (k - 32) (by simp only; omega)]

theorem v98_apply (b : Fin 128) (p : Fin 8) (h : Fin 4) (d : Fin 64) (k : ℕ) (hk : k = 1280 + h.val * 64 + d.val) :
    val_main_v98 (F := Ideal) x0 x1 x2 x3 x4 (ix4 b p h d) = Sample.acc x0 x1 x2 x3 x4 b p k := by
  have hh := h.isLt
  have hd := d.isLt
  pointwise [val_main_v98, val_main_v97, val_main_v23]
  exact v22_apply x0 x1 x2 x3 x4 b p _ k (by simp only; omega)

theorem v101_apply (b : Fin 128) (p : Fin 8) (s : Fin 2) (h : Fin 4) (d : Fin 64) (k : ℕ) (hk : k = s.val * 256 + h.val * 64 + d.val) :
    val_main_v101 (F := Ideal) x0 x1 x2 x3 x4 (ix5 b p s h d) = Sample.part x0 x1 x2 x3 x4 1024 0 b p k := by
  have hs := s.isLt
  have hh := h.isLt
  have hd := d.isLt
  pointwise [val_main_v101, val_main_v100, val_main_v99]
  unfold Sample.part
  by_cases h1 : s.val < 1
  · rw [dif_pos h1, if_pos (by omega), v96_apply x0 x1 x2 x3 x4 b p h d (1024 + k) (by omega)]
  · rw [dif_neg h1, if_neg (by omega), v98_apply x0 x1 x2 x3 x4 b p h d (1024 + k) (by omega)]

theorem v102_eq : val_main_v102 (F := Ideal) x0 x1 x2 x3 x4 = Sample.flat (Sample.part x0 x1 x2 x3 x4 1024 0) := by
  funext y
  obtain ⟨r, k, rfl⟩ : ∃ (r : Fin 1024) (k : Fin 512), y = ix2 r k := ⟨y 0, y 1, eq_ix2 y⟩
  pointwise [val_main_v102]
  exact v101_apply x0 x1 x2 x3 x4 _ _ _ _ _ k.val (by simp only; omega)

end Cert.Reference14Ideal.RefValue

end
-- ==== Proof.SampleWinClaims.lean ====
/- The claims about the sample's projection to the window's keys and values: the kernel's array (`SampleWin.lean`) and the
   reference's result (`SampleWinRef.lean`) are one function of the arguments. -/
module

public import proofs.«01_k».proof.Defs
public import proofs.«01_k».proof.Proof.SampleWin
public import proofs.«01_k».proof.Proof.SampleWinRef
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import Idealize.ShloMosaic.Adequacy

@[expose] public section

noncomputable section

namespace Cert.SampleWinClaims

open Idealize.ShloMosaic Idealize.SL.Sem

theorem frame_p : Cert.quiescent_Kernel14 (hKernel14 := Cert.Kernel14.Gen.facts) := fun m ρ _ => Cert.Kernel14.Gen.frame m ρ
theorem frame_pi : Cert.quiescent_Kernel14Ideal (hKernel14Ideal := Cert.Kernel14Ideal.Gen.facts) := fun m ρ _ =>
  Cert.Kernel14Ideal.Gen.frame m ρ
theorem frame_ri : Cert.quiescent_Reference14Ideal (hReference14Ideal := Cert.Reference14Ideal.Gen.facts) := fun m ρ _ =>
  (θ_run Cert.Reference14Ideal.defs _ _).mono (fun r h => ⟨fun c => (h c).2, sem_eq_zero_of_no_sems (by decide) r.2⟩)
    (Cert.Reference14Ideal.Value.run (F := Ideal) m ρ)

theorem preserves : Cert.preserves_Kernel14_Kernel14Ideal := trivial

/-- Both programs end with the keys and values. -/
theorem algebraic : Cert.algebraic_Kernel14Ideal_Reference14Ideal (hKernel14Ideal := Cert.Kernel14Ideal.Gen.facts)
    (hReference14Ideal := Cert.Reference14Ideal.Gen.facts) := by
  intro m g m' g' _ hag
  refine ⟨fun c => Cert.Sample.flat (Cert.Sample.part (Cert.Kernel14Ideal.Array.X0 m c) (Cert.Kernel14Ideal.Array.X1 m c) (Cert.Kernel14Ideal.Array.X2 m c) (Cert.Kernel14Ideal.Array.X3 m c) (Cert.Kernel14Ideal.Array.X4 m c) 1024 0), ?_, ?_⟩
  · refine (θ_run Cert.Kernel14Ideal.defs _ _).mono (fun r h c => ?_) (Cert.Kernel14Ideal.Value.run_blocks m g)
    exact ⟨(h c).1.trans (Cert.Kernel14Ideal.Array.arr7 m c), (h c).2⟩
  · refine (θ_run Cert.Reference14Ideal.defs _ _).mono (fun r h c => ?_) (Cert.Reference14Ideal.Value.run m' g')
    refine ⟨(h c).1.trans ?_, (h c).2⟩
    obtain ⟨a0, a1, a2, a3, a4⟩ := hag c
    rw [Cert.Reference14Ideal.Read.val_main_v102_eq, a0, a1, a2, a3, a4]
    exact Cert.Reference14Ideal.RefValue.v102_eq _ _ _ _ _

end Cert.SampleWinClaims

end
-- ==== Proof.RefValue0.lean ====
/- The reference's two results, entry by entry, when the argument's entries are real. -/
module

public import proofs.«01_k».proof.Proof.Gen.Reference15Ideal.Read
public import proofs.«01_k».proof.Proof.Array

@[expose] public section

set_option maxRecDepth 16384

noncomputable section

namespace Cert.Reference15Ideal.RefValue

open Idealize.ShloMosaic Idealize.ShloMosaic.TcCoe Idealize.ShloMosaic.Tactic Idealize.SL.Sem
open Cert.Reference15Ideal Cert.Reference15Ideal.Gen Cert.Reference15Ideal.Read Cert.Spec Cert.SoftMath
open Cert.KernelIdeal.Array (entries entries_eq)

variable (x : Vec Ideal S4x4096x3072 .f32)

theorem q_apply (b : Fin 4) (u : Fin 4096) (h : Fin 16) (d : Fin 64) :
    val_main_v11 (F := Ideal) x (ix5 b u 0 h d) = x (ix3 b ⟨u.val * 1 + 0, by omega⟩ ⟨h.val * 64 + d.val, by omega⟩) := by
  pointwise [val_main_v11, val_main_v6, val_main_v5, val_main_v0]

variable (hx : ∀ i, (x i : EReal) ≠ ⊥ ∧ (x i : EReal) ≠ ⊤)

/-- The argument's real entries. -/
abbrev X : ℕ → ℕ → ℕ → ℝ := entries x

/-- Lanes from `o` of the padded tokens, zero in the padding. -/
def padR (o b a ρ h d : ℕ) : ℝ := if 128 ≤ a * 1 + ρ then X x b (a * 1 + ρ - 128) (o + (h * 64 + d)) else 0

include hx in
theorem k_apply (b : Fin 4) (a : Fin 4224) (h : Fin 16) (d : Fin 64) :
    val_main_v12 (F := Ideal) x (ix5 b a 0 h d) = (padR x 1024 b a 0 h d : EReal) := by
  pointwise [val_main_v12, val_main_v8, val_main_v7, val_main_v1, val_main_v0, val_main_call0_v0, val_main_c]
  unfold padR
  by_cases h1 : 128 ≤ a.val * 1 + 0
  · rw [if_pos h1, dif_pos ⟨by omega, by omega⟩]
    refine (entries_eq _ hx _ _ _).trans ?_
    simp only [Nat.add_assoc, Nat.mul_one, Nat.add_zero]
  · rw [if_neg h1, dif_neg (fun h2 => h1 (by omega))]
    show (((0#32 : BitVec 32).toInt : ℝ) : EReal) = _
    simp

include hx in
theorem v_apply (b : Fin 4) (a : Fin 4224) (h : Fin 16) (d : Fin 64) :
    val_main_v13 (F := Ideal) x (ix5 b a 0 h d) = (padR x 2048 b a 0 h d : EReal) := by
  pointwise [val_main_v13, val_main_v10, val_main_v9, val_main_v1, val_main_v0, val_main_call0_v0, val_main_c]
  unfold padR
  by_cases h1 : 128 ≤ a.val * 1 + 0
  · rw [if_pos h1, dif_pos ⟨by omega, by omega⟩]
    refine (entries_eq _ hx _ _ _).trans ?_
    simp only [Nat.add_assoc, Nat.mul_one, Nat.add_zero]
  · rw [if_neg h1, dif_neg (fun h2 => h1 (by omega))]
    show (((0#32 : BitVec 32).toInt : ℝ) : EReal) = _
    simp

/-- The keys a query sees. -/
abbrev sees (u a ρ : ℕ) : Prop := u ≤ a ∧ a ≤ u + 128 ∧ 128 * 1 ≤ a * 1 + ρ

theorem mask_apply (u : Fin 4096) (a : Fin 4224) :
    val_main_v36 (F := Ideal) (ix5 0 0 0 u a) = BitVec.ofBool (decide (sees u a 0)) := by
  pointwise [val_main_v36, val_main_v35, val_main_v34, val_main_v33, val_main_v32, val_main_v31, val_main_v30, val_main_v29,
   val_main_v28, val_main_v27, val_main_v26, val_main_v25, val_main_v24, val_main_v23, val_main_v22, val_main_v21, val_main_v20, val_main_v19,
   val_main_v18, val_main_v17, val_main_v4, val_main_v3, val_main_v2, val_main_c_0, val_main_c_1]
  have hu := u.isLt
  have ha := a.isLt
  rw [show IntOp.addi (BitVec.ofNat 32 u.val) 128#32 = BitVec.ofNat 32 (u.val + 128) from (BitVec.ofNat_add _ _).symm,
    WordCmp.cmpi_sge_ofNat (w := 32) (by omega) (by omega), WordCmp.cmpi_sle_ofNat (w := 32) (by omega) (by omega),
    WordCmp.cmpi_sge_ofNat (w := 32) (by omega) (by omega), WordCmp.andi_ofBool, WordCmp.andi_ofBool]
  congr 1
  simp only [← Bool.decide_and]
  exact decide_eq_decide.mpr ⟨fun h => ⟨h.1.1, h.1.2, by have := h.2; omega⟩,
    fun h => ⟨⟨h.1, h.2.1⟩, by have := h.2.2; omega⟩⟩

theorem ofBits_eighth32 : Ideal.ofBits .f32 0x3E000000#32 = ((0.125 : ℝ) : EReal) := by
  simp [Ideal.ofBits, Ideal.ieee]
  rw [← EReal.coe_mul]
  congr 1
  norm_num

/-- The score of key `a` for query `u`. -/
def sR (b u ρ h a : ℕ) : ℝ :=
  ∑ d : Fin 64, X x b (u * 1 + ρ) (h * 64 + d.val) * 0.125 * X x b (a * 1 + ρ - 128 * 1) (1024 + (h * 64 + d.val))

include hx in
theorem s_apply (b : Fin 4) (h : Fin 16) (u : Fin 4096) (a : Fin 4224) :
    val_main_v37 (F := Ideal) x (ix5 b h 0 u a) = sc (sees u a 0) (sR x b u 0 h a) := by
  pointwise [val_main_v37, val_main_call1_v0, val_main_call1_v1, val_main_call1_v2, val_main_cst_2, val_main_v16, val_main_v15, val_main_cst, val_main_v14]
  rw [mask_apply, WordCmp.select_ofBool]
  unfold sc
  by_cases h1 : sees u a 0
  · rw [if_pos (decide_eq_true h1), if_pos h1]
    simp only [q_apply, k_apply x hx, ofBits_eighth32]
    have hq : ∀ d : Fin 64, (x (ix3 b ⟨u.val * 1 + 0, by omega⟩ ⟨h.val * 64 + d.val, by omega⟩) : EReal)
        = (X x b (u.val * 1 + 0) (h.val * 64 + d.val) : EReal) := fun d => entries_eq _ hx _ _ _
    simp only [hq, ← EReal.coe_mul, coe_sum]
    congr 1
    unfold sR padR
    rw [Finset.sum_mul]
    refine Finset.sum_congr rfl fun d _ => ?_
    rw [if_pos h1.2.2]
    ring
  · rw [if_neg (by simpa using h1), if_neg h1]
    exact Cert.KernelIdeal.Head.ofBits_neg_inf

/-- Every query sees its own key. -/
theorem den_pos (b h ρ : ℕ) (u : Fin 4096) : 0 < den 1 4224 (X x) b u.val ρ h := by
  refine Finset.sum_pos' (fun a _ => ew_nonneg _ _) ⟨⟨u.val + 128, by omega⟩, Finset.mem_univ _, ?_⟩
  unfold wgt ew
  rw [if_pos ⟨by simp, by simp, by simp only; omega⟩]
  exact Real.exp_pos _

include hx in
theorem l_apply (b : Fin 4) (h : Fin 16) (u : Fin 4096) :
    val_main_v45 (F := Ideal) x (ix4 b h 0 u) = (Real.log (den 1 4224 (X x) b u 0 h) : EReal) := by
  pointwise [val_main_v45, val_main_v44, val_main_v43, val_main_v42, val_main_v41, val_main_v40, val_main_v39, val_main_v38, val_main_cst_3, val_main_cst_4]
  simp only [s_apply x hx, Cert.KernelIdeal.Head.ofBits_neg_inf]
  obtain ⟨μ, hμ⟩ := fold_max_real (fun a : Fin 4224 => sc (sees u a 0) (sR x b u 0 h a)) (fun a => sc_ne_top _ _)
    ⟨⟨u.val + 128, by omega⟩, by
      rw [sc_of ⟨by simp, by simp, by simp only; omega⟩]
      exact EReal.coe_ne_bot _⟩
  rw [hμ]
  simp only [exp_sc_sub, coe_sum, ← Finset.sum_mul]
  refine Eq.trans (congrArg (fun z : EReal => z + (μ : EReal)) (log_shift _ _ (den_pos x b h 0 u))) ?_
  rw [← EReal.coe_add]
  congr 1
  exact sub_add_cancel _ _

include hx in
theorem o_apply (b : Fin 4) (h : Fin 16) (u : Fin 4096) (d : Fin 64) :
    val_main_v51 (F := Ideal) x (ix5 b u 0 h d)
      = ((num 1 4224 (X x) b u 0 h d / den 1 4224 (X x) b u 0 h : ℝ) : EReal) := by
  pointwise [val_main_v51, val_main_v50, val_main_v49, val_main_v48, val_main_v47, val_main_v46]
  simp only [v_apply x hx, s_apply x hx, l_apply x hx, exp_sc_sub_log _ _ _ (den_pos x b h 0 u), ← EReal.coe_mul, coe_sum]
  congr 1
  unfold num
  rw [Finset.sum_div]
  refine Finset.sum_congr rfl fun a _ => ?_
  unfold padR
  by_cases h1 : 128 ≤ a.val * 1 + 0
  · rw [if_pos h1]
    show _ * (wgt 1 (X x) b u 0 h a / _) = _
    ring
  · have hw : wgt 1 (X x) b u 0 h a = 0 := if_neg (fun h2 => h1 h2.2.2)
    rw [if_neg h1, hw, zero_mul, zero_mul, zero_div]

include hx in
/-- What the two results hold. -/
theorem v57_eq : val_main_v57 (F := Ideal) x = fun y : S4x4096x1024.Idx =>
    ((num 1 4224 (X x) (y 0).val (y 1).val ((y 2).val / 1024) ((y 2).val % 1024 / 64) ((y 2).val % 64)
    / den 1 4224 (X x) (y 0).val (y 1).val ((y 2).val / 1024) ((y 2).val % 1024 / 64) : ℝ) : EReal) := by
  funext y
  obtain ⟨b, u, l, rfl⟩ : ∃ (b : Fin 4) (u : Fin 4096) (l : Fin 1024), y = ix3 b u l := ⟨y 0, y 1, y 2, eq_ix3 y⟩
  pointwise [val_main_v57, val_main_v52]
  rw [o_apply x hx]
  simp only [show l.val / 1024 = 0 by omega, show l.val % 1024 = l.val by omega]

include hx in
theorem v58_eq : val_main_v58 (F := Ideal) x = fun y : S4x4096x1024.Idx =>
    ((Real.log (den 1 4224 (X x) (y 0).val (y 1).val ((y 2).val / 1024) ((y 2).val % 1024 / 64)) : ℝ) : EReal) := by
  funext y
  obtain ⟨b, u, l, rfl⟩ : ∃ (b : Fin 4) (u : Fin 4096) (l : Fin 1024), y = ix3 b u l := ⟨y 0, y 1, y 2, eq_ix3 y⟩
  pointwise [val_main_v58, val_main_v56, val_main_v55, val_main_v54, val_main_v53]
  rw [l_apply x hx]
  simp only [show l.val / 1024 = 0 by omega, show l.val % 1024 = l.val by omega]

end Cert.Reference15Ideal.RefValue

end
-- ==== Proof.Head0.lean ====
/- One attention head of one block of 128 queries: the vectors the kernel computes for it, written once
   (every one of the 16 heads of the body is an instance), and their values index by index. -/
module

public import proofs.«01_k».proof.Proof.Gen.Kernel15Ideal.Skeleton
public import Idealize.ShloMosaic.Lib.Pointwise
public import Idealize.ShloMosaic.Lib.WordCmp
public import proofs.«01_k».proof.Proof.Head

@[expose] public section

set_option maxRecDepth 16384

noncomputable section

namespace Cert.Kernel15Ideal.Head

open Idealize.ShloMosaic Idealize.ShloMosaic.Tactic Idealize.ShloMosaic.WordCmp Cert.Kernel15Ideal Cert.Kernel15Ideal.Gen

variable {F : FTy → Type} [FloatOps F] [Named F]

/-- The keys of the block before that a query may see: columns at or after its row, if there is a block before. -/
def maskP (b : BitVec 32) : IVec S128x128 1 :=
  andi (cmpi .sge (iota .tc S128x128 32 [1] iota_S128x128_d1_w32) (iota .tc S128x128 32 [0] iota_S128x128_d0_w32))
    (broadcast S128x128 (Scalar.cmpi .sgt b 0#32))

/-- The keys of the query's own block that it may see: columns up to its row. -/
def maskC : IVec S128x128 1 :=
  cmpi .sle (iota .tc S128x128 32 [1] iota_S128x128_d1_w32) (iota .tc S128x128 32 [0] iota_S128x128_d0_w32)

/-- The scaled scores of a block of queries against a block of keys. -/
def score (q k : Vec F S1x128x64 .bf16) : FVec F S128x128 .f32 :=
  matmul dot_S128x64_S128x64_S128x128_1_1_0_0_n_n none
    (mulf (shapeCast S128x64 q shapeCasts_S1x128x64_S128x64) (broadcast S128x64 (Scalar.ofBits .bf16 0x3E00#16)))
    (shapeCast S128x64 k shapeCasts_S1x128x64_S128x64) (constant S128x128 .f32 0x00000000#32)

/-- The scores with the mask's constant where the mask is off. -/
def masked (w : IVec S128x128 1) (q k : Vec F S1x128x64 .bf16) : FVec F S128x128 .f32 :=
  select w (shapeCast S128x128 (shapeCast S1x128x128 (score q k) shapeCasts_S128x128_S1x128x128) shapeCasts_S1x128x128_S128x128)
    (broadcast S128x128 (Named.named κ "mask" (0xF149F2CA#32 : BitVec (FTy.bits .f32))))

/-- The row maxima over both blocks of keys. -/
def rowMax (b : BitVec 32) (q kp kc : Vec F S1x128x64 .bf16) : FVec F S128x1 .f32 :=
  shapeCast S128x1 (multiReduction .maximumf [1] S128 (maximumf (masked (maskP b) q kp) (masked maskC q kc)) 0xFF800000#32
    reduces_S128x128_S128 (.inl rfl) rfl) shapeCasts_S128_S128x1

/-- The weights of one block of keys. -/
def wgt (b : BitVec 32) (q kp kc : Vec F S1x128x64 .bf16) (w : IVec S128x128 1) (k : Vec F S1x128x64 .bf16) : FVec F S128x128 .f32 :=
  exp (subf (masked w q k) (broadcastTo S128x128 (rowMax b q kp kc) broadcasts_S128x1_S128x128))

/-- The row sums of the weights over both blocks. -/
def rowSum (b : BitVec 32) (q kp kc : Vec F S1x128x64 .bf16) : FVec F S128x1 .f32 :=
  shapeCast S128x1 (multiReduction .add [1] S128 (addf (wgt b q kp kc (maskP b) kp) (wgt b q kp kc maskC kc)) 0x00000000#32
    reduces_S128x128_S128 (.inl rfl) rfl) shapeCasts_S128_S128x1

/-- The log of the sum of exponentials, on every lane. -/
def headL (b : BitVec 32) (q kp kc : Vec F S1x128x64 .bf16) : FVec F S1x128x64 .f32 :=
  shapeCast S1x128x64 (broadcastTo S128x64 (shapeCast S128x1 (addf (rowMax b q kp kc) (log (rowSum b q kp kc))) shapeCasts_S128x1_S128x1)
    broadcasts_S128x1_S128x64) shapeCasts_S128x64_S1x128x64

/-- Weights times values, of one block. -/
def pv (p : FVec F S128x128 .f32) (v : Vec F S1x128x64 .bf16) : FVec F S128x64 .f32 :=
  matmul dot_S128x128_S128x64_S128x64_1_0_0_1_n_n none
    (shapeCast S128x128 (shapeCast S1x128x128 (truncf .bf16 p bitsLt_bf16_f32) shapeCasts_S128x128_S1x128x128) shapeCasts_S1x128x128_S128x128)
    (shapeCast S128x64 v shapeCasts_S1x128x64_S128x64) (constant S128x64 .f32 0x00000000#32)

/-- The head's attention output. -/
def headO (b : BitVec 32) (q kp kc vp vc : Vec F S1x128x64 .bf16) : FVec F S1x128x64 .f32 :=
  shapeCast S1x128x64
    (divf (addf (pv (wgt b q kp kc (maskP b) kp) vp) (pv (wgt b q kp kc maskC kc) vc))
      (shapeCast S128x64 (shapeCast S1x128x64 (broadcastTo S128x64 (shapeCast S128x1 (rowSum b q kp kc) shapeCasts_S128x1_S128x1)
        broadcasts_S128x1_S128x64) shapeCasts_S128x64_S1x128x64) shapeCasts_S1x128x64_S128x64)) shapeCasts_S128x64_S1x128x64

/-! ## Values -/

open Cert.SoftMath

open Cert.KernelIdeal.Head (seesP seesC selP selC ofBits_eighth ofBits_neg_inf dotR denR denR_pos max_real)

theorem named_mask : (Named.named κ "mask" (0xF149F2CA#32 : BitVec (FTy.bits .f32)) : Ideal .f32) = (⊥ : EReal) :=
  IdealRules.named_const.ideal_named_scalar _ _ _ _ rfl

variable (b : BitVec 32) (q kp kc vp vc : Vec Ideal S1x128x64 .bf16)
  (Q KP KC VP VC : Fin 128 → Fin 64 → ℝ)

theorem dot_eq (q k : Vec Ideal S1x128x64 .bf16) (Q K : Fin 128 → Fin 64 → ℝ) (hq : ∀ r d, q (ix3 0 r d) = (Q r d : EReal))
    (hk : ∀ r d, k (ix3 0 r d) = (K r d : EReal)) (r c : Fin 128) :
    (∑ d, q (ix3 0 r d) * Ideal.ofBits FTy.bf16 15872#16 * k (ix3 0 c d) : EReal) = (dotR Q K r c : EReal) := by
  simp only [hq, hk, ofBits_eighth, ← EReal.coe_mul, coe_sum, dotR]

set_option maxHeartbeats 2000000 in
/-- The log of the sum of exponentials, at row `r`. -/
theorem headL_apply (hq : ∀ r d, q (ix3 0 r d) = (Q r d : EReal)) (hkp : ∀ r d, kp (ix3 0 r d) = (KP r d : EReal))
    (hkc : ∀ r d, kc (ix3 0 r d) = (KC r d : EReal)) (r : Fin 128) (d : Fin 64) :
    headL b q kp kc (ix3 0 r d) = (Real.log (denR b Q KP KC r) : EReal) := by
  pointwise [headL, wgt, rowSum, rowMax, masked, score, maskP, maskC]
  simp only [dot_eq q kp Q KP hq hkp, dot_eq q kc Q KC hq hkc, selP, selC, named_mask, ofBits_neg_inf, ite_sc]
  obtain ⟨μ, hμ⟩ := max_real b Q KP KC r
  rw [hμ]
  simp only [exp_sc_sub, ← EReal.coe_add, coe_sum, ← add_mul, ← Finset.sum_mul]
  refine Eq.trans (congrArg (fun z : EReal => (μ : EReal) + z) (log_shift _ _ (denR_pos b Q KP KC r))) ?_
  rw [← EReal.coe_add]
  congr 1
  show μ + (Real.log (denR b Q KP KC r) - μ) = _
  ring

set_option maxHeartbeats 2000000 in
/-- The attention output at row `r`, lane `d`. -/
theorem headO_apply (hq : ∀ r d, q (ix3 0 r d) = (Q r d : EReal)) (hkp : ∀ r d, kp (ix3 0 r d) = (KP r d : EReal))
    (hkc : ∀ r d, kc (ix3 0 r d) = (KC r d : EReal)) (hvp : ∀ r d, vp (ix3 0 r d) = (VP r d : EReal))
    (hvc : ∀ r d, vc (ix3 0 r d) = (VC r d : EReal)) (r : Fin 128) (d : Fin 64) :
    headO b q kp kc vp vc (ix3 0 r d)
      = (((∑ c, ew (seesP b r c) (dotR Q KP r c) * VP c d) + ∑ c, ew (seesC r c) (dotR Q KC r c) * VC c d) / denR b Q KP KC r : ℝ) := by
  pointwise [headO, pv, wgt, rowSum, rowMax, masked, score, maskP, maskC]
  simp only [dot_eq q kp Q KP hq hkp, dot_eq q kc Q KC hq hkc, selP, selC, named_mask, ofBits_neg_inf, ite_sc, hvp, hvc]
  obtain ⟨μ, hμ⟩ := max_real b Q KP KC r
  rw [hμ]
  simp only [exp_sc_sub, ← EReal.coe_add, ← EReal.coe_mul, coe_sum, ← add_mul, mul_right_comm _ (Real.exp (-μ)) _, ← Finset.sum_mul]
  exact div_shift _ _ _ (denR_pos b Q KP KC r)

end Cert.Kernel15Ideal.Head

end
-- ==== Proof.Block0.lean ====
/- One grid point's blocks of results, head by head: lanes `64·k … 64·k + 63` of a block are head `k`'s. -/
module

public import proofs.«01_k».proof.Proof.Gen.Kernel15Ideal.Value
public import proofs.«01_k».proof.Proof.Head0
public import Idealize.ShloMosaic.Lib.Pipeline.ReadBack
public import Idealize.ShloMosaic.Lib.Pipeline.ValueKit

@[expose] public section

set_option maxRecDepth 16384

noncomputable section

namespace Cert.Kernel15Ideal.Block

open Idealize.ShloMosaic Idealize.ShloMosaic.TcCoe Idealize.ShloMosaic.Tactic Idealize.SL.Sem
open Cert.Kernel15Ideal Cert.Kernel15Ideal.Gen Cert.Kernel15Ideal.Head

/-- A block read head by head. -/
def byHead (H : Fin 16 → S1x128x64.Idx → Ideal .f32) (y : S1x128x1024.Idx) : Ideal .f32 :=
  H ⟨(y 2).val / 64, by have h : (y 2).val < 1024 := (y 2).isLt; omega⟩ (ix3 0 (y 1) ⟨(y 2).val % 64, Nat.mod_lt _ (by decide)⟩)

theorem inbH (k : Fin 16) : ∀ a, (![0, 0, 64 * k.val] : Fin 3 → Nat) a + (![1, 128, 64] : Fin 3 → Nat) a ≤ S1x128x1024.size a :=
  fun a => match a with
    | ⟨0, _⟩ => (by decide : 0 + 1 ≤ 1)
    | ⟨1, _⟩ => (by decide : 0 + 128 ≤ 128)
    | ⟨2, _⟩ => (by have := k.isLt; show 64 * k.val + 64 ≤ 1024; omega)

theorem byHead_emb (H : Fin 16 → S1x128x64.Idx → Ideal .f32) (k : Fin 16) (x : S1x128x64.Idx) :
    byHead H ((Rect.unit (s := S1x128x1024) ![0, 0, 64 * k.val] ![1, 128, 64] (inbH k)).emb x) = H k x := by
  have h2 : (x 2).val < 64 := (x 2).isLt
  have h0 : (x 0).val < 1 := (x 0).isLt
  unfold byHead
  congr 1
  · apply Fin.ext
    show (64 * k.val + 1 * (x 2).val) / 64 = k.val
    omega
  · funext a
    apply Fin.ext
    match a with
    | ⟨0, _⟩ => show 0 = (x 0).val; omega
    | ⟨1, _⟩ => show 0 + 1 * (x 1).val = (x 1).val; omega
    | ⟨2, _⟩ => show (64 * k.val + 1 * (x 2).val) % 64 = (x 2).val; omega

/-- Head `k`'s lanes of an operand block. -/
def sl (X : Vec Ideal S1x128x1024 .bf16) (k : Fin 16) : Vec Ideal S1x128x64 .bf16 :=
  View.ld X (Rect.unit ![0, 0, 64 * k.val] ![1, 128, 64] (inbH k))

theorem sl_apply (X : Vec Ideal S1x128x1024 .bf16) (k : Fin 16) (r : Fin 128) (d : Fin 64) :
    sl X k (ix3 0 r d) = X (ix3 0 r ⟨64 * k.val + d.val, by have := k.isLt; have := d.isLt; omega⟩) := by
  unfold sl
  show X _ = X _
  congr 1
  funext a
  apply Fin.ext
  match a with
  | ⟨0, _⟩ => rfl
  | ⟨1, _⟩ => show 0 + 1 * r.val = r.val; omega
  | ⟨2, _⟩ => show 64 * k.val + 1 * d.val = 64 * k.val + d.val; omega

variable (m : (ℓ : Loc nD τ sig) → Buf (Elt Ideal) ℓ) (c : Dev nD) (t : Fin cfg0.N)

/-- The point's attention output, head by head. -/
def outO : Fin 16 → S1x128x64.Idx → Ideal .f32 := fun k =>
  headO (BitVec.ofNat 32 (grid0.coords t 2).val) (sl (iblk m c 0 t) k) (sl (iblk m c 1 t) k) (sl (iblk m c 2 t) k)
    (sl (iblk m c 3 t) k) (sl (iblk m c 4 t) k)

/-- The point's log-sum-exp, head by head. -/
def outL : Fin 16 → S1x128x64.Idx → Ideal .f32 := fun k =>
  headL (BitVec.ofNat 32 (grid0.coords t 2).val) (sl (iblk m c 0 t) k) (sl (iblk m c 1 t) k) (sl (iblk m c 2 t) k)

set_option maxHeartbeats 4000000 in
theorem out5 : (outsAt0 m c t).1 = byHead (outO m c t) := by
  simp only [outsAt0]
  frame_open
  simp (disch := decide) only [↓ View.readCov_skip, ↓ View.readCov_cons_toLoadRect, ↓ View.readCov_fill]
  frame_out
  funext y
  refine View.canon_apply_of_pieces (Val := Elt Ideal) (e := .f32) (byHead (outO m c t)) _ (View.PiecesOf.mem ?_) y (View.cover_of_tiled_head _ _ _ rfl y)
  exact ⟨fun x => (byHead_emb (outO m c t) 15 x).symm,
    fun x => (byHead_emb (outO m c t) 14 x).symm,
    fun x => (byHead_emb (outO m c t) 13 x).symm,
    fun x => (byHead_emb (outO m c t) 12 x).symm,
    fun x => (byHead_emb (outO m c t) 11 x).symm,
    fun x => (byHead_emb (outO m c t) 10 x).symm,
    fun x => (byHead_emb (outO m c t) 9 x).symm,
    fun x => (byHead_emb (outO m c t) 8 x).symm,
    fun x => (byHead_emb (outO m c t) 7 x).symm,
    fun x => (byHead_emb (outO m c t) 6 x).symm,
    fun x => (byHead_emb (outO m c t) 5 x).symm,
    fun x => (byHead_emb (outO m c t) 4 x).symm,
    fun x => (byHead_emb (outO m c t) 3 x).symm,
    fun x => (byHead_emb (outO m c t) 2 x).symm,
    fun x => (byHead_emb (outO m c t) 1 x).symm,
    fun x => (byHead_emb (outO m c t) 0 x).symm, trivial⟩

set_option maxHeartbeats 4000000 in
theorem out6 : (outsAt0 m c t).2 = byHead (outL m c t) := by
  simp only [outsAt0]
  frame_open
  simp (disch := decide) only [↓ View.readCov_skip, ↓ View.readCov_cons_toLoadRect, ↓ View.readCov_fill]
  frame_out
  funext y
  refine View.canon_apply_of_pieces (Val := Elt Ideal) (e := .f32) (byHead (outL m c t)) _ (View.PiecesOf.mem ?_) y (View.cover_of_tiled_head _ _ _ rfl y)
  exact ⟨fun x => (byHead_emb (outL m c t) 15 x).symm,
    fun x => (byHead_emb (outL m c t) 14 x).symm,
    fun x => (byHead_emb (outL m c t) 13 x).symm,
    fun x => (byHead_emb (outL m c t) 12 x).symm,
    fun x => (byHead_emb (outL m c t) 11 x).symm,
    fun x => (byHead_emb (outL m c t) 10 x).symm,
    fun x => (byHead_emb (outL m c t) 9 x).symm,
    fun x => (byHead_emb (outL m c t) 8 x).symm,
    fun x => (byHead_emb (outL m c t) 7 x).symm,
    fun x => (byHead_emb (outL m c t) 6 x).symm,
    fun x => (byHead_emb (outL m c t) 5 x).symm,
    fun x => (byHead_emb (outL m c t) 4 x).symm,
    fun x => (byHead_emb (outL m c t) 3 x).symm,
    fun x => (byHead_emb (outL m c t) 2 x).symm,
    fun x => (byHead_emb (outL m c t) 1 x).symm,
    fun x => (byHead_emb (outL m c t) 0 x).symm, trivial⟩

end Cert.Kernel15Ideal.Block

end
-- ==== Proof.Array0.lean ====
/- The two result arrays of the kernel, entry by entry, when the argument's entries are real. -/
module

public import proofs.«01_k».proof.Proof.Block0
public import proofs.«01_k».proof.Proof.Spec
public import proofs.«01_k».proof.Proof.Array

@[expose] public section

set_option maxRecDepth 16384

noncomputable section

namespace Cert.Kernel15Ideal.Array

open Idealize.ShloMosaic Idealize.ShloMosaic.TcCoe Idealize.ShloMosaic.Tactic Idealize.SL.Sem
open Cert.Kernel15Ideal Cert.Kernel15Ideal.Gen Cert.Kernel15Ideal.Head Cert.Kernel15Ideal.Block Cert.Spec
open Cert.KernelIdeal.Array (entries entries_eq)

theorem index_eq : ∀ t : Fin cfg0.N,
    win0_0.index t = ![(grid0.coords t 0).val, (grid0.coords t 2).val, 3 * (grid0.coords t 1).val]
    ∧ win0_1.index t = ![(grid0.coords t 0).val, (grid0.coords t 2).val - 1, 3 * (grid0.coords t 1).val + 1]
    ∧ win0_2.index t = ![(grid0.coords t 0).val, (grid0.coords t 2).val, 3 * (grid0.coords t 1).val + 1]
    ∧ win0_3.index t = ![(grid0.coords t 0).val, (grid0.coords t 2).val - 1, 3 * (grid0.coords t 1).val + 2]
    ∧ win0_4.index t = ![(grid0.coords t 0).val, (grid0.coords t 2).val, 3 * (grid0.coords t 1).val + 2]
    ∧ win0_5.index t = ![(grid0.coords t 0).val, (grid0.coords t 2).val, (grid0.coords t 1).val]
    ∧ win0_6.index t = ![(grid0.coords t 0).val, (grid0.coords t 2).val, (grid0.coords t 1).val] :=
  (by decide +kernel : ∀ t : Fin grid0.N, _)

variable (m : (ℓ : Loc nD τ sig) → Buf (Elt Ideal) ℓ) (c : Dev nD) (t : Fin cfg0.N)

/-- The argument. -/
abbrev arg : (⟨3, ![4, 4096, 3072]⟩ : Shape).Idx → EReal := m ((c : Thread nD τ).loc main_arg0)

/-- The point's batch, residue and block of queries. -/
abbrev bt : ℕ := (grid0.coords t 0).val
abbrev rt : ℕ := (grid0.coords t 1).val
abbrev qt : ℕ := (grid0.coords t 2).val

theorem bt_lt : bt t < 4 := (grid0.coords t 0).isLt
theorem rt_lt : rt t < 1 := (grid0.coords t 1).isLt
theorem qt_lt : qt t < 32 := (grid0.coords t 2).isLt

theorem iblk0 (r : Fin 128) (l : Fin 1024) :
    (iblk m c 0 t (ix3 0 r l) : EReal)
      = arg m c (ix3 ⟨bt t, bt_lt t⟩ ⟨(qt t * 128 + r.val) * 1 + rt t, by
          have := rt_lt t; have := qt_lt t; have := r.isLt; omega⟩ ⟨0 + l.val, by have := l.isLt; omega⟩) := by
  blk_ext! [iblk, V, index_eq t]
  all_goals (have h1 : (grid0.coords t 1).val < 1 := rt_lt t; simp only [bt, rt, qt]; omega)

theorem iblk1 (r : Fin 128) (l : Fin 1024) :
    (iblk m c 1 t (ix3 0 r l) : EReal)
      = arg m c (ix3 ⟨bt t, bt_lt t⟩ ⟨((qt t - 1) * 128 + r.val) * 1 + rt t, by
          have := rt_lt t; have := qt_lt t; have := r.isLt; omega⟩ ⟨1024 + l.val, by have := l.isLt; omega⟩) := by
  blk_ext! [iblk, V, index_eq t]
  all_goals (have h1 : (grid0.coords t 1).val < 1 := rt_lt t; simp only [bt, rt, qt]; omega)

theorem iblk2 (r : Fin 128) (l : Fin 1024) :
    (iblk m c 2 t (ix3 0 r l) : EReal)
      = arg m c (ix3 ⟨bt t, bt_lt t⟩ ⟨(qt t * 128 + r.val) * 1 + rt t, by
          have := rt_lt t; have := qt_lt t; have := r.isLt; omega⟩ ⟨1024 + l.val, by have := l.isLt; omega⟩) := by
  blk_ext! [iblk, V, index_eq t]
  all_goals (have h1 : (grid0.coords t 1).val < 1 := rt_lt t; simp only [bt, rt, qt]; omega)

theorem iblk3 (r : Fin 128) (l : Fin 1024) :
    (iblk m c 3 t (ix3 0 r l) : EReal)
      = arg m c (ix3 ⟨bt t, bt_lt t⟩ ⟨((qt t - 1) * 128 + r.val) * 1 + rt t, by
          have := rt_lt t; have := qt_lt t; have := r.isLt; omega⟩ ⟨2048 + l.val, by have := l.isLt; omega⟩) := by
  blk_ext! [iblk, V, index_eq t]
  all_goals (have h1 : (grid0.coords t 1).val < 1 := rt_lt t; simp only [bt, rt, qt]; omega)

theorem iblk4 (r : Fin 128) (l : Fin 1024) :
    (iblk m c 4 t (ix3 0 r l) : EReal)
      = arg m c (ix3 ⟨bt t, bt_lt t⟩ ⟨(qt t * 128 + r.val) * 1 + rt t, by
          have := rt_lt t; have := qt_lt t; have := r.isLt; omega⟩ ⟨2048 + l.val, by have := l.isLt; omega⟩) := by
  blk_ext! [iblk, V, index_eq t]
  all_goals (have h1 : (grid0.coords t 1).val < 1 := rt_lt t; simp only [bt, rt, qt]; omega)

variable (hx : ∀ i, arg m c i ≠ ⊥ ∧ arg m c i ≠ ⊤)

/-- The argument's real entries. -/
abbrev X : ℕ → ℕ → ℕ → ℝ := entries (arg m c)

include hx in
theorem sl0 (k : Fin 16) (r : Fin 128) (d : Fin 64) :
    sl (iblk m c 0 t) k (ix3 0 r d) = ((qB 1 (X m c) (bt t) (qt t) (rt t) k.val r d : ℝ) : EReal) := by
  rw [sl_apply]
  refine (iblk0 m c t r _).trans ((entries_eq _ hx _ _ _).trans ?_)
  simp only [qB, X, Nat.zero_add]
  congr 2
  omega

include hx in
theorem sl1 (k : Fin 16) (r : Fin 128) (d : Fin 64) :
    sl (iblk m c 1 t) k (ix3 0 r d) = ((prevB 1 (X m c) (bt t) (qt t) (rt t) k.val 1024 r d : ℝ) : EReal) := by
  rw [sl_apply]
  refine (iblk1 m c t r _).trans ((entries_eq _ hx _ _ _).trans ?_)
  simp only [prevB, X]
  congr 2
  omega

include hx in
theorem sl2 (k : Fin 16) (r : Fin 128) (d : Fin 64) :
    sl (iblk m c 2 t) k (ix3 0 r d) = ((curB 1 (X m c) (bt t) (qt t) (rt t) k.val 1024 r d : ℝ) : EReal) := by
  rw [sl_apply]
  refine (iblk2 m c t r _).trans ((entries_eq _ hx _ _ _).trans ?_)
  simp only [curB, X]
  congr 2
  omega

include hx in
theorem sl3 (k : Fin 16) (r : Fin 128) (d : Fin 64) :
    sl (iblk m c 3 t) k (ix3 0 r d) = ((prevB 1 (X m c) (bt t) (qt t) (rt t) k.val 2048 r d : ℝ) : EReal) := by
  rw [sl_apply]
  refine (iblk3 m c t r _).trans ((entries_eq _ hx _ _ _).trans ?_)
  simp only [prevB, X]
  congr 2
  omega

include hx in
theorem sl4 (k : Fin 16) (r : Fin 128) (d : Fin 64) :
    sl (iblk m c 4 t) k (ix3 0 r d) = ((curB 1 (X m c) (bt t) (qt t) (rt t) k.val 2048 r d : ℝ) : EReal) := by
  rw [sl_apply]
  refine (iblk4 m c t r _).trans ((entries_eq _ hx _ _ _).trans ?_)
  simp only [curB, X]
  congr 2
  omega

/-- What the two result arrays hold. -/
def G5 (y : S4x4096x1024.Idx) : EReal :=
  ((num 1 4224 (X m c) (y 0).val (y 1).val ((y 2).val / 1024) ((y 2).val % 1024 / 64) ((y 2).val % 64)
    / den 1 4224 (X m c) (y 0).val (y 1).val ((y 2).val / 1024) ((y 2).val % 1024 / 64) : ℝ) : EReal)
def G6 (y : S4x4096x1024.Idx) : EReal :=
  ((Real.log (den 1 4224 (X m c) (y 0).val (y 1).val ((y 2).val / 1024) ((y 2).val % 1024 / 64)) : ℝ) : EReal)

include hx in
theorem outO_apply (k : Fin 16) (r : Fin 128) (d : Fin 64) :
    outO m c t k (ix3 0 r d) = ((num 1 4224 (X m c) (bt t) (qt t * 128 + r.val) (rt t) k.val d.val
      / den 1 4224 (X m c) (bt t) (qt t * 128 + r.val) (rt t) k.val : ℝ) : EReal) := by
  have hq := qt_lt t
  unfold outO
  rw [headO_apply _ _ _ _ _ _ _ _ _ _ _ (sl0 m c t hx k) (sl1 m c t hx k) (sl2 m c t hx k) (sl3 m c t hx k) (sl4 m c t hx k),
    den_eq 1 4224 (X m c) (bt t) (qt t) (rt t) k.val (rt_lt t) (by omega) (by omega),
    num_eq 1 4224 (X m c) (bt t) (qt t) (rt t) k.val (rt_lt t) (by omega) (by omega)]

include hx in
theorem outL_apply (k : Fin 16) (r : Fin 128) (d : Fin 64) :
    outL m c t k (ix3 0 r d) = ((Real.log (den 1 4224 (X m c) (bt t) (qt t * 128 + r.val) (rt t) k.val) : ℝ) : EReal) := by
  have hq := qt_lt t
  unfold outL
  rw [headL_apply _ _ _ _ _ _ _ (sl0 m c t hx k) (sl1 m c t hx k) (sl2 m c t hx k),
    den_eq 1 4224 (X m c) (bt t) (qt t) (rt t) k.val (rt_lt t) (by omega) (by omega)]

include hx in
theorem arr5 : (dats m 0 c).arrAt 5 cfg0.N = G5 m c := by
  refine (dats m 0 c).arrAt_eq_of_covers 5 _ (by decide +kernel) fun t hf y => ?_
  blk_simp
  rw [after0_5, out5]
  have h0 : (y 0).val < 1 := (y 0).isLt
  have h1 : (y 1).val < 128 := (y 1).isLt
  have h2 : (y 2).val < 1024 := (y 2).isLt
  have e0 : ((win0_5.blk t).view.emb y 0).val = bt t := by blk_simp [index_eq t]
  have e1 : ((win0_5.blk t).view.emb y 1).val = qt t * 128 + (y 1).val := by blk_simp [index_eq t]
  have e2 : ((win0_5.blk t).view.emb y 2).val = rt t * 1024 + (y 2).val := by
    have h3 := rt_lt t
    blk_simp [index_eq t]
    omega
  unfold G5
  rw [e0, e1, e2, show (rt t * 1024 + (y 2).val) / 1024 = rt t by omega,
    show (rt t * 1024 + (y 2).val) % 1024 = (y 2).val by omega,
    show (rt t * 1024 + (y 2).val) % 64 = (y 2).val % 64 by omega]
  exact outO_apply m c t hx _ _ _

include hx in
theorem arr6 : (dats m 0 c).arrAt 6 cfg0.N = G6 m c := by
  refine (dats m 0 c).arrAt_eq_of_covers 6 _ (by decide +kernel) fun t hf y => ?_
  blk_simp
  rw [after0_6, out6]
  have h0 : (y 0).val < 1 := (y 0).isLt
  have h1 : (y 1).val < 128 := (y 1).isLt
  have h2 : (y 2).val < 1024 := (y 2).isLt
  have e0 : ((win0_6.blk t).view.emb y 0).val = bt t := by blk_simp [index_eq t]
  have e1 : ((win0_6.blk t).view.emb y 1).val = qt t * 128 + (y 1).val := by blk_simp [index_eq t]
  have e2 : ((win0_6.blk t).view.emb y 2).val = rt t * 1024 + (y 2).val := by
    have h3 := rt_lt t
    blk_simp [index_eq t]
    omega
  unfold G6
  rw [e0, e1, e2, show (rt t * 1024 + (y 2).val) / 1024 = rt t by omega,
    show (rt t * 1024 + (y 2).val) % 1024 = (y 2).val by omega]
  exact outL_apply m c t hx _ _ _

end Cert.Kernel15Ideal.Array

end
-- ==== Proof.Dilated0.lean ====
/- The claims about the dilated window attention of the dilation-1 group: the kernel's arrays (`Array0.lean`) and the
   reference's results (`RefValue0.lean`) are one function of finite entries. -/
module

public import proofs.«01_k».proof.Defs
public import proofs.«01_k».proof.Proof.RefValue0
public import proofs.«01_k».proof.Proof.Array0
public import proofs.«01_k».proof.Proof.Dilated
public import proofs.«01_k».proof.Proof.Gen.Kernel15.Frame
public import proofs.«01_k».proof.Proof.Gen.Kernel15Ideal.Value
public import proofs.«01_k».proof.Proof.Gen.Reference15Ideal.Run
public import Idealize.ShloMosaic.Adequacy

@[expose] public section

set_option maxRecDepth 16384

noncomputable section

namespace Cert.DilatedClaims0

open Idealize.ShloMosaic Idealize.SL.Sem

theorem frame_p : Cert.quiescent_Kernel15 (hKernel15 := Cert.Kernel15.Gen.facts) := fun m ρ _ => Cert.Kernel15.Gen.frame m ρ
theorem frame_pi : Cert.quiescent_Kernel15Ideal (hKernel15Ideal := Cert.Kernel15Ideal.Gen.facts) := fun m ρ _ =>
  Cert.Kernel15Ideal.Gen.frame m ρ
theorem frame_ri : Cert.quiescent_Reference15Ideal (hReference15Ideal := Cert.Reference15Ideal.Gen.facts) := fun m ρ _ =>
  (θ_run Cert.Reference15Ideal.defs _ _).mono (fun r h => ⟨fun c => (h c).2.2, sem_eq_zero_of_no_sems (by decide) r.2⟩)
    (Cert.Reference15Ideal.Value.run (F := Ideal) m ρ)

/-- The fill of masked scores, named minus infinity. -/
theorem preserves : Cert.preserves_Kernel15_Kernel15Ideal :=
  IdealRules.named_const.statement Cert.Kernel15Ideal.κ "mask" .f32 0xF149F2CA#32 ⊥ rfl

/-- From finite projections both programs end with the same outputs and the same logarithms of the weights' sums. -/
theorem algebraic : Cert.algebraic_Kernel15Ideal_Reference15Ideal_pre_finite (hKernel15Ideal := Cert.Kernel15Ideal.Gen.facts)
    (hReference15Ideal := Cert.Reference15Ideal.Gen.facts) (hPre_finite := Cert.DilatedClaims.facts_finite) := by
  intro m g m' g' hpre hag
  have hx : ∀ c i, Cert.Kernel15Ideal.Array.arg m c i ≠ ⊥ ∧ Cert.Kernel15Ideal.Array.arg m c i ≠ ⊤ :=
    fun c i => Cert.DilatedClaims.real_of_pre _ (hpre c) i
  refine ⟨fun c => Cert.Kernel15Ideal.Array.G5 m c, fun c => Cert.Kernel15Ideal.Array.G6 m c, ?_, ?_⟩
  · refine (θ_run Cert.Kernel15Ideal.defs _ _).mono (fun r h c => ?_) (Cert.Kernel15Ideal.Value.run_blocks m g)
    exact ⟨(h c).1.trans (Cert.Kernel15Ideal.Array.arr5 m c (hx c)),
      (h c).2.1.trans (Cert.Kernel15Ideal.Array.arr6 m c (hx c)), (h c).2.2⟩
  · refine (θ_run Cert.Reference15Ideal.defs _ _).mono (fun r h c => ?_) (Cert.Reference15Ideal.Value.run m' g')
    refine ⟨(h c).1.trans ?_, (h c).2.1.trans ?_, (h c).2.2⟩
    · rw [Cert.Reference15Ideal.Read.val_main_v57_eq, hag c]
      exact Cert.Reference15Ideal.RefValue.v57_eq _ (hx c)
    · rw [Cert.Reference15Ideal.Read.val_main_v58_eq, hag c]
      exact Cert.Reference15Ideal.RefValue.v58_eq _ (hx c)

end Cert.DilatedClaims0

end
-- ==== Proof.RefValue2.lean ====
/- The reference's two results, entry by entry, when the argument's entries are real. -/
module

public import proofs.«01_k».proof.Proof.Gen.Reference16Ideal.Read
public import proofs.«01_k».proof.Proof.Array

@[expose] public section

set_option maxRecDepth 16384

noncomputable section

namespace Cert.Reference16Ideal.RefValue

open Idealize.ShloMosaic Idealize.ShloMosaic.TcCoe Idealize.ShloMosaic.Tactic Idealize.SL.Sem
open Cert.Reference16Ideal Cert.Reference16Ideal.Gen Cert.Reference16Ideal.Read Cert.Spec Cert.SoftMath
open Cert.KernelIdeal.Array (entries entries_eq)

variable (x : Vec Ideal S4x4096x3072 .f32)

theorem q_apply (b : Fin 4) (u : Fin 256) (ρ : Fin 16) (h : Fin 16) (d : Fin 64) :
    val_main_v11 (F := Ideal) x (ix5 b u ρ h d) = x (ix3 b ⟨u.val * 16 + ρ.val, by omega⟩ ⟨h.val * 64 + d.val, by omega⟩) := by
  pointwise [val_main_v11, val_main_v6, val_main_v5, val_main_v0]

variable (hx : ∀ i, (x i : EReal) ≠ ⊥ ∧ (x i : EReal) ≠ ⊤)

/-- The argument's real entries. -/
abbrev X : ℕ → ℕ → ℕ → ℝ := entries x

/-- Lanes from `o` of the padded tokens, zero in the padding. -/
def padR (o b a ρ h d : ℕ) : ℝ := if 2048 ≤ a * 16 + ρ then X x b (a * 16 + ρ - 2048) (o + (h * 64 + d)) else 0

include hx in
theorem k_apply (b : Fin 4) (a : Fin 384) (ρ : Fin 16) (h : Fin 16) (d : Fin 64) :
    val_main_v12 (F := Ideal) x (ix5 b a ρ h d) = (padR x 1024 b a ρ h d : EReal) := by
  pointwise [val_main_v12, val_main_v8, val_main_v7, val_main_v1, val_main_v0, val_main_call0_v0, val_main_c]
  unfold padR
  by_cases h1 : 2048 ≤ a.val * 16 + ρ.val
  · rw [if_pos h1, dif_pos ⟨h1, by omega⟩]
    refine (entries_eq _ hx _ _ _).trans ?_
    simp only [Nat.add_assoc]
  · rw [if_neg h1, dif_neg (fun h2 => h1 h2.1)]
    show (((0#32 : BitVec 32).toInt : ℝ) : EReal) = _
    simp

include hx in
theorem v_apply (b : Fin 4) (a : Fin 384) (ρ : Fin 16) (h : Fin 16) (d : Fin 64) :
    val_main_v13 (F := Ideal) x (ix5 b a ρ h d) = (padR x 2048 b a ρ h d : EReal) := by
  pointwise [val_main_v13, val_main_v10, val_main_v9, val_main_v1, val_main_v0, val_main_call0_v0, val_main_c]
  unfold padR
  by_cases h1 : 2048 ≤ a.val * 16 + ρ.val
  · rw [if_pos h1, dif_pos ⟨h1, by omega⟩]
    refine (entries_eq _ hx _ _ _).trans ?_
    simp only [Nat.add_assoc]
  · rw [if_neg h1, dif_neg (fun h2 => h1 h2.1)]
    show (((0#32 : BitVec 32).toInt : ℝ) : EReal) = _
    simp

/-- The keys a query sees. -/
abbrev sees (u a ρ : ℕ) : Prop := u ≤ a ∧ a ≤ u + 128 ∧ 128 * 16 ≤ a * 16 + ρ

theorem mask_apply (u : Fin 256) (a : Fin 384) (ρ : Fin 16) :
    val_main_v37 (F := Ideal) (ix5 0 0 ρ u a) = BitVec.ofBool (decide (sees u a ρ)) := by
  pointwise [val_main_v37, val_main_v36, val_main_v35, val_main_v34, val_main_v33, val_main_v32, val_main_v31, val_main_v30, val_main_v29,
   val_main_v28, val_main_v27, val_main_v26, val_main_v25, val_main_v24, val_main_v23, val_main_v22, val_main_v21, val_main_v20, val_main_v19,
   val_main_v18, val_main_v17, val_main_v4, val_main_v3, val_main_v2, val_main_c_0, val_main_c_1]
  have hu := u.isLt
  have ha := a.isLt
  have hρ := ρ.isLt
  rw [show IntOp.addi (BitVec.ofNat 32 u.val) 128#32 = BitVec.ofNat 32 (u.val + 128) from (BitVec.ofNat_add _ _).symm,
    WordCmp.cmpi_sge_ofNat (w := 32) (by omega) (by omega), WordCmp.cmpi_sle_ofNat (w := 32) (by omega) (by omega),
    WordCmp.cmpi_sge_ofNat (w := 32) (by omega) (by omega), WordCmp.andi_ofBool, WordCmp.andi_ofBool]
  congr 1
  simp only [← Bool.decide_and]
  exact decide_eq_decide.mpr ⟨fun h => ⟨h.1.1, h.1.2, h.2⟩, fun h => ⟨⟨h.1, h.2.1⟩, h.2.2⟩⟩

theorem ofBits_eighth32 : Ideal.ofBits .f32 0x3E000000#32 = ((0.125 : ℝ) : EReal) := by
  simp [Ideal.ofBits, Ideal.ieee]
  rw [← EReal.coe_mul]
  congr 1
  norm_num

/-- The score of key `a` for query `u`. -/
def sR (b u ρ h a : ℕ) : ℝ :=
  ∑ d : Fin 64, X x b (u * 16 + ρ) (h * 64 + d.val) * 0.125 * X x b (a * 16 + ρ - 128 * 16) (1024 + (h * 64 + d.val))

include hx in
theorem s_apply (b : Fin 4) (h : Fin 16) (ρ : Fin 16) (u : Fin 256) (a : Fin 384) :
    val_main_v38 (F := Ideal) x (ix5 b h ρ u a) = sc (sees u a ρ) (sR x b u ρ h a) := by
  pointwise [val_main_v38, val_main_call1_v0, val_main_call1_v1, val_main_call1_v2, val_main_cst_2, val_main_v16, val_main_v15, val_main_cst, val_main_v14]
  rw [mask_apply, WordCmp.select_ofBool]
  unfold sc
  by_cases h1 : sees u a ρ
  · rw [if_pos (decide_eq_true h1), if_pos h1]
    simp only [q_apply, k_apply x hx, ofBits_eighth32]
    have hq : ∀ d : Fin 64, (x (ix3 b ⟨u.val * 16 + ρ.val, by omega⟩ ⟨h.val * 64 + d.val, by omega⟩) : EReal)
        = (X x b (u.val * 16 + ρ.val) (h.val * 64 + d.val) : EReal) := fun d => entries_eq _ hx _ _ _
    simp only [hq, ← EReal.coe_mul, coe_sum]
    congr 1
    unfold sR padR
    rw [Finset.sum_mul]
    refine Finset.sum_congr rfl fun d _ => ?_
    rw [if_pos h1.2.2]
    ring
  · rw [if_neg (by simpa using h1), if_neg h1]
    exact Cert.KernelIdeal.Head.ofBits_neg_inf

/-- Every query sees its own key. -/
theorem den_pos (b h ρ : ℕ) (u : Fin 256) : 0 < den 16 384 (X x) b u.val ρ h := by
  refine Finset.sum_pos' (fun a _ => ew_nonneg _ _) ⟨⟨u.val + 128, by omega⟩, Finset.mem_univ _, ?_⟩
  unfold wgt ew
  rw [if_pos ⟨by simp, by simp, by simp only; omega⟩]
  exact Real.exp_pos _

include hx in
theorem l_apply (b : Fin 4) (h : Fin 16) (ρ : Fin 16) (u : Fin 256) :
    val_main_v46 (F := Ideal) x (ix4 b h ρ u) = (Real.log (den 16 384 (X x) b u ρ h) : EReal) := by
  pointwise [val_main_v46, val_main_v45, val_main_v44, val_main_v43, val_main_v42, val_main_v41, val_main_v40, val_main_v39, val_main_cst_3, val_main_cst_4]
  simp only [s_apply x hx, Cert.KernelIdeal.Head.ofBits_neg_inf]
  obtain ⟨μ, hμ⟩ := fold_max_real (fun a : Fin 384 => sc (sees u a ρ) (sR x b u ρ h a)) (fun a => sc_ne_top _ _)
    ⟨⟨u.val + 128, by omega⟩, by
      rw [sc_of ⟨by simp, by simp, by simp only; omega⟩]
      exact EReal.coe_ne_bot _⟩
  rw [hμ]
  simp only [exp_sc_sub, coe_sum, ← Finset.sum_mul]
  refine Eq.trans (congrArg (fun z : EReal => z + (μ : EReal)) (log_shift _ _ (den_pos x b h ρ u))) ?_
  rw [← EReal.coe_add]
  congr 1
  exact sub_add_cancel _ _

include hx in
theorem o_apply (b : Fin 4) (h : Fin 16) (ρ : Fin 16) (u : Fin 256) (d : Fin 64) :
    val_main_v52 (F := Ideal) x (ix5 b u ρ h d)
      = ((num 16 384 (X x) b u ρ h d / den 16 384 (X x) b u ρ h : ℝ) : EReal) := by
  pointwise [val_main_v52, val_main_v51, val_main_v50, val_main_v49, val_main_v48, val_main_v47]
  simp only [v_apply x hx, s_apply x hx, l_apply x hx, exp_sc_sub_log _ _ _ (den_pos x b h ρ u), ← EReal.coe_mul, coe_sum]
  congr 1
  unfold num
  rw [Finset.sum_div]
  refine Finset.sum_congr rfl fun a _ => ?_
  unfold padR
  by_cases h1 : 2048 ≤ a.val * 16 + ρ.val
  · rw [if_pos h1]
    show _ * (wgt 16 (X x) b u ρ h a / _) = _
    ring
  · have hw : wgt 16 (X x) b u ρ h a = 0 := if_neg (fun h2 => h1 h2.2.2)
    rw [if_neg h1, hw, zero_mul, zero_mul, zero_div]

include hx in
/-- What the two results hold. -/
theorem v58_eq : val_main_v58 (F := Ideal) x = fun y : S4x256x16384.Idx =>
    ((num 16 384 (X x) (y 0).val (y 1).val ((y 2).val / 1024) ((y 2).val % 1024 / 64) ((y 2).val % 64)
    / den 16 384 (X x) (y 0).val (y 1).val ((y 2).val / 1024) ((y 2).val % 1024 / 64) : ℝ) : EReal) := by
  funext y
  obtain ⟨b, u, l, rfl⟩ : ∃ (b : Fin 4) (u : Fin 256) (l : Fin 16384), y = ix3 b u l := ⟨y 0, y 1, y 2, eq_ix3 y⟩
  pointwise [val_main_v58, val_main_v53]
  rw [o_apply x hx]
  simp only [show (u.val * 16 + l.val / 1024) % 16 = l.val / 1024 by omega, show l.val / 64 % 16 = l.val % 1024 / 64 by omega]

include hx in
theorem v59_eq : val_main_v59 (F := Ideal) x = fun y : S4x256x16384.Idx =>
    ((Real.log (den 16 384 (X x) (y 0).val (y 1).val ((y 2).val / 1024) ((y 2).val % 1024 / 64)) : ℝ) : EReal) := by
  funext y
  obtain ⟨b, u, l, rfl⟩ : ∃ (b : Fin 4) (u : Fin 256) (l : Fin 16384), y = ix3 b u l := ⟨y 0, y 1, y 2, eq_ix3 y⟩
  pointwise [val_main_v59, val_main_v57, val_main_v56, val_main_v55, val_main_v54]
  rw [l_apply x hx]
  simp only [show (u.val * 16 + l.val / 1024) % 16 = l.val / 1024 by omega, show l.val / 64 % 16 = l.val % 1024 / 64 by omega]

end Cert.Reference16Ideal.RefValue

end
-- ==== Proof.Head2.lean ====
/- One attention head of one block of 128 queries: the vectors the kernel computes for it, written once
   (every one of the 16 heads of the body is an instance), and their values index by index. -/
module

public import proofs.«01_k».proof.Proof.Gen.Kernel16Ideal.Skeleton
public import Idealize.ShloMosaic.Lib.Pointwise
public import Idealize.ShloMosaic.Lib.WordCmp
public import proofs.«01_k».proof.Proof.Head

@[expose] public section

set_option maxRecDepth 16384

noncomputable section

namespace Cert.Kernel16Ideal.Head

open Idealize.ShloMosaic Idealize.ShloMosaic.Tactic Idealize.ShloMosaic.WordCmp Cert.Kernel16Ideal Cert.Kernel16Ideal.Gen

variable {F : FTy → Type} [FloatOps F] [Named F]

/-- The keys of the block before that a query may see: columns at or after its row, if there is a block before. -/
def maskP (b : BitVec 32) : IVec S128x128 1 :=
  andi (cmpi .sge (iota .tc S128x128 32 [1] iota_S128x128_d1_w32) (iota .tc S128x128 32 [0] iota_S128x128_d0_w32))
    (broadcast S128x128 (Scalar.cmpi .sgt b 0#32))

/-- The keys of the query's own block that it may see: columns up to its row. -/
def maskC : IVec S128x128 1 :=
  cmpi .sle (iota .tc S128x128 32 [1] iota_S128x128_d1_w32) (iota .tc S128x128 32 [0] iota_S128x128_d0_w32)

/-- The scaled scores of a block of queries against a block of keys. -/
def score (q k : Vec F S1x128x64 .bf16) : FVec F S128x128 .f32 :=
  matmul dot_S128x64_S128x64_S128x128_1_1_0_0_n_n none
    (mulf (shapeCast S128x64 q shapeCasts_S1x128x64_S128x64) (broadcast S128x64 (Scalar.ofBits .bf16 0x3E00#16)))
    (shapeCast S128x64 k shapeCasts_S1x128x64_S128x64) (constant S128x128 .f32 0x00000000#32)

/-- The scores with the mask's constant where the mask is off. -/
def masked (w : IVec S128x128 1) (q k : Vec F S1x128x64 .bf16) : FVec F S128x128 .f32 :=
  select w (shapeCast S128x128 (shapeCast S1x128x128 (score q k) shapeCasts_S128x128_S1x128x128) shapeCasts_S1x128x128_S128x128)
    (broadcast S128x128 (Named.named κ "mask" (0xF149F2CA#32 : BitVec (FTy.bits .f32))))

/-- The row maxima over both blocks of keys. -/
def rowMax (b : BitVec 32) (q kp kc : Vec F S1x128x64 .bf16) : FVec F S128x1 .f32 :=
  shapeCast S128x1 (multiReduction .maximumf [1] S128 (maximumf (masked (maskP b) q kp) (masked maskC q kc)) 0xFF800000#32
    reduces_S128x128_S128 (.inl rfl) rfl) shapeCasts_S128_S128x1

/-- The weights of one block of keys. -/
def wgt (b : BitVec 32) (q kp kc : Vec F S1x128x64 .bf16) (w : IVec S128x128 1) (k : Vec F S1x128x64 .bf16) : FVec F S128x128 .f32 :=
  exp (subf (masked w q k) (broadcastTo S128x128 (rowMax b q kp kc) broadcasts_S128x1_S128x128))

/-- The row sums of the weights over both blocks. -/
def rowSum (b : BitVec 32) (q kp kc : Vec F S1x128x64 .bf16) : FVec F S128x1 .f32 :=
  shapeCast S128x1 (multiReduction .add [1] S128 (addf (wgt b q kp kc (maskP b) kp) (wgt b q kp kc maskC kc)) 0x00000000#32
    reduces_S128x128_S128 (.inl rfl) rfl) shapeCasts_S128_S128x1

/-- The log of the sum of exponentials, on every lane. -/
def headL (b : BitVec 32) (q kp kc : Vec F S1x128x64 .bf16) : FVec F S1x128x64 .f32 :=
  shapeCast S1x128x64 (broadcastTo S128x64 (shapeCast S128x1 (addf (rowMax b q kp kc) (log (rowSum b q kp kc))) shapeCasts_S128x1_S128x1)
    broadcasts_S128x1_S128x64) shapeCasts_S128x64_S1x128x64

/-- Weights times values, of one block. -/
def pv (p : FVec F S128x128 .f32) (v : Vec F S1x128x64 .bf16) : FVec F S128x64 .f32 :=
  matmul dot_S128x128_S128x64_S128x64_1_0_0_1_n_n none
    (shapeCast S128x128 (shapeCast S1x128x128 (truncf .bf16 p bitsLt_bf16_f32) shapeCasts_S128x128_S1x128x128) shapeCasts_S1x128x128_S128x128)
    (shapeCast S128x64 v shapeCasts_S1x128x64_S128x64) (constant S128x64 .f32 0x00000000#32)

/-- The head's attention output. -/
def headO (b : BitVec 32) (q kp kc vp vc : Vec F S1x128x64 .bf16) : FVec F S1x128x64 .f32 :=
  shapeCast S1x128x64
    (divf (addf (pv (wgt b q kp kc (maskP b) kp) vp) (pv (wgt b q kp kc maskC kc) vc))
      (shapeCast S128x64 (shapeCast S1x128x64 (broadcastTo S128x64 (shapeCast S128x1 (rowSum b q kp kc) shapeCasts_S128x1_S128x1)
        broadcasts_S128x1_S128x64) shapeCasts_S128x64_S1x128x64) shapeCasts_S1x128x64_S128x64)) shapeCasts_S128x64_S1x128x64

/-! ## Values -/

open Cert.SoftMath

open Cert.KernelIdeal.Head (seesP seesC selP selC ofBits_eighth ofBits_neg_inf dotR denR denR_pos max_real)

theorem named_mask : (Named.named κ "mask" (0xF149F2CA#32 : BitVec (FTy.bits .f32)) : Ideal .f32) = (⊥ : EReal) :=
  IdealRules.named_const.ideal_named_scalar _ _ _ _ rfl

variable (b : BitVec 32) (q kp kc vp vc : Vec Ideal S1x128x64 .bf16)
  (Q KP KC VP VC : Fin 128 → Fin 64 → ℝ)

theorem dot_eq (q k : Vec Ideal S1x128x64 .bf16) (Q K : Fin 128 → Fin 64 → ℝ) (hq : ∀ r d, q (ix3 0 r d) = (Q r d : EReal))
    (hk : ∀ r d, k (ix3 0 r d) = (K r d : EReal)) (r c : Fin 128) :
    (∑ d, q (ix3 0 r d) * Ideal.ofBits FTy.bf16 15872#16 * k (ix3 0 c d) : EReal) = (dotR Q K r c : EReal) := by
  simp only [hq, hk, ofBits_eighth, ← EReal.coe_mul, coe_sum, dotR]

set_option maxHeartbeats 2000000 in
/-- The log of the sum of exponentials, at row `r`. -/
theorem headL_apply (hq : ∀ r d, q (ix3 0 r d) = (Q r d : EReal)) (hkp : ∀ r d, kp (ix3 0 r d) = (KP r d : EReal))
    (hkc : ∀ r d, kc (ix3 0 r d) = (KC r d : EReal)) (r : Fin 128) (d : Fin 64) :
    headL b q kp kc (ix3 0 r d) = (Real.log (denR b Q KP KC r) : EReal) := by
  pointwise [headL, wgt, rowSum, rowMax, masked, score, maskP, maskC]
  simp only [dot_eq q kp Q KP hq hkp, dot_eq q kc Q KC hq hkc, selP, selC, named_mask, ofBits_neg_inf, ite_sc]
  obtain ⟨μ, hμ⟩ := max_real b Q KP KC r
  rw [hμ]
  simp only [exp_sc_sub, ← EReal.coe_add, coe_sum, ← add_mul, ← Finset.sum_mul]
  refine Eq.trans (congrArg (fun z : EReal => (μ : EReal) + z) (log_shift _ _ (denR_pos b Q KP KC r))) ?_
  rw [← EReal.coe_add]
  congr 1
  show μ + (Real.log (denR b Q KP KC r) - μ) = _
  ring

set_option maxHeartbeats 2000000 in
/-- The attention output at row `r`, lane `d`. -/
theorem headO_apply (hq : ∀ r d, q (ix3 0 r d) = (Q r d : EReal)) (hkp : ∀ r d, kp (ix3 0 r d) = (KP r d : EReal))
    (hkc : ∀ r d, kc (ix3 0 r d) = (KC r d : EReal)) (hvp : ∀ r d, vp (ix3 0 r d) = (VP r d : EReal))
    (hvc : ∀ r d, vc (ix3 0 r d) = (VC r d : EReal)) (r : Fin 128) (d : Fin 64) :
    headO b q kp kc vp vc (ix3 0 r d)
      = (((∑ c, ew (seesP b r c) (dotR Q KP r c) * VP c d) + ∑ c, ew (seesC r c) (dotR Q KC r c) * VC c d) / denR b Q KP KC r : ℝ) := by
  pointwise [headO, pv, wgt, rowSum, rowMax, masked, score, maskP, maskC]
  simp only [dot_eq q kp Q KP hq hkp, dot_eq q kc Q KC hq hkc, selP, selC, named_mask, ofBits_neg_inf, ite_sc, hvp, hvc]
  obtain ⟨μ, hμ⟩ := max_real b Q KP KC r
  rw [hμ]
  simp only [exp_sc_sub, ← EReal.coe_add, ← EReal.coe_mul, coe_sum, ← add_mul, mul_right_comm _ (Real.exp (-μ)) _, ← Finset.sum_mul]
  exact div_shift _ _ _ (denR_pos b Q KP KC r)

end Cert.Kernel16Ideal.Head

end
-- ==== Proof.Block2.lean ====
/- One grid point's blocks of results, head by head: lanes `64·k … 64·k + 63` of a block are head `k`'s. -/
module

public import proofs.«01_k».proof.Proof.Gen.Kernel16Ideal.Value
public import proofs.«01_k».proof.Proof.Head2
public import Idealize.ShloMosaic.Lib.Pipeline.ReadBack
public import Idealize.ShloMosaic.Lib.Pipeline.ValueKit

@[expose] public section

set_option maxRecDepth 16384

noncomputable section

namespace Cert.Kernel16Ideal.Block

open Idealize.ShloMosaic Idealize.ShloMosaic.TcCoe Idealize.ShloMosaic.Tactic Idealize.SL.Sem
open Cert.Kernel16Ideal Cert.Kernel16Ideal.Gen Cert.Kernel16Ideal.Head

/-- A block read head by head. -/
def byHead (H : Fin 16 → S1x128x64.Idx → Ideal .f32) (y : S1x128x1024.Idx) : Ideal .f32 :=
  H ⟨(y 2).val / 64, by have h : (y 2).val < 1024 := (y 2).isLt; omega⟩ (ix3 0 (y 1) ⟨(y 2).val % 64, Nat.mod_lt _ (by decide)⟩)

theorem inbH (k : Fin 16) : ∀ a, (![0, 0, 64 * k.val] : Fin 3 → Nat) a + (![1, 128, 64] : Fin 3 → Nat) a ≤ S1x128x1024.size a :=
  fun a => match a with
    | ⟨0, _⟩ => (by decide : 0 + 1 ≤ 1)
    | ⟨1, _⟩ => (by decide : 0 + 128 ≤ 128)
    | ⟨2, _⟩ => (by have := k.isLt; show 64 * k.val + 64 ≤ 1024; omega)

theorem byHead_emb (H : Fin 16 → S1x128x64.Idx → Ideal .f32) (k : Fin 16) (x : S1x128x64.Idx) :
    byHead H ((Rect.unit (s := S1x128x1024) ![0, 0, 64 * k.val] ![1, 128, 64] (inbH k)).emb x) = H k x := by
  have h2 : (x 2).val < 64 := (x 2).isLt
  have h0 : (x 0).val < 1 := (x 0).isLt
  unfold byHead
  congr 1
  · apply Fin.ext
    show (64 * k.val + 1 * (x 2).val) / 64 = k.val
    omega
  · funext a
    apply Fin.ext
    match a with
    | ⟨0, _⟩ => show 0 = (x 0).val; omega
    | ⟨1, _⟩ => show 0 + 1 * (x 1).val = (x 1).val; omega
    | ⟨2, _⟩ => show (64 * k.val + 1 * (x 2).val) % 64 = (x 2).val; omega

/-- Head `k`'s lanes of an operand block. -/
def sl (X : Vec Ideal S1x128x1024 .bf16) (k : Fin 16) : Vec Ideal S1x128x64 .bf16 :=
  View.ld X (Rect.unit ![0, 0, 64 * k.val] ![1, 128, 64] (inbH k))

theorem sl_apply (X : Vec Ideal S1x128x1024 .bf16) (k : Fin 16) (r : Fin 128) (d : Fin 64) :
    sl X k (ix3 0 r d) = X (ix3 0 r ⟨64 * k.val + d.val, by have := k.isLt; have := d.isLt; omega⟩) := by
  unfold sl
  show X _ = X _
  congr 1
  funext a
  apply Fin.ext
  match a with
  | ⟨0, _⟩ => rfl
  | ⟨1, _⟩ => show 0 + 1 * r.val = r.val; omega
  | ⟨2, _⟩ => show 64 * k.val + 1 * d.val = 64 * k.val + d.val; omega

variable (m : (ℓ : Loc nD τ sig) → Buf (Elt Ideal) ℓ) (c : Dev nD) (t : Fin cfg0.N)

/-- The point's attention output, head by head. -/
def outO : Fin 16 → S1x128x64.Idx → Ideal .f32 := fun k =>
  headO (BitVec.ofNat 32 (grid0.coords t 2).val) (sl (iblk m c 0 t) k) (sl (iblk m c 1 t) k) (sl (iblk m c 2 t) k)
    (sl (iblk m c 3 t) k) (sl (iblk m c 4 t) k)

/-- The point's log-sum-exp, head by head. -/
def outL : Fin 16 → S1x128x64.Idx → Ideal .f32 := fun k =>
  headL (BitVec.ofNat 32 (grid0.coords t 2).val) (sl (iblk m c 0 t) k) (sl (iblk m c 1 t) k) (sl (iblk m c 2 t) k)

set_option maxHeartbeats 4000000 in
theorem out5 : (outsAt0 m c t).1 = byHead (outO m c t) := by
  simp only [outsAt0]
  frame_open
  simp (disch := decide) only [↓ View.readCov_skip, ↓ View.readCov_cons_toLoadRect, ↓ View.readCov_fill]
  frame_out
  funext y
  refine View.canon_apply_of_pieces (Val := Elt Ideal) (e := .f32) (byHead (outO m c t)) _ (View.PiecesOf.mem ?_) y (View.cover_of_tiled_head _ _ _ rfl y)
  exact ⟨fun x => (byHead_emb (outO m c t) 15 x).symm,
    fun x => (byHead_emb (outO m c t) 14 x).symm,
    fun x => (byHead_emb (outO m c t) 13 x).symm,
    fun x => (byHead_emb (outO m c t) 12 x).symm,
    fun x => (byHead_emb (outO m c t) 11 x).symm,
    fun x => (byHead_emb (outO m c t) 10 x).symm,
    fun x => (byHead_emb (outO m c t) 9 x).symm,
    fun x => (byHead_emb (outO m c t) 8 x).symm,
    fun x => (byHead_emb (outO m c t) 7 x).symm,
    fun x => (byHead_emb (outO m c t) 6 x).symm,
    fun x => (byHead_emb (outO m c t) 5 x).symm,
    fun x => (byHead_emb (outO m c t) 4 x).symm,
    fun x => (byHead_emb (outO m c t) 3 x).symm,
    fun x => (byHead_emb (outO m c t) 2 x).symm,
    fun x => (byHead_emb (outO m c t) 1 x).symm,
    fun x => (byHead_emb (outO m c t) 0 x).symm, trivial⟩

set_option maxHeartbeats 4000000 in
theorem out6 : (outsAt0 m c t).2 = byHead (outL m c t) := by
  simp only [outsAt0]
  frame_open
  simp (disch := decide) only [↓ View.readCov_skip, ↓ View.readCov_cons_toLoadRect, ↓ View.readCov_fill]
  frame_out
  funext y
  refine View.canon_apply_of_pieces (Val := Elt Ideal) (e := .f32) (byHead (outL m c t)) _ (View.PiecesOf.mem ?_) y (View.cover_of_tiled_head _ _ _ rfl y)
  exact ⟨fun x => (byHead_emb (outL m c t) 15 x).symm,
    fun x => (byHead_emb (outL m c t) 14 x).symm,
    fun x => (byHead_emb (outL m c t) 13 x).symm,
    fun x => (byHead_emb (outL m c t) 12 x).symm,
    fun x => (byHead_emb (outL m c t) 11 x).symm,
    fun x => (byHead_emb (outL m c t) 10 x).symm,
    fun x => (byHead_emb (outL m c t) 9 x).symm,
    fun x => (byHead_emb (outL m c t) 8 x).symm,
    fun x => (byHead_emb (outL m c t) 7 x).symm,
    fun x => (byHead_emb (outL m c t) 6 x).symm,
    fun x => (byHead_emb (outL m c t) 5 x).symm,
    fun x => (byHead_emb (outL m c t) 4 x).symm,
    fun x => (byHead_emb (outL m c t) 3 x).symm,
    fun x => (byHead_emb (outL m c t) 2 x).symm,
    fun x => (byHead_emb (outL m c t) 1 x).symm,
    fun x => (byHead_emb (outL m c t) 0 x).symm, trivial⟩

end Cert.Kernel16Ideal.Block

end
-- ==== Proof.Array2.lean ====
/- The two result arrays of the kernel, entry by entry, when the argument's entries are real. -/
module

public import proofs.«01_k».proof.Proof.Block2
public import proofs.«01_k».proof.Proof.Spec
public import proofs.«01_k».proof.Proof.Array

@[expose] public section

set_option maxRecDepth 16384

noncomputable section

namespace Cert.Kernel16Ideal.Array

open Idealize.ShloMosaic Idealize.ShloMosaic.TcCoe Idealize.ShloMosaic.Tactic Idealize.SL.Sem
open Cert.Kernel16Ideal Cert.Kernel16Ideal.Gen Cert.Kernel16Ideal.Head Cert.Kernel16Ideal.Block Cert.Spec
open Cert.KernelIdeal.Array (entries entries_eq)

theorem index_eq : ∀ t : Fin cfg0.N,
    win0_0.index t = ![(grid0.coords t 0).val, (grid0.coords t 2).val, 3 * (grid0.coords t 1).val]
    ∧ win0_1.index t = ![(grid0.coords t 0).val, (grid0.coords t 2).val - 1, 3 * (grid0.coords t 1).val + 1]
    ∧ win0_2.index t = ![(grid0.coords t 0).val, (grid0.coords t 2).val, 3 * (grid0.coords t 1).val + 1]
    ∧ win0_3.index t = ![(grid0.coords t 0).val, (grid0.coords t 2).val - 1, 3 * (grid0.coords t 1).val + 2]
    ∧ win0_4.index t = ![(grid0.coords t 0).val, (grid0.coords t 2).val, 3 * (grid0.coords t 1).val + 2]
    ∧ win0_5.index t = ![(grid0.coords t 0).val, (grid0.coords t 2).val, (grid0.coords t 1).val]
    ∧ win0_6.index t = ![(grid0.coords t 0).val, (grid0.coords t 2).val, (grid0.coords t 1).val] :=
  (by decide +kernel : ∀ t : Fin grid0.N, _)

variable (m : (ℓ : Loc nD τ sig) → Buf (Elt Ideal) ℓ) (c : Dev nD) (t : Fin cfg0.N)

/-- The argument. -/
abbrev arg : (⟨3, ![4, 4096, 3072]⟩ : Shape).Idx → EReal := m ((c : Thread nD τ).loc main_arg0)

/-- The point's batch, residue and block of queries. -/
abbrev bt : ℕ := (grid0.coords t 0).val
abbrev rt : ℕ := (grid0.coords t 1).val
abbrev qt : ℕ := (grid0.coords t 2).val

theorem bt_lt : bt t < 4 := (grid0.coords t 0).isLt
theorem rt_lt : rt t < 16 := (grid0.coords t 1).isLt
theorem qt_lt : qt t < 2 := (grid0.coords t 2).isLt

theorem iblk0 (r : Fin 128) (l : Fin 1024) :
    (iblk m c 0 t (ix3 0 r l) : EReal)
      = arg m c (ix3 ⟨bt t, bt_lt t⟩ ⟨(qt t * 128 + r.val) * 16 + rt t, by
          have := rt_lt t; have := qt_lt t; have := r.isLt; omega⟩ ⟨0 + l.val, by have := l.isLt; omega⟩) := by
  blk_ext! [iblk, V, index_eq t]
  all_goals (simp only [bt, rt, qt]; omega)

theorem iblk1 (r : Fin 128) (l : Fin 1024) :
    (iblk m c 1 t (ix3 0 r l) : EReal)
      = arg m c (ix3 ⟨bt t, bt_lt t⟩ ⟨((qt t - 1) * 128 + r.val) * 16 + rt t, by
          have := rt_lt t; have := qt_lt t; have := r.isLt; omega⟩ ⟨1024 + l.val, by have := l.isLt; omega⟩) := by
  blk_ext! [iblk, V, index_eq t]
  all_goals (simp only [bt, rt, qt]; omega)

theorem iblk2 (r : Fin 128) (l : Fin 1024) :
    (iblk m c 2 t (ix3 0 r l) : EReal)
      = arg m c (ix3 ⟨bt t, bt_lt t⟩ ⟨(qt t * 128 + r.val) * 16 + rt t, by
          have := rt_lt t; have := qt_lt t; have := r.isLt; omega⟩ ⟨1024 + l.val, by have := l.isLt; omega⟩) := by
  blk_ext! [iblk, V, index_eq t]
  all_goals (simp only [bt, rt, qt]; omega)

theorem iblk3 (r : Fin 128) (l : Fin 1024) :
    (iblk m c 3 t (ix3 0 r l) : EReal)
      = arg m c (ix3 ⟨bt t, bt_lt t⟩ ⟨((qt t - 1) * 128 + r.val) * 16 + rt t, by
          have := rt_lt t; have := qt_lt t; have := r.isLt; omega⟩ ⟨2048 + l.val, by have := l.isLt; omega⟩) := by
  blk_ext! [iblk, V, index_eq t]
  all_goals (simp only [bt, rt, qt]; omega)

theorem iblk4 (r : Fin 128) (l : Fin 1024) :
    (iblk m c 4 t (ix3 0 r l) : EReal)
      = arg m c (ix3 ⟨bt t, bt_lt t⟩ ⟨(qt t * 128 + r.val) * 16 + rt t, by
          have := rt_lt t; have := qt_lt t; have := r.isLt; omega⟩ ⟨2048 + l.val, by have := l.isLt; omega⟩) := by
  blk_ext! [iblk, V, index_eq t]
  all_goals (simp only [bt, rt, qt]; omega)

variable (hx : ∀ i, arg m c i ≠ ⊥ ∧ arg m c i ≠ ⊤)

/-- The argument's real entries. -/
abbrev X : ℕ → ℕ → ℕ → ℝ := entries (arg m c)

include hx in
theorem sl0 (k : Fin 16) (r : Fin 128) (d : Fin 64) :
    sl (iblk m c 0 t) k (ix3 0 r d) = ((qB 16 (X m c) (bt t) (qt t) (rt t) k.val r d : ℝ) : EReal) := by
  rw [sl_apply]
  refine (iblk0 m c t r _).trans ((entries_eq _ hx _ _ _).trans ?_)
  simp only [qB, X, Nat.zero_add]
  congr 2
  omega

include hx in
theorem sl1 (k : Fin 16) (r : Fin 128) (d : Fin 64) :
    sl (iblk m c 1 t) k (ix3 0 r d) = ((prevB 16 (X m c) (bt t) (qt t) (rt t) k.val 1024 r d : ℝ) : EReal) := by
  rw [sl_apply]
  refine (iblk1 m c t r _).trans ((entries_eq _ hx _ _ _).trans ?_)
  simp only [prevB, X]
  congr 2
  omega

include hx in
theorem sl2 (k : Fin 16) (r : Fin 128) (d : Fin 64) :
    sl (iblk m c 2 t) k (ix3 0 r d) = ((curB 16 (X m c) (bt t) (qt t) (rt t) k.val 1024 r d : ℝ) : EReal) := by
  rw [sl_apply]
  refine (iblk2 m c t r _).trans ((entries_eq _ hx _ _ _).trans ?_)
  simp only [curB, X]
  congr 2
  omega

include hx in
theorem sl3 (k : Fin 16) (r : Fin 128) (d : Fin 64) :
    sl (iblk m c 3 t) k (ix3 0 r d) = ((prevB 16 (X m c) (bt t) (qt t) (rt t) k.val 2048 r d : ℝ) : EReal) := by
  rw [sl_apply]
  refine (iblk3 m c t r _).trans ((entries_eq _ hx _ _ _).trans ?_)
  simp only [prevB, X]
  congr 2
  omega

include hx in
theorem sl4 (k : Fin 16) (r : Fin 128) (d : Fin 64) :
    sl (iblk m c 4 t) k (ix3 0 r d) = ((curB 16 (X m c) (bt t) (qt t) (rt t) k.val 2048 r d : ℝ) : EReal) := by
  rw [sl_apply]
  refine (iblk4 m c t r _).trans ((entries_eq _ hx _ _ _).trans ?_)
  simp only [curB, X]
  congr 2
  omega

/-- What the two result arrays hold. -/
def G5 (y : S4x256x16384.Idx) : EReal :=
  ((num 16 384 (X m c) (y 0).val (y 1).val ((y 2).val / 1024) ((y 2).val % 1024 / 64) ((y 2).val % 64)
    / den 16 384 (X m c) (y 0).val (y 1).val ((y 2).val / 1024) ((y 2).val % 1024 / 64) : ℝ) : EReal)
def G6 (y : S4x256x16384.Idx) : EReal :=
  ((Real.log (den 16 384 (X m c) (y 0).val (y 1).val ((y 2).val / 1024) ((y 2).val % 1024 / 64)) : ℝ) : EReal)

include hx in
theorem outO_apply (k : Fin 16) (r : Fin 128) (d : Fin 64) :
    outO m c t k (ix3 0 r d) = ((num 16 384 (X m c) (bt t) (qt t * 128 + r.val) (rt t) k.val d.val
      / den 16 384 (X m c) (bt t) (qt t * 128 + r.val) (rt t) k.val : ℝ) : EReal) := by
  have hq := qt_lt t
  unfold outO
  rw [headO_apply _ _ _ _ _ _ _ _ _ _ _ (sl0 m c t hx k) (sl1 m c t hx k) (sl2 m c t hx k) (sl3 m c t hx k) (sl4 m c t hx k),
    den_eq 16 384 (X m c) (bt t) (qt t) (rt t) k.val (rt_lt t) (by omega) (by omega),
    num_eq 16 384 (X m c) (bt t) (qt t) (rt t) k.val (rt_lt t) (by omega) (by omega)]

include hx in
theorem outL_apply (k : Fin 16) (r : Fin 128) (d : Fin 64) :
    outL m c t k (ix3 0 r d) = ((Real.log (den 16 384 (X m c) (bt t) (qt t * 128 + r.val) (rt t) k.val) : ℝ) : EReal) := by
  have hq := qt_lt t
  unfold outL
  rw [headL_apply _ _ _ _ _ _ _ (sl0 m c t hx k) (sl1 m c t hx k) (sl2 m c t hx k),
    den_eq 16 384 (X m c) (bt t) (qt t) (rt t) k.val (rt_lt t) (by omega) (by omega)]

include hx in
theorem arr5 : (dats m 0 c).arrAt 5 cfg0.N = G5 m c := by
  refine (dats m 0 c).arrAt_eq_of_covers 5 _ (by decide +kernel) fun t hf y => ?_
  blk_simp
  rw [after0_5, out5]
  have h0 : (y 0).val < 1 := (y 0).isLt
  have h1 : (y 1).val < 128 := (y 1).isLt
  have h2 : (y 2).val < 1024 := (y 2).isLt
  have e0 : ((win0_5.blk t).view.emb y 0).val = bt t := by blk_simp [index_eq t]
  have e1 : ((win0_5.blk t).view.emb y 1).val = qt t * 128 + (y 1).val := by blk_simp [index_eq t]
  have e2 : ((win0_5.blk t).view.emb y 2).val = rt t * 1024 + (y 2).val := by blk_simp [index_eq t]
  unfold G5
  rw [e0, e1, e2, show (rt t * 1024 + (y 2).val) / 1024 = rt t by omega,
    show (rt t * 1024 + (y 2).val) % 1024 = (y 2).val by omega,
    show (rt t * 1024 + (y 2).val) % 64 = (y 2).val % 64 by omega]
  exact outO_apply m c t hx _ _ _

include hx in
theorem arr6 : (dats m 0 c).arrAt 6 cfg0.N = G6 m c := by
  refine (dats m 0 c).arrAt_eq_of_covers 6 _ (by decide +kernel) fun t hf y => ?_
  blk_simp
  rw [after0_6, out6]
  have h0 : (y 0).val < 1 := (y 0).isLt
  have h1 : (y 1).val < 128 := (y 1).isLt
  have h2 : (y 2).val < 1024 := (y 2).isLt
  have e0 : ((win0_6.blk t).view.emb y 0).val = bt t := by blk_simp [index_eq t]
  have e1 : ((win0_6.blk t).view.emb y 1).val = qt t * 128 + (y 1).val := by blk_simp [index_eq t]
  have e2 : ((win0_6.blk t).view.emb y 2).val = rt t * 1024 + (y 2).val := by blk_simp [index_eq t]
  unfold G6
  rw [e0, e1, e2, show (rt t * 1024 + (y 2).val) / 1024 = rt t by omega,
    show (rt t * 1024 + (y 2).val) % 1024 = (y 2).val by omega]
  exact outL_apply m c t hx _ _ _

end Cert.Kernel16Ideal.Array

end
-- ==== Proof.Dilated2.lean ====
/- The claims about the dilated window attention of the dilation-16 group: the kernel's arrays (`Array2.lean`) and the
   reference's results (`RefValue2.lean`) are one function of finite entries. -/
module

public import proofs.«01_k».proof.Defs
public import proofs.«01_k».proof.Proof.RefValue2
public import proofs.«01_k».proof.Proof.Array2
public import proofs.«01_k».proof.Proof.Dilated
public import proofs.«01_k».proof.Proof.Gen.Kernel16.Frame
public import proofs.«01_k».proof.Proof.Gen.Kernel16Ideal.Value
public import proofs.«01_k».proof.Proof.Gen.Reference16Ideal.Run
public import Idealize.ShloMosaic.Adequacy

@[expose] public section

set_option maxRecDepth 16384

noncomputable section

namespace Cert.DilatedClaims2

open Idealize.ShloMosaic Idealize.SL.Sem

theorem frame_p : Cert.quiescent_Kernel16 (hKernel16 := Cert.Kernel16.Gen.facts) := fun m ρ _ => Cert.Kernel16.Gen.frame m ρ
theorem frame_pi : Cert.quiescent_Kernel16Ideal (hKernel16Ideal := Cert.Kernel16Ideal.Gen.facts) := fun m ρ _ =>
  Cert.Kernel16Ideal.Gen.frame m ρ
theorem frame_ri : Cert.quiescent_Reference16Ideal (hReference16Ideal := Cert.Reference16Ideal.Gen.facts) := fun m ρ _ =>
  (θ_run Cert.Reference16Ideal.defs _ _).mono (fun r h => ⟨fun c => (h c).2.2, sem_eq_zero_of_no_sems (by decide) r.2⟩)
    (Cert.Reference16Ideal.Value.run (F := Ideal) m ρ)

/-- The fill of masked scores, named minus infinity. -/
theorem preserves : Cert.preserves_Kernel16_Kernel16Ideal :=
  IdealRules.named_const.statement Cert.Kernel16Ideal.κ "mask" .f32 0xF149F2CA#32 ⊥ rfl

/-- From finite projections both programs end with the same outputs and the same logarithms of the weights' sums. -/
theorem algebraic : Cert.algebraic_Kernel16Ideal_Reference16Ideal_pre_finite (hKernel16Ideal := Cert.Kernel16Ideal.Gen.facts)
    (hReference16Ideal := Cert.Reference16Ideal.Gen.facts) (hPre_finite := Cert.DilatedClaims.facts_finite) := by
  intro m g m' g' hpre hag
  have hx : ∀ c i, Cert.Kernel16Ideal.Array.arg m c i ≠ ⊥ ∧ Cert.Kernel16Ideal.Array.arg m c i ≠ ⊤ :=
    fun c i => Cert.DilatedClaims.real_of_pre _ (hpre c) i
  refine ⟨fun c => Cert.Kernel16Ideal.Array.G5 m c, fun c => Cert.Kernel16Ideal.Array.G6 m c, ?_, ?_⟩
  · refine (θ_run Cert.Kernel16Ideal.defs _ _).mono (fun r h c => ?_) (Cert.Kernel16Ideal.Value.run_blocks m g)
    exact ⟨(h c).1.trans (Cert.Kernel16Ideal.Array.arr5 m c (hx c)),
      (h c).2.1.trans (Cert.Kernel16Ideal.Array.arr6 m c (hx c)), (h c).2.2⟩
  · refine (θ_run Cert.Reference16Ideal.defs _ _).mono (fun r h c => ?_) (Cert.Reference16Ideal.Value.run m' g')
    refine ⟨(h c).1.trans ?_, (h c).2.1.trans ?_, (h c).2.2⟩
    · rw [Cert.Reference16Ideal.Read.val_main_v58_eq, hag c]
      exact Cert.Reference16Ideal.RefValue.v58_eq _ (hx c)
    · rw [Cert.Reference16Ideal.Read.val_main_v59_eq, hag c]
      exact Cert.Reference16Ideal.RefValue.v59_eq _ (hx c)

end Cert.DilatedClaims2

end
-- ==== Proof.lean ====
module

public import proofs.«01_k».proof.Defs
public import proofs.«01_k».proof.Proof.Dilated
public import proofs.«01_k».proof.Proof.FeedForward
public import proofs.«01_k».proof.Proof.Projection
public import proofs.«01_k».proof.Proof.KvRowsClaims
public import proofs.«01_k».proof.Proof.FinalNorm
public import proofs.«01_k».proof.Proof.OutProj
public import proofs.«01_k».proof.Proof.KvWinClaims
public import proofs.«01_k».proof.Proof.Projection0
public import proofs.«01_k».proof.Proof.Projection2
public import proofs.«01_k».proof.Proof.QClaims
public import proofs.«01_k».proof.Proof.Combine
public import proofs.«01_k».proof.Proof.SampleNorm
public import proofs.«01_k».proof.Proof.SampleRowsClaims
public import proofs.«01_k».proof.Proof.SampleWinClaims
public import proofs.«01_k».proof.Proof.Dilated0
public import proofs.«01_k».proof.Proof.Dilated2
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts, DilatedClaims.facts_finite, CombineClaims.facts_finite,
    DilatedClaims.frame_p, DilatedClaims.frame_pi, fun m ρ _ => DilatedClaims.frame_pi m ρ trivial,
    DilatedClaims.frame_ri, fun m ρ _ => DilatedClaims.frame_ri m ρ trivial,
    FeedForwardClaims.frame_p, FeedForwardClaims.frame_pi, FeedForwardClaims.frame_ri,
    ProjectionClaims.frame_p, ProjectionClaims.frame_pi, ProjectionClaims.frame_ri,
    KvRowsClaims.frame_p, KvRowsClaims.frame_pi, KvRowsClaims.frame_ri,
    FinalNormClaims.frame_p, FinalNormClaims.frame_pi, FinalNormClaims.frame_ri,
    OutProjClaims.frame_p, OutProjClaims.frame_pi, OutProjClaims.frame_ri,
    KvWinClaims.frame_p, KvWinClaims.frame_pi, KvWinClaims.frame_ri,
    ProjectionClaims0.frame_p, ProjectionClaims0.frame_pi, ProjectionClaims0.frame_ri,
    ProjectionClaims2.frame_p, ProjectionClaims2.frame_pi, ProjectionClaims2.frame_ri,
    QClaims.frame_p, QClaims.frame_pi, QClaims.frame_ri,
    CombineClaims.frame_p, CombineClaims.frame_pi, fun m ρ _ => CombineClaims.frame_pi m ρ trivial,
    CombineClaims.frame_ri, fun m ρ _ => CombineClaims.frame_ri m ρ trivial,
    SampleNormClaims.frame_p, SampleNormClaims.frame_pi, SampleNormClaims.frame_ri,
    SampleRowsClaims.frame_p, SampleRowsClaims.frame_pi, SampleRowsClaims.frame_ri,
    SampleWinClaims.frame_p, SampleWinClaims.frame_pi, SampleWinClaims.frame_ri,
    DilatedClaims0.frame_p, DilatedClaims0.frame_pi, fun m ρ _ => DilatedClaims0.frame_pi m ρ trivial,
    DilatedClaims0.frame_ri, fun m ρ _ => DilatedClaims0.frame_ri m ρ trivial,
    DilatedClaims2.frame_p, DilatedClaims2.frame_pi, fun m ρ _ => DilatedClaims2.frame_pi m ρ trivial,
    DilatedClaims2.frame_ri, fun m ρ _ => DilatedClaims2.frame_ri m ρ trivial,
    DilatedClaims.preserves, DilatedClaims.algebraic, FeedForwardClaims.preserves, FeedForwardClaims.algebraic,
    ProjectionClaims.preserves, ProjectionClaims.algebraic,
    KvRowsClaims.preserves, KvRowsClaims.algebraic,
    FinalNormClaims.preserves, FinalNormClaims.algebraic,
    OutProjClaims.preserves, OutProjClaims.algebraic,
    KvWinClaims.preserves, KvWinClaims.algebraic,
    ProjectionClaims0.preserves, ProjectionClaims0.algebraic,
    ProjectionClaims2.preserves, ProjectionClaims2.algebraic,
    QClaims.preserves, QClaims.algebraic,
    CombineClaims.preserves, CombineClaims.algebraic,
    SampleNormClaims.preserves, SampleNormClaims.algebraic,
    SampleRowsClaims.preserves, SampleRowsClaims.algebraic,
    SampleWinClaims.preserves, SampleWinClaims.algebraic,
    DilatedClaims0.preserves, DilatedClaims0.algebraic,
    DilatedClaims2.preserves, DilatedClaims2.algebraic⟩

end Cert.Proof

end
